-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Quantise [hPre_probes_exist : Cert.Pre_probes_exist.Facts] (m : (ℓ : Loc Cert.Quantise.nD Cert.Quantise.τ Cert.Quantise.sig) → Buf (Elt Bits) ℓ) : Prop :=
  ∀ c : Dev Cert.Quantise.nD,
    (Cert.Pre_probes_exist.fn (F := Bits) (m ((c.tc : Thread Cert.Quantise.nD Cert.Quantise.τ).loc Cert.Quantise.main_arg0)) (m ((c.tc : Thread Cert.Quantise.nD Cert.Quantise.τ).loc Cert.Quantise.main_arg1)) (m ((c.tc : Thread Cert.Quantise.nD Cert.Quantise.τ).loc Cert.Quantise.main_arg2)) (m ((c.tc : Thread Cert.Quantise.nD Cert.Quantise.τ).loc Cert.Quantise.main_arg3))) = (fun _ => 1#1)

def Pre_QuantiseIdeal [hPre_probes_exist : Cert.Pre_probes_exist.Facts] (m : (ℓ : Loc Cert.QuantiseIdeal.nD Cert.QuantiseIdeal.τ Cert.QuantiseIdeal.sig) → Buf (Elt Ideal) ℓ) : Prop :=
  ∀ c : Dev Cert.QuantiseIdeal.nD,
    (Cert.Pre_probes_exist.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))) = (fun _ => 1#1)

def Pre_QuantiseReferenceIdeal (m : (ℓ : Loc Cert.QuantiseReferenceIdeal.nD Cert.QuantiseReferenceIdeal.τ Cert.QuantiseReferenceIdeal.sig) → Buf (Elt Ideal) ℓ) : Prop :=
  True

def Pre_QuantiseReferenceIdeal_probes_exist [hPre_probes_exist : Cert.Pre_probes_exist.Facts] (m : (ℓ : Loc Cert.QuantiseReferenceIdeal.nD Cert.QuantiseReferenceIdeal.τ Cert.QuantiseReferenceIdeal.sig) → Buf (Elt Ideal) ℓ) : Prop :=
  ∀ c : Dev Cert.QuantiseReferenceIdeal.nD,
    (Cert.Pre_probes_exist.fn (F := Ideal) (m ((c.tc : Thread Cert.QuantiseReferenceIdeal.nD Cert.QuantiseReferenceIdeal.τ).loc Cert.QuantiseReferenceIdeal.main_arg0)) (m ((c.tc : Thread Cert.QuantiseReferenceIdeal.nD Cert.QuantiseReferenceIdeal.τ).loc Cert.QuantiseReferenceIdeal.main_arg1)) (m ((c.tc : Thread Cert.QuantiseReferenceIdeal.nD Cert.QuantiseReferenceIdeal.τ).loc Cert.QuantiseReferenceIdeal.main_arg2)) (m ((c.tc : Thread Cert.QuantiseReferenceIdeal.nD Cert.QuantiseReferenceIdeal.τ).loc Cert.QuantiseReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quantise [hQuantise : Cert.Quantise.Facts] [hPre_probes_exist : Cert.Pre_probes_exist.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3))
      ∧ r.2.sem = fun _ => 0)

def quiescent_QuantiseIdeal [hQuantiseIdeal : Cert.QuantiseIdeal.Facts] [hPre_probes_exist : Cert.Pre_probes_exist.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def quiescent_QuantiseReferenceIdeal_pre_probes_exist [hQuantiseReferenceIdeal : Cert.QuantiseReferenceIdeal.Facts] [hPre_probes_exist : Cert.Pre_probes_exist.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal_probes_exist m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] [hPre_probes_exist : Cert.Pre_probes_exist.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) →
    ∃ (v0 : (c : Dev Cert.QuantiseIdeal.nD) → Buf (Elt Ideal) ((c.tc : Thread Cert.QuantiseIdeal.nD Cert.QuantiseIdeal.τ).loc Cert.QuantiseIdeal.main_v0_0)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v27) = v0 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
          ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_in_range : Cert.Pre_in_range.Facts) (hPre_probes_exist : Cert.Pre_probes_exist.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Quantise (hQuantise := hQuantise) (hPre_probes_exist := hPre_probes_exist)
    ∧ quiescent_QuantiseIdeal (hQuantiseIdeal := hQuantiseIdeal) (hPre_probes_exist := hPre_probes_exist)
    ∧ quiescent_QuantiseReferenceIdeal (hQuantiseReferenceIdeal := hQuantiseReferenceIdeal)
    ∧ quiescent_QuantiseReferenceIdeal_pre_probes_exist (hQuantiseReferenceIdeal := hQuantiseReferenceIdeal) (hPre_probes_exist := hPre_probes_exist)
    ∧ preserves_Kernel_KernelIdeal
    ∧ algebraic_KernelIdeal_ReferenceIdeal_pre_in_range (hKernelIdeal := hKernelIdeal) (hReferenceIdeal := hReferenceIdeal) (hPre_in_range := hPre_in_range)
    ∧ preserves_Quantise_QuantiseIdeal
    ∧ algebraic_QuantiseIdeal_QuantiseReferenceIdeal (hQuantiseIdeal := hQuantiseIdeal) (hQuantiseReferenceIdeal := hQuantiseReferenceIdeal) (hPre_probes_exist := hPre_probes_exist)
-- ==== Pre_in_range.lean ====
abbrev S18 : Shape := ⟨1, ![18]⟩
abbrev S1152x96x128 : Shape := ⟨3, ![1152, 96, 128]⟩
abbrev S384x128 : Shape := ⟨2, ![384, 128]⟩
abbrev S8x128 : Shape := ⟨2, ![8, 128]⟩
abbrev S18x8192 : Shape := ⟨2, ![18, 8192]⟩
abbrev S18x1 : Shape := ⟨2, ![18, 1]⟩
abbrev S_ : Shape := ⟨0, ![]⟩

class Facts : Prop where
  bcast_S18_S18x1_0 : S18.BroadcastsInDim S18x1 (![0] : Fin 1 → Fin S18x1.rank)
  bcast_S_S18x1 : S_.BroadcastsInDim S18x1 (![] : Fin 0 → Fin S18x1.rank)
  bcast_S_S18x8192 : S_.BroadcastsInDim S18x8192 (![] : Fin 0 → Fin S18x8192.rank)
  bcast_S18x1_S18x8192_0_1 : S18x1.BroadcastsInDim S18x8192 (![0, 1] : Fin 2 → Fin S18x8192.rank)

variable [Facts]

def fn {F : FTy → Type} [FloatOps F] (main_arg0 : IVec S18 32) (main_arg1 : IVec S1152x96x128 32) (main_arg2 : IVec S384x128 32) (main_arg3 : FVec F S8x128 .f32) (main_arg4 : IVec S18x8192 32) (main_arg5 : FVec F S18x8192 .f32) (main_arg6 : FVec F S18x8192 .f32) : IVec S18x8192 1 :=
  let main_v0 : IVec S18x1 32 := broadcastInDim S18x1 ![0] bcast_S18_S18x1_0 main_arg0
  let main_c : IVec S_ 32 := constantI S_ 32 8192#32
  let main_v1 : IVec S18x1 32 := broadcastInDim S18x1 ![] bcast_S_S18x1 main_c
  let main_v2 : IVec S18x1 1 := cmpi .sle main_v0 main_v1
  let main_c_0 : IVec S_ 32 := constantI S_ 32 0#32
  let main_v3 : IVec S18x8192 32 := broadcastInDim S18x8192 ![] bcast_S_S18x8192 main_c_0
  let main_v4 : IVec S18x8192 1 := cmpi .sge main_arg4 main_v3
  let main_v5 : IVec S18x8192 1 := broadcastInDim S18x8192 ![0, 1] bcast_S18x1_S18x8192_0_1 main_v2
  let main_v6 : IVec S18x8192 1 := andi main_v5 main_v4
  let main_c_1 : IVec S_ 32 := constantI S_ 32 6#32
  let main_v7 : IVec S18x8192 32 := broadcastInDim S18x8192 ![] bcast_S_S18x8192 main_c_1
  let main_v8 : IVec S18x8192 1 := cmpi .slt main_arg4 main_v7
  let main_v9 : IVec S18x8192 1 := andi main_v6 main_v8
  main_v9
-- ==== Pre_probes_exist.lean ====
abbrev S18x6 : Shape := ⟨2, ![18, 6]⟩
abbrev S18x3072 : Shape := ⟨2, ![18, 3072]⟩
abbrev S250x3072 : Shape := ⟨2, ![250, 3072]⟩
abbrev S18x6x3072 : Shape := ⟨3, ![18, 6, 3072]⟩
abbrev S_ : Shape := ⟨0, ![]⟩

class Facts : Prop where
  bcast_S_S18x6 : S_.BroadcastsInDim S18x6 (![] : Fin 0 → Fin S18x6.rank)

variable [Facts]

def fn {F : FTy → Type} [FloatOps F] (main_arg0 : IVec S18x6 32) (main_arg1 : FVec F S18x3072 .f32) (main_arg2 : FVec F S250x3072 .f32) (main_arg3 : FVec F S18x6x3072 .f32) : IVec S18x6 1 :=
  let main_c : IVec S_ 32 := constantI S_ 32 0#32
  let main_v0 : IVec S18x6 32 := broadcastInDim S18x6 ![] bcast_S_S18x6 main_c
  let main_v1 : IVec S18x6 1 := cmpi .sge main_arg0 main_v0
  let main_c_0 : IVec S_ 32 := constantI S_ 32 250#32
  let main_v2 : IVec S18x6 32 := broadcastInDim S18x6 ![] bcast_S_S18x6 main_c_0
  let main_v3 : IVec S18x6 1 := cmpi .slt main_arg0 main_v2
  let main_v4 : IVec S18x6 1 := andi main_v1 main_v3
  main_v4
-- ==== Kernel.lean ====
abbrev S18 : Shape := ⟨1, ![18]⟩
abbrev S1152x96x128 : Shape := ⟨3, ![1152, 96, 128]⟩
abbrev S384x128 : Shape := ⟨2, ![384, 128]⟩
abbrev S8x128 : Shape := ⟨2, ![8, 128]⟩
abbrev S18x8192 : Shape := ⟨2, ![18, 8192]⟩
abbrev S16x96x128 : Shape := ⟨3, ![16, 96, 128]⟩
abbrev S1 : Shape := ⟨1, ![1]⟩
abbrev S24x8192 : Shape := ⟨2, ![24, 8192]⟩
abbrev S8x128x1 : Shape := ⟨3, ![8, 128, 1]⟩
abbrev S1x8x128 : Shape := ⟨3, ![1, 8, 128]⟩
abbrev S128 : Shape := ⟨1, ![128]⟩
abbrev S1x128 : Shape := ⟨2, ![1, 128]⟩

abbrev nBuf : Space → Nat
  | .hbm => 9
  | .vmem => 10
  | .smem => 1
  | _ => 0

abbrev bufTy : (tb : Table) → Fin (tcTables nBuf tb) → BufTy
  | .hbm, ⟨0, _⟩ => ⟨S1152x96x128, .i32⟩
  | .hbm, ⟨1, _⟩ => ⟨S384x128, .i32⟩
  | .hbm, ⟨2, _⟩ => ⟨S8x128, .f32⟩
  | .hbm, ⟨3, _⟩ => ⟨S18x8192, .i32⟩
  | .hbm, ⟨4, _⟩ => ⟨S18x8192, .f32⟩
  | .hbm, ⟨5, _⟩ => ⟨S18x8192, .f32⟩
  | .hbm, ⟨6, _⟩ => ⟨S18x8192, .f32⟩
  | .hbm, ⟨7, _⟩ => ⟨S18x8192, .f32⟩
  | .hbm, ⟨8, _⟩ => ⟨S18x8192, .f32⟩
  | .local _ .vmem, ⟨0, _⟩ => ⟨S16x96x128, .i32⟩
  | .local _ .vmem, ⟨1, _⟩ => ⟨S16x96x128, .i32⟩
  | .local _ .vmem, ⟨2, _⟩ => ⟨S384x128, .i32⟩
  | .local _ .vmem, ⟨3, _⟩ => ⟨S8x128, .f32⟩
  | .local _ .vmem, ⟨4, _⟩ => ⟨S24x8192, .i32⟩
  | .local _ .vmem, ⟨5, _⟩ => ⟨S24x8192, .f32⟩
  | .local _ .vmem, ⟨6, _⟩ => ⟨S24x8192, .f32⟩
  | .local _ .vmem, ⟨7, _⟩ => ⟨S24x8192, .f32⟩
  | .local _ .vmem, ⟨8, _⟩ => ⟨S24x8192, .f32⟩
  | .local _ .vmem, ⟨9, _⟩ => ⟨S24x8192, .f32⟩
  | .local _ .smem, ⟨0, _⟩ => ⟨S18, .i32⟩
  | _, _ => ⟨S1152x96x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨2, ![18, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi arg0 v11
  v12
@[reducible] def k0_t1_loop : Scf.Loop 32 :=
  let c0_i32_3 : BitVec 32 := 0#32
  let c16_i32 : BitVec 32 := 16#32
  let v19 : BitVec 32 := Scalar.addi c0_i32_3 c16_i32
  let c1_i32_4 : BitVec 32 := 1#32
  ⟨c0_i32_3, v19, c1_i32_4⟩
def k0_mult2 (i : grid0.Coords) (k0_t1 : Fin k0_t1_loop.trips) : BitVec 32 :=
  let arg1 : BitVec 32 := BitVec.ofNat 32 (i 1).val
  let c16_i32_6 : BitVec 32 := 16#32
  let v20 : BitVec 32 := Scalar.muli arg1 c16_i32_6
  let c0_i32_3 : BitVec 32 := 0#32
  let c1_i32_4 : BitVec 32 := 1#32
  let arg12 : BitVec 32 := Scf.iv c0_i32_3 c1_i32_4 k0_t1
  let v21 : BitVec 32 := Scalar.addi v20 arg12
  let c128_i32 : BitVec 32 := 128#32
  let v22 : BitVec 32 := Scalar.muli v21 c128_i32
  v22
def k0_off2 (i : grid0.Coords) (k0_t1 : Fin k0_t1_loop.trips) : Fin 2 → Nat :=
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi arg0 v11
  let v13 : BitVec 32 := v12
  let v31 : Index := Scalar.indexCast v13
  let arg1 : BitVec 32 := BitVec.ofNat 32 (i 1).val
  let c16_i32_6 : BitVec 32 := 16#32
  let v20 : BitVec 32 := Scalar.muli arg1 c16_i32_6
  let c0_i32_3 : BitVec 32 := 0#32
  let c1_i32_4 : BitVec 32 := 1#32
  let arg12 : BitVec 32 := Scf.iv c0_i32_3 c1_i32_4 k0_t1
  let v21 : BitVec 32 := Scalar.addi v20 arg12
  let c128_i32 : BitVec 32 := 128#32
  let v22 : BitVec 32 := Scalar.muli v21 c128_i32
  let v23 : BitVec 32 := v22
  let v32 : Index := Scalar.indexCast v23
  ![v31.toNat, v32.toNat]
def k0_off3 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v49 : Index := Scalar.indexCast arg12
  let c0 : Index := 0#32
  let c0_16 : Index := 0#32
  ![v49.toNat, 0, 0]
def k0_off4 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v102 : Index := Scalar.indexCast arg12
  let c8 : Index := 8#32
  let c0_30 : Index := 0#32
  ![v102.toNat, 8, 0]
def k0_off5 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v155 : Index := Scalar.indexCast arg12
  let c16 : Index := 16#32
  let c0_44 : Index := 0#32
  ![v155.toNat, 16, 0]
def k0_off6 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v208 : Index := Scalar.indexCast arg12
  let c24 : Index := 24#32
  let c0_58 : Index := 0#32
  ![v208.toNat, 24, 0]
def k0_off7 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v261 : Index := Scalar.indexCast arg12
  let c32 : Index := 32#32
  let c0_72 : Index := 0#32
  ![v261.toNat, 32, 0]
def k0_off8 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v314 : Index := Scalar.indexCast arg12
  let c40 : Index := 40#32
  let c0_86 : Index := 0#32
  ![v314.toNat, 40, 0]
def k0_off9 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v367 : Index := Scalar.indexCast arg12
  let c48 : Index := 48#32
  let c0_100 : Index := 0#32
  ![v367.toNat, 48, 0]
def k0_off10 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v420 : Index := Scalar.indexCast arg12
  let c56 : Index := 56#32
  let c0_114 : Index := 0#32
  ![v420.toNat, 56, 0]
def k0_off11 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v473 : Index := Scalar.indexCast arg12
  let c64 : Index := 64#32
  let c0_128 : Index := 0#32
  ![v473.toNat, 64, 0]
def k0_off12 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v526 : Index := Scalar.indexCast arg12
  let c72 : Index := 72#32
  let c0_142 : Index := 0#32
  ![v526.toNat, 72, 0]
def k0_off13 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v579 : Index := Scalar.indexCast arg12
  let c80 : Index := 80#32
  let c0_156 : Index := 0#32
  ![v579.toNat, 80, 0]
def k0_off14 (k0_t1 : Fin k0_t1_loop.trips) : Fin 3 → Nat :=
  let c0_i32_3 : BitVec 32 := 0#32
  let c1_i32_4 : BitVec 32 := 1#32
  let arg12 : BitVec 32 := Scf.iv c0_i32_3 c1_i32_4 k0_t1
  let v632 : Index := Scalar.indexCast arg12
  let c88 : Index := 88#32
  let c0_170 : Index := 0#32
  ![v632.toNat, 88, 0]
def k0_off15 (i : grid0.Coords) (k0_t1 : Fin k0_t1_loop.trips) : Fin 2 → Nat :=
  let arg0 : BitVec 32 := BitVec.ofNat 32 (i 0).val
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v12 : BitVec 32 := Scalar.subi arg0 v11
  let v13 : BitVec 32 := v12
  let v31 : Index := Scalar.indexCast v13
  let arg1 : BitVec 32 := BitVec.ofNat 32 (i 1).val
  let c16_i32_6 : BitVec 32 := 16#32
  let v20 : BitVec 32 := Scalar.muli arg1 c16_i32_6
  let c0_i32_3 : BitVec 32 := 0#32
  let c1_i32_4 : BitVec 32 := 1#32
  let arg12 : BitVec 32 := Scf.iv c0_i32_3 c1_i32_4 k0_t1
  let v21 : BitVec 32 := Scalar.addi v20 arg12
  let c128_i32 : BitVec 32 := 128#32
  let v22 : BitVec 32 := Scalar.muli v21 c128_i32
  let v23 : BitVec 32 := v22
  let v32 : Index := Scalar.indexCast v23
  ![v31.toNat, v32.toNat]
def k0_cond1 (i : grid0.Coords) (v1 : BitVec 32) (k0_t1 : Fin k0_t1_loop.trips) : BitVec 1 :=
  let arg1 : BitVec 32 := BitVec.ofNat 32 (i 1).val
  let c16_i32_6 : BitVec 32 := 16#32
  let v20 : BitVec 32 := Scalar.muli arg1 c16_i32_6
  let c0_i32_3 : BitVec 32 := 0#32
  let c1_i32_4 : BitVec 32 := 1#32
  let arg12 : BitVec 32 := Scf.iv c0_i32_3 c1_i32_4 k0_t1
  let v21 : BitVec 32 := Scalar.addi v20 arg12
  let c128_i32 : BitVec 32 := 128#32
  let v22 : BitVec 32 := Scalar.muli v21 c128_i32
  let v23 : BitVec 32 := v22
  let v24 : BitVec 1 := Scalar.cmpi .slt v23 v1
  let v25 : BitVec 32 := Scalar.extui v24
  let c0_i32_7 : BitVec 32 := 0#32
  let v26 : BitVec 1 := Scalar.cmpi .ne v25 c0_i32_7
  v26

def k0_cond2 (i : grid0.Coords) (v1 : BitVec 32) (k0_t1 : Fin k0_t1_loop.trips) : BitVec 1 :=
  let arg1 : BitVec 32 := BitVec.ofNat 32 (i 1).val
  let c16_i32_6 : BitVec 32 := 16#32
  let v20 : BitVec 32 := Scalar.muli arg1 c16_i32_6
  let c0_i32_3 : BitVec 32 := 0#32
  let c1_i32_4 : BitVec 32 := 1#32
  let arg12 : BitVec 32 := Scf.iv c0_i32_3 c1_i32_4 k0_t1
  let v21 : BitVec 32 := Scalar.addi v20 arg12
  let c128_i32 : BitVec 32 := 128#32
  let v22 : BitVec 32 := Scalar.muli v21 c128_i32
  let v23 : BitVec 32 := v22
  let v27 : BitVec 1 := Scalar.cmpi .sge v23 v1
  let v28 : BitVec 32 := Scalar.extui v27
  let c0_i32_8 : BitVec 32 := 0#32
  let v29 : BitVec 1 := Scalar.cmpi .ne v28 c0_i32_8
  v29

def cc0_transform_0 (k0_off1_inb : ∀ i : grid0.Coords, ∀ a, (k0_off1 i) a + S1.size a ≤ S18.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S18) ![v0.toNat] S1.size (k0_off1_inb i)) numel1_S1
  let c2048_i32 : BitVec 32 := 2048#32
  let v2 : BitVec 32 := Scalar.addi v1 c2048_i32
  let c1_i32 : BitVec 32 := 1#32
  let v3 : BitVec 32 := Scalar.subi v2 c1_i32
  let c2048_i32_0 : BitVec 32 := 2048#32
  let v4 : BitVec 32 := Scalar.divsi v3 c2048_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32_0 c0_i32_2
  let v11 : BitVec 32 := Scalar.extui v10
  let c0_i32_3 : BitVec 32 := 0#32
  let v12 : BitVec 1 := Scalar.cmpi .slt c2048_i32_0 c0_i32_3
  let v13 : BitVec 32 := Scalar.extui v12
  let v14 : BitVec 32 := Scalar.subi v11 v13
  let v15 : BitVec 1 := Scalar.cmpi .ne v9 v14
  let v16 : BitVec 32 := Scalar.remsi v3 c2048_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let c4_i32 : BitVec 32 := 4#32
  let v23 : BitVec 32 := Scalar.muli arg0 c4_i32
  let v24 : BitVec 32 := Scalar.minsi arg1 v22
  let v25 : BitVec 32 := Scalar.addi v23 v24
  let c0_i32_8 : BitVec 32 := 0#32
  let c0_i32_9 : BitVec 32 := 0#32
  let c0_i32_10 : BitVec 32 := 0#32
  ![v25.toNat, c0_i32_8.toNat, c0_i32_9.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x96x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S24x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S24x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S24x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S24x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S24x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S24x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S18 : Shape := ⟨1, ![18]⟩
abbrev S1152x96x128 : Shape := ⟨3, ![1152, 96, 128]⟩
abbrev S384x128 : Shape := ⟨2, ![384, 128]⟩
abbrev S8x128 : Shape := ⟨2, ![8, 128]⟩
abbrev S18x8192 : Shape := ⟨2, ![18, 8192]⟩
abbrev S18x64x96x128 : Shape := ⟨4, ![18, 64, 96, 128]⟩
abbrev S18x64x128x96 : Shape := ⟨4, ![18, 64, 128, 96]⟩
abbrev S18x8192x96 : Shape := ⟨3, ![18, 8192, 96]⟩
abbrev S4x96x128 : Shape := ⟨3, ![4, 96, 128]⟩
abbrev S4x96x108 : Shape := ⟨3, ![4, 96, 108]⟩
abbrev S4x96x18x6 : Shape := ⟨4, ![4, 96, 18, 6]⟩
abbrev S18x6x4x96 : Shape := ⟨4, ![18, 6, 4, 96]⟩
abbrev S4x108 : Shape := ⟨2, ![4, 108]⟩
abbrev S4x18x6 : Shape := ⟨3, ![4, 18, 6]⟩
abbrev S1x18x8192 : Shape := ⟨3, ![1, 18, 8192]⟩
abbrev S_ : Shape := ⟨0, ![]⟩
abbrev S18x8192x1 : Shape := ⟨3, ![18, 8192, 1]⟩
abbrev S1 : Shape := ⟨1, ![1]⟩
abbrev S1x1x1 : Shape := ⟨3, ![1, 1, 1]⟩
abbrev S4x18x8192 : Shape := ⟨3, ![4, 18, 8192]⟩
abbrev S18x1x4x96 : Shape := ⟨4, ![18, 1, 4, 96]⟩
abbrev S18x4x96 : Shape := ⟨3, ![18, 4, 96]⟩
abbrev S18x8192x1x1 : Shape := ⟨4, ![18, 8192, 1, 1]⟩
abbrev S18x8192x4x96 : Shape := ⟨4, ![18, 8192, 4, 96]⟩
abbrev S18x8192x1x96 : Shape := ⟨4, ![18, 8192, 1, 96]⟩
abbrev S18x8192x4 : Shape := ⟨3, ![18, 8192, 4]⟩
abbrev S4 : Shape := ⟨1, ![4]⟩
abbrev S1x1x4 : Shape := ⟨3, ![1, 1, 4]⟩
abbrev S8192 : Shape := ⟨1, ![8192]⟩
abbrev S1x8192 : Shape := ⟨2, ![1, 8192]⟩
abbrev S18x1 : Shape := ⟨2, ![18, 1]⟩

abbrev nBuf : Space → Nat
  | .hbm => 186
  | .vmem => 0
  | .smem => 0
  | _ => 0

abbrev hbmTy0_0 (i : Nat) : BufTy := match i % 128 with
  | 0 => ⟨S18, .i32⟩
  | 1 => ⟨S1152x96x128, .i32⟩
  | 2 => ⟨S384x128, .i32⟩
  | 3 => ⟨S8x128, .f32⟩
  | 4 => ⟨S18x8192, .i32⟩
  | 5 => ⟨S18x8192, .f32⟩
  | 6 => ⟨S18x8192, .f32⟩
  | 7 => ⟨S18x64x96x128, .i32⟩
  | 8 => ⟨S18x64x128x96, .i32⟩
  | 9 => ⟨S18x8192x96, .i32⟩
  | 10 => ⟨S4x96x128, .i32⟩
  | 11 => ⟨S4x96x108, .i32⟩
  | 12 => ⟨S4x96x18x6, .i32⟩
  | 13 => ⟨S4x96x18x6, .i32⟩
  | 14 => ⟨S18x6x4x96, .i32⟩
  | 15 => ⟨S4x108, .f32⟩
  | 16 => ⟨S4x18x6, .f32⟩
  | 17 => ⟨S1x18x8192, .i32⟩
  | 18 => ⟨S_, .i32⟩
  | 19 => ⟨S1x18x8192, .i32⟩
  | 20 => ⟨S1x18x8192, .i1⟩
  | 21 => ⟨S_, .i32⟩
  | 22 => ⟨S1x18x8192, .i32⟩
  | 23 => ⟨S1x18x8192, .i32⟩
  | 24 => ⟨S1x18x8192, .i32⟩
  | 25 => ⟨S18x8192x1, .i32⟩
  | 26 => ⟨S1, .i32⟩
  | 27 => ⟨S_, .i32⟩
  | 28 => ⟨S18x8192x1, .i32⟩
  | 29 => ⟨S18x8192x1, .i1⟩
  | 30 => ⟨S1x1x1, .i32⟩
  | 31 => ⟨S18x8192x1, .i32⟩
  | 32 => ⟨S18x8192x1, .i1⟩
  | 33 => ⟨S18x8192x1, .i1⟩
  | 34 => ⟨S_, .i1⟩
  | 35 => ⟨S18x8192, .i1⟩
  | 36 => ⟨S4x18x8192, .f32⟩
  | 37 => ⟨S4x18x8192, .i1⟩
  | 38 => ⟨S_, .f32⟩
  | 39 => ⟨S4x18x8192, .f32⟩
  | 40 => ⟨S4x18x8192, .f32⟩
  | 41 => ⟨S1x18x8192, .f32⟩
  | 42 => ⟨S18x8192, .f32⟩
  | 43 => ⟨S1x18x8192, .f32⟩
  | 44 => ⟨S18x8192, .f32⟩
  | 45 => ⟨S1x18x8192, .f32⟩
  | 46 => ⟨S18x8192, .f32⟩
  | 47 => ⟨S1x18x8192, .f32⟩
  | 48 => ⟨S18x8192, .f32⟩
  | 49 => ⟨S18x1x4x96, .i32⟩
  | 50 => ⟨S18x4x96, .i32⟩
  | 51 => ⟨S18x1x4x96, .i32⟩
  | 52 => ⟨S_, .i32⟩
  | 53 => ⟨S18x8192, .i32⟩
  | 54 => ⟨S18x8192, .i1⟩
  | 55 => ⟨S18x8192x1x1, .i1⟩
  | 56 => ⟨S18x1x4x96, .i32⟩
  | 57 => ⟨S18x4x96, .i32⟩
  | 58 => ⟨S18x1x4x96, .i32⟩
  | 59 => ⟨S18x8192x4x96, .i1⟩
  | 60 => ⟨S18x8192x4x96, .i32⟩
  | 61 => ⟨S18x8192x4x96, .i32⟩
  | 62 => ⟨S18x8192x4x96, .i32⟩
  | 63 => ⟨S_, .i32⟩
  | 64 => ⟨S18x8192, .i32⟩
  | 65 => ⟨S18x8192, .i1⟩
  | 66 => ⟨S18x8192x1x1, .i1⟩
  | 67 => ⟨S18x1x4x96, .i32⟩
  | 68 => ⟨S18x4x96, .i32⟩
  | 69 => ⟨S18x1x4x96, .i32⟩
  | 70 => ⟨S18x8192x4x96, .i1⟩
  | 71 => ⟨S18x8192x4x96, .i32⟩
  | 72 => ⟨S18x8192x4x96, .i32⟩
  | 73 => ⟨S_, .i32⟩
  | 74 => ⟨S18x8192, .i32⟩
  | 75 => ⟨S18x8192, .i1⟩
  | 76 => ⟨S18x8192x1x1, .i1⟩
  | 77 => ⟨S18x1x4x96, .i32⟩
  | 78 => ⟨S18x4x96, .i32⟩
  | 79 => ⟨S18x1x4x96, .i32⟩
  | 80 => ⟨S18x8192x4x96, .i1⟩
  | 81 => ⟨S18x8192x4x96, .i32⟩
  | 82 => ⟨S18x8192x4x96, .i32⟩
  | 83 => ⟨S_, .i32⟩
  | 84 => ⟨S18x8192, .i32⟩
  | 85 => ⟨S18x8192, .i1⟩
  | 86 => ⟨S18x8192x1x1, .i1⟩
  | 87 => ⟨S18x1x4x96, .i32⟩
  | 88 => ⟨S18x4x96, .i32⟩
  | 89 => ⟨S18x1x4x96, .i32⟩
  | 90 => ⟨S18x8192x4x96, .i1⟩
  | 91 => ⟨S18x8192x4x96, .i32⟩
  | 92 => ⟨S18x8192x4x96, .i32⟩
  | 93 => ⟨S_, .i32⟩
  | 94 => ⟨S18x8192, .i32⟩
  | 95 => ⟨S18x8192, .i1⟩
  | 96 => ⟨S18x8192x1x1, .i1⟩
  | 97 => ⟨S18x1x4x96, .i32⟩
  | 98 => ⟨S18x4x96, .i32⟩
  | 99 => ⟨S18x1x4x96, .i32⟩
  | 100 => ⟨S18x8192x4x96, .i1⟩
  | 101 => ⟨S18x8192x4x96, .i32⟩
  | 102 => ⟨S18x8192x4x96, .i32⟩
  | 103 => ⟨S18x8192x1x96, .i32⟩
  | 104 => ⟨S18x8192x4x96, .i32⟩
  | 105 => ⟨S18x8192x4x96, .i32⟩
  | 106 => ⟨S18x8192x4x96, .i32⟩
  | 107 => ⟨S18x8192x4x96, .i32⟩
  | 108 => ⟨S_, .i32⟩
  | 109 => ⟨S18x8192x4, .i32⟩
  | 110 => ⟨S4, .i32⟩
  | 111 => ⟨S_, .i32⟩
  | 112 => ⟨S4, .i32⟩
  | 113 => ⟨S4, .i32⟩
  | 114 => ⟨S1x1x4, .i32⟩
  | 115 => ⟨S18x8192x4, .i32⟩
  | 116 => ⟨S18x8192x4, .i32⟩
  | 117 => ⟨S_, .i32⟩
  | 118 => ⟨S18x8192, .i32⟩
  | 119 => ⟨S18x8192x96, .i32⟩
  | 120 => ⟨S18x8192x96, .i32⟩
  | 121 => ⟨S_, .i32⟩
  | 122 => ⟨S18x8192, .i32⟩
  | 123 => ⟨S_, .f32⟩
  | 124 => ⟨S18x8192, .f32⟩
  | 125 => ⟨S18x8192, .f32⟩
  | 126 => ⟨S18x8192, .f32⟩
  | 127 => ⟨S18x8192, .f32⟩
  | _ => ⟨S18, .i32⟩

abbrev hbmTy0_1 (i : Nat) : BufTy := match i % 128 with
  | 0 => ⟨S_, .f32⟩
  | 1 => ⟨S18x8192, .f32⟩
  | 2 => ⟨S18x8192, .f32⟩
  | 3 => ⟨S18x8192, .f32⟩
  | 4 => ⟨S18x8192, .f32⟩
  | 5 => ⟨S18x8192, .f32⟩
  | 6 => ⟨S18x8192, .f32⟩
  | 7 => ⟨S18x8192, .f32⟩
  | 8 => ⟨S_, .f32⟩
  | 9 => ⟨S18x8192, .f32⟩
  | 10 => ⟨S18x8192, .f32⟩
  | 11 => ⟨S_, .f32⟩
  | 12 => ⟨S18x8192, .f32⟩
  | 13 => ⟨S18x8192, .f32⟩
  | 14 => ⟨S18x8192, .f32⟩
  | 15 => ⟨S18x8192, .f32⟩
  | 16 => ⟨S18x8192, .f32⟩
  | 17 => ⟨S18x8192, .f32⟩
  | 18 => ⟨S18x8192, .f32⟩
  | 19 => ⟨S18x8192, .f32⟩
  | 20 => ⟨S_, .f32⟩
  | 21 => ⟨S18x8192, .f32⟩
  | 22 => ⟨S18x8192, .f32⟩
  | 23 => ⟨S18x8192, .f32⟩
  | 24 => ⟨S18x8192, .f32⟩
  | 25 => ⟨S18x8192, .f32⟩
  | 26 => ⟨S_, .f32⟩
  | 27 => ⟨S18x8192, .f32⟩
  | 28 => ⟨S18x8192, .f32⟩
  | 29 => ⟨S18x8192, .f32⟩
  | 30 => ⟨S18x8192, .f32⟩
  | 31 => ⟨S_, .f32⟩
  | 32 => ⟨S18x8192, .f32⟩
  | 33 => ⟨S18x8192, .f32⟩
  | 34 => ⟨S18x8192, .f32⟩
  | 35 => ⟨S18x8192, .f32⟩
  | 36 => ⟨S18x8192, .f32⟩
  | 37 => ⟨S_, .f32⟩
  | 38 => ⟨S18x8192, .f32⟩
  | 39 => ⟨S18x8192, .f32⟩
  | 40 => ⟨S8192, .i32⟩
  | 41 => ⟨S1x8192, .i32⟩
  | 42 => ⟨S18x1, .i32⟩
  | 43 => ⟨S18x8192, .i32⟩
  | 44 => ⟨S18x8192, .i32⟩
  | 45 => ⟨S18x8192, .i1⟩
  | 46 => ⟨S_, .f32⟩
  | 47 => ⟨S_, .f32⟩
  | 48 => ⟨S18x8192, .f32⟩
  | 49 => ⟨S18x8192, .f32⟩
  | 50 => ⟨S_, .f32⟩
  | 51 => ⟨S_, .f32⟩
  | 52 => ⟨S18x8192, .f32⟩
  | 53 => ⟨S18x8192, .f32⟩
  | 54 => ⟨S_, .f32⟩
  | 55 => ⟨S_, .f32⟩
  | 56 => ⟨S18x8192, .f32⟩
  | 57 => ⟨S18x8192, .f32⟩
  | _ => ⟨S18, .i32⟩

abbrev hbmTy (i : Nat) : BufTy := match i / 128 with
  | 0 => hbmTy0_0 i
  | 1 => hbmTy0_1 i
  | _ => ⟨S18, .i32⟩

abbrev bufTy : (tb : Table) → Fin (tcTables nBuf tb) → BufTy
  | .hbm, ⟨i, _⟩ => hbmTy i
  | _, _ => ⟨S18, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v29 : Ref sig .tc := ⟨.hbm, 62, rfl⟩
abbrev main_c_0 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call2_v0 : Ref sig .tc := ⟨.hbm, 70, rfl⟩
abbrev main_call2_v1 : Ref sig .tc := ⟨.hbm, 71, rfl⟩
abbrev main_v36 : Ref sig .tc := ⟨.hbm, 72, rfl⟩
abbrev main_c_1 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call3_v0 : Ref sig .tc := ⟨.hbm, 80, rfl⟩
abbrev main_call3_v1 : Ref sig .tc := ⟨.hbm, 81, rfl⟩
abbrev main_v43 : Ref sig .tc := ⟨.hbm, 82, rfl⟩
abbrev main_c_2 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_call4_v0 : Ref sig .tc := ⟨.hbm, 90, rfl⟩
abbrev main_call4_v1 : Ref sig .tc := ⟨.hbm, 91, rfl⟩
abbrev main_v50 : Ref sig .tc := ⟨.hbm, 92, rfl⟩
abbrev main_c_3 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_call5_v0 : Ref sig .tc := ⟨.hbm, 100, rfl⟩
abbrev main_call5_v1 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_4 : Ref sig .tc := ⟨.hbm, 108, rfl⟩
abbrev main_v63 : Ref sig .tc := ⟨.hbm, 109, rfl⟩
abbrev main_v64 : Ref sig .tc := ⟨.hbm, 110, rfl⟩
abbrev main_c_5 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_c_6 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_7 : Ref sig .tc := ⟨.hbm, 121, rfl⟩
abbrev main_v73 : Ref sig .tc := ⟨.hbm, 122, rfl⟩
abbrev main_cst : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_8 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_9 : Ref sig .tc := ⟨.hbm, 136, rfl⟩
abbrev main_v85 : Ref sig .tc := ⟨.hbm, 137, rfl⟩
abbrev main_v86 : Ref sig .tc := ⟨.hbm, 138, rfl⟩
abbrev main_cst_10 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_11 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_12 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_13 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_14 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_15 : Ref sig .tc := ⟨.hbm, 174, rfl⟩
abbrev main_call6_v0 : Ref sig .tc := ⟨.hbm, 175, rfl⟩
abbrev main_call6_v1 : Ref sig .tc := ⟨.hbm, 176, rfl⟩
abbrev main_v117 : Ref sig .tc := ⟨.hbm, 177, rfl⟩
abbrev main_cst_16 : Ref sig .tc := ⟨.hbm, 178, rfl⟩
abbrev main_call7_v0 : Ref sig .tc := ⟨.hbm, 179, rfl⟩
abbrev main_call7_v1 : Ref sig .tc := ⟨.hbm, 180, rfl⟩
abbrev main_v118 : Ref sig .tc := ⟨.hbm, 181, rfl⟩
abbrev main_cst_17 : Ref sig .tc := ⟨.hbm, 182, rfl⟩
abbrev main_call8_v0 : Ref sig .tc := ⟨.hbm, 183, rfl⟩
abbrev main_call8_v1 : Ref sig .tc := ⟨.hbm, 184, rfl⟩
abbrev main_v119 : Ref sig .tc := ⟨.hbm, 185, rfl⟩

abbrev nD : Nat := 1
abbrev τ : Topo := Topo.v7x

variable {F : FTy → Type} [FloatOps F]
-- ==== Quantise.lean ====
abbrev S18x6 : Shape := ⟨2, ![18, 6]⟩
abbrev S18x3072 : Shape := ⟨2, ![18, 3072]⟩
abbrev S250x3072 : Shape := ⟨2, ![250, 3072]⟩
abbrev S18x6x3072 : Shape := ⟨3, ![18, 6, 3072]⟩
abbrev S384x128 : Shape := ⟨2, ![384, 128]⟩
abbrev S8x128 : Shape := ⟨2, ![8, 128]⟩
abbrev S8x3072 : Shape := ⟨2, ![8, 3072]⟩
abbrev S128x3072 : Shape := ⟨2, ![128, 3072]⟩
abbrev S128x128 : Shape := ⟨2, ![128, 128]⟩
abbrev S6x128 : Shape := ⟨2, ![6, 128]⟩
abbrev S1x3072 : Shape := ⟨2, ![1, 3072]⟩
abbrev S1x1 : Shape := ⟨2, ![1, 1]⟩
abbrev S6x3072 : Shape := ⟨2, ![6, 3072]⟩
abbrev S6 : Shape := ⟨1, ![6]⟩
abbrev S6x1 : Shape := ⟨2, ![6, 1]⟩
abbrev S1x6x3072 : Shape := ⟨3, ![1, 6, 3072]⟩
abbrev S32x256 : Shape := ⟨2, ![32, 256]⟩
abbrev S128x256 : Shape := ⟨2, ![128, 256]⟩
abbrev S32x128 : Shape := ⟨2, ![32, 128]⟩

abbrev nBuf : Space → Nat
  | .hbm => 7
  | .vmem => 9
  | .smem => 1
  | _ => 0

abbrev bufTy : (tb : Table) → Fin (tcTables nBuf tb) → BufTy
  | .hbm, ⟨0, _⟩ => ⟨S18x6, .i32⟩
  | .hbm, ⟨1, _⟩ => ⟨S18x3072, .f32⟩
  | .hbm, ⟨2, _⟩ => ⟨S250x3072, .f32⟩
  | .hbm, ⟨3, _⟩ => ⟨S18x6x3072, .f32⟩
  | .hbm, ⟨4, _⟩ => ⟨S18x6x3072, .i8⟩
  | .hbm, ⟨5, _⟩ => ⟨S384x128, .i32⟩
  | .hbm, ⟨6, _⟩ => ⟨S8x128, .f32⟩
  | .local _ .vmem, ⟨0, _⟩ => ⟨S18x3072, .f32⟩
  | .local _ .vmem, ⟨1, _⟩ => ⟨S250x3072, .f32⟩
  | .local _ .vmem, ⟨2, _⟩ => ⟨S18x6x3072, .f32⟩
  | .local _ .vmem, ⟨3, _⟩ => ⟨S18x6x3072, .i8⟩
  | .local _ .vmem, ⟨4, _⟩ => ⟨S384x128, .i32⟩
  | .local _ .vmem, ⟨5, _⟩ => ⟨S8x128, .f32⟩
  | .local _ .vmem, ⟨6, _⟩ => ⟨S8x3072, .f32⟩
  | .local _ .vmem, ⟨7, _⟩ => ⟨S128x3072, .f32⟩
  | .local _ .vmem, ⟨8, _⟩ => ⟨S128x128, .f32⟩
  | .local _ .smem, ⟨0, _⟩ => ⟨S18x6, .i32⟩
  | _, _ => ⟨S18x6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (v10 : BitVec 32) : Fin 2 → Nat :=
  let v11 : Index := Scalar.indexCast v10
  let c0_8 : Index := 0#32
  ![v11.toNat, 0]

def k0_chk1 (v10 : BitVec 32) : Prop :=
  (∀ a, (k0_off1 v10) a + S1x3072.size a ≤ S250x3072.size a)
theorem k0_off1_inb : ∀ (v10 : BitVec 32) (k0_hw1 : k0_chk1 v10), ∀ a, (k0_off1 v10) a + S1x3072.size a ≤ S250x3072.size a := fun v10 k0_hw1 => k0_hw1

def k0_off2 (v18 : BitVec 32) : Fin 2 → Nat :=
  let v19 : Index := Scalar.indexCast v18
  let c0_14 : Index := 0#32
  ![v19.toNat, 0]

def k0_chk2 (v18 : BitVec 32) : Prop :=
  (∀ a, (k0_off2 v18) a + S1x3072.size a ≤ S250x3072.size a)
theorem k0_off2_inb : ∀ (v18 : BitVec 32) (k0_hw2 : k0_chk2 v18), ∀ a, (k0_off2 v18) a + S1x3072.size a ≤ S250x3072.size a := fun v18 k0_hw2 => k0_hw2

def k0_off3 (v26 : BitVec 32) : Fin 2 → Nat :=
  let v27 : Index := Scalar.indexCast v26
  let c0_20 : Index := 0#32
  ![v27.toNat, 0]

def k0_chk3 (v26 : BitVec 32) : Prop :=
  (∀ a, (k0_off3 v26) a + S1x3072.size a ≤ S250x3072.size a)
theorem k0_off3_inb : ∀ (v26 : BitVec 32) (k0_hw3 : k0_chk3 v26), ∀ a, (k0_off3 v26) a + S1x3072.size a ≤ S250x3072.size a := fun v26 k0_hw3 => k0_hw3

def k0_off4 (v34 : BitVec 32) : Fin 2 → Nat :=
  let v35 : Index := Scalar.indexCast v34
  let c0_26 : Index := 0#32
  ![v35.toNat, 0]

def k0_chk4 (v34 : BitVec 32) : Prop :=
  (∀ a, (k0_off4 v34) a + S1x3072.size a ≤ S250x3072.size a)
theorem k0_off4_inb : ∀ (v34 : BitVec 32) (k0_hw4 : k0_chk4 v34), ∀ a, (k0_off4 v34) a + S1x3072.size a ≤ S250x3072.size a := fun v34 k0_hw4 => k0_hw4

def k0_off5 (v42 : BitVec 32) : Fin 2 → Nat :=
  let v43 : Index := Scalar.indexCast v42
  let c0_32 : Index := 0#32
  ![v43.toNat, 0]

def k0_chk5 (v42 : BitVec 32) : Prop :=
  (∀ a, (k0_off5 v42) a + S1x3072.size a ≤ S250x3072.size a)
theorem k0_off5_inb : ∀ (v42 : BitVec 32) (k0_hw5 : k0_chk5 v42), ∀ a, (k0_off5 v42) a + S1x3072.size a ≤ S250x3072.size a := fun v42 k0_hw5 => k0_hw5

def k0_off6 (v50 : BitVec 32) : Fin 2 → Nat :=
  let v51 : Index := Scalar.indexCast v50
  let c0_38 : Index := 0#32
  ![v51.toNat, 0]

def k0_chk6 (v50 : BitVec 32) : Prop :=
  (∀ a, (k0_off6 v50) a + S1x3072.size a ≤ S250x3072.size a)
theorem k0_off6_inb : ∀ (v50 : BitVec 32) (k0_hw6 : k0_chk6 v50), ∀ a, (k0_off6 v50) a + S1x3072.size a ≤ S250x3072.size a := fun v50 k0_hw6 => k0_hw6

def k0_off7 (v114 : BitVec 32) : Fin 2 → Nat :=
  let v115 : Index := Scalar.indexCast v114
  let c0_65 : Index := 0#32
  ![v115.toNat, 0]

def k0_chk7 (v114 : BitVec 32) : Prop :=
  (∀ a, (k0_off7 v114) a + S1x3072.size a ≤ S250x3072.size a)
theorem k0_off7_inb : ∀ (v114 : BitVec 32) (k0_hw7 : k0_chk7 v114), ∀ a, (k0_off7 v114) a + S1x3072.size a ≤ S250x3072.size a := fun v114 k0_hw7 => k0_hw7

def k0_off8 (v122 : BitVec 32) : Fin 2 → Nat :=
  let v123 : Index := Scalar.indexCast v122
  let c0_72 : Index := 0#32
  ![v123.toNat, 0]

def k0_chk8 (v122 : BitVec 32) : Prop :=
  (∀ a, (k0_off8 v122) a + S1x3072.size a ≤ S250x3072.size a)
theorem k0_off8_inb : ∀ (v122 : BitVec 32) (k0_hw8 : k0_chk8 v122), ∀ a, (k0_off8 v122) a + S1x3072.size a ≤ S250x3072.size a := fun v122 k0_hw8 => k0_hw8

def k0_off9 (v130 : BitVec 32) : Fin 2 → Nat :=
  let v131 : Index := Scalar.indexCast v130
  let c0_79 : Index := 0#32
  ![v131.toNat, 0]

def k0_chk9 (v130 : BitVec 32) : Prop :=
  (∀ a, (k0_off9 v130) a + S1x3072.size a ≤ S250x3072.size a)
theorem k0_off9_inb : ∀ (v130 : BitVec 32) (k0_hw9 : k0_chk9 v130), ∀ a, (k0_off9 v130) a + S1x3072.size a ≤ S250x3072.size a := fun v130 k0_hw9 => k0_hw9

def k0_off10 (v138 : BitVec 32) : Fin 2 → Nat :=
  let v139 : Index := Scalar.indexCast v138
  let c0_86 : Index := 0#32
  ![v139.toNat, 0]

def k0_chk10 (v138 : BitVec 32) : Prop :=
  (∀ a, (k0_off10 v138) a + S1x3072.size a ≤ S250x3072.size a)
theorem k0_off10_inb : ∀ (v138 : BitVec 32) (k0_hw10 : k0_chk10 v138), ∀ a, (k0_off10 v138) a + S1x3072.size a ≤ S250x3072.size a := fun v138 k0_hw10 => k0_hw10

def k0_off11 (v146 : BitVec 32) : Fin 2 → Nat :=
  let v147 : Index := Scalar.indexCast v146
  let c0_93 : Index := 0#32
  ![v147.toNat, 0]

def k0_chk11 (v146 : BitVec 32) : Prop :=
  (∀ a, (k0_off11 v146) a + S1x3072.size a ≤ S250x3072.size a)
theorem k0_off11_inb : ∀ (v146 : BitVec 32) (k0_hw11 : k0_chk11 v146), ∀ a, (k0_off11 v146) a + S1x3072.size a ≤ S250x3072.size a := fun v146 k0_hw11 => k0_hw11

def k0_off12 (v154 : BitVec 32) : Fin 2 → Nat :=
  let v155 : Index := Scalar.indexCast v154
  let c0_100 : Index := 0#32
  ![v155.toNat, 0]

def k0_chk12 (v154 : BitVec 32) : Prop :=
  (∀ a, (k0_off12 v154) a + S1x3072.size a ≤ S250x3072.size a)
theorem k0_off12_inb : ∀ (v154 : BitVec 32) (k0_hw12 : k0_chk12 v154), ∀ a, (k0_off12 v154) a + S1x3072.size a ≤ S250x3072.size a := fun v154 k0_hw12 => k0_hw12

def k0_off13 (v218 : BitVec 32) : Fin 2 → Nat :=
  let v219 : Index := Scalar.indexCast v218
  let c0_129 : Index := 0#32
  ![v219.toNat, 0]

def k0_chk13 (v218 : BitVec 32) : Prop :=
  (∀ a, (k0_off13 v218) a + S1x3072.size a ≤ S250x3072.size a)
theorem k0_off13_inb : ∀ (v218 : BitVec 32) (k0_hw13 : k0_chk13 v218), ∀ a, (k0_off13 v218) a + S1x3072.size a ≤ S250x3072.size a := fun v218 k0_hw13 => k0_hw13

def k0_off14 (v226 : BitVec 32) : Fin 2 → Nat :=
  let v227 : Index := Scalar.indexCast v226
  let c0_136 : Index := 0#32
  ![v227.toNat, 0]

def k0_chk14 (v226 : BitVec 32) : Prop :=
  (∀ a, (k0_off14 v226) a + S1x3072.size a ≤ S250x3072.size a)
theorem k0_off14_inb : ∀ (v226 : BitVec 32) (k0_hw14 : k0_chk14 v226), ∀ a, (k0_off14 v226) a + S1x3072.size a ≤ S250x3072.size a := fun v226 k0_hw14 => k0_hw14

def k0_off15 (v234 : BitVec 32) : Fin 2 → Nat :=
  let v235 : Index := Scalar.indexCast v234
  let c0_143 : Index := 0#32
  ![v235.toNat, 0]

def k0_chk15 (v234 : BitVec 32) : Prop :=
  (∀ a, (k0_off15 v234) a + S1x3072.size a ≤ S250x3072.size a)
theorem k0_off15_inb : ∀ (v234 : BitVec 32) (k0_hw15 : k0_chk15 v234), ∀ a, (k0_off15 v234) a + S1x3072.size a ≤ S250x3072.size a := fun v234 k0_hw15 => k0_hw15

def k0_off16 (v242 : BitVec 32) : Fin 2 → Nat :=
  let v243 : Index := Scalar.indexCast v242
  let c0_150 : Index := 0#32
  ![v243.toNat, 0]

def k0_chk16 (v242 : BitVec 32) : Prop :=
  (∀ a, (k0_off16 v242) a + S1x3072.size a ≤ S250x3072.size a)
theorem k0_off16_inb : ∀ (v242 : BitVec 32) (k0_hw16 : k0_chk16 v242), ∀ a, (k0_off16 v242) a + S1x3072.size a ≤ S250x3072.size a := fun v242 k0_hw16 => k0_hw16

def k0_off17 (v250 : BitVec 32) : Fin 2 → Nat :=
  let v251 : Index := Scalar.indexCast v250
  let c0_157 : Index := 0#32
  ![v251.toNat, 0]

def k0_chk17 (v250 : BitVec 32) : Prop :=
  (∀ a, (k0_off17 v250) a + S1x3072.size a ≤ S250x3072.size a)
theorem k0_off17_inb : ∀ (v250 : BitVec 32) (k0_hw17 : k0_chk17 v250), ∀ a, (k0_off17 v250) a + S1x3072.size a ≤ S250x3072.size a := fun v250 k0_hw17 => k0_hw17

def k0_off18 (v258 : BitVec 32) : Fin 2 → Nat :=
  let v259 : Index := Scalar.indexCast v258
  let c0_164 : Index := 0#32
  ![v259.toNat, 0]

def k0_chk18 (v258 : BitVec 32) : Prop :=
  (∀ a, (k0_off18 v258) a + S1x3072.size a ≤ S250x3072.size a)
theorem k0_off18_inb : ∀ (v258 : BitVec 32) (k0_hw18 : k0_chk18 v258), ∀ a, (k0_off18 v258) a + S1x3072.size a ≤ S250x3072.size a := fun v258 k0_hw18 => k0_hw18

def k0_off19 (v322 : BitVec 32) : Fin 2 → Nat :=
  let v323 : Index := Scalar.indexCast v322
  let c0_193 : Index := 0#32
  ![v323.toNat, 0]

def k0_chk19 (v322 : BitVec 32) : Prop :=
  (∀ a, (k0_off19 v322) a + S1x3072.size a ≤ S250x3072.size a)
theorem k0_off19_inb : ∀ (v322 : BitVec 32) (k0_hw19 : k0_chk19 v322), ∀ a, (k0_off19 v322) a + S1x3072.size a ≤ S250x3072.size a := fun v322 k0_hw19 => k0_hw19

def k0_off20 (v330 : BitVec 32) : Fin 2 → Nat :=
  let v331 : Index := Scalar.indexCast v330
  let c0_200 : Index := 0#32
  ![v331.toNat, 0]

def k0_chk20 (v330 : BitVec 32) : Prop :=
  (∀ a, (k0_off20 v330) a + S1x3072.size a ≤ S250x3072.size a)
theorem k0_off20_inb : ∀ (v330 : BitVec 32) (k0_hw20 : k0_chk20 v330), ∀ a, (k0_off20 v330) a + S1x3072.size a ≤ S250x3072.size a := fun v330 k0_hw20 => k0_hw20

def k0_off21 (v338 : BitVec 32) : Fin 2 → Nat :=
  let v339 : Index := Scalar.indexCast v338
  let c0_207 : Index := 0#32
  ![v339.toNat, 0]

def k0_chk21 (v338 : BitVec 32) : Prop :=
  (∀ a, (k0_off21 v338) a + S1x3072.size a ≤ S250x3072.size a)
theorem k0_off21_inb : ∀ (v338 : BitVec 32) (k0_hw21 : k0_chk21 v338), ∀ a, (k0_off21 v338) a + S1x3072.size a ≤ S250x3072.size a := fun v338 k0_hw21 => k0_hw21

def k0_off22 (v346 : BitVec 32) : Fin 2 → Nat :=
  let v347 : Index := Scalar.indexCast v346
  let c0_214 : Index := 0#32
  ![v347.toNat, 0]

def k0_chk22 (v346 : BitVec 32) : Prop :=
  (∀ a, (k0_off22 v346) a + S1x3072.size a ≤ S250x3072.size a)
theorem k0_off22_inb : ∀ (v346 : BitVec 32) (k0_hw22 : k0_chk22 v346), ∀ a, (k0_off22 v346) a + S1x3072.size a ≤ S250x3072.size a := fun v346 k0_hw22 => k0_hw22

def k0_off23 (v354 : BitVec 32) : Fin 2 → Nat :=
  let v355 : Index := Scalar.indexCast v354
  let c0_221 : Index := 0#32
  ![v355.toNat, 0]

def k0_chk23 (v354 : BitVec 32) : Prop :=
  (∀ a, (k0_off23 v354) a + S1x3072.size a ≤ S250x3072.size a)
theorem k0_off23_inb : ∀ (v354 : BitVec 32) (k0_hw23 : k0_chk23 v354), ∀ a, (k0_off23 v354) a + S1x3072.size a ≤ S250x3072.size a := fun v354 k0_hw23 => k0_hw23

def k0_off24 (v362 : BitVec 32) : Fin 2 → Nat :=
  let v363 : Index := Scalar.indexCast v362
  let c0_228 : Index := 0#32
  ![v363.toNat, 0]

def k0_chk24 (v362 : BitVec 32) : Prop :=
  (∀ a, (k0_off24 v362) a + S1x3072.size a ≤ S250x3072.size a)
theorem k0_off24_inb : ∀ (v362 : BitVec 32) (k0_hw24 : k0_chk24 v362), ∀ a, (k0_off24 v362) a + S1x3072.size a ≤ S250x3072.size a := fun v362 k0_hw24 => k0_hw24

def k0_off25 (v426 : BitVec 32) : Fin 2 → Nat :=
  let v427 : Index := Scalar.indexCast v426
  let c0_257 : Index := 0#32
  ![v427.toNat, 0]

def k0_chk25 (v426 : BitVec 32) : Prop :=
  (∀ a, (k0_off25 v426) a + S1x3072.size a ≤ S250x3072.size a)
theorem k0_off25_inb : ∀ (v426 : BitVec 32) (k0_hw25 : k0_chk25 v426), ∀ a, (k0_off25 v426) a + S1x3072.size a ≤ S250x3072.size a := fun v426 k0_hw25 => k0_hw25

def k0_off26 (v434 : BitVec 32) : Fin 2 → Nat :=
  let v435 : Index := Scalar.indexCast v434
  let c0_264 : Index := 0#32
  ![v435.toNat, 0]

def k0_chk26 (v434 : BitVec 32) : Prop :=
  (∀ a, (k0_off26 v434) a + S1x3072.size a ≤ S250x3072.size a)
theorem k0_off26_inb : ∀ (v434 : BitVec 32) (k0_hw26 : k0_chk26 v434), ∀ a, (k0_off26 v434) a + S1x3072.size a ≤ S250x3072.size a := fun v434 k0_hw26 => k0_hw26

def k0_off27 (v442 : BitVec 32) : Fin 2 → Nat :=
  let v443 : Index := Scalar.indexCast v442
  let c0_271 : Index := 0#32
  ![v443.toNat, 0]

def k0_chk27 (v442 : BitVec 32) : Prop :=
  (∀ a, (k0_off27 v442) a + S1x3072.size a ≤ S250x3072.size a)
theorem k0_off27_inb : ∀ (v442 : BitVec 32) (k0_hw27 : k0_chk27 v442), ∀ a, (k0_off27 v442) a + S1x3072.size a ≤ S250x3072.size a := fun v442 k0_hw27 => k0_hw27

def k0_off28 (v450 : BitVec 32) : Fin 2 → Nat :=
  let v451 : Index := Scalar.indexCast v450
  let c0_278 : Index := 0#32
  ![v451.toNat, 0]

def k0_chk28 (v450 : BitVec 32) : Prop :=
  (∀ a, (k0_off28 v450) a + S1x3072.size a ≤ S250x3072.size a)
theorem k0_off28_inb : ∀ (v450 : BitVec 32) (k0_hw28 : k0_chk28 v450), ∀ a, (k0_off28 v450) a + S1x3072.size a ≤ S250x3072.size a := fun v450 k0_hw28 => k0_hw28

def k0_off29 (v458 : BitVec 32) : Fin 2 → Nat :=
  let v459 : Index := Scalar.indexCast v458
  let c0_285 : Index := 0#32
  ![v459.toNat, 0]

def k0_chk29 (v458 : BitVec 32) : Prop :=
  (∀ a, (k0_off29 v458) a + S1x3072.size a ≤ S250x3072.size a)
theorem k0_off29_inb : ∀ (v458 : BitVec 32) (k0_hw29 : k0_chk29 v458), ∀ a, (k0_off29 v458) a + S1x3072.size a ≤ S250x3072.size a := fun v458 k0_hw29 => k0_hw29

def k0_off30 (v466 : BitVec 32) : Fin 2 → Nat :=
  let v467 : Index := Scalar.indexCast v466
  let c0_292 : Index := 0#32
  ![v467.toNat, 0]

def k0_chk30 (v466 : BitVec 32) : Prop :=
  (∀ a, (k0_off30 v466) a + S1x3072.size a ≤ S250x3072.size a)
theorem k0_off30_inb : ∀ (v466 : BitVec 32) (k0_hw30 : k0_chk30 v466), ∀ a, (k0_off30 v466) a + S1x3072.size a ≤ S250x3072.size a := fun v466 k0_hw30 => k0_hw30

def k0_off31 (v530 : BitVec 32) : Fin 2 → Nat :=
  let v531 : Index := Scalar.indexCast v530
  let c0_321 : Index := 0#32
  ![v531.toNat, 0]

def k0_chk31 (v530 : BitVec 32) : Prop :=
  (∀ a, (k0_off31 v530) a + S1x3072.size a ≤ S250x3072.size a)
theorem k0_off31_inb : ∀ (v530 : BitVec 32) (k0_hw31 : k0_chk31 v530), ∀ a, (k0_off31 v530) a + S1x3072.size a ≤ S250x3072.size a := fun v530 k0_hw31 => k0_hw31

def k0_off32 (v538 : BitVec 32) : Fin 2 → Nat :=
  let v539 : Index := Scalar.indexCast v538
  let c0_328 : Index := 0#32
  ![v539.toNat, 0]

def k0_chk32 (v538 : BitVec 32) : Prop :=
  (∀ a, (k0_off32 v538) a + S1x3072.size a ≤ S250x3072.size a)
theorem k0_off32_inb : ∀ (v538 : BitVec 32) (k0_hw32 : k0_chk32 v538), ∀ a, (k0_off32 v538) a + S1x3072.size a ≤ S250x3072.size a := fun v538 k0_hw32 => k0_hw32

def k0_off33 (v546 : BitVec 32) : Fin 2 → Nat :=
  let v547 : Index := Scalar.indexCast v546
  let c0_335 : Index := 0#32
  ![v547.toNat, 0]

def k0_chk33 (v546 : BitVec 32) : Prop :=
  (∀ a, (k0_off33 v546) a + S1x3072.size a ≤ S250x3072.size a)
theorem k0_off33_inb : ∀ (v546 : BitVec 32) (k0_hw33 : k0_chk33 v546), ∀ a, (k0_off33 v546) a + S1x3072.size a ≤ S250x3072.size a := fun v546 k0_hw33 => k0_hw33

def k0_off34 (v554 : BitVec 32) : Fin 2 → Nat :=
  let v555 : Index := Scalar.indexCast v554
  let c0_342 : Index := 0#32
  ![v555.toNat, 0]

def k0_chk34 (v554 : BitVec 32) : Prop :=
  (∀ a, (k0_off34 v554) a + S1x3072.size a ≤ S250x3072.size a)
theorem k0_off34_inb : ∀ (v554 : BitVec 32) (k0_hw34 : k0_chk34 v554), ∀ a, (k0_off34 v554) a + S1x3072.size a ≤ S250x3072.size a := fun v554 k0_hw34 => k0_hw34

def k0_off35 (v562 : BitVec 32) : Fin 2 → Nat :=
  let v563 : Index := Scalar.indexCast v562
  let c0_349 : Index := 0#32
  ![v563.toNat, 0]

def k0_chk35 (v562 : BitVec 32) : Prop :=
  (∀ a, (k0_off35 v562) a + S1x3072.size a ≤ S250x3072.size a)
theorem k0_off35_inb : ∀ (v562 : BitVec 32) (k0_hw35 : k0_chk35 v562), ∀ a, (k0_off35 v562) a + S1x3072.size a ≤ S250x3072.size a := fun v562 k0_hw35 => k0_hw35

def k0_off36 (v570 : BitVec 32) : Fin 2 → Nat :=
  let v571 : Index := Scalar.indexCast v570
  let c0_356 : Index := 0#32
  ![v571.toNat, 0]

def k0_chk36 (v570 : BitVec 32) : Prop :=
  (∀ a, (k0_off36 v570) a + S1x3072.size a ≤ S250x3072.size a)
theorem k0_off36_inb : ∀ (v570 : BitVec 32) (k0_hw36 : k0_chk36 v570), ∀ a, (k0_off36 v570) a + S1x3072.size a ≤ S250x3072.size a := fun v570 k0_hw36 => k0_hw36

def k0_off37 (v634 : BitVec 32) : Fin 2 → Nat :=
  let v635 : Index := Scalar.indexCast v634
  let c0_385 : Index := 0#32
  ![v635.toNat, 0]

def k0_chk37 (v634 : BitVec 32) : Prop :=
  (∀ a, (k0_off37 v634) a + S1x3072.size a ≤ S250x3072.size a)
theorem k0_off37_inb : ∀ (v634 : BitVec 32) (k0_hw37 : k0_chk37 v634), ∀ a, (k0_off37 v634) a + S1x3072.size a ≤ S250x3072.size a := fun v634 k0_hw37 => k0_hw37

def k0_off38 (v642 : BitVec 32) : Fin 2 → Nat :=
  let v643 : Index := Scalar.indexCast v642
  let c0_392 : Index := 0#32
  ![v643.toNat, 0]

def k0_chk38 (v642 : BitVec 32) : Prop :=
  (∀ a, (k0_off38 v642) a + S1x3072.size a ≤ S250x3072.size a)
theorem k0_off38_inb : ∀ (v642 : BitVec 32) (k0_hw38 : k0_chk38 v642), ∀ a, (k0_off38 v642) a + S1x3072.size a ≤ S250x3072.size a := fun v642 k0_hw38 => k0_hw38

def k0_off39 (v650 : BitVec 32) : Fin 2 → Nat :=
  let v651 : Index := Scalar.indexCast v650
  let c0_399 : Index := 0#32
  ![v651.toNat, 0]

def k0_chk39 (v650 : BitVec 32) : Prop :=
  (∀ a, (k0_off39 v650) a + S1x3072.size a ≤ S250x3072.size a)
theorem k0_off39_inb : ∀ (v650 : BitVec 32) (k0_hw39 : k0_chk39 v650), ∀ a, (k0_off39 v650) a + S1x3072.size a ≤ S250x3072.size a := fun v650 k0_hw39 => k0_hw39

def k0_off40 (v658 : BitVec 32) : Fin 2 → Nat :=
  let v659 : Index := Scalar.indexCast v658
  let c0_406 : Index := 0#32
  ![v659.toNat, 0]

def k0_chk40 (v658 : BitVec 32) : Prop :=
  (∀ a, (k0_off40 v658) a + S1x3072.size a ≤ S250x3072.size a)
theorem k0_off40_inb : ∀ (v658 : BitVec 32) (k0_hw40 : k0_chk40 v658), ∀ a, (k0_off40 v658) a + S1x3072.size a ≤ S250x3072.size a := fun v658 k0_hw40 => k0_hw40

def k0_off41 (v666 : BitVec 32) : Fin 2 → Nat :=
  let v667 : Index := Scalar.indexCast v666
  let c0_413 : Index := 0#32
  ![v667.toNat, 0]

def k0_chk41 (v666 : BitVec 32) : Prop :=
  (∀ a, (k0_off41 v666) a + S1x3072.size a ≤ S250x3072.size a)
theorem k0_off41_inb : ∀ (v666 : BitVec 32) (k0_hw41 : k0_chk41 v666), ∀ a, (k0_off41 v666) a + S1x3072.size a ≤ S250x3072.size a := fun v666 k0_hw41 => k0_hw41

def k0_off42 (v674 : BitVec 32) : Fin 2 → Nat :=
  let v675 : Index := Scalar.indexCast v674
  let c0_420 : Index := 0#32
  ![v675.toNat, 0]

def k0_chk42 (v674 : BitVec 32) : Prop :=
  (∀ a, (k0_off42 v674) a + S1x3072.size a ≤ S250x3072.size a)
theorem k0_off42_inb : ∀ (v674 : BitVec 32) (k0_hw42 : k0_chk42 v674), ∀ a, (k0_off42 v674) a + S1x3072.size a ≤ S250x3072.size a := fun v674 k0_hw42 => k0_hw42

def k0_off43 (v738 : BitVec 32) : Fin 2 → Nat :=
  let v739 : Index := Scalar.indexCast v738
  let c0_448 : Index := 0#32
  ![v739.toNat, 0]

def k0_chk43 (v738 : BitVec 32) : Prop :=
  (∀ a, (k0_off43 v738) a + S1x3072.size a ≤ S250x3072.size a)
theorem k0_off43_inb : ∀ (v738 : BitVec 32) (k0_hw43 : k0_chk43 v738), ∀ a, (k0_off43 v738) a + S1x3072.size a ≤ S250x3072.size a := fun v738 k0_hw43 => k0_hw43

def k0_off44 (v746 : BitVec 32) : Fin 2 → Nat :=
  let v747 : Index := Scalar.indexCast v746
  let c0_455 : Index := 0#32
  ![v747.toNat, 0]

def k0_chk44 (v746 : BitVec 32) : Prop :=
  (∀ a, (k0_off44 v746) a + S1x3072.size a ≤ S250x3072.size a)
theorem k0_off44_inb : ∀ (v746 : BitVec 32) (k0_hw44 : k0_chk44 v746), ∀ a, (k0_off44 v746) a + S1x3072.size a ≤ S250x3072.size a := fun v746 k0_hw44 => k0_hw44

def k0_off45 (v754 : BitVec 32) : Fin 2 → Nat :=
  let v755 : Index := Scalar.indexCast v754
  let c0_462 : Index := 0#32
  ![v755.toNat, 0]

def k0_chk45 (v754 : BitVec 32) : Prop :=
  (∀ a, (k0_off45 v754) a + S1x3072.size a ≤ S250x3072.size a)
theorem k0_off45_inb : ∀ (v754 : BitVec 32) (k0_hw45 : k0_chk45 v754), ∀ a, (k0_off45 v754) a + S1x3072.size a ≤ S250x3072.size a := fun v754 k0_hw45 => k0_hw45

def k0_off46 (v762 : BitVec 32) : Fin 2 → Nat :=
  let v763 : Index := Scalar.indexCast v762
  let c0_469 : Index := 0#32
  ![v763.toNat, 0]

def k0_chk46 (v762 : BitVec 32) : Prop :=
  (∀ a, (k0_off46 v762) a + S1x3072.size a ≤ S250x3072.size a)
theorem k0_off46_inb : ∀ (v762 : BitVec 32) (k0_hw46 : k0_chk46 v762), ∀ a, (k0_off46 v762) a + S1x3072.size a ≤ S250x3072.size a := fun v762 k0_hw46 => k0_hw46

def k0_off47 (v770 : BitVec 32) : Fin 2 → Nat :=
  let v771 : Index := Scalar.indexCast v770
  let c0_476 : Index := 0#32
  ![v771.toNat, 0]

def k0_chk47 (v770 : BitVec 32) : Prop :=
  (∀ a, (k0_off47 v770) a + S1x3072.size a ≤ S250x3072.size a)
theorem k0_off47_inb : ∀ (v770 : BitVec 32) (k0_hw47 : k0_chk47 v770), ∀ a, (k0_off47 v770) a + S1x3072.size a ≤ S250x3072.size a := fun v770 k0_hw47 => k0_hw47

def k0_off48 (v778 : BitVec 32) : Fin 2 → Nat :=
  let v779 : Index := Scalar.indexCast v778
  let c0_483 : Index := 0#32
  ![v779.toNat, 0]

def k0_chk48 (v778 : BitVec 32) : Prop :=
  (∀ a, (k0_off48 v778) a + S1x3072.size a ≤ S250x3072.size a)
theorem k0_off48_inb : ∀ (v778 : BitVec 32) (k0_hw48 : k0_chk48 v778), ∀ a, (k0_off48 v778) a + S1x3072.size a ≤ S250x3072.size a := fun v778 k0_hw48 => k0_hw48

def k0_off49 (v842 : BitVec 32) : Fin 2 → Nat :=
  let v843 : Index := Scalar.indexCast v842
  let c0_511 : Index := 0#32
  ![v843.toNat, 0]

def k0_chk49 (v842 : BitVec 32) : Prop :=
  (∀ a, (k0_off49 v842) a + S1x3072.size a ≤ S250x3072.size a)
theorem k0_off49_inb : ∀ (v842 : BitVec 32) (k0_hw49 : k0_chk49 v842), ∀ a, (k0_off49 v842) a + S1x3072.size a ≤ S250x3072.size a := fun v842 k0_hw49 => k0_hw49

def k0_off50 (v850 : BitVec 32) : Fin 2 → Nat :=
  let v851 : Index := Scalar.indexCast v850
  let c0_518 : Index := 0#32
  ![v851.toNat, 0]

def k0_chk50 (v850 : BitVec 32) : Prop :=
  (∀ a, (k0_off50 v850) a + S1x3072.size a ≤ S250x3072.size a)
theorem k0_off50_inb : ∀ (v850 : BitVec 32) (k0_hw50 : k0_chk50 v850), ∀ a, (k0_off50 v850) a + S1x3072.size a ≤ S250x3072.size a := fun v850 k0_hw50 => k0_hw50

def k0_off51 (v858 : BitVec 32) : Fin 2 → Nat :=
  let v859 : Index := Scalar.indexCast v858
  let c0_525 : Index := 0#32
  ![v859.toNat, 0]

def k0_chk51 (v858 : BitVec 32) : Prop :=
  (∀ a, (k0_off51 v858) a + S1x3072.size a ≤ S250x3072.size a)
theorem k0_off51_inb : ∀ (v858 : BitVec 32) (k0_hw51 : k0_chk51 v858), ∀ a, (k0_off51 v858) a + S1x3072.size a ≤ S250x3072.size a := fun v858 k0_hw51 => k0_hw51

def k0_off52 (v866 : BitVec 32) : Fin 2 → Nat :=
  let v867 : Index := Scalar.indexCast v866
  let c0_532 : Index := 0#32
  ![v867.toNat, 0]

def k0_chk52 (v866 : BitVec 32) : Prop :=
  (∀ a, (k0_off52 v866) a + S1x3072.size a ≤ S250x3072.size a)
theorem k0_off52_inb : ∀ (v866 : BitVec 32) (k0_hw52 : k0_chk52 v866), ∀ a, (k0_off52 v866) a + S1x3072.size a ≤ S250x3072.size a := fun v866 k0_hw52 => k0_hw52

def k0_off53 (v874 : BitVec 32) : Fin 2 → Nat :=
  let v875 : Index := Scalar.indexCast v874
  let c0_539 : Index := 0#32
  ![v875.toNat, 0]

def k0_chk53 (v874 : BitVec 32) : Prop :=
  (∀ a, (k0_off53 v874) a + S1x3072.size a ≤ S250x3072.size a)
theorem k0_off53_inb : ∀ (v874 : BitVec 32) (k0_hw53 : k0_chk53 v874), ∀ a, (k0_off53 v874) a + S1x3072.size a ≤ S250x3072.size a := fun v874 k0_hw53 => k0_hw53

def k0_off54 (v882 : BitVec 32) : Fin 2 → Nat :=
  let v883 : Index := Scalar.indexCast v882
  let c0_546 : Index := 0#32
  ![v883.toNat, 0]

def k0_chk54 (v882 : BitVec 32) : Prop :=
  (∀ a, (k0_off54 v882) a + S1x3072.size a ≤ S250x3072.size a)
theorem k0_off54_inb : ∀ (v882 : BitVec 32) (k0_hw54 : k0_chk54 v882), ∀ a, (k0_off54 v882) a + S1x3072.size a ≤ S250x3072.size a := fun v882 k0_hw54 => k0_hw54

def k0_off55 (v946 : BitVec 32) : Fin 2 → Nat :=
  let v947 : Index := Scalar.indexCast v946
  let c0_574 : Index := 0#32
  ![v947.toNat, 0]

def k0_chk55 (v946 : BitVec 32) : Prop :=
  (∀ a, (k0_off55 v946) a + S1x3072.size a ≤ S250x3072.size a)
theorem k0_off55_inb : ∀ (v946 : BitVec 32) (k0_hw55 : k0_chk55 v946), ∀ a, (k0_off55 v946) a + S1x3072.size a ≤ S250x3072.size a := fun v946 k0_hw55 => k0_hw55

def k0_off56 (v954 : BitVec 32) : Fin 2 → Nat :=
  let v955 : Index := Scalar.indexCast v954
  let c0_581 : Index := 0#32
  ![v955.toNat, 0]

def k0_chk56 (v954 : BitVec 32) : Prop :=
  (∀ a, (k0_off56 v954) a + S1x3072.size a ≤ S250x3072.size a)
theorem k0_off56_inb : ∀ (v954 : BitVec 32) (k0_hw56 : k0_chk56 v954), ∀ a, (k0_off56 v954) a + S1x3072.size a ≤ S250x3072.size a := fun v954 k0_hw56 => k0_hw56

def k0_off57 (v962 : BitVec 32) : Fin 2 → Nat :=
  let v963 : Index := Scalar.indexCast v962
  let c0_588 : Index := 0#32
  ![v963.toNat, 0]

def k0_chk57 (v962 : BitVec 32) : Prop :=
  (∀ a, (k0_off57 v962) a + S1x3072.size a ≤ S250x3072.size a)
theorem k0_off57_inb : ∀ (v962 : BitVec 32) (k0_hw57 : k0_chk57 v962), ∀ a, (k0_off57 v962) a + S1x3072.size a ≤ S250x3072.size a := fun v962 k0_hw57 => k0_hw57

def k0_off58 (v970 : BitVec 32) : Fin 2 → Nat :=
  let v971 : Index := Scalar.indexCast v970
  let c0_595 : Index := 0#32
  ![v971.toNat, 0]

def k0_chk58 (v970 : BitVec 32) : Prop :=
  (∀ a, (k0_off58 v970) a + S1x3072.size a ≤ S250x3072.size a)
theorem k0_off58_inb : ∀ (v970 : BitVec 32) (k0_hw58 : k0_chk58 v970), ∀ a, (k0_off58 v970) a + S1x3072.size a ≤ S250x3072.size a := fun v970 k0_hw58 => k0_hw58

def k0_off59 (v978 : BitVec 32) : Fin 2 → Nat :=
  let v979 : Index := Scalar.indexCast v978
  let c0_602 : Index := 0#32
  ![v979.toNat, 0]

def k0_chk59 (v978 : BitVec 32) : Prop :=
  (∀ a, (k0_off59 v978) a + S1x3072.size a ≤ S250x3072.size a)
theorem k0_off59_inb : ∀ (v978 : BitVec 32) (k0_hw59 : k0_chk59 v978), ∀ a, (k0_off59 v978) a + S1x3072.size a ≤ S250x3072.size a := fun v978 k0_hw59 => k0_hw59

def k0_off60 (v986 : BitVec 32) : Fin 2 → Nat :=
  let v987 : Index := Scalar.indexCast v986
  let c0_609 : Index := 0#32
  ![v987.toNat, 0]

def k0_chk60 (v986 : BitVec 32) : Prop :=
  (∀ a, (k0_off60 v986) a + S1x3072.size a ≤ S250x3072.size a)
theorem k0_off60_inb : ∀ (v986 : BitVec 32) (k0_hw60 : k0_chk60 v986), ∀ a, (k0_off60 v986) a + S1x3072.size a ≤ S250x3072.size a := fun v986 k0_hw60 => k0_hw60

def k0_off61 (v1050 : BitVec 32) : Fin 2 → Nat :=
  let v1051 : Index := Scalar.indexCast v1050
  let c0_637 : Index := 0#32
  ![v1051.toNat, 0]

def k0_chk61 (v1050 : BitVec 32) : Prop :=
  (∀ a, (k0_off61 v1050) a + S1x3072.size a ≤ S250x3072.size a)
theorem k0_off61_inb : ∀ (v1050 : BitVec 32) (k0_hw61 : k0_chk61 v1050), ∀ a, (k0_off61 v1050) a + S1x3072.size a ≤ S250x3072.size a := fun v1050 k0_hw61 => k0_hw61

def k0_off62 (v1058 : BitVec 32) : Fin 2 → Nat :=
  let v1059 : Index := Scalar.indexCast v1058
  let c0_644 : Index := 0#32
  ![v1059.toNat, 0]

def k0_chk62 (v1058 : BitVec 32) : Prop :=
  (∀ a, (k0_off62 v1058) a + S1x3072.size a ≤ S250x3072.size a)
theorem k0_off62_inb : ∀ (v1058 : BitVec 32) (k0_hw62 : k0_chk62 v1058), ∀ a, (k0_off62 v1058) a + S1x3072.size a ≤ S250x3072.size a := fun v1058 k0_hw62 => k0_hw62

def k0_off63 (v1066 : BitVec 32) : Fin 2 → Nat :=
  let v1067 : Index := Scalar.indexCast v1066
  let c0_651 : Index := 0#32
  ![v1067.toNat, 0]

def k0_chk63 (v1066 : BitVec 32) : Prop :=
  (∀ a, (k0_off63 v1066) a + S1x3072.size a ≤ S250x3072.size a)
theorem k0_off63_inb : ∀ (v1066 : BitVec 32) (k0_hw63 : k0_chk63 v1066), ∀ a, (k0_off63 v1066) a + S1x3072.size a ≤ S250x3072.size a := fun v1066 k0_hw63 => k0_hw63

def k0_off64 (v1074 : BitVec 32) : Fin 2 → Nat :=
  let v1075 : Index := Scalar.indexCast v1074
  let c0_658 : Index := 0#32
  ![v1075.toNat, 0]

def k0_chk64 (v1074 : BitVec 32) : Prop :=
  (∀ a, (k0_off64 v1074) a + S1x3072.size a ≤ S250x3072.size a)
theorem k0_off64_inb : ∀ (v1074 : BitVec 32) (k0_hw64 : k0_chk64 v1074), ∀ a, (k0_off64 v1074) a + S1x3072.size a ≤ S250x3072.size a := fun v1074 k0_hw64 => k0_hw64

def k0_off65 (v1082 : BitVec 32) : Fin 2 → Nat :=
  let v1083 : Index := Scalar.indexCast v1082
  let c0_665 : Index := 0#32
  ![v1083.toNat, 0]

def k0_chk65 (v1082 : BitVec 32) : Prop :=
  (∀ a, (k0_off65 v1082) a + S1x3072.size a ≤ S250x3072.size a)
theorem k0_off65_inb : ∀ (v1082 : BitVec 32) (k0_hw65 : k0_chk65 v1082), ∀ a, (k0_off65 v1082) a + S1x3072.size a ≤ S250x3072.size a := fun v1082 k0_hw65 => k0_hw65

def k0_off66 (v1090 : BitVec 32) : Fin 2 → Nat :=
  let v1091 : Index := Scalar.indexCast v1090
  let c0_672 : Index := 0#32
  ![v1091.toNat, 0]

def k0_chk66 (v1090 : BitVec 32) : Prop :=
  (∀ a, (k0_off66 v1090) a + S1x3072.size a ≤ S250x3072.size a)
theorem k0_off66_inb : ∀ (v1090 : BitVec 32) (k0_hw66 : k0_chk66 v1090), ∀ a, (k0_off66 v1090) a + S1x3072.size a ≤ S250x3072.size a := fun v1090 k0_hw66 => k0_hw66

def k0_off67 (v1154 : BitVec 32) : Fin 2 → Nat :=
  let v1155 : Index := Scalar.indexCast v1154
  let c0_700 : Index := 0#32
  ![v1155.toNat, 0]

def k0_chk67 (v1154 : BitVec 32) : Prop :=
  (∀ a, (k0_off67 v1154) a + S1x3072.size a ≤ S250x3072.size a)
theorem k0_off67_inb : ∀ (v1154 : BitVec 32) (k0_hw67 : k0_chk67 v1154), ∀ a, (k0_off67 v1154) a + S1x3072.size a ≤ S250x3072.size a := fun v1154 k0_hw67 => k0_hw67

def k0_off68 (v1162 : BitVec 32) : Fin 2 → Nat :=
  let v1163 : Index := Scalar.indexCast v1162
  let c0_707 : Index := 0#32
  ![v1163.toNat, 0]

def k0_chk68 (v1162 : BitVec 32) : Prop :=
  (∀ a, (k0_off68 v1162) a + S1x3072.size a ≤ S250x3072.size a)
theorem k0_off68_inb : ∀ (v1162 : BitVec 32) (k0_hw68 : k0_chk68 v1162), ∀ a, (k0_off68 v1162) a + S1x3072.size a ≤ S250x3072.size a := fun v1162 k0_hw68 => k0_hw68

def k0_off69 (v1170 : BitVec 32) : Fin 2 → Nat :=
  let v1171 : Index := Scalar.indexCast v1170
  let c0_714 : Index := 0#32
  ![v1171.toNat, 0]

def k0_chk69 (v1170 : BitVec 32) : Prop :=
  (∀ a, (k0_off69 v1170) a + S1x3072.size a ≤ S250x3072.size a)
theorem k0_off69_inb : ∀ (v1170 : BitVec 32) (k0_hw69 : k0_chk69 v1170), ∀ a, (k0_off69 v1170) a + S1x3072.size a ≤ S250x3072.size a := fun v1170 k0_hw69 => k0_hw69

def k0_off70 (v1178 : BitVec 32) : Fin 2 → Nat :=
  let v1179 : Index := Scalar.indexCast v1178
  let c0_721 : Index := 0#32
  ![v1179.toNat, 0]

def k0_chk70 (v1178 : BitVec 32) : Prop :=
  (∀ a, (k0_off70 v1178) a + S1x3072.size a ≤ S250x3072.size a)
theorem k0_off70_inb : ∀ (v1178 : BitVec 32) (k0_hw70 : k0_chk70 v1178), ∀ a, (k0_off70 v1178) a + S1x3072.size a ≤ S250x3072.size a := fun v1178 k0_hw70 => k0_hw70

def k0_off71 (v1186 : BitVec 32) : Fin 2 → Nat :=
  let v1187 : Index := Scalar.indexCast v1186
  let c0_728 : Index := 0#32
  ![v1187.toNat, 0]

def k0_chk71 (v1186 : BitVec 32) : Prop :=
  (∀ a, (k0_off71 v1186) a + S1x3072.size a ≤ S250x3072.size a)
theorem k0_off71_inb : ∀ (v1186 : BitVec 32) (k0_hw71 : k0_chk71 v1186), ∀ a, (k0_off71 v1186) a + S1x3072.size a ≤ S250x3072.size a := fun v1186 k0_hw71 => k0_hw71

def k0_off72 (v1194 : BitVec 32) : Fin 2 → Nat :=
  let v1195 : Index := Scalar.indexCast v1194
  let c0_735 : Index := 0#32
  ![v1195.toNat, 0]

def k0_chk72 (v1194 : BitVec 32) : Prop :=
  (∀ a, (k0_off72 v1194) a + S1x3072.size a ≤ S250x3072.size a)
theorem k0_off72_inb : ∀ (v1194 : BitVec 32) (k0_hw72 : k0_chk72 v1194), ∀ a, (k0_off72 v1194) a + S1x3072.size a ≤ S250x3072.size a := fun v1194 k0_hw72 => k0_hw72

def k0_off73 (v1258 : BitVec 32) : Fin 2 → Nat :=
  let v1259 : Index := Scalar.indexCast v1258
  let c0_764 : Index := 0#32
  ![v1259.toNat, 0]

def k0_chk73 (v1258 : BitVec 32) : Prop :=
  (∀ a, (k0_off73 v1258) a + S1x3072.size a ≤ S250x3072.size a)
theorem k0_off73_inb : ∀ (v1258 : BitVec 32) (k0_hw73 : k0_chk73 v1258), ∀ a, (k0_off73 v1258) a + S1x3072.size a ≤ S250x3072.size a := fun v1258 k0_hw73 => k0_hw73

def k0_off74 (v1266 : BitVec 32) : Fin 2 → Nat :=
  let v1267 : Index := Scalar.indexCast v1266
  let c0_771 : Index := 0#32
  ![v1267.toNat, 0]

def k0_chk74 (v1266 : BitVec 32) : Prop :=
  (∀ a, (k0_off74 v1266) a + S1x3072.size a ≤ S250x3072.size a)
theorem k0_off74_inb : ∀ (v1266 : BitVec 32) (k0_hw74 : k0_chk74 v1266), ∀ a, (k0_off74 v1266) a + S1x3072.size a ≤ S250x3072.size a := fun v1266 k0_hw74 => k0_hw74

def k0_off75 (v1274 : BitVec 32) : Fin 2 → Nat :=
  let v1275 : Index := Scalar.indexCast v1274
  let c0_778 : Index := 0#32
  ![v1275.toNat, 0]

def k0_chk75 (v1274 : BitVec 32) : Prop :=
  (∀ a, (k0_off75 v1274) a + S1x3072.size a ≤ S250x3072.size a)
theorem k0_off75_inb : ∀ (v1274 : BitVec 32) (k0_hw75 : k0_chk75 v1274), ∀ a, (k0_off75 v1274) a + S1x3072.size a ≤ S250x3072.size a := fun v1274 k0_hw75 => k0_hw75

def k0_off76 (v1282 : BitVec 32) : Fin 2 → Nat :=
  let v1283 : Index := Scalar.indexCast v1282
  let c0_785 : Index := 0#32
  ![v1283.toNat, 0]

def k0_chk76 (v1282 : BitVec 32) : Prop :=
  (∀ a, (k0_off76 v1282) a + S1x3072.size a ≤ S250x3072.size a)
theorem k0_off76_inb : ∀ (v1282 : BitVec 32) (k0_hw76 : k0_chk76 v1282), ∀ a, (k0_off76 v1282) a + S1x3072.size a ≤ S250x3072.size a := fun v1282 k0_hw76 => k0_hw76

def k0_off77 (v1290 : BitVec 32) : Fin 2 → Nat :=
  let v1291 : Index := Scalar.indexCast v1290
  let c0_792 : Index := 0#32
  ![v1291.toNat, 0]

def k0_chk77 (v1290 : BitVec 32) : Prop :=
  (∀ a, (k0_off77 v1290) a + S1x3072.size a ≤ S250x3072.size a)
theorem k0_off77_inb : ∀ (v1290 : BitVec 32) (k0_hw77 : k0_chk77 v1290), ∀ a, (k0_off77 v1290) a + S1x3072.size a ≤ S250x3072.size a := fun v1290 k0_hw77 => k0_hw77

def k0_off78 (v1298 : BitVec 32) : Fin 2 → Nat :=
  let v1299 : Index := Scalar.indexCast v1298
  let c0_799 : Index := 0#32
  ![v1299.toNat, 0]

def k0_chk78 (v1298 : BitVec 32) : Prop :=
  (∀ a, (k0_off78 v1298) a + S1x3072.size a ≤ S250x3072.size a)
theorem k0_off78_inb : ∀ (v1298 : BitVec 32) (k0_hw78 : k0_chk78 v1298), ∀ a, (k0_off78 v1298) a + S1x3072.size a ≤ S250x3072.size a := fun v1298 k0_hw78 => k0_hw78

def k0_off79 (v1362 : BitVec 32) : Fin 2 → Nat :=
  let v1363 : Index := Scalar.indexCast v1362
  let c0_827 : Index := 0#32
  ![v1363.toNat, 0]

def k0_chk79 (v1362 : BitVec 32) : Prop :=
  (∀ a, (k0_off79 v1362) a + S1x3072.size a ≤ S250x3072.size a)
theorem k0_off79_inb : ∀ (v1362 : BitVec 32) (k0_hw79 : k0_chk79 v1362), ∀ a, (k0_off79 v1362) a + S1x3072.size a ≤ S250x3072.size a := fun v1362 k0_hw79 => k0_hw79

def k0_off80 (v1370 : BitVec 32) : Fin 2 → Nat :=
  let v1371 : Index := Scalar.indexCast v1370
  let c0_834 : Index := 0#32
  ![v1371.toNat, 0]

def k0_chk80 (v1370 : BitVec 32) : Prop :=
  (∀ a, (k0_off80 v1370) a + S1x3072.size a ≤ S250x3072.size a)
theorem k0_off80_inb : ∀ (v1370 : BitVec 32) (k0_hw80 : k0_chk80 v1370), ∀ a, (k0_off80 v1370) a + S1x3072.size a ≤ S250x3072.size a := fun v1370 k0_hw80 => k0_hw80

def k0_off81 (v1378 : BitVec 32) : Fin 2 → Nat :=
  let v1379 : Index := Scalar.indexCast v1378
  let c0_841 : Index := 0#32
  ![v1379.toNat, 0]

def k0_chk81 (v1378 : BitVec 32) : Prop :=
  (∀ a, (k0_off81 v1378) a + S1x3072.size a ≤ S250x3072.size a)
theorem k0_off81_inb : ∀ (v1378 : BitVec 32) (k0_hw81 : k0_chk81 v1378), ∀ a, (k0_off81 v1378) a + S1x3072.size a ≤ S250x3072.size a := fun v1378 k0_hw81 => k0_hw81

def k0_off82 (v1386 : BitVec 32) : Fin 2 → Nat :=
  let v1387 : Index := Scalar.indexCast v1386
  let c0_848 : Index := 0#32
  ![v1387.toNat, 0]

def k0_chk82 (v1386 : BitVec 32) : Prop :=
  (∀ a, (k0_off82 v1386) a + S1x3072.size a ≤ S250x3072.size a)
theorem k0_off82_inb : ∀ (v1386 : BitVec 32) (k0_hw82 : k0_chk82 v1386), ∀ a, (k0_off82 v1386) a + S1x3072.size a ≤ S250x3072.size a := fun v1386 k0_hw82 => k0_hw82

def k0_off83 (v1394 : BitVec 32) : Fin 2 → Nat :=
  let v1395 : Index := Scalar.indexCast v1394
  let c0_855 : Index := 0#32
  ![v1395.toNat, 0]

def k0_chk83 (v1394 : BitVec 32) : Prop :=
  (∀ a, (k0_off83 v1394) a + S1x3072.size a ≤ S250x3072.size a)
theorem k0_off83_inb : ∀ (v1394 : BitVec 32) (k0_hw83 : k0_chk83 v1394), ∀ a, (k0_off83 v1394) a + S1x3072.size a ≤ S250x3072.size a := fun v1394 k0_hw83 => k0_hw83

def k0_off84 (v1402 : BitVec 32) : Fin 2 → Nat :=
  let v1403 : Index := Scalar.indexCast v1402
  let c0_862 : Index := 0#32
  ![v1403.toNat, 0]

def k0_chk84 (v1402 : BitVec 32) : Prop :=
  (∀ a, (k0_off84 v1402) a + S1x3072.size a ≤ S250x3072.size a)
theorem k0_off84_inb : ∀ (v1402 : BitVec 32) (k0_hw84 : k0_chk84 v1402), ∀ a, (k0_off84 v1402) a + S1x3072.size a ≤ S250x3072.size a := fun v1402 k0_hw84 => k0_hw84

def k0_off85 (v1466 : BitVec 32) : Fin 2 → Nat :=
  let v1467 : Index := Scalar.indexCast v1466
  let c0_890 : Index := 0#32
  ![v1467.toNat, 0]

def k0_chk85 (v1466 : BitVec 32) : Prop :=
  (∀ a, (k0_off85 v1466) a + S1x3072.size a ≤ S250x3072.size a)
theorem k0_off85_inb : ∀ (v1466 : BitVec 32) (k0_hw85 : k0_chk85 v1466), ∀ a, (k0_off85 v1466) a + S1x3072.size a ≤ S250x3072.size a := fun v1466 k0_hw85 => k0_hw85

def k0_off86 (v1474 : BitVec 32) : Fin 2 → Nat :=
  let v1475 : Index := Scalar.indexCast v1474
  let c0_897 : Index := 0#32
  ![v1475.toNat, 0]

def k0_chk86 (v1474 : BitVec 32) : Prop :=
  (∀ a, (k0_off86 v1474) a + S1x3072.size a ≤ S250x3072.size a)
theorem k0_off86_inb : ∀ (v1474 : BitVec 32) (k0_hw86 : k0_chk86 v1474), ∀ a, (k0_off86 v1474) a + S1x3072.size a ≤ S250x3072.size a := fun v1474 k0_hw86 => k0_hw86

def k0_off87 (v1482 : BitVec 32) : Fin 2 → Nat :=
  let v1483 : Index := Scalar.indexCast v1482
  let c0_904 : Index := 0#32
  ![v1483.toNat, 0]

def k0_chk87 (v1482 : BitVec 32) : Prop :=
  (∀ a, (k0_off87 v1482) a + S1x3072.size a ≤ S250x3072.size a)
theorem k0_off87_inb : ∀ (v1482 : BitVec 32) (k0_hw87 : k0_chk87 v1482), ∀ a, (k0_off87 v1482) a + S1x3072.size a ≤ S250x3072.size a := fun v1482 k0_hw87 => k0_hw87

def k0_off88 (v1490 : BitVec 32) : Fin 2 → Nat :=
  let v1491 : Index := Scalar.indexCast v1490
  let c0_911 : Index := 0#32
  ![v1491.toNat, 0]

def k0_chk88 (v1490 : BitVec 32) : Prop :=
  (∀ a, (k0_off88 v1490) a + S1x3072.size a ≤ S250x3072.size a)
theorem k0_off88_inb : ∀ (v1490 : BitVec 32) (k0_hw88 : k0_chk88 v1490), ∀ a, (k0_off88 v1490) a + S1x3072.size a ≤ S250x3072.size a := fun v1490 k0_hw88 => k0_hw88

def k0_off89 (v1498 : BitVec 32) : Fin 2 → Nat :=
  let v1499 : Index := Scalar.indexCast v1498
  let c0_918 : Index := 0#32
  ![v1499.toNat, 0]

def k0_chk89 (v1498 : BitVec 32) : Prop :=
  (∀ a, (k0_off89 v1498) a + S1x3072.size a ≤ S250x3072.size a)
theorem k0_off89_inb : ∀ (v1498 : BitVec 32) (k0_hw89 : k0_chk89 v1498), ∀ a, (k0_off89 v1498) a + S1x3072.size a ≤ S250x3072.size a := fun v1498 k0_hw89 => k0_hw89

def k0_off90 (v1506 : BitVec 32) : Fin 2 → Nat :=
  let v1507 : Index := Scalar.indexCast v1506
  let c0_925 : Index := 0#32
  ![v1507.toNat, 0]

def k0_chk90 (v1506 : BitVec 32) : Prop :=
  (∀ a, (k0_off90 v1506) a + S1x3072.size a ≤ S250x3072.size a)
theorem k0_off90_inb : ∀ (v1506 : BitVec 32) (k0_hw90 : k0_chk90 v1506), ∀ a, (k0_off90 v1506) a + S1x3072.size a ≤ S250x3072.size a := fun v1506 k0_hw90 => k0_hw90

def k0_off91 (v1570 : BitVec 32) : Fin 2 → Nat :=
  let v1571 : Index := Scalar.indexCast v1570
  let c0_953 : Index := 0#32
  ![v1571.toNat, 0]

def k0_chk91 (v1570 : BitVec 32) : Prop :=
  (∀ a, (k0_off91 v1570) a + S1x3072.size a ≤ S250x3072.size a)
theorem k0_off91_inb : ∀ (v1570 : BitVec 32) (k0_hw91 : k0_chk91 v1570), ∀ a, (k0_off91 v1570) a + S1x3072.size a ≤ S250x3072.size a := fun v1570 k0_hw91 => k0_hw91

def k0_off92 (v1578 : BitVec 32) : Fin 2 → Nat :=
  let v1579 : Index := Scalar.indexCast v1578
  let c0_960 : Index := 0#32
  ![v1579.toNat, 0]

def k0_chk92 (v1578 : BitVec 32) : Prop :=
  (∀ a, (k0_off92 v1578) a + S1x3072.size a ≤ S250x3072.size a)
theorem k0_off92_inb : ∀ (v1578 : BitVec 32) (k0_hw92 : k0_chk92 v1578), ∀ a, (k0_off92 v1578) a + S1x3072.size a ≤ S250x3072.size a := fun v1578 k0_hw92 => k0_hw92

def k0_off93 (v1586 : BitVec 32) : Fin 2 → Nat :=
  let v1587 : Index := Scalar.indexCast v1586
  let c0_967 : Index := 0#32
  ![v1587.toNat, 0]

def k0_chk93 (v1586 : BitVec 32) : Prop :=
  (∀ a, (k0_off93 v1586) a + S1x3072.size a ≤ S250x3072.size a)
theorem k0_off93_inb : ∀ (v1586 : BitVec 32) (k0_hw93 : k0_chk93 v1586), ∀ a, (k0_off93 v1586) a + S1x3072.size a ≤ S250x3072.size a := fun v1586 k0_hw93 => k0_hw93

def k0_off94 (v1594 : BitVec 32) : Fin 2 → Nat :=
  let v1595 : Index := Scalar.indexCast v1594
  let c0_974 : Index := 0#32
  ![v1595.toNat, 0]

def k0_chk94 (v1594 : BitVec 32) : Prop :=
  (∀ a, (k0_off94 v1594) a + S1x3072.size a ≤ S250x3072.size a)
theorem k0_off94_inb : ∀ (v1594 : BitVec 32) (k0_hw94 : k0_chk94 v1594), ∀ a, (k0_off94 v1594) a + S1x3072.size a ≤ S250x3072.size a := fun v1594 k0_hw94 => k0_hw94

def k0_off95 (v1602 : BitVec 32) : Fin 2 → Nat :=
  let v1603 : Index := Scalar.indexCast v1602
  let c0_981 : Index := 0#32
  ![v1603.toNat, 0]

def k0_chk95 (v1602 : BitVec 32) : Prop :=
  (∀ a, (k0_off95 v1602) a + S1x3072.size a ≤ S250x3072.size a)
theorem k0_off95_inb : ∀ (v1602 : BitVec 32) (k0_hw95 : k0_chk95 v1602), ∀ a, (k0_off95 v1602) a + S1x3072.size a ≤ S250x3072.size a := fun v1602 k0_hw95 => k0_hw95

def k0_off96 (v1610 : BitVec 32) : Fin 2 → Nat :=
  let v1611 : Index := Scalar.indexCast v1610
  let c0_988 : Index := 0#32
  ![v1611.toNat, 0]

def k0_chk96 (v1610 : BitVec 32) : Prop :=
  (∀ a, (k0_off96 v1610) a + S1x3072.size a ≤ S250x3072.size a)
theorem k0_off96_inb : ∀ (v1610 : BitVec 32) (k0_hw96 : k0_chk96 v1610), ∀ a, (k0_off96 v1610) a + S1x3072.size a ≤ S250x3072.size a := fun v1610 k0_hw96 => k0_hw96

def k0_off97 (v1674 : BitVec 32) : Fin 2 → Nat :=
  let v1675 : Index := Scalar.indexCast v1674
  let c0_1016 : Index := 0#32
  ![v1675.toNat, 0]

def k0_chk97 (v1674 : BitVec 32) : Prop :=
  (∀ a, (k0_off97 v1674) a + S1x3072.size a ≤ S250x3072.size a)
theorem k0_off97_inb : ∀ (v1674 : BitVec 32) (k0_hw97 : k0_chk97 v1674), ∀ a, (k0_off97 v1674) a + S1x3072.size a ≤ S250x3072.size a := fun v1674 k0_hw97 => k0_hw97

def k0_off98 (v1682 : BitVec 32) : Fin 2 → Nat :=
  let v1683 : Index := Scalar.indexCast v1682
  let c0_1023 : Index := 0#32
  ![v1683.toNat, 0]

def k0_chk98 (v1682 : BitVec 32) : Prop :=
  (∀ a, (k0_off98 v1682) a + S1x3072.size a ≤ S250x3072.size a)
theorem k0_off98_inb : ∀ (v1682 : BitVec 32) (k0_hw98 : k0_chk98 v1682), ∀ a, (k0_off98 v1682) a + S1x3072.size a ≤ S250x3072.size a := fun v1682 k0_hw98 => k0_hw98

def k0_off99 (v1690 : BitVec 32) : Fin 2 → Nat :=
  let v1691 : Index := Scalar.indexCast v1690
  let c0_1030 : Index := 0#32
  ![v1691.toNat, 0]

def k0_chk99 (v1690 : BitVec 32) : Prop :=
  (∀ a, (k0_off99 v1690) a + S1x3072.size a ≤ S250x3072.size a)
theorem k0_off99_inb : ∀ (v1690 : BitVec 32) (k0_hw99 : k0_chk99 v1690), ∀ a, (k0_off99 v1690) a + S1x3072.size a ≤ S250x3072.size a := fun v1690 k0_hw99 => k0_hw99

def k0_off100 (v1698 : BitVec 32) : Fin 2 → Nat :=
  let v1699 : Index := Scalar.indexCast v1698
  let c0_1037 : Index := 0#32
  ![v1699.toNat, 0]

def k0_chk100 (v1698 : BitVec 32) : Prop :=
  (∀ a, (k0_off100 v1698) a + S1x3072.size a ≤ S250x3072.size a)
theorem k0_off100_inb : ∀ (v1698 : BitVec 32) (k0_hw100 : k0_chk100 v1698), ∀ a, (k0_off100 v1698) a + S1x3072.size a ≤ S250x3072.size a := fun v1698 k0_hw100 => k0_hw100

def k0_off101 (v1706 : BitVec 32) : Fin 2 → Nat :=
  let v1707 : Index := Scalar.indexCast v1706
  let c0_1044 : Index := 0#32
  ![v1707.toNat, 0]

def k0_chk101 (v1706 : BitVec 32) : Prop :=
  (∀ a, (k0_off101 v1706) a + S1x3072.size a ≤ S250x3072.size a)
theorem k0_off101_inb : ∀ (v1706 : BitVec 32) (k0_hw101 : k0_chk101 v1706), ∀ a, (k0_off101 v1706) a + S1x3072.size a ≤ S250x3072.size a := fun v1706 k0_hw101 => k0_hw101

def k0_off102 (v1714 : BitVec 32) : Fin 2 → Nat :=
  let v1715 : Index := Scalar.indexCast v1714
  let c0_1051 : Index := 0#32
  ![v1715.toNat, 0]

def k0_chk102 (v1714 : BitVec 32) : Prop :=
  (∀ a, (k0_off102 v1714) a + S1x3072.size a ≤ S250x3072.size a)
theorem k0_off102_inb : ∀ (v1714 : BitVec 32) (k0_hw102 : k0_chk102 v1714), ∀ a, (k0_off102 v1714) a + S1x3072.size a ≤ S250x3072.size a := fun v1714 k0_hw102 => k0_hw102

def k0_off103 (v1778 : BitVec 32) : Fin 2 → Nat :=
  let v1779 : Index := Scalar.indexCast v1778
  let c0_1079 : Index := 0#32
  ![v1779.toNat, 0]

def k0_chk103 (v1778 : BitVec 32) : Prop :=
  (∀ a, (k0_off103 v1778) a + S1x3072.size a ≤ S250x3072.size a)
theorem k0_off103_inb : ∀ (v1778 : BitVec 32) (k0_hw103 : k0_chk103 v1778), ∀ a, (k0_off103 v1778) a + S1x3072.size a ≤ S250x3072.size a := fun v1778 k0_hw103 => k0_hw103

def k0_off104 (v1786 : BitVec 32) : Fin 2 → Nat :=
  let v1787 : Index := Scalar.indexCast v1786
  let c0_1086 : Index := 0#32
  ![v1787.toNat, 0]

def k0_chk104 (v1786 : BitVec 32) : Prop :=
  (∀ a, (k0_off104 v1786) a + S1x3072.size a ≤ S250x3072.size a)
theorem k0_off104_inb : ∀ (v1786 : BitVec 32) (k0_hw104 : k0_chk104 v1786), ∀ a, (k0_off104 v1786) a + S1x3072.size a ≤ S250x3072.size a := fun v1786 k0_hw104 => k0_hw104

def k0_off105 (v1794 : BitVec 32) : Fin 2 → Nat :=
  let v1795 : Index := Scalar.indexCast v1794
  let c0_1093 : Index := 0#32
  ![v1795.toNat, 0]

def k0_chk105 (v1794 : BitVec 32) : Prop :=
  (∀ a, (k0_off105 v1794) a + S1x3072.size a ≤ S250x3072.size a)
theorem k0_off105_inb : ∀ (v1794 : BitVec 32) (k0_hw105 : k0_chk105 v1794), ∀ a, (k0_off105 v1794) a + S1x3072.size a ≤ S250x3072.size a := fun v1794 k0_hw105 => k0_hw105

def k0_off106 (v1802 : BitVec 32) : Fin 2 → Nat :=
  let v1803 : Index := Scalar.indexCast v1802
  let c0_1100 : Index := 0#32
  ![v1803.toNat, 0]

def k0_chk106 (v1802 : BitVec 32) : Prop :=
  (∀ a, (k0_off106 v1802) a + S1x3072.size a ≤ S250x3072.size a)
theorem k0_off106_inb : ∀ (v1802 : BitVec 32) (k0_hw106 : k0_chk106 v1802), ∀ a, (k0_off106 v1802) a + S1x3072.size a ≤ S250x3072.size a := fun v1802 k0_hw106 => k0_hw106

def k0_off107 (v1810 : BitVec 32) : Fin 2 → Nat :=
  let v1811 : Index := Scalar.indexCast v1810
  let c0_1107 : Index := 0#32
  ![v1811.toNat, 0]

def k0_chk107 (v1810 : BitVec 32) : Prop :=
  (∀ a, (k0_off107 v1810) a + S1x3072.size a ≤ S250x3072.size a)
theorem k0_off107_inb : ∀ (v1810 : BitVec 32) (k0_hw107 : k0_chk107 v1810), ∀ a, (k0_off107 v1810) a + S1x3072.size a ≤ S250x3072.size a := fun v1810 k0_hw107 => k0_hw107

def k0_off108 (v1818 : BitVec 32) : Fin 2 → Nat :=
  let v1819 : Index := Scalar.indexCast v1818
  let c0_1114 : Index := 0#32
  ![v1819.toNat, 0]

def k0_chk108 (v1818 : BitVec 32) : Prop :=
  (∀ a, (k0_off108 v1818) a + S1x3072.size a ≤ S250x3072.size a)
theorem k0_off108_inb : ∀ (v1818 : BitVec 32) (k0_hw108 : k0_chk108 v1818), ∀ a, (k0_off108 v1818) a + S1x3072.size a ≤ S250x3072.size a := fun v1818 k0_hw108 => k0_hw108

abbrev stage0_0 : Fin 1 → Memref sig .tc .smem S18x6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S250x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x6x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18x6x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== QuantiseReferenceIdeal.lean ====
abbrev S18x6 : Shape := ⟨2, ![18, 6]⟩
abbrev S18x3072 : Shape := ⟨2, ![18, 3072]⟩
abbrev S250x3072 : Shape := ⟨2, ![250, 3072]⟩
abbrev S18x6x3072 : Shape := ⟨3, ![18, 6, 3072]⟩
abbrev S18x1x3072 : Shape := ⟨3, ![18, 1, 3072]⟩
abbrev S_ : Shape := ⟨0, ![]⟩
abbrev S18x6x1 : Shape := ⟨3, ![18, 6, 1]⟩

abbrev nBuf : Space → Nat
  | .hbm => 45
  | .vmem => 0
  | .smem => 0
  | _ => 0

abbrev bufTy : (tb : Table) → Fin (tcTables nBuf tb) → BufTy
  | .hbm, ⟨0, _⟩ => ⟨S18x6, .i32⟩
  | .hbm, ⟨1, _⟩ => ⟨S18x3072, .f32⟩
  | .hbm, ⟨2, _⟩ => ⟨S250x3072, .f32⟩
  | .hbm, ⟨3, _⟩ => ⟨S18x6x3072, .f32⟩
  | .hbm, ⟨4, _⟩ => ⟨S18x1x3072, .f32⟩
  | .hbm, ⟨5, _⟩ => ⟨S_, .i32⟩
  | .hbm, ⟨6, _⟩ => ⟨S18x6, .i32⟩
  | .hbm, ⟨7, _⟩ => ⟨S18x6, .i1⟩
  | .hbm, ⟨8, _⟩ => ⟨S_, .i32⟩
  | .hbm, ⟨9, _⟩ => ⟨S18x6, .i32⟩
  | .hbm, ⟨10, _⟩ => ⟨S18x6, .i32⟩
  | .hbm, ⟨11, _⟩ => ⟨S18x6, .i32⟩
  | .hbm, ⟨12, _⟩ => ⟨S18x6x1, .i32⟩
  | .hbm, ⟨13, _⟩ => ⟨S18x6x3072, .f32⟩
  | .hbm, ⟨14, _⟩ => ⟨S18x6x3072, .f32⟩
  | .hbm, ⟨15, _⟩ => ⟨S18x6x3072, .f32⟩
  | .hbm, ⟨16, _⟩ => ⟨S_, .f32⟩
  | .hbm, ⟨17, _⟩ => ⟨S18x6, .f32⟩
  | .hbm, ⟨18, _⟩ => ⟨S_, .f32⟩
  | .hbm, ⟨19, _⟩ => ⟨S18x6, .f32⟩
  | .hbm, ⟨20, _⟩ => ⟨S18x6, .f32⟩
  | .hbm, ⟨21, _⟩ => ⟨S_, .f32⟩
  | .hbm, ⟨22, _⟩ => ⟨S18x6, .f32⟩
  | .hbm, ⟨23, _⟩ => ⟨S18x6, .f32⟩
  | .hbm, ⟨24, _⟩ => ⟨S_, .f32⟩
  | .hbm, ⟨25, _⟩ => ⟨S18x6, .f32⟩
  | .hbm, ⟨26, _⟩ => ⟨S18x6, .f32⟩
  | .hbm, ⟨27, _⟩ => ⟨S18x6x1, .f32⟩
  | .hbm, ⟨28, _⟩ => ⟨S18x6x3072, .f32⟩
  | .hbm, ⟨29, _⟩ => ⟨S18x6x3072, .f32⟩
  | .hbm, ⟨30, _⟩ => ⟨S18x6x1, .f32⟩
  | .hbm, ⟨31, _⟩ => ⟨S18x6x3072, .f32⟩
  | .hbm, ⟨32, _⟩ => ⟨S18x6x3072, .f32⟩
  | .hbm, ⟨33, _⟩ => ⟨S18x6x3072, .f32⟩
  | .hbm, ⟨34, _⟩ => ⟨S18x6x3072, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S18x6x3072, .f32⟩
  | .hbm, ⟨39, _⟩ => ⟨S18x6x3072, .f32⟩
  | .hbm, ⟨40, _⟩ => ⟨S_, .f32⟩
  | .hbm, ⟨41, _⟩ => ⟨S18x6x3072, .f32⟩
  | .hbm, ⟨42, _⟩ => ⟨S18x6x3072, .f32⟩
  | .hbm, ⟨43, _⟩ => ⟨S18x6x3072, .i32⟩
  | .hbm, ⟨44, _⟩ => ⟨S18x6x3072, .i8⟩
  | _, _ => ⟨S18x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Scan.Spec.lean ====
/- What the scan computes for one candidate, as plain scalar expressions.

   A candidate has 96 code words, a probe number, a norm and an inner product with its own code; its query has, for each
   probe, four bit planes of 96 words (a column of the planes array) and four statistics (a column of the statistics
   array): step width, lower value, query norm, sum of the quantised query. The column of query `b` and probe `p` is
   `6 b + p`. -/
module

public import proofs.«01_k».proof.Proof.Gen.Kernel
public import Idealize.ShloMosaic.Lib.Pointwise
public import Mathlib.Data.BitVec

@[expose] public section

set_option maxRecDepth 16384

noncomputable section

namespace Cert.Kernel.Scan

open Idealize.ShloMosaic Idealize.ShloMosaic.TcCoe Idealize.SL.Sem

variable {F : FTy → Type} [FloatOps F]

/-- The column index a table is read at for the word `c`: a negative word counts from the end, the result modulo the
    128 columns. -/
def laneOf (c : BitVec 32) : Fin 128 :=
  ⟨(Scalar.select (IntOp.cmpi .slt c 0#32) (IntOp.addi c 128#32) c).toNat % 128, Nat.mod_lt _ (by decide)⟩

/-- Query `b`, probe `p`: the word `6 b + p`. -/
def comboW (b : ℕ) (p : BitVec 32) : BitVec 32 := IntOp.addi (Scalar.muli (BitVec.ofNat 32 b) 6#32) p

/-- The set bits of code word `8 v + r` within plane `j`. -/
abbrev hit (code : Fin 96 → BitVec 32) (x4 : S384x128.Idx → BitVec 32) (q : Fin 128) (r : Fin 8) (v : Fin 12) (j : Fin 4) : BitVec 32 :=
  IntOp.ctpop (IntOp.andi (code ⟨8 * v.val + r.val, by omega⟩) (x4 (ix2 (⟨96 * j.val + 8 * v.val + r.val, by omega⟩ : Fin 384) q)))

/-- Plane `j`'s count over the words congruent to `r` modulo 8. -/
def accW (code : Fin 96 → BitVec 32) (x4 : S384x128.Idx → BitVec 32) (q : Fin 128) (r : Fin 8) (j : Fin 4) : BitVec 32 :=
  ∑ v : Fin 12, hit code x4 q r v j

/-- The binary inner product of a code with the quantised query: the planes' counts weighted 1, 2, 4, 8. -/
def ipW (code : Fin 96 → BitVec 32) (x4 : S384x128.Idx → BitVec 32) (q : Fin 128) : BitVec 32 :=
  ∑ r : Fin 8, (((accW code x4 q r 0 + IntOp.shli .vector (accW code x4 q r 1) 1#32)
    + IntOp.shli .vector (accW code x4 q r 2) 2#32) + IntOp.shli .vector (accW code x4 q r 3) 3#32)

/-- The code's set bits. -/
def popW (code : Fin 96 → BitVec 32) : BitVec 32 :=
  ∑ r : Fin 8, ∑ v : Fin 12, IntOp.ctpop (code ⟨8 * v.val + r.val, by omega⟩)

/-- Statistic `k` of column `q`. -/
abbrev stat (x5 : S8x128.Idx → F .f32) (q : Fin 128) (k : Fin 8) : F .f32 := x5 (ix2 k q)

/-- The estimated inner product. -/
def estF (x5 : S8x128.Idx → F .f32) (q : Fin 128) (ip pop : BitVec 32) (io : F .f32) : F .f32 :=
  FloatOps.divf
    (FloatOps.subf
      (FloatOps.divf
        (FloatOps.subf
          (FloatOps.addf
            (FloatOps.mulf (FloatOps.mulf (Scalar.ofBits .f32 0x40000000#32) (stat x5 q 0)) (FloatOps.sitofp .f32 ip))
            (FloatOps.mulf (FloatOps.mulf (Scalar.ofBits .f32 0x40000000#32) (stat x5 q 1)) (FloatOps.sitofp .f32 pop)))
          (FloatOps.mulf (stat x5 q 0) (stat x5 q 3)))
        (Scalar.ofBits .f32 0x425DB3D7#32))
      (FloatOps.mulf (Scalar.ofBits .f32 0x425DB3D7#32) (stat x5 q 1)))
    (FloatOps.mulf (stat x5 q 2) io)

/-- Twice the product of the two norms. -/
def nn2F (x5 : S8x128.Idx → F .f32) (q : Fin 128) (nr : F .f32) : F .f32 :=
  FloatOps.mulf (FloatOps.mulf (Scalar.ofBits .f32 0x40000000#32) nr) (stat x5 q 2)

/-- The estimated squared distance. -/
def distF (x5 : S8x128.Idx → F .f32) (q : Fin 128) (nr est : F .f32) : F .f32 :=
  FloatOps.subf (FloatOps.addf (FloatOps.mulf nr nr) (FloatOps.mulf (stat x5 q 2) (stat x5 q 2)))
    (FloatOps.mulf (nn2F x5 q nr) est)

/-- The error bound. -/
def errF (x5 : S8x128.Idx → F .f32) (q : Fin 128) (nr io : F .f32) : F .f32 :=
  FloatOps.mulf
    (FloatOps.divf
      (FloatOps.mulf (nn2F x5 q nr) (FloatOps.sqrt (FloatOps.subf (Scalar.ofBits .f32 0x3F800000#32) (FloatOps.mulf io io))))
      io)
    (Scalar.ofBits .f32 0x3D0C6F38#32)

/-- A result where the candidate's column lies below the query's count, zero elsewhere. -/
def maskF (col n : BitVec 32) (x : F .f32) : F .f32 :=
  Scalar.select (IntOp.cmpi .slt col n) x (Scalar.ofBits .f32 0x00000000#32)

end Cert.Kernel.Scan

end
-- ==== Proof.Scan.Closed.lean ====
/- The offsets and branch conditions of the scan kernel in closed form.

   Grid point `i = (query, step)`, trip `k` of the body's loop: the trip works on the tile of rows
   `8 * (query / 8) ..+ 8` and columns `2048 * step + 128 * k ..+ 128`, and takes its first branch exactly when that
   first column lies below the query's candidate count. -/
module

public import proofs.«01_k».proof.Proof.Gen.Kernel
public import proofs.«01_k».proof.Proof.Gen.Kernel.Skeleton
public import Idealize.ShloMosaic.Lib.WordCmp

@[expose] public section

set_option maxRecDepth 16384

noncomputable section

namespace Cert.Kernel.Scan

open Idealize.ShloMosaic Idealize.ShloMosaic.TcCoe Idealize.SL.Sem Cert.Kernel.Gen

/-- The tile a trip reads and writes. -/
theorem off2_eq : ∀ (i : grid0.Coords) (k : Fin k0_t1_loop.trips),
    k0_off2 i k = ![8 * ((i 0).val / 8), 2048 * (i 1).val + 128 * k.val] := by decide +kernel
theorem off15_eq : ∀ (i : grid0.Coords) (k : Fin k0_t1_loop.trips),
    k0_off15 i k = ![8 * ((i 0).val / 8), 2048 * (i 1).val + 128 * k.val] := by decide +kernel

instance (i : grid0.Coords) (k : Fin k0_t1_loop.trips) : ClosedOff (k0_off2 i k) := ⟨_, off2_eq i k⟩
instance (i : grid0.Coords) (k : Fin k0_t1_loop.trips) : ClosedOff (k0_off15 i k) := ⟨_, off15_eq i k⟩

theorem trips_eq : k0_t1_loop.trips = 16 := by decide

/-- The first column of a trip's tile, as the kernel's word. -/
def colW (i : grid0.Coords) (k : Fin k0_t1_loop.trips) : BitVec 32 :=
  Scalar.muli (Scalar.addi (Scalar.muli (BitVec.ofNat 32 (i 1).val) 16#32) (Scf.iv 0#32 1#32 k)) 128#32

theorem colW_eq : ∀ (i : grid0.Coords) (k : Fin k0_t1_loop.trips),
    colW i k = BitVec.ofNat 32 (2048 * (i 1).val + 128 * k.val) := by decide +kernel

theorem cond1_iff (i : grid0.Coords) (v1 : BitVec 32) (k : Fin k0_t1_loop.trips) :
    k0_cond1 i v1 k = 1#1 ↔ (colW i k).slt v1 = true := by
  unfold k0_cond1 colW
  simp only [Scalar.cmpi, Scalar.extui, IntOp.cmpi]
  generalize BitVec.slt _ v1 = b
  cases b <;> decide

theorem cond2_iff (i : grid0.Coords) (v1 : BitVec 32) (k : Fin k0_t1_loop.trips) :
    k0_cond2 i v1 k = 1#1 ↔ ¬ k0_cond1 i v1 k = 1#1 := by
  rw [cond1_iff]
  unfold k0_cond2 colW
  simp only [Scalar.cmpi, Scalar.extui, IntOp.cmpi]
  rw [show ∀ a b : BitVec 32, BitVec.sle b a = !(BitVec.slt a b) from fun a b => by
    rw [BitVec.sle, BitVec.slt, ← decide_not, decide_eq_decide]; omega]
  generalize BitVec.slt _ v1 = b
  cases b <;> decide

end Cert.Kernel.Scan

end
-- ==== Proof.Scan.Trip.lean ====
module

public import proofs.«01_k».proof.Proof.Scan.Closed
public import proofs.«01_k».proof.Proof.Gen.Kernel.Loops
public import Idealize.ShloMosaic.Lib.Exec
public import Idealize.ShloMosaic.Lib.Tactic

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)

abbrev Held {s : Shape} {e : EltTy} {sp : Space} (a : Memref sig .tc sp s e) (f : Buf (Elt F) (a.view.loc (c : Thread nD τ))) : sProp 𝕄 :=
  a.view.loc (c : Thread nD τ) ↦[a.view.set]{fullShare} f

/-- The inputs' staging buffers at their contents. -/
abbrev Ins (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ))) : sProp 𝕄 :=
  iprop(Held c arg3 f3 ∗ Held c arg4 f4 ∗ Held c arg5 f5 ∗ Held c arg6 f6 ∗ Held c arg7 f7 ∗ Held c arg8 f8)

abbrev tripP (k : Fin k0_t1_loop.trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg0 arg1 v1 v13 v14 k ()

set_option backward.proofsInPublic true in
set_option maxHeartbeats 8000000 in
@[irreducible] def tripZero (k : Fin k0_t1_loop.trips) (h1 : ¬ k0_cond1 i v1 k = 1#1) (h2 : k0_cond2 i v1 k = 1#1)
    (f9 : Buf (Elt F) (arg9.view.loc (c : Thread nD τ))) (f10 : Buf (Elt F) (arg10.view.loc (c : Thread nD τ)))
    (f11 : Buf (Elt F) (arg11.view.loc (c : Thread nD τ))) :
    Σ' (p9 : Vec F S8x128 .f32) (p10 : Vec F S8x128 .f32), { p11 : Vec F S8x128 .f32 //
      iprop(Held c arg9 f9 ∗ Held c arg10 f10 ∗ Held c arg11 f11)
      ⊢ wp frame (wpE (defs₀ (F := F)) Variants.none (c : Thread nD τ) none) Set.univ
          (tripP i arg2 harg2 arg3 harg3 arg4 harg4 arg5 harg5 arg6 harg6 arg7 harg7 arg8 harg8 arg9 harg9 arg10 harg10 arg11 harg11 arg0 arg1 v1 v13 v14 k)
          (fun _ => iprop(Held c arg9 (arg9.view.writes (Elt F) f9 [⟨Rect.unit (s := S24x8192) (k0_off15 i k) S8x128.size (k0_off15_inb i k), p9⟩])
            ∗ Held c arg10 (arg10.view.writes (Elt F) f10 [⟨Rect.unit (s := S24x8192) (k0_off15 i k) S8x128.size (k0_off15_inb i k), p10⟩])
            ∗ Held c arg11 (arg11.view.writes (Elt F) f11 [⟨Rect.unit (s := S24x8192) (k0_off15 i k) S8x128.size (k0_off15_inb i k), p11⟩]))) } := by
  refine ⟨?_, ?_, ?_, ?run⟩
  case run =>
    iintro ⟨H9, H10, H11⟩
    dsimp only [tripP]
    sl_unfold [k0_t1_body]
    sl_exec
    sl_step
    isplitl [H9]; · iexact H9
    isplitl [H10]; · iexact H10
    iexact H11

set_option backward.proofsInPublic true in
set_option maxHeartbeats 16000000 in
@[irreducible] def tripFull (k : Fin k0_t1_loop.trips) (h1 : k0_cond1 i v1 k = 1#1) (h2 : ¬ k0_cond2 i v1 k = 1#1)
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) :
    Σ' (p9 : Vec F S8x128 .f32) (p10 : Vec F S8x128 .f32), { p11 : Vec F S8x128 .f32 //
      iprop(Ins c arg3 arg4 arg5 arg6 arg7 arg8 f3 f4 f5 f6 f7 f8 ∗ Held c arg9 f9 ∗ Held c arg10 f10 ∗ Held c arg11 f11)
      ⊢ wp frame (wpE (defs₀ (F := F)) Variants.none (c : Thread nD τ) none) Set.univ
          (tripP i arg2 harg2 arg3 harg3 arg4 harg4 arg5 harg5 arg6 harg6 arg7 harg7 arg8 harg8 arg9 harg9 arg10 harg10 arg11 harg11 arg0 arg1 v1 v13 v14 k)
          (fun _ => iprop(Ins c arg3 arg4 arg5 arg6 arg7 arg8 f3 f4 f5 f6 f7 f8
            ∗ Held c arg9 (arg9.view.writes (Elt F) f9 [⟨Rect.unit (s := S24x8192) (k0_off2 i k) S8x128.size (k0_off2_inb i k), p9⟩])
            ∗ Held c arg10 (arg10.view.writes (Elt F) f10 [⟨Rect.unit (s := S24x8192) (k0_off2 i k) S8x128.size (k0_off2_inb i k), p10⟩])
            ∗ Held c arg11 (arg11.view.writes (Elt F) f11 [⟨Rect.unit (s := S24x8192) (k0_off2 i k) S8x128.size (k0_off2_inb i k), p11⟩]))) } := by
  refine ⟨?_, ?_, ?_, ?run⟩
  case run =>
    iintro ⟨⟨H3, H4, H5, H6, H7, H8⟩, H9, H10, H11⟩
    dsimp only [tripP]
    sl_unfold [k0_t1_body]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    sl_exec
    sl_step
    isplitl [H3 H4 H5 H6 H7 H8]
    · isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    iexact H11

end

end Cert.Kernel.Scan

end
-- ==== Proof.Scan.Lanes.lean ====
/- One trip's payloads, lane by lane: the vectors the body computes from the loaded blocks, read at one row and lane. -/
module

public import proofs.«01_k».proof.Proof.Scan.Spec
public import proofs.«01_k».proof.Proof.Scan.Trip
public import Idealize.ShloMosaic.Lib.Pointwise
public import Idealize.ShloMosaic.Lib.VecWindow
public import Idealize.ShloMosaic.Lib.Pipeline.Value

@[expose] public section

set_option maxRecDepth 16384

noncomputable section

namespace Cert.Kernel.Scan

open Idealize.ShloMosaic Idealize.ShloMosaic.TcCoe Idealize.SL.Sem Cert.Kernel.Gen

variable {F : FTy → Type} [FloatOps F]

/-! ## The vector operations at an index -/

/-- A gather along the columns, at a row and lane. -/
theorem gather1_apply {α : Type} (x : S8x128.Idx → α) (c : IVec S8x128 32) (r : Fin 8) (l : Fin 128) :
    dynamicGather (s := S8x128) 1 x c (ix2 r l) = x (ix2 r (⟨(c (ix2 r l)).toNat % 128, Nat.mod_lt _ (by decide)⟩ : Fin 128)) := by
  unfold dynamicGather
  refine congrArg x (funext fun a => ?_)
  match a with
  | ⟨0, _⟩ => rfl
  | ⟨1, _⟩ => rfl

/-- A gather along the rows. -/
theorem gather0_apply {α : Type} (x : S8x128.Idx → α) (c : IVec S8x128 32) (r : Fin 8) (l : Fin 128) :
    dynamicGather (s := S8x128) 0 x c (ix2 r l) = x (ix2 (⟨(c (ix2 r l)).toNat % 8, Nat.mod_lt _ (by decide)⟩ : Fin 8) l) := by
  unfold dynamicGather
  refine congrArg x (funext fun a => ?_)
  match a with
  | ⟨0, _⟩ => rfl
  | ⟨1, _⟩ => rfl

/-- A table block read at the columns a vector of words names. -/
theorem pick_apply {α : Type} (x : S8x128.Idx → α) (c : IVec S8x128 32) (r : Fin 8) (l : Fin 128) :
    dynamicGather (s := S8x128) 1 x
        (shapeCast S8x128 (shapeCast S8x128x1
          (select (cmpi .slt c (broadcast S8x128 0#32)) (addi c (broadcast S8x128 128#32)) c) shapeCasts_S8x128_S8x128x1)
          shapeCasts_S8x128x1_S8x128) (ix2 r l)
      = x (ix2 r (laneOf (c (ix2 r l)))) := by
  rw [shapeCast_shapeCast, gather1_apply]; rfl

/-- The sum down a column of an integer block. -/
theorem colSum_apply (x : IVec S8x128 32) (h : S8x128.Reduces [0] S128) (hacc : 0#32 = IKind.add.neutral) (l : Fin 128) :
    multiReductionI .add [0] S128 x 0#32 h hacc (ix1 l) = ∑ r : Fin 8, x (ix2 r l) := by
  have hp : ∀ r : Fin 8, x (Shape.pair (d := ![8, 128]) r (h.col (ix1 l))) = x (ix2 r l) := fun r => by
    refine congrArg x (funext fun a => ?_)
    match a with
    | ⟨0, _⟩ => rfl
    | ⟨1, _⟩ => rfl
  rw [multiReductionI_eq_reduceFold]
  refine (reduceFold_rows (d := ![8, 128]) h (IKind.op .add) 0#32 x (ix1 l)).trans ?_
  show List.foldl (fun acc (r : Fin 8) => acc + x (Shape.pair (d := ![8, 128]) r (h.col (ix1 l)))) 0#32 (List.finRange 8) = _
  rw [← funext hp]
  simp only [Fin.sum_univ_castSucc, Fin.sum_univ_zero]
  rfl

/-- A reshape that adds or drops a leading axis of one. -/
theorem cast3_apply {α : Type} (x : S1x8x128.Idx → α) (h : S1x8x128.ShapeCasts S8x128) (r : Fin 8) (l : Fin 128) :
    shapeCast S8x128 x h (ix2 r l) = x (ix3 (0 : Fin 1) r l) := by pointwise

theorem cast1_apply {α : Type} (x : S128.Idx → α) (h : S128.ShapeCasts S1x128) (l : Fin 128) :
    shapeCast S1x128 x h (ix2 (0 : Fin 1) l) = x (ix1 l) := by pointwise

/-- A row repeated down the tile. -/
theorem rowTo_apply {α : Type} (x : S1x128.Idx → α) (h : S1x128.Broadcasts S8x128) (r : Fin 8) (l : Fin 128) :
    broadcastTo S8x128 x h (ix2 r l) = x (ix2 (0 : Fin 1) l) := by pointwise

/-- A row of a tile, cut out. -/
theorem rowOf_apply {α : Type} (x : S8x128.Idx → α) (n : Fin 8) (h : S8x128.Slices (![n.val, 0] : Fin 2 → ℕ) S1x128) (l : Fin 128) :
    extractStridedSlice S1x128 ![n.val, 0] x h (ix2 (0 : Fin 1) l) = x (ix2 n l) := by
  refine congrArg x (funext fun d => Fin.ext ?_)
  match d with
  | ⟨0, _⟩ => show n.val + 0 = _; rfl
  | ⟨1, _⟩ => show 0 + l.val = _; rw [Nat.zero_add]; rfl

/-- A sum of twelve words, written out from zero. -/
theorem sum12 (f : Fin 12 → BitVec 32) : ∑ v, f v
    = IntOp.addi (IntOp.addi (IntOp.addi (IntOp.addi (IntOp.addi (IntOp.addi (IntOp.addi (IntOp.addi (IntOp.addi (IntOp.addi (IntOp.addi
        (IntOp.addi 0#32 (f 0)) (f 1)) (f 2)) (f 3)) (f 4)) (f 5)) (f 6)) (f 7)) (f 8)) (f 9)) (f 10)) (f 11) := by
  simp only [Fin.sum_univ_castSucc, Fin.sum_univ_zero]
  rfl

/-! ## The query's row within its tile -/

/-- The query's row within its group of eight, as the body computes it. -/
def subW (i : grid0.Coords) : BitVec 32 :=
  let arg0 : BitVec 32 := BitVec.ofNat 32 (i 0).val
  let v2 : BitVec 1 := Scalar.cmpi .eq 8#32 0#32
  let v3 : BitVec 32 := Scalar.select v2 1#32 8#32
  let v4 : BitVec 32 := Scalar.remsi arg0 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  Scalar.select v9 v10 v4

theorem subW_eq : ∀ i : grid0.Coords, subW i = BitVec.ofNat 32 ((i 0).val % 8) := by decide +kernel

theorem pay2_eq (i : grid0.Coords) : k0_pay2 i = broadcast S8x128 (subW i) := rfl

/-- The row mask holds exactly on the query's row. -/
theorem pay1_apply (i : grid0.Coords) (r : Fin 8) (l : Fin 128) :
    k0_pay1 i (ix2 r l) = if r.val = (i 0).val % 8 then 1#1 else 0#1 := by
  show IntOp.cmpi .eq (iota .tc S8x128 32 [0] iota_S8x128_d0_w32 (ix2 r l)) (subW i) = _
  rw [subW_eq, show iota .tc S8x128 32 [0] iota_S8x128_d0_w32 (ix2 r l) = BitVec.ofNat 32 r.val from by pointwise]
  have h : ∀ a b : Fin 8, IntOp.cmpi .eq (BitVec.ofNat 32 a.val) (BitVec.ofNat 32 b.val) = if a.val = b.val then 1#1 else 0#1 := by
    decide
  exact h r ⟨(i 0).val % 8, Nat.mod_lt _ (by decide)⟩

/-- The probe's column word, on every row of the tile: from the query's own row of the probe tile `y`. -/
theorem pay8_apply (i : grid0.Coords) (y : Vec F S8x128 .i32) (r : Fin 8) (l : Fin 128) :
    k0_pay8 (F := F) (BitVec.ofNat 32 (i 0).val) (k0_pay2 i) y (ix2 r l)
      = comboW (i 0).val (y (ix2 (⟨(i 0).val % 8, Nat.mod_lt _ (by decide)⟩ : Fin 8) l)) := by
  unfold k0_pay8
  dsimp only
  rw [shapeCast_shapeCast]
  show IntOp.addi (Scalar.muli (BitVec.ofNat 32 (i 0).val) 6#32) (dynamicGather (s := S8x128) 0 y _ (ix2 r l)) = _
  rw [gather0_apply]
  unfold comboW
  congr 2
  congr 1
  rw [pay2_eq]
  apply Fin.ext
  show (Scalar.select (IntOp.cmpi .slt (subW i) 0#32) (IntOp.addi (subW i) 8#32) (subW i)).toNat % 8 = (i 0).val % 8
  rw [subW_eq]
  have h : ∀ b : Fin 8, (Scalar.select (IntOp.cmpi .slt (BitVec.ofNat 32 b.val) 0#32) (IntOp.addi (BitVec.ofNat 32 b.val) 8#32) (BitVec.ofNat 32 b.val)).toNat % 8 = b.val := by
    decide
  exact h ⟨(i 0).val % 8, Nat.mod_lt _ (by decide)⟩

end Cert.Kernel.Scan

end
-- ==== Proof.Scan.TripVal.lean ====
/- One trip with a live column block, value by value: what the body stores in each output block, at one row and lane. -/
module

public import proofs.«01_k».proof.Proof.Scan.Lanes

@[expose] public section

set_option maxRecDepth 16384

noncomputable section

namespace Cert.Kernel.Scan

open Idealize.ShloMosaic Idealize.ShloMosaic.TcCoe Idealize.SL.Sem Cert.Kernel.Gen

variable {F : FTy → Type} [FloatOps F]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-! ## Where the loads read -/

theorem trip_lt : k.val < 16 := trips_eq ▸ k.isLt

theorem grid_lt0 : (i 0).val < 18 := (i 0).isLt
theorem grid_lt1 : (i 1).val < 4 := (i 1).isLt

/-- The row tile's row `r`. -/
def rowAt (r : Fin 8) : Fin 24 := ⟨8 * ((i 0).val / 8) + r.val, by have := grid_lt0 i; omega⟩

/-- The column block's lane `l`. -/
def colAt (l : Fin 128) : Fin 8192 := ⟨2048 * (i 1).val + 128 * k.val + l.val, by have := grid_lt1 i; have := trip_lt k; omega⟩

/-- A load of the row tile and column block. -/
theorem read_tile {e : EltTy} (a : Memref sig .tc .vmem S24x8192 e) (f : Buf (Elt F) (a.view.loc (c : Thread nD τ)))
    (inb : ∀ d, (k0_off2 i k) d + S8x128.size d ≤ S24x8192.size d) (r : Fin 8) (l : Fin 128) :
    a.view.readAt (Elt F) (Rect.unit (s := S24x8192) (k0_off2 i k) S8x128.size inb).toLoadRect f (ix2 r l)
      = a.view.read (Elt F) f (ix2 (rowAt i r) (colAt i k l)) := by
  rw [View.readAt_apply]
  refine congrArg (a.view.read (Elt F) f) (funext fun d => Fin.ext ?_)
  have e := congrFun (off2_eq i k) d
  match d, e with
  | ⟨0, _⟩, e => show (k0_off2 i k) 0 + 1 * r.val = _; rw [show (k0_off2 i k) 0 = _ from e, Nat.one_mul]; rfl
  | ⟨1, _⟩, e => show (k0_off2 i k) 1 + 1 * l.val = _; rw [show (k0_off2 i k) 1 = _ from e, Nat.one_mul]; rfl

/-- A load of eight rows of the planes. -/
theorem read_planes (n : ℕ) (inb : ∀ d, (![n, 0] : Fin 2 → ℕ) d + S8x128.size d ≤ S384x128.size d) (r : Fin 8) (q : Fin 128) :
    arg4.view.readAt (Elt F) (Rect.unit (s := S384x128) ![n, 0] S8x128.size inb).toLoadRect f4 (ix2 r q)
      = arg4.view.read (Elt F) f4 (ix2 (⟨n + r.val, by have := inb 0; have : n + 8 ≤ 384 := this; omega⟩ : Fin 384) q) := by
  rw [View.readAt_apply]
  refine congrArg (arg4.view.read (Elt F) f4) (funext fun d => Fin.ext ?_)
  match d with
  | ⟨0, _⟩ => show n + 1 * r.val = _; rw [Nat.one_mul]; rfl
  | ⟨1, _⟩ => show 0 + 1 * q.val = _; rw [Nat.one_mul, Nat.zero_add]; rfl

/-- The load of the statistics. -/
theorem read_stats (inb : ∀ d, (![0, 0] : Fin 2 → ℕ) d + S8x128.size d ≤ S8x128.size d) (r : Fin 8) (q : Fin 128) :
    arg5.view.readAt (Elt F) (Rect.unit (s := S8x128) ![0, 0] S8x128.size inb).toLoadRect f5 (ix2 r q)
      = arg5.view.read (Elt F) f5 (ix2 r q) := by
  rw [View.readAt_apply]
  refine congrArg (arg5.view.read (Elt F) f5) (funext fun d => Fin.ext ?_)
  match d with
  | ⟨0, _⟩ => show 0 + 1 * r.val = _; rw [Nat.one_mul, Nat.zero_add]; rfl
  | ⟨1, _⟩ => show 0 + 1 * q.val = _; rw [Nat.one_mul, Nat.zero_add]; rfl

/-- The candidate's code in the codes block. -/
def codeOf (l : Fin 128) (w : Fin 96) : BitVec 32 :=
  arg3.view.read (Elt F) f3 (ix3 (⟨k.val, trip_lt k⟩ : Fin 16) w l)

/-- A load of eight words of the codes. -/
theorem read_codes (off : Fin 3 → ℕ) (n : ℕ) (he : off = ![k.val, n, 0])
    (inb : ∀ d, off d + S1x8x128.size d ≤ S16x96x128.size d) (hn : n + 8 ≤ 96) (r : Fin 8) (l : Fin 128) :
    shapeCast S8x128 (arg3.view.readAt (Elt F) (Rect.unit (s := S16x96x128) off S1x8x128.size inb).toLoadRect f3) shapeCasts_S1x8x128_S8x128 (ix2 r l)
      = codeOf c arg3 k f3 l ⟨n + r.val, by omega⟩ := by
  subst he
  rw [cast3_apply, View.readAt_apply]
  refine congrArg (arg3.view.read (Elt F) f3) (funext fun d => Fin.ext ?_)
  match d with
  | ⟨0, _⟩ => show k.val + 1 * 0 = _; rfl
  | ⟨1, _⟩ => show n + 1 * r.val = _; rw [Nat.one_mul]; rfl
  | ⟨2, _⟩ => show 0 + 1 * l.val = _; rw [Nat.one_mul, Nat.zero_add]; rfl

/-- The column of the tables lane `l`'s candidate reads. -/
def qOf (l : Fin 128) : Fin 128 :=
  laneOf (comboW (i 0).val (arg6.view.read (Elt F) f6 (ix2 (rowAt i ⟨(i 0).val % 8, Nat.mod_lt _ (by decide)⟩) (colAt i k l))))

/-! ## The integer counts -/

/-- Every row of the tile holds the candidate's column word. -/
theorem combo_apply (r : Fin 8) (l : Fin 128) :
    tripFull.sl.v43 c i arg6 (BitVec.ofNat 32 (i 0).val) k f6 (ix2 r l)
      = comboW (i 0).val (arg6.view.read (Elt F) f6 (ix2 (rowAt i ⟨(i 0).val % 8, Nat.mod_lt _ (by decide)⟩) (colAt i k l))) := by
  show k0_pay8 (F := F) _ (k0_pay2 i) _ _ = _
  rw [pay8_apply, read_tile]

theorem gat {α : Type} (x : S8x128.Idx → α) (r : Fin 8) (l : Fin 128) :
    dynamicGather (s := S8x128) 1 x (tripFull.sl.v61 c i arg6 (BitVec.ofNat 32 (i 0).val) k f6) (ix2 r l)
      = x (ix2 r (qOf c i arg6 k f6 l)) := by
  refine (pick_apply x (tripFull.sl.v43 c i arg6 (BitVec.ofNat 32 (i 0).val) k f6) r l).trans ?_
  rw [combo_apply]; rfl

theorem codes0 (r : Fin 8) (l : Fin 128) : tripFull.sl.v51 c arg3 k f3 (ix2 r l)
    = codeOf c arg3 k f3 l ⟨8 * ((0 : Fin 12)).val + r.val, by omega⟩ :=
  read_codes c arg3 k f3 _ 0 (k0_off3_eq k) (k0_off3_inb k) (by decide) r l

theorem codes1 (r : Fin 8) (l : Fin 128) : tripFull.sl.v104 c arg3 k f3 (ix2 r l)
    = codeOf c arg3 k f3 l ⟨8 * ((1 : Fin 12)).val + r.val, by omega⟩ :=
  read_codes c arg3 k f3 _ 8 (k0_off4_eq k) (k0_off4_inb k) (by decide) r l

theorem codes2 (r : Fin 8) (l : Fin 128) : tripFull.sl.v157 c arg3 k f3 (ix2 r l)
    = codeOf c arg3 k f3 l ⟨8 * ((2 : Fin 12)).val + r.val, by omega⟩ :=
  read_codes c arg3 k f3 _ 16 (k0_off5_eq k) (k0_off5_inb k) (by decide) r l

theorem codes3 (r : Fin 8) (l : Fin 128) : tripFull.sl.v210 c arg3 k f3 (ix2 r l)
    = codeOf c arg3 k f3 l ⟨8 * ((3 : Fin 12)).val + r.val, by omega⟩ :=
  read_codes c arg3 k f3 _ 24 (k0_off6_eq k) (k0_off6_inb k) (by decide) r l

theorem codes4 (r : Fin 8) (l : Fin 128) : tripFull.sl.v263 c arg3 k f3 (ix2 r l)
    = codeOf c arg3 k f3 l ⟨8 * ((4 : Fin 12)).val + r.val, by omega⟩ :=
  read_codes c arg3 k f3 _ 32 (k0_off7_eq k) (k0_off7_inb k) (by decide) r l

theorem codes5 (r : Fin 8) (l : Fin 128) : tripFull.sl.v316 c arg3 k f3 (ix2 r l)
    = codeOf c arg3 k f3 l ⟨8 * ((5 : Fin 12)).val + r.val, by omega⟩ :=
  read_codes c arg3 k f3 _ 40 (k0_off8_eq k) (k0_off8_inb k) (by decide) r l

theorem codes6 (r : Fin 8) (l : Fin 128) : tripFull.sl.v369 c arg3 k f3 (ix2 r l)
    = codeOf c arg3 k f3 l ⟨8 * ((6 : Fin 12)).val + r.val, by omega⟩ :=
  read_codes c arg3 k f3 _ 48 (k0_off9_eq k) (k0_off9_inb k) (by decide) r l

theorem codes7 (r : Fin 8) (l : Fin 128) : tripFull.sl.v422 c arg3 k f3 (ix2 r l)
    = codeOf c arg3 k f3 l ⟨8 * ((7 : Fin 12)).val + r.val, by omega⟩ :=
  read_codes c arg3 k f3 _ 56 (k0_off10_eq k) (k0_off10_inb k) (by decide) r l

theorem codes8 (r : Fin 8) (l : Fin 128) : tripFull.sl.v475 c arg3 k f3 (ix2 r l)
    = codeOf c arg3 k f3 l ⟨8 * ((8 : Fin 12)).val + r.val, by omega⟩ :=
  read_codes c arg3 k f3 _ 64 (k0_off11_eq k) (k0_off11_inb k) (by decide) r l

theorem codes9 (r : Fin 8) (l : Fin 128) : tripFull.sl.v528 c arg3 k f3 (ix2 r l)
    = codeOf c arg3 k f3 l ⟨8 * ((9 : Fin 12)).val + r.val, by omega⟩ :=
  read_codes c arg3 k f3 _ 72 (k0_off12_eq k) (k0_off12_inb k) (by decide) r l

theorem codes10 (r : Fin 8) (l : Fin 128) : tripFull.sl.v581 c arg3 k f3 (ix2 r l)
    = codeOf c arg3 k f3 l ⟨8 * ((10 : Fin 12)).val + r.val, by omega⟩ :=
  read_codes c arg3 k f3 _ 80 (k0_off13_eq k) (k0_off13_inb k) (by decide) r l

theorem codes11 (r : Fin 8) (l : Fin 128) : tripFull.sl.v634 c arg3 k f3 (ix2 r l)
    = codeOf c arg3 k f3 l ⟨8 * ((11 : Fin 12)).val + r.val, by omega⟩ :=
  read_codes c arg3 k f3 _ 88 (k0_off14_eq k) (k0_off14_inb k) (by decide) r l

/-- One leaf of a count: a code block, against the planes' rows from `n` at the candidate's column. -/
theorem leaf (code : IVec S8x128 32) (n : ℕ) (inb : ∀ d, (![n, 0] : Fin 2 → ℕ) d + S8x128.size d ≤ S384x128.size d)
    (v : Fin 12) (j : Fin 4) (hn : n = 96 * j.val + 8 * v.val) (r : Fin 8) (l : Fin 128)
    (hc : code (ix2 r l) = codeOf c arg3 k f3 l ⟨8 * v.val + r.val, by omega⟩) :
    ctpop (andi code (dynamicGather (s := S8x128) 1
        (arg4.view.readAt (Elt F) (Rect.unit (s := S384x128) ![n, 0] S8x128.size inb).toLoadRect f4)
        (tripFull.sl.v61 c i arg6 (BitVec.ofNat 32 (i 0).val) k f6))) (ix2 r l)
      = hit (codeOf c arg3 k f3 l) (arg4.view.read (Elt F) f4) (qOf c i arg6 k f6 l) r v j := by
  subst hn
  show IntOp.ctpop (IntOp.andi (code (ix2 r l)) (dynamicGather (s := S8x128) 1 _ _ (ix2 r l))) = _
  rw [gat, read_planes, hc]

/-- One step of a count. -/
theorem add_step (x y : IVec S8x128 32) (j : S8x128.Idx) (a b : BitVec 32) (hx : x j = a) (hy : y j = b) :
    addi x y j = IntOp.addi a b := by subst hx; subst hy; rfl

theorem pop_step (x : IVec S8x128 32) (j : S8x128.Idx) (a : BitVec 32) (hx : x j = a) : ctpop x j = IntOp.ctpop a := by
  subst hx; rfl

theorem leaf0_0 (r : Fin 8) (l : Fin 128) : tripFull.sl.v64 c i arg3 arg4 arg6 (BitVec.ofNat 32 (i 0).val) k f3 f4 f6 (ix2 r l)
    = hit (codeOf c arg3 k f3 l) (arg4.view.read (Elt F) f4) (qOf c i arg6 k f6 l) r 0 0 :=
  leaf c i arg3 arg4 arg6 k f3 f4 f6 (tripFull.sl.v51 c arg3 k f3) 0 _ 0 0 (by decide) r l (codes0 c arg3 k f3 r l)

theorem leaf0_1 (r : Fin 8) (l : Fin 128) : tripFull.sl.v76 c i arg3 arg4 arg6 (BitVec.ofNat 32 (i 0).val) k f3 f4 f6 (ix2 r l)
    = hit (codeOf c arg3 k f3 l) (arg4.view.read (Elt F) f4) (qOf c i arg6 k f6 l) r 0 1 :=
  leaf c i arg3 arg4 arg6 k f3 f4 f6 (tripFull.sl.v51 c arg3 k f3) 96 _ 0 1 (by decide) r l (codes0 c arg3 k f3 r l)

theorem leaf0_2 (r : Fin 8) (l : Fin 128) : tripFull.sl.v88 c i arg3 arg4 arg6 (BitVec.ofNat 32 (i 0).val) k f3 f4 f6 (ix2 r l)
    = hit (codeOf c arg3 k f3 l) (arg4.view.read (Elt F) f4) (qOf c i arg6 k f6 l) r 0 2 :=
  leaf c i arg3 arg4 arg6 k f3 f4 f6 (tripFull.sl.v51 c arg3 k f3) 192 _ 0 2 (by decide) r l (codes0 c arg3 k f3 r l)

theorem leaf0_3 (r : Fin 8) (l : Fin 128) : tripFull.sl.v100 c i arg3 arg4 arg6 (BitVec.ofNat 32 (i 0).val) k f3 f4 f6 (ix2 r l)
    = hit (codeOf c arg3 k f3 l) (arg4.view.read (Elt F) f4) (qOf c i arg6 k f6 l) r 0 3 :=
  leaf c i arg3 arg4 arg6 k f3 f4 f6 (tripFull.sl.v51 c arg3 k f3) 288 _ 0 3 (by decide) r l (codes0 c arg3 k f3 r l)

theorem leaf1_0 (r : Fin 8) (l : Fin 128) : tripFull.sl.v117 c i arg3 arg4 arg6 (BitVec.ofNat 32 (i 0).val) k f3 f4 f6 (ix2 r l)
    = hit (codeOf c arg3 k f3 l) (arg4.view.read (Elt F) f4) (qOf c i arg6 k f6 l) r 1 0 :=
  leaf c i arg3 arg4 arg6 k f3 f4 f6 (tripFull.sl.v104 c arg3 k f3) 8 _ 1 0 (by decide) r l (codes1 c arg3 k f3 r l)

theorem leaf1_1 (r : Fin 8) (l : Fin 128) : tripFull.sl.v129 c i arg3 arg4 arg6 (BitVec.ofNat 32 (i 0).val) k f3 f4 f6 (ix2 r l)
    = hit (codeOf c arg3 k f3 l) (arg4.view.read (Elt F) f4) (qOf c i arg6 k f6 l) r 1 1 :=
  leaf c i arg3 arg4 arg6 k f3 f4 f6 (tripFull.sl.v104 c arg3 k f3) 104 _ 1 1 (by decide) r l (codes1 c arg3 k f3 r l)

theorem leaf1_2 (r : Fin 8) (l : Fin 128) : tripFull.sl.v141 c i arg3 arg4 arg6 (BitVec.ofNat 32 (i 0).val) k f3 f4 f6 (ix2 r l)
    = hit (codeOf c arg3 k f3 l) (arg4.view.read (Elt F) f4) (qOf c i arg6 k f6 l) r 1 2 :=
  leaf c i arg3 arg4 arg6 k f3 f4 f6 (tripFull.sl.v104 c arg3 k f3) 200 _ 1 2 (by decide) r l (codes1 c arg3 k f3 r l)

theorem leaf1_3 (r : Fin 8) (l : Fin 128) : tripFull.sl.v153 c i arg3 arg4 arg6 (BitVec.ofNat 32 (i 0).val) k f3 f4 f6 (ix2 r l)
    = hit (codeOf c arg3 k f3 l) (arg4.view.read (Elt F) f4) (qOf c i arg6 k f6 l) r 1 3 :=
  leaf c i arg3 arg4 arg6 k f3 f4 f6 (tripFull.sl.v104 c arg3 k f3) 296 _ 1 3 (by decide) r l (codes1 c arg3 k f3 r l)

theorem leaf2_0 (r : Fin 8) (l : Fin 128) : tripFull.sl.v170 c i arg3 arg4 arg6 (BitVec.ofNat 32 (i 0).val) k f3 f4 f6 (ix2 r l)
    = hit (codeOf c arg3 k f3 l) (arg4.view.read (Elt F) f4) (qOf c i arg6 k f6 l) r 2 0 :=
  leaf c i arg3 arg4 arg6 k f3 f4 f6 (tripFull.sl.v157 c arg3 k f3) 16 _ 2 0 (by decide) r l (codes2 c arg3 k f3 r l)

theorem leaf2_1 (r : Fin 8) (l : Fin 128) : tripFull.sl.v182 c i arg3 arg4 arg6 (BitVec.ofNat 32 (i 0).val) k f3 f4 f6 (ix2 r l)
    = hit (codeOf c arg3 k f3 l) (arg4.view.read (Elt F) f4) (qOf c i arg6 k f6 l) r 2 1 :=
  leaf c i arg3 arg4 arg6 k f3 f4 f6 (tripFull.sl.v157 c arg3 k f3) 112 _ 2 1 (by decide) r l (codes2 c arg3 k f3 r l)

theorem leaf2_2 (r : Fin 8) (l : Fin 128) : tripFull.sl.v194 c i arg3 arg4 arg6 (BitVec.ofNat 32 (i 0).val) k f3 f4 f6 (ix2 r l)
    = hit (codeOf c arg3 k f3 l) (arg4.view.read (Elt F) f4) (qOf c i arg6 k f6 l) r 2 2 :=
  leaf c i arg3 arg4 arg6 k f3 f4 f6 (tripFull.sl.v157 c arg3 k f3) 208 _ 2 2 (by decide) r l (codes2 c arg3 k f3 r l)

theorem leaf2_3 (r : Fin 8) (l : Fin 128) : tripFull.sl.v206 c i arg3 arg4 arg6 (BitVec.ofNat 32 (i 0).val) k f3 f4 f6 (ix2 r l)
    = hit (codeOf c arg3 k f3 l) (arg4.view.read (Elt F) f4) (qOf c i arg6 k f6 l) r 2 3 :=
  leaf c i arg3 arg4 arg6 k f3 f4 f6 (tripFull.sl.v157 c arg3 k f3) 304 _ 2 3 (by decide) r l (codes2 c arg3 k f3 r l)

theorem leaf3_0 (r : Fin 8) (l : Fin 128) : tripFull.sl.v223 c i arg3 arg4 arg6 (BitVec.ofNat 32 (i 0).val) k f3 f4 f6 (ix2 r l)
    = hit (codeOf c arg3 k f3 l) (arg4.view.read (Elt F) f4) (qOf c i arg6 k f6 l) r 3 0 :=
  leaf c i arg3 arg4 arg6 k f3 f4 f6 (tripFull.sl.v210 c arg3 k f3) 24 _ 3 0 (by decide) r l (codes3 c arg3 k f3 r l)

theorem leaf3_1 (r : Fin 8) (l : Fin 128) : tripFull.sl.v235 c i arg3 arg4 arg6 (BitVec.ofNat 32 (i 0).val) k f3 f4 f6 (ix2 r l)
    = hit (codeOf c arg3 k f3 l) (arg4.view.read (Elt F) f4) (qOf c i arg6 k f6 l) r 3 1 :=
  leaf c i arg3 arg4 arg6 k f3 f4 f6 (tripFull.sl.v210 c arg3 k f3) 120 _ 3 1 (by decide) r l (codes3 c arg3 k f3 r l)

theorem leaf3_2 (r : Fin 8) (l : Fin 128) : tripFull.sl.v247 c i arg3 arg4 arg6 (BitVec.ofNat 32 (i 0).val) k f3 f4 f6 (ix2 r l)
    = hit (codeOf c arg3 k f3 l) (arg4.view.read (Elt F) f4) (qOf c i arg6 k f6 l) r 3 2 :=
  leaf c i arg3 arg4 arg6 k f3 f4 f6 (tripFull.sl.v210 c arg3 k f3) 216 _ 3 2 (by decide) r l (codes3 c arg3 k f3 r l)

theorem leaf3_3 (r : Fin 8) (l : Fin 128) : tripFull.sl.v259 c i arg3 arg4 arg6 (BitVec.ofNat 32 (i 0).val) k f3 f4 f6 (ix2 r l)
    = hit (codeOf c arg3 k f3 l) (arg4.view.read (Elt F) f4) (qOf c i arg6 k f6 l) r 3 3 :=
  leaf c i arg3 arg4 arg6 k f3 f4 f6 (tripFull.sl.v210 c arg3 k f3) 312 _ 3 3 (by decide) r l (codes3 c arg3 k f3 r l)

theorem leaf4_0 (r : Fin 8) (l : Fin 128) : tripFull.sl.v276 c i arg3 arg4 arg6 (BitVec.ofNat 32 (i 0).val) k f3 f4 f6 (ix2 r l)
    = hit (codeOf c arg3 k f3 l) (arg4.view.read (Elt F) f4) (qOf c i arg6 k f6 l) r 4 0 :=
  leaf c i arg3 arg4 arg6 k f3 f4 f6 (tripFull.sl.v263 c arg3 k f3) 32 _ 4 0 (by decide) r l (codes4 c arg3 k f3 r l)

theorem leaf4_1 (r : Fin 8) (l : Fin 128) : tripFull.sl.v288 c i arg3 arg4 arg6 (BitVec.ofNat 32 (i 0).val) k f3 f4 f6 (ix2 r l)
    = hit (codeOf c arg3 k f3 l) (arg4.view.read (Elt F) f4) (qOf c i arg6 k f6 l) r 4 1 :=
  leaf c i arg3 arg4 arg6 k f3 f4 f6 (tripFull.sl.v263 c arg3 k f3) 128 _ 4 1 (by decide) r l (codes4 c arg3 k f3 r l)

theorem leaf4_2 (r : Fin 8) (l : Fin 128) : tripFull.sl.v300 c i arg3 arg4 arg6 (BitVec.ofNat 32 (i 0).val) k f3 f4 f6 (ix2 r l)
    = hit (codeOf c arg3 k f3 l) (arg4.view.read (Elt F) f4) (qOf c i arg6 k f6 l) r 4 2 :=
  leaf c i arg3 arg4 arg6 k f3 f4 f6 (tripFull.sl.v263 c arg3 k f3) 224 _ 4 2 (by decide) r l (codes4 c arg3 k f3 r l)

theorem leaf4_3 (r : Fin 8) (l : Fin 128) : tripFull.sl.v312 c i arg3 arg4 arg6 (BitVec.ofNat 32 (i 0).val) k f3 f4 f6 (ix2 r l)
    = hit (codeOf c arg3 k f3 l) (arg4.view.read (Elt F) f4) (qOf c i arg6 k f6 l) r 4 3 :=
  leaf c i arg3 arg4 arg6 k f3 f4 f6 (tripFull.sl.v263 c arg3 k f3) 320 _ 4 3 (by decide) r l (codes4 c arg3 k f3 r l)

theorem leaf5_0 (r : Fin 8) (l : Fin 128) : tripFull.sl.v329 c i arg3 arg4 arg6 (BitVec.ofNat 32 (i 0).val) k f3 f4 f6 (ix2 r l)
    = hit (codeOf c arg3 k f3 l) (arg4.view.read (Elt F) f4) (qOf c i arg6 k f6 l) r 5 0 :=
  leaf c i arg3 arg4 arg6 k f3 f4 f6 (tripFull.sl.v316 c arg3 k f3) 40 _ 5 0 (by decide) r l (codes5 c arg3 k f3 r l)

theorem leaf5_1 (r : Fin 8) (l : Fin 128) : tripFull.sl.v341 c i arg3 arg4 arg6 (BitVec.ofNat 32 (i 0).val) k f3 f4 f6 (ix2 r l)
    = hit (codeOf c arg3 k f3 l) (arg4.view.read (Elt F) f4) (qOf c i arg6 k f6 l) r 5 1 :=
  leaf c i arg3 arg4 arg6 k f3 f4 f6 (tripFull.sl.v316 c arg3 k f3) 136 _ 5 1 (by decide) r l (codes5 c arg3 k f3 r l)

theorem leaf5_2 (r : Fin 8) (l : Fin 128) : tripFull.sl.v353 c i arg3 arg4 arg6 (BitVec.ofNat 32 (i 0).val) k f3 f4 f6 (ix2 r l)
    = hit (codeOf c arg3 k f3 l) (arg4.view.read (Elt F) f4) (qOf c i arg6 k f6 l) r 5 2 :=
  leaf c i arg3 arg4 arg6 k f3 f4 f6 (tripFull.sl.v316 c arg3 k f3) 232 _ 5 2 (by decide) r l (codes5 c arg3 k f3 r l)

theorem leaf5_3 (r : Fin 8) (l : Fin 128) : tripFull.sl.v365 c i arg3 arg4 arg6 (BitVec.ofNat 32 (i 0).val) k f3 f4 f6 (ix2 r l)
    = hit (codeOf c arg3 k f3 l) (arg4.view.read (Elt F) f4) (qOf c i arg6 k f6 l) r 5 3 :=
  leaf c i arg3 arg4 arg6 k f3 f4 f6 (tripFull.sl.v316 c arg3 k f3) 328 _ 5 3 (by decide) r l (codes5 c arg3 k f3 r l)

theorem leaf6_0 (r : Fin 8) (l : Fin 128) : tripFull.sl.v382 c i arg3 arg4 arg6 (BitVec.ofNat 32 (i 0).val) k f3 f4 f6 (ix2 r l)
    = hit (codeOf c arg3 k f3 l) (arg4.view.read (Elt F) f4) (qOf c i arg6 k f6 l) r 6 0 :=
  leaf c i arg3 arg4 arg6 k f3 f4 f6 (tripFull.sl.v369 c arg3 k f3) 48 _ 6 0 (by decide) r l (codes6 c arg3 k f3 r l)

theorem leaf6_1 (r : Fin 8) (l : Fin 128) : tripFull.sl.v394 c i arg3 arg4 arg6 (BitVec.ofNat 32 (i 0).val) k f3 f4 f6 (ix2 r l)
    = hit (codeOf c arg3 k f3 l) (arg4.view.read (Elt F) f4) (qOf c i arg6 k f6 l) r 6 1 :=
  leaf c i arg3 arg4 arg6 k f3 f4 f6 (tripFull.sl.v369 c arg3 k f3) 144 _ 6 1 (by decide) r l (codes6 c arg3 k f3 r l)

theorem leaf6_2 (r : Fin 8) (l : Fin 128) : tripFull.sl.v406 c i arg3 arg4 arg6 (BitVec.ofNat 32 (i 0).val) k f3 f4 f6 (ix2 r l)
    = hit (codeOf c arg3 k f3 l) (arg4.view.read (Elt F) f4) (qOf c i arg6 k f6 l) r 6 2 :=
  leaf c i arg3 arg4 arg6 k f3 f4 f6 (tripFull.sl.v369 c arg3 k f3) 240 _ 6 2 (by decide) r l (codes6 c arg3 k f3 r l)

theorem leaf6_3 (r : Fin 8) (l : Fin 128) : tripFull.sl.v418 c i arg3 arg4 arg6 (BitVec.ofNat 32 (i 0).val) k f3 f4 f6 (ix2 r l)
    = hit (codeOf c arg3 k f3 l) (arg4.view.read (Elt F) f4) (qOf c i arg6 k f6 l) r 6 3 :=
  leaf c i arg3 arg4 arg6 k f3 f4 f6 (tripFull.sl.v369 c arg3 k f3) 336 _ 6 3 (by decide) r l (codes6 c arg3 k f3 r l)

theorem leaf7_0 (r : Fin 8) (l : Fin 128) : tripFull.sl.v435 c i arg3 arg4 arg6 (BitVec.ofNat 32 (i 0).val) k f3 f4 f6 (ix2 r l)
    = hit (codeOf c arg3 k f3 l) (arg4.view.read (Elt F) f4) (qOf c i arg6 k f6 l) r 7 0 :=
  leaf c i arg3 arg4 arg6 k f3 f4 f6 (tripFull.sl.v422 c arg3 k f3) 56 _ 7 0 (by decide) r l (codes7 c arg3 k f3 r l)

theorem leaf7_1 (r : Fin 8) (l : Fin 128) : tripFull.sl.v447 c i arg3 arg4 arg6 (BitVec.ofNat 32 (i 0).val) k f3 f4 f6 (ix2 r l)
    = hit (codeOf c arg3 k f3 l) (arg4.view.read (Elt F) f4) (qOf c i arg6 k f6 l) r 7 1 :=
  leaf c i arg3 arg4 arg6 k f3 f4 f6 (tripFull.sl.v422 c arg3 k f3) 152 _ 7 1 (by decide) r l (codes7 c arg3 k f3 r l)

theorem leaf7_2 (r : Fin 8) (l : Fin 128) : tripFull.sl.v459 c i arg3 arg4 arg6 (BitVec.ofNat 32 (i 0).val) k f3 f4 f6 (ix2 r l)
    = hit (codeOf c arg3 k f3 l) (arg4.view.read (Elt F) f4) (qOf c i arg6 k f6 l) r 7 2 :=
  leaf c i arg3 arg4 arg6 k f3 f4 f6 (tripFull.sl.v422 c arg3 k f3) 248 _ 7 2 (by decide) r l (codes7 c arg3 k f3 r l)

theorem leaf7_3 (r : Fin 8) (l : Fin 128) : tripFull.sl.v471 c i arg3 arg4 arg6 (BitVec.ofNat 32 (i 0).val) k f3 f4 f6 (ix2 r l)
    = hit (codeOf c arg3 k f3 l) (arg4.view.read (Elt F) f4) (qOf c i arg6 k f6 l) r 7 3 :=
  leaf c i arg3 arg4 arg6 k f3 f4 f6 (tripFull.sl.v422 c arg3 k f3) 344 _ 7 3 (by decide) r l (codes7 c arg3 k f3 r l)

theorem leaf8_0 (r : Fin 8) (l : Fin 128) : tripFull.sl.v488 c i arg3 arg4 arg6 (BitVec.ofNat 32 (i 0).val) k f3 f4 f6 (ix2 r l)
    = hit (codeOf c arg3 k f3 l) (arg4.view.read (Elt F) f4) (qOf c i arg6 k f6 l) r 8 0 :=
  leaf c i arg3 arg4 arg6 k f3 f4 f6 (tripFull.sl.v475 c arg3 k f3) 64 _ 8 0 (by decide) r l (codes8 c arg3 k f3 r l)

theorem leaf8_1 (r : Fin 8) (l : Fin 128) : tripFull.sl.v500 c i arg3 arg4 arg6 (BitVec.ofNat 32 (i 0).val) k f3 f4 f6 (ix2 r l)
    = hit (codeOf c arg3 k f3 l) (arg4.view.read (Elt F) f4) (qOf c i arg6 k f6 l) r 8 1 :=
  leaf c i arg3 arg4 arg6 k f3 f4 f6 (tripFull.sl.v475 c arg3 k f3) 160 _ 8 1 (by decide) r l (codes8 c arg3 k f3 r l)

theorem leaf8_2 (r : Fin 8) (l : Fin 128) : tripFull.sl.v512 c i arg3 arg4 arg6 (BitVec.ofNat 32 (i 0).val) k f3 f4 f6 (ix2 r l)
    = hit (codeOf c arg3 k f3 l) (arg4.view.read (Elt F) f4) (qOf c i arg6 k f6 l) r 8 2 :=
  leaf c i arg3 arg4 arg6 k f3 f4 f6 (tripFull.sl.v475 c arg3 k f3) 256 _ 8 2 (by decide) r l (codes8 c arg3 k f3 r l)

theorem leaf8_3 (r : Fin 8) (l : Fin 128) : tripFull.sl.v524 c i arg3 arg4 arg6 (BitVec.ofNat 32 (i 0).val) k f3 f4 f6 (ix2 r l)
    = hit (codeOf c arg3 k f3 l) (arg4.view.read (Elt F) f4) (qOf c i arg6 k f6 l) r 8 3 :=
  leaf c i arg3 arg4 arg6 k f3 f4 f6 (tripFull.sl.v475 c arg3 k f3) 352 _ 8 3 (by decide) r l (codes8 c arg3 k f3 r l)

theorem leaf9_0 (r : Fin 8) (l : Fin 128) : tripFull.sl.v541 c i arg3 arg4 arg6 (BitVec.ofNat 32 (i 0).val) k f3 f4 f6 (ix2 r l)
    = hit (codeOf c arg3 k f3 l) (arg4.view.read (Elt F) f4) (qOf c i arg6 k f6 l) r 9 0 :=
  leaf c i arg3 arg4 arg6 k f3 f4 f6 (tripFull.sl.v528 c arg3 k f3) 72 _ 9 0 (by decide) r l (codes9 c arg3 k f3 r l)

theorem leaf9_1 (r : Fin 8) (l : Fin 128) : tripFull.sl.v553 c i arg3 arg4 arg6 (BitVec.ofNat 32 (i 0).val) k f3 f4 f6 (ix2 r l)
    = hit (codeOf c arg3 k f3 l) (arg4.view.read (Elt F) f4) (qOf c i arg6 k f6 l) r 9 1 :=
  leaf c i arg3 arg4 arg6 k f3 f4 f6 (tripFull.sl.v528 c arg3 k f3) 168 _ 9 1 (by decide) r l (codes9 c arg3 k f3 r l)

theorem leaf9_2 (r : Fin 8) (l : Fin 128) : tripFull.sl.v565 c i arg3 arg4 arg6 (BitVec.ofNat 32 (i 0).val) k f3 f4 f6 (ix2 r l)
    = hit (codeOf c arg3 k f3 l) (arg4.view.read (Elt F) f4) (qOf c i arg6 k f6 l) r 9 2 :=
  leaf c i arg3 arg4 arg6 k f3 f4 f6 (tripFull.sl.v528 c arg3 k f3) 264 _ 9 2 (by decide) r l (codes9 c arg3 k f3 r l)

theorem leaf9_3 (r : Fin 8) (l : Fin 128) : tripFull.sl.v577 c i arg3 arg4 arg6 (BitVec.ofNat 32 (i 0).val) k f3 f4 f6 (ix2 r l)
    = hit (codeOf c arg3 k f3 l) (arg4.view.read (Elt F) f4) (qOf c i arg6 k f6 l) r 9 3 :=
  leaf c i arg3 arg4 arg6 k f3 f4 f6 (tripFull.sl.v528 c arg3 k f3) 360 _ 9 3 (by decide) r l (codes9 c arg3 k f3 r l)

theorem leaf10_0 (r : Fin 8) (l : Fin 128) : tripFull.sl.v594 c i arg3 arg4 arg6 (BitVec.ofNat 32 (i 0).val) k f3 f4 f6 (ix2 r l)
    = hit (codeOf c arg3 k f3 l) (arg4.view.read (Elt F) f4) (qOf c i arg6 k f6 l) r 10 0 :=
  leaf c i arg3 arg4 arg6 k f3 f4 f6 (tripFull.sl.v581 c arg3 k f3) 80 _ 10 0 (by decide) r l (codes10 c arg3 k f3 r l)

theorem leaf10_1 (r : Fin 8) (l : Fin 128) : tripFull.sl.v606 c i arg3 arg4 arg6 (BitVec.ofNat 32 (i 0).val) k f3 f4 f6 (ix2 r l)
    = hit (codeOf c arg3 k f3 l) (arg4.view.read (Elt F) f4) (qOf c i arg6 k f6 l) r 10 1 :=
  leaf c i arg3 arg4 arg6 k f3 f4 f6 (tripFull.sl.v581 c arg3 k f3) 176 _ 10 1 (by decide) r l (codes10 c arg3 k f3 r l)

theorem leaf10_2 (r : Fin 8) (l : Fin 128) : tripFull.sl.v618 c i arg3 arg4 arg6 (BitVec.ofNat 32 (i 0).val) k f3 f4 f6 (ix2 r l)
    = hit (codeOf c arg3 k f3 l) (arg4.view.read (Elt F) f4) (qOf c i arg6 k f6 l) r 10 2 :=
  leaf c i arg3 arg4 arg6 k f3 f4 f6 (tripFull.sl.v581 c arg3 k f3) 272 _ 10 2 (by decide) r l (codes10 c arg3 k f3 r l)

theorem leaf10_3 (r : Fin 8) (l : Fin 128) : tripFull.sl.v630 c i arg3 arg4 arg6 (BitVec.ofNat 32 (i 0).val) k f3 f4 f6 (ix2 r l)
    = hit (codeOf c arg3 k f3 l) (arg4.view.read (Elt F) f4) (qOf c i arg6 k f6 l) r 10 3 :=
  leaf c i arg3 arg4 arg6 k f3 f4 f6 (tripFull.sl.v581 c arg3 k f3) 368 _ 10 3 (by decide) r l (codes10 c arg3 k f3 r l)

theorem leaf11_0 (r : Fin 8) (l : Fin 128) : tripFull.sl.v647 c i arg3 arg4 arg6 (BitVec.ofNat 32 (i 0).val) k f3 f4 f6 (ix2 r l)
    = hit (codeOf c arg3 k f3 l) (arg4.view.read (Elt F) f4) (qOf c i arg6 k f6 l) r 11 0 :=
  leaf c i arg3 arg4 arg6 k f3 f4 f6 (tripFull.sl.v634 c arg3 k f3) 88 _ 11 0 (by decide) r l (codes11 c arg3 k f3 r l)

/-- The set bits of the code over the words congruent to `r`. -/
theorem pop_apply (r : Fin 8) (l : Fin 128) :
    tripFull.sl.v636 c arg3 k f3 (ix2 r l)
      = ∑ v : Fin 12, IntOp.ctpop (codeOf c arg3 k f3 l ⟨8 * v.val + r.val, by omega⟩) := by
  rw [sum12]
  exact add_step (tripFull.sl.v583 c arg3 k f3) (tripFull.sl.v635 c arg3 k f3) _ _ _
    (add_step (tripFull.sl.v530 c arg3 k f3) (tripFull.sl.v582 c arg3 k f3) _ _ _
    (add_step (tripFull.sl.v477 c arg3 k f3) (tripFull.sl.v529 c arg3 k f3) _ _ _
    (add_step (tripFull.sl.v424 c arg3 k f3) (tripFull.sl.v476 c arg3 k f3) _ _ _
    (add_step (tripFull.sl.v371 c arg3 k f3) (tripFull.sl.v423 c arg3 k f3) _ _ _
    (add_step (tripFull.sl.v318 c arg3 k f3) (tripFull.sl.v370 c arg3 k f3) _ _ _
    (add_step (tripFull.sl.v265 c arg3 k f3) (tripFull.sl.v317 c arg3 k f3) _ _ _
    (add_step (tripFull.sl.v212 c arg3 k f3) (tripFull.sl.v264 c arg3 k f3) _ _ _
    (add_step (tripFull.sl.v159 c arg3 k f3) (tripFull.sl.v211 c arg3 k f3) _ _ _
    (add_step (tripFull.sl.v106 c arg3 k f3) (tripFull.sl.v158 c arg3 k f3) _ _ _
    (add_step (tripFull.sl.v53 c arg3 k f3) (tripFull.sl.v105 c arg3 k f3) _ _ _
    (add_step tripFull.sl.v34 (tripFull.sl.v52 c arg3 k f3) _ _ _
    (rfl)
    (pop_step (tripFull.sl.v51 c arg3 k f3) _ _ (codes0 c arg3 k f3 r l)))
    (pop_step (tripFull.sl.v104 c arg3 k f3) _ _ (codes1 c arg3 k f3 r l)))
    (pop_step (tripFull.sl.v157 c arg3 k f3) _ _ (codes2 c arg3 k f3 r l)))
    (pop_step (tripFull.sl.v210 c arg3 k f3) _ _ (codes3 c arg3 k f3 r l)))
    (pop_step (tripFull.sl.v263 c arg3 k f3) _ _ (codes4 c arg3 k f3 r l)))
    (pop_step (tripFull.sl.v316 c arg3 k f3) _ _ (codes5 c arg3 k f3 r l)))
    (pop_step (tripFull.sl.v369 c arg3 k f3) _ _ (codes6 c arg3 k f3 r l)))
    (pop_step (tripFull.sl.v422 c arg3 k f3) _ _ (codes7 c arg3 k f3 r l)))
    (pop_step (tripFull.sl.v475 c arg3 k f3) _ _ (codes8 c arg3 k f3 r l)))
    (pop_step (tripFull.sl.v528 c arg3 k f3) _ _ (codes9 c arg3 k f3 r l)))
    (pop_step (tripFull.sl.v581 c arg3 k f3) _ _ (codes10 c arg3 k f3 r l)))
    (pop_step (tripFull.sl.v634 c arg3 k f3) _ _ (codes11 c arg3 k f3 r l))

/-- Plane 0's count. -/
theorem acc0_apply (r : Fin 8) (l : Fin 128) :
    tripFull.sl.v648 c i arg3 arg4 arg6 (BitVec.ofNat 32 (i 0).val) k f3 f4 f6 (ix2 r l)
      = accW (codeOf c arg3 k f3 l) (arg4.view.read (Elt F) f4) (qOf c i arg6 k f6 l) r 0 := by
  rw [accW, sum12]
  exact add_step (tripFull.sl.v595 c i arg3 arg4 arg6 (BitVec.ofNat 32 (i 0).val) k f3 f4 f6) (tripFull.sl.v647 c i arg3 arg4 arg6 (BitVec.ofNat 32 (i 0).val) k f3 f4 f6) _ _ _
    (add_step (tripFull.sl.v542 c i arg3 arg4 arg6 (BitVec.ofNat 32 (i 0).val) k f3 f4 f6) (tripFull.sl.v594 c i arg3 arg4 arg6 (BitVec.ofNat 32 (i 0).val) k f3 f4 f6) _ _ _
    (add_step (tripFull.sl.v489 c i arg3 arg4 arg6 (BitVec.ofNat 32 (i 0).val) k f3 f4 f6) (tripFull.sl.v541 c i arg3 arg4 arg6 (BitVec.ofNat 32 (i 0).val) k f3 f4 f6) _ _ _
    (add_step (tripFull.sl.v436 c i arg3 arg4 arg6 (BitVec.ofNat 32 (i 0).val) k f3 f4 f6) (tripFull.sl.v488 c i arg3 arg4 arg6 (BitVec.ofNat 32 (i 0).val) k f3 f4 f6) _ _ _
    (add_step (tripFull.sl.v383 c i arg3 arg4 arg6 (BitVec.ofNat 32 (i 0).val) k f3 f4 f6) (tripFull.sl.v435 c i arg3 arg4 arg6 (BitVec.ofNat 32 (i 0).val) k f3 f4 f6) _ _ _
    (add_step (tripFull.sl.v330 c i arg3 arg4 arg6 (BitVec.ofNat 32 (i 0).val) k f3 f4 f6) (tripFull.sl.v382 c i arg3 arg4 arg6 (BitVec.ofNat 32 (i 0).val) k f3 f4 f6) _ _ _
    (add_step (tripFull.sl.v277 c i arg3 arg4 arg6 (BitVec.ofNat 32 (i 0).val) k f3 f4 f6) (tripFull.sl.v329 c i arg3 arg4 arg6 (BitVec.ofNat 32 (i 0).val) k f3 f4 f6) _ _ _
    (add_step (tripFull.sl.v224 c i arg3 arg4 arg6 (BitVec.ofNat 32 (i 0).val) k f3 f4 f6) (tripFull.sl.v276 c i arg3 arg4 arg6 (BitVec.ofNat 32 (i 0).val) k f3 f4 f6) _ _ _
    (add_step (tripFull.sl.v171 c i arg3 arg4 arg6 (BitVec.ofNat 32 (i 0).val) k f3 f4 f6) (tripFull.sl.v223 c i arg3 arg4 arg6 (BitVec.ofNat 32 (i 0).val) k f3 f4 f6) _ _ _
    (add_step (tripFull.sl.v118 c i arg3 arg4 arg6 (BitVec.ofNat 32 (i 0).val) k f3 f4 f6) (tripFull.sl.v170 c i arg3 arg4 arg6 (BitVec.ofNat 32 (i 0).val) k f3 f4 f6) _ _ _
    (add_step (tripFull.sl.v65 c i arg3 arg4 arg6 (BitVec.ofNat 32 (i 0).val) k f3 f4 f6) (tripFull.sl.v117 c i arg3 arg4 arg6 (BitVec.ofNat 32 (i 0).val) k f3 f4 f6) _ _ _
    (add_step tripFull.sl.v34 (tripFull.sl.v64 c i arg3 arg4 arg6 (BitVec.ofNat 32 (i 0).val) k f3 f4 f6) _ _ _
    (rfl)
    (leaf0_0 c i arg3 arg4 arg6 k f3 f4 f6 r l))
    (leaf1_0 c i arg3 arg4 arg6 k f3 f4 f6 r l))
    (leaf2_0 c i arg3 arg4 arg6 k f3 f4 f6 r l))
    (leaf3_0 c i arg3 arg4 arg6 k f3 f4 f6 r l))
    (leaf4_0 c i arg3 arg4 arg6 k f3 f4 f6 r l))
    (leaf5_0 c i arg3 arg4 arg6 k f3 f4 f6 r l))
    (leaf6_0 c i arg3 arg4 arg6 k f3 f4 f6 r l))
    (leaf7_0 c i arg3 arg4 arg6 k f3 f4 f6 r l))
    (leaf8_0 c i arg3 arg4 arg6 k f3 f4 f6 r l))
    (leaf9_0 c i arg3 arg4 arg6 k f3 f4 f6 r l))
    (leaf10_0 c i arg3 arg4 arg6 k f3 f4 f6 r l))
    (leaf11_0 c i arg3 arg4 arg6 k f3 f4 f6 r l)

/-- Plane 1's count: eleven words of it and the twelfth. -/
theorem acc1_apply (inb : ∀ d, (![184, 0] : Fin 2 → ℕ) d + S8x128.size d ≤ S384x128.size d) (r : Fin 8) (l : Fin 128) :
    addi (tripFull.sl.v607 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![184, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 1 := by
  rw [accW, sum12]
  exact add_step (tripFull.sl.v607 c i arg3 arg4 arg6 (BitVec.ofNat 32 (i 0).val) k f3 f4 f6) _ _ _ _
    (add_step (tripFull.sl.v554 c i arg3 arg4 arg6 (BitVec.ofNat 32 (i 0).val) k f3 f4 f6) (tripFull.sl.v606 c i arg3 arg4 arg6 (BitVec.ofNat 32 (i 0).val) k f3 f4 f6) _ _ _
    (add_step (tripFull.sl.v501 c i arg3 arg4 arg6 (BitVec.ofNat 32 (i 0).val) k f3 f4 f6) (tripFull.sl.v553 c i arg3 arg4 arg6 (BitVec.ofNat 32 (i 0).val) k f3 f4 f6) _ _ _
    (add_step (tripFull.sl.v448 c i arg3 arg4 arg6 (BitVec.ofNat 32 (i 0).val) k f3 f4 f6) (tripFull.sl.v500 c i arg3 arg4 arg6 (BitVec.ofNat 32 (i 0).val) k f3 f4 f6) _ _ _
    (add_step (tripFull.sl.v395 c i arg3 arg4 arg6 (BitVec.ofNat 32 (i 0).val) k f3 f4 f6) (tripFull.sl.v447 c i arg3 arg4 arg6 (BitVec.ofNat 32 (i 0).val) k f3 f4 f6) _ _ _
    (add_step (tripFull.sl.v342 c i arg3 arg4 arg6 (BitVec.ofNat 32 (i 0).val) k f3 f4 f6) (tripFull.sl.v394 c i arg3 arg4 arg6 (BitVec.ofNat 32 (i 0).val) k f3 f4 f6) _ _ _
    (add_step (tripFull.sl.v289 c i arg3 arg4 arg6 (BitVec.ofNat 32 (i 0).val) k f3 f4 f6) (tripFull.sl.v341 c i arg3 arg4 arg6 (BitVec.ofNat 32 (i 0).val) k f3 f4 f6) _ _ _
    (add_step (tripFull.sl.v236 c i arg3 arg4 arg6 (BitVec.ofNat 32 (i 0).val) k f3 f4 f6) (tripFull.sl.v288 c i arg3 arg4 arg6 (BitVec.ofNat 32 (i 0).val) k f3 f4 f6) _ _ _
    (add_step (tripFull.sl.v183 c i arg3 arg4 arg6 (BitVec.ofNat 32 (i 0).val) k f3 f4 f6) (tripFull.sl.v235 c i arg3 arg4 arg6 (BitVec.ofNat 32 (i 0).val) k f3 f4 f6) _ _ _
    (add_step (tripFull.sl.v130 c i arg3 arg4 arg6 (BitVec.ofNat 32 (i 0).val) k f3 f4 f6) (tripFull.sl.v182 c i arg3 arg4 arg6 (BitVec.ofNat 32 (i 0).val) k f3 f4 f6) _ _ _
    (add_step (tripFull.sl.v77 c i arg3 arg4 arg6 (BitVec.ofNat 32 (i 0).val) k f3 f4 f6) (tripFull.sl.v129 c i arg3 arg4 arg6 (BitVec.ofNat 32 (i 0).val) k f3 f4 f6) _ _ _
    (add_step tripFull.sl.v34 (tripFull.sl.v76 c i arg3 arg4 arg6 (BitVec.ofNat 32 (i 0).val) k f3 f4 f6) _ _ _
    (rfl)
    (leaf0_1 c i arg3 arg4 arg6 k f3 f4 f6 r l))
    (leaf1_1 c i arg3 arg4 arg6 k f3 f4 f6 r l))
    (leaf2_1 c i arg3 arg4 arg6 k f3 f4 f6 r l))
    (leaf3_1 c i arg3 arg4 arg6 k f3 f4 f6 r l))
    (leaf4_1 c i arg3 arg4 arg6 k f3 f4 f6 r l))
    (leaf5_1 c i arg3 arg4 arg6 k f3 f4 f6 r l))
    (leaf6_1 c i arg3 arg4 arg6 k f3 f4 f6 r l))
    (leaf7_1 c i arg3 arg4 arg6 k f3 f4 f6 r l))
    (leaf8_1 c i arg3 arg4 arg6 k f3 f4 f6 r l))
    (leaf9_1 c i arg3 arg4 arg6 k f3 f4 f6 r l))
    (leaf10_1 c i arg3 arg4 arg6 k f3 f4 f6 r l))
    (leaf c i arg3 arg4 arg6 k f3 f4 f6 (tripFull.sl.v634 c arg3 k f3) 184 inb 11 1 (by decide) r l (codes11 c arg3 k f3 r l))

/-- Plane 2's count: eleven words of it and the twelfth. -/
theorem acc2_apply (inb : ∀ d, (![280, 0] : Fin 2 → ℕ) d + S8x128.size d ≤ S384x128.size d) (r : Fin 8) (l : Fin 128) :
    addi (tripFull.sl.v619 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![280, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 2 := by
  rw [accW, sum12]
  exact add_step (tripFull.sl.v619 c i arg3 arg4 arg6 (BitVec.ofNat 32 (i 0).val) k f3 f4 f6) _ _ _ _
    (add_step (tripFull.sl.v566 c i arg3 arg4 arg6 (BitVec.ofNat 32 (i 0).val) k f3 f4 f6) (tripFull.sl.v618 c i arg3 arg4 arg6 (BitVec.ofNat 32 (i 0).val) k f3 f4 f6) _ _ _
    (add_step (tripFull.sl.v513 c i arg3 arg4 arg6 (BitVec.ofNat 32 (i 0).val) k f3 f4 f6) (tripFull.sl.v565 c i arg3 arg4 arg6 (BitVec.ofNat 32 (i 0).val) k f3 f4 f6) _ _ _
    (add_step (tripFull.sl.v460 c i arg3 arg4 arg6 (BitVec.ofNat 32 (i 0).val) k f3 f4 f6) (tripFull.sl.v512 c i arg3 arg4 arg6 (BitVec.ofNat 32 (i 0).val) k f3 f4 f6) _ _ _
    (add_step (tripFull.sl.v407 c i arg3 arg4 arg6 (BitVec.ofNat 32 (i 0).val) k f3 f4 f6) (tripFull.sl.v459 c i arg3 arg4 arg6 (BitVec.ofNat 32 (i 0).val) k f3 f4 f6) _ _ _
    (add_step (tripFull.sl.v354 c i arg3 arg4 arg6 (BitVec.ofNat 32 (i 0).val) k f3 f4 f6) (tripFull.sl.v406 c i arg3 arg4 arg6 (BitVec.ofNat 32 (i 0).val) k f3 f4 f6) _ _ _
    (add_step (tripFull.sl.v301 c i arg3 arg4 arg6 (BitVec.ofNat 32 (i 0).val) k f3 f4 f6) (tripFull.sl.v353 c i arg3 arg4 arg6 (BitVec.ofNat 32 (i 0).val) k f3 f4 f6) _ _ _
    (add_step (tripFull.sl.v248 c i arg3 arg4 arg6 (BitVec.ofNat 32 (i 0).val) k f3 f4 f6) (tripFull.sl.v300 c i arg3 arg4 arg6 (BitVec.ofNat 32 (i 0).val) k f3 f4 f6) _ _ _
    (add_step (tripFull.sl.v195 c i arg3 arg4 arg6 (BitVec.ofNat 32 (i 0).val) k f3 f4 f6) (tripFull.sl.v247 c i arg3 arg4 arg6 (BitVec.ofNat 32 (i 0).val) k f3 f4 f6) _ _ _
    (add_step (tripFull.sl.v142 c i arg3 arg4 arg6 (BitVec.ofNat 32 (i 0).val) k f3 f4 f6) (tripFull.sl.v194 c i arg3 arg4 arg6 (BitVec.ofNat 32 (i 0).val) k f3 f4 f6) _ _ _
    (add_step (tripFull.sl.v89 c i arg3 arg4 arg6 (BitVec.ofNat 32 (i 0).val) k f3 f4 f6) (tripFull.sl.v141 c i arg3 arg4 arg6 (BitVec.ofNat 32 (i 0).val) k f3 f4 f6) _ _ _
    (add_step tripFull.sl.v34 (tripFull.sl.v88 c i arg3 arg4 arg6 (BitVec.ofNat 32 (i 0).val) k f3 f4 f6) _ _ _
    (rfl)
    (leaf0_2 c i arg3 arg4 arg6 k f3 f4 f6 r l))
    (leaf1_2 c i arg3 arg4 arg6 k f3 f4 f6 r l))
    (leaf2_2 c i arg3 arg4 arg6 k f3 f4 f6 r l))
    (leaf3_2 c i arg3 arg4 arg6 k f3 f4 f6 r l))
    (leaf4_2 c i arg3 arg4 arg6 k f3 f4 f6 r l))
    (leaf5_2 c i arg3 arg4 arg6 k f3 f4 f6 r l))
    (leaf6_2 c i arg3 arg4 arg6 k f3 f4 f6 r l))
    (leaf7_2 c i arg3 arg4 arg6 k f3 f4 f6 r l))
    (leaf8_2 c i arg3 arg4 arg6 k f3 f4 f6 r l))
    (leaf9_2 c i arg3 arg4 arg6 k f3 f4 f6 r l))
    (leaf10_2 c i arg3 arg4 arg6 k f3 f4 f6 r l))
    (leaf c i arg3 arg4 arg6 k f3 f4 f6 (tripFull.sl.v634 c arg3 k f3) 280 inb 11 2 (by decide) r l (codes11 c arg3 k f3 r l))

/-- Plane 3's count: eleven words of it and the twelfth. -/
theorem acc3_apply (inb : ∀ d, (![376, 0] : Fin 2 → ℕ) d + S8x128.size d ≤ S384x128.size d) (r : Fin 8) (l : Fin 128) :
    addi (tripFull.sl.v631 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![376, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 3 := by
  rw [accW, sum12]
  exact add_step (tripFull.sl.v631 c i arg3 arg4 arg6 (BitVec.ofNat 32 (i 0).val) k f3 f4 f6) _ _ _ _
    (add_step (tripFull.sl.v578 c i arg3 arg4 arg6 (BitVec.ofNat 32 (i 0).val) k f3 f4 f6) (tripFull.sl.v630 c i arg3 arg4 arg6 (BitVec.ofNat 32 (i 0).val) k f3 f4 f6) _ _ _
    (add_step (tripFull.sl.v525 c i arg3 arg4 arg6 (BitVec.ofNat 32 (i 0).val) k f3 f4 f6) (tripFull.sl.v577 c i arg3 arg4 arg6 (BitVec.ofNat 32 (i 0).val) k f3 f4 f6) _ _ _
    (add_step (tripFull.sl.v472 c i arg3 arg4 arg6 (BitVec.ofNat 32 (i 0).val) k f3 f4 f6) (tripFull.sl.v524 c i arg3 arg4 arg6 (BitVec.ofNat 32 (i 0).val) k f3 f4 f6) _ _ _
    (add_step (tripFull.sl.v419 c i arg3 arg4 arg6 (BitVec.ofNat 32 (i 0).val) k f3 f4 f6) (tripFull.sl.v471 c i arg3 arg4 arg6 (BitVec.ofNat 32 (i 0).val) k f3 f4 f6) _ _ _
    (add_step (tripFull.sl.v366 c i arg3 arg4 arg6 (BitVec.ofNat 32 (i 0).val) k f3 f4 f6) (tripFull.sl.v418 c i arg3 arg4 arg6 (BitVec.ofNat 32 (i 0).val) k f3 f4 f6) _ _ _
    (add_step (tripFull.sl.v313 c i arg3 arg4 arg6 (BitVec.ofNat 32 (i 0).val) k f3 f4 f6) (tripFull.sl.v365 c i arg3 arg4 arg6 (BitVec.ofNat 32 (i 0).val) k f3 f4 f6) _ _ _
    (add_step (tripFull.sl.v260 c i arg3 arg4 arg6 (BitVec.ofNat 32 (i 0).val) k f3 f4 f6) (tripFull.sl.v312 c i arg3 arg4 arg6 (BitVec.ofNat 32 (i 0).val) k f3 f4 f6) _ _ _
    (add_step (tripFull.sl.v207 c i arg3 arg4 arg6 (BitVec.ofNat 32 (i 0).val) k f3 f4 f6) (tripFull.sl.v259 c i arg3 arg4 arg6 (BitVec.ofNat 32 (i 0).val) k f3 f4 f6) _ _ _
    (add_step (tripFull.sl.v154 c i arg3 arg4 arg6 (BitVec.ofNat 32 (i 0).val) k f3 f4 f6) (tripFull.sl.v206 c i arg3 arg4 arg6 (BitVec.ofNat 32 (i 0).val) k f3 f4 f6) _ _ _
    (add_step (tripFull.sl.v101 c i arg3 arg4 arg6 (BitVec.ofNat 32 (i 0).val) k f3 f4 f6) (tripFull.sl.v153 c i arg3 arg4 arg6 (BitVec.ofNat 32 (i 0).val) k f3 f4 f6) _ _ _
    (add_step tripFull.sl.v34 (tripFull.sl.v100 c i arg3 arg4 arg6 (BitVec.ofNat 32 (i 0).val) k f3 f4 f6) _ _ _
    (rfl)
    (leaf0_3 c i arg3 arg4 arg6 k f3 f4 f6 r l))
    (leaf1_3 c i arg3 arg4 arg6 k f3 f4 f6 r l))
    (leaf2_3 c i arg3 arg4 arg6 k f3 f4 f6 r l))
    (leaf3_3 c i arg3 arg4 arg6 k f3 f4 f6 r l))
    (leaf4_3 c i arg3 arg4 arg6 k f3 f4 f6 r l))
    (leaf5_3 c i arg3 arg4 arg6 k f3 f4 f6 r l))
    (leaf6_3 c i arg3 arg4 arg6 k f3 f4 f6 r l))
    (leaf7_3 c i arg3 arg4 arg6 k f3 f4 f6 r l))
    (leaf8_3 c i arg3 arg4 arg6 k f3 f4 f6 r l))
    (leaf9_3 c i arg3 arg4 arg6 k f3 f4 f6 r l))
    (leaf10_3 c i arg3 arg4 arg6 k f3 f4 f6 r l))
    (leaf c i arg3 arg4 arg6 k f3 f4 f6 (tripFull.sl.v634 c arg3 k f3) 376 inb 11 3 (by decide) r l (codes11 c arg3 k f3 r l))

end

end Cert.Kernel.Scan

end
-- ==== Proof.Scan.Pieces.lean ====
/- What one trip of the scan's inner loop stores, at one row and lane: the query's row of the tile gets the candidate's
   results, zero beyond the query's count; the other rows keep what they held. -/
module

public import proofs.«01_k».proof.Proof.Scan.TripVal

@[expose] public section

set_option maxRecDepth 16384

noncomputable section

namespace Cert.Kernel.Scan

open Idealize.ShloMosaic Idealize.ShloMosaic.TcCoe Idealize.SL.Sem Cert.Kernel.Gen

variable {F : FTy → Type} [FloatOps F]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-! ## The two counts, as floats -/

theorem shl_step (x : IVec S8x128 32) (n : BitVec 32) (j : S8x128.Idx) (a : BitVec 32) (hx : x j = a) :
    shli x (broadcast S8x128 n) j = IntOp.shli .vector a n := by subst hx; rfl

theorem ip_apply (l : Fin 128) :
    tripFull.sl.r_9 c i arg3 arg4 arg6 (BitVec.ofNat 32 (i 0).val) k f3 f4 f6 (ix2 (0 : Fin 1) l)
      = FloatOps.sitofp .f32 (ipW (codeOf c arg3 k f3 l) (arg4.view.read (Elt F) f4) (qOf c i arg6 k f6 l)) := by
  unfold tripFull.sl.r_9 k0_pay92
  dsimp only
  show FloatOps.sitofp .f32 (shapeCast S1x128 _ _ (ix2 (0 : Fin 1) l)) = _
  refine congrArg (FloatOps.sitofp .f32) (((cast1_apply _ _ l).trans (colSum_apply _ _ rfl l)).trans ?_)
  refine Finset.sum_congr rfl fun r _ => ?_
  exact add_step _ _ _ _ _
    (add_step _ _ _ _ _
      (add_step _ _ _ _ _ (acc0_apply c i arg3 arg4 arg6 k f3 f4 f6 r l)
        (shl_step _ _ _ _ (acc1_apply c i arg3 arg4 arg6 k f3 f4 f6 _ r l)))
      (shl_step _ _ _ _ (acc2_apply c i arg3 arg4 arg6 k f3 f4 f6 _ r l)))
    (shl_step _ _ _ _ (acc3_apply c i arg3 arg4 arg6 k f3 f4 f6 _ r l))

theorem popf_apply (l : Fin 128) :
    tripFull.sl.r_10 c arg3 k f3 (ix2 (0 : Fin 1) l)
      = FloatOps.sitofp (F := F) .f32 (popW (codeOf c arg3 k f3 l)) := by
  unfold tripFull.sl.r_10 k0_pay93
  dsimp only
  show FloatOps.sitofp .f32 (shapeCast S1x128 _ _ (ix2 (0 : Fin 1) l)) = _
  refine congrArg (FloatOps.sitofp .f32) (((cast1_apply _ _ l).trans (colSum_apply _ _ rfl l)).trans ?_)
  exact Finset.sum_congr rfl fun r _ => pop_apply c arg3 k f3 r l

/-! ## The float operations at an index -/

section
variable {s : Shape} (x y : FVec F s .f32) (j : s.Idx) (a b : F .f32) (hx : x j = a) (hy : y j = b)
include hx hy
theorem addf_step : addf x y j = FloatOps.addf a b := by subst hx; subst hy; rfl
theorem sub_step : subf x y j = FloatOps.subf a b := by subst hx; subst hy; rfl
theorem mul_step : mulf x y j = FloatOps.mulf a b := by subst hx; subst hy; rfl
theorem div_step : divf x y j = FloatOps.divf a b := by subst hx; subst hy; rfl
end

theorem sqrt_step {s : Shape} (x : FVec F s .f32) (j : s.Idx) (a : F .f32) (hx : x j = a) : sqrt x j = FloatOps.sqrt a := by
  subst hx; rfl

/-! ## The statistics -/

/-- The gathered statistics at a row and lane. -/
theorem stats_apply (inb : ∀ d, (![0, 0] : Fin 2 → ℕ) d + S8x128.size d ≤ S8x128.size d) (r : Fin 8) (l : Fin 128) :
    k0_pay94 (tripFull.sl.v43 c i arg6 (BitVec.ofNat 32 (i 0).val) k f6)
        (arg5.view.readAt (Elt F) (Rect.unit (s := S8x128) ![0, 0] S8x128.size inb).toLoadRect f5) (ix2 r l)
      = stat (arg5.view.read (Elt F) f5) (qOf c i arg6 k f6 l) r := by
  refine (gat c i arg6 k f6 (arg5.view.readAt (Elt F) (Rect.unit (s := S8x128) ![0, 0] S8x128.size inb).toLoadRect f5) r l).trans ?_
  rw [read_stats]

theorem row_at (x : S8x128.Idx → F .f32) (n : Fin 8) (h : S8x128.Slices (![n.val, 0] : Fin 2 → ℕ) S1x128) (l : Fin 128) (a : F .f32)
    (hx : x (ix2 n l) = a) : extractStridedSlice S1x128 ![n.val, 0] x h (ix2 (0 : Fin 1) l) = a := (rowOf_apply x n h l).trans hx

/-- The query norm's row. -/
theorem nq_apply (inb : ∀ d, (![0, 0] : Fin 2 → ℕ) d + S8x128.size d ≤ S8x128.size d) (l : Fin 128) :
    k0_pay95 (tripFull.sl.v43 c i arg6 (BitVec.ofNat 32 (i 0).val) k f6)
        (arg5.view.readAt (Elt F) (Rect.unit (s := S8x128) ![0, 0] S8x128.size inb).toLoadRect f5) (ix2 (0 : Fin 1) l)
      = stat (arg5.view.read (Elt F) f5) (qOf c i arg6 k f6 l) 2 :=
  row_at _ 2 slices_S8x128_o2_0_S1x128 l _ (stats_apply c i arg5 arg6 k f5 f6 inb 2 l)

/-! ## The results, before the mask -/

/-- The candidate's norm and inner product with its own code, from the query's tile. -/
abbrev nrOf (r : Fin 8) (l : Fin 128) : F .f32 := arg7.view.read (Elt F) f7 (ix2 (rowAt i r) (colAt i k l))
abbrev ioOf (r : Fin 8) (l : Fin 128) : F .f32 := arg8.view.read (Elt F) f8 (ix2 (rowAt i r) (colAt i k l))

/-- The estimate at a row and lane. -/
abbrev estOf (r : Fin 8) (l : Fin 128) : F .f32 :=
  estF (arg5.view.read (Elt F) f5) (qOf c i arg6 k f6 l)
    (ipW (codeOf c arg3 k f3 l) (arg4.view.read (Elt F) f4) (qOf c i arg6 k f6 l)) (popW (codeOf c arg3 k f3 l)) (ioOf c i arg8 k f8 r l)

theorem est_apply (inb : ∀ d, (![0, 0] : Fin 2 → ℕ) d + S8x128.size d ≤ S8x128.size d)
    (inb8 : ∀ d, (k0_off2 i k) d + S8x128.size d ≤ S24x8192.size d) (r : Fin 8) (l : Fin 128) :
    k0_pay96 (tripFull.sl.v43 c i arg6 (BitVec.ofNat 32 (i 0).val) k f6)
        (tripFull.sl.r_9 c i arg3 arg4 arg6 (BitVec.ofNat 32 (i 0).val) k f3 f4 f6) (tripFull.sl.r_10 c arg3 k f3)
        (arg5.view.readAt (Elt F) (Rect.unit (s := S8x128) ![0, 0] S8x128.size inb).toLoadRect f5)
        (arg8.view.readAt (Elt F) (Rect.unit (s := S24x8192) (k0_off2 i k) S8x128.size inb8).toLoadRect f8) (ix2 r l)
      = estOf c i arg3 arg4 arg5 arg6 arg8 k f3 f4 f5 f6 f8 r l := by
  have s0 := row_at _ 0 slices_S8x128_o0_0_S1x128 l _ (stats_apply c i arg5 arg6 k f5 f6 inb 0 l)
  have s1 := row_at _ 1 slices_S8x128_o1_0_S1x128 l _ (stats_apply c i arg5 arg6 k f5 f6 inb 1 l)
  have s3 := row_at _ 3 slices_S8x128_o3_0_S1x128 l _ (stats_apply c i arg5 arg6 k f5 f6 inb 3 l)
  have s2 := nq_apply c i arg5 arg6 k f5 f6 inb l
  have hio := read_tile c i k arg8 f8 inb8 r l
  have hip := ip_apply c i arg3 arg4 arg6 k f3 f4 f6 l
  have hpop := popf_apply c arg3 k f3 l
  exact div_step _ _ _ _ _
    ((rowTo_apply _ _ r l).trans (sub_step _ _ _ _ _
      (div_step _ _ _ _ _
        (sub_step _ _ _ _ _
          (addf_step _ _ _ _ _
            (mul_step _ _ _ _ _ (mul_step _ _ _ _ _ rfl s0) hip)
            (mul_step _ _ _ _ _ (mul_step _ _ _ _ _ rfl s1) hpop))
          (mul_step _ _ _ _ _ s0 s3))
        rfl)
      (mul_step _ _ _ _ _ rfl s1)))
    (mul_step _ _ _ _ _ ((rowTo_apply _ _ r l).trans s2) hio)

/-- Twice the product of the norms at a row and lane. -/
theorem nn2_apply (inb : ∀ d, (![0, 0] : Fin 2 → ℕ) d + S8x128.size d ≤ S8x128.size d)
    (inb7 : ∀ d, (k0_off2 i k) d + S8x128.size d ≤ S24x8192.size d) (r : Fin 8) (l : Fin 128) :
    k0_pay98 (tripFull.sl.v43 c i arg6 (BitVec.ofNat 32 (i 0).val) k f6)
        (arg5.view.readAt (Elt F) (Rect.unit (s := S8x128) ![0, 0] S8x128.size inb).toLoadRect f5)
        (arg7.view.readAt (Elt F) (Rect.unit (s := S24x8192) (k0_off2 i k) S8x128.size inb7).toLoadRect f7) (ix2 r l)
      = nn2F (arg5.view.read (Elt F) f5) (qOf c i arg6 k f6 l) (nrOf c i arg7 k f7 r l) :=
  mul_step _ _ _ _ _ (mul_step _ _ _ _ _ rfl (read_tile c i k arg7 f7 inb7 r l))
    ((rowTo_apply _ _ r l).trans (nq_apply c i arg5 arg6 k f5 f6 inb l))

/-- The distance at a row and lane. -/
abbrev distOf (r : Fin 8) (l : Fin 128) : F .f32 :=
  distF (arg5.view.read (Elt F) f5) (qOf c i arg6 k f6 l) (nrOf c i arg7 k f7 r l) (estOf c i arg3 arg4 arg5 arg6 arg8 k f3 f4 f5 f6 f8 r l)

theorem dist_apply (inb : ∀ d, (![0, 0] : Fin 2 → ℕ) d + S8x128.size d ≤ S8x128.size d)
    (inb7 inb8 : ∀ d, (k0_off2 i k) d + S8x128.size d ≤ S24x8192.size d) (r : Fin 8) (l : Fin 128) :
    k0_pay97 (tripFull.sl.v43 c i arg6 (BitVec.ofNat 32 (i 0).val) k f6)
        (tripFull.sl.r_9 c i arg3 arg4 arg6 (BitVec.ofNat 32 (i 0).val) k f3 f4 f6) (tripFull.sl.r_10 c arg3 k f3)
        (arg5.view.readAt (Elt F) (Rect.unit (s := S8x128) ![0, 0] S8x128.size inb).toLoadRect f5)
        (arg7.view.readAt (Elt F) (Rect.unit (s := S24x8192) (k0_off2 i k) S8x128.size inb7).toLoadRect f7)
        (arg8.view.readAt (Elt F) (Rect.unit (s := S24x8192) (k0_off2 i k) S8x128.size inb8).toLoadRect f8) (ix2 r l)
      = distOf c i arg3 arg4 arg5 arg6 arg7 arg8 k f3 f4 f5 f6 f7 f8 r l := by
  have s2 := nq_apply c i arg5 arg6 k f5 f6 inb l
  have hnr := read_tile c i k arg7 f7 inb7 r l
  exact sub_step _ _ _ _ _
    (addf_step _ _ _ _ _ (mul_step _ _ _ _ _ hnr hnr) ((rowTo_apply _ _ r l).trans (mul_step _ _ _ _ _ s2 s2)))
    (mul_step _ _ _ _ _ (mul_step _ _ _ _ _ (mul_step _ _ _ _ _ rfl hnr) ((rowTo_apply _ _ r l).trans s2))
      (est_apply c i arg3 arg4 arg5 arg6 arg8 k f3 f4 f5 f6 f8 inb inb8 r l))

/-! ## The mask and the row select -/

/-- The lane's column, as the body's mask computes it, is the column's word. -/
theorem mask_apply (l : Fin 128) (r : Fin 8) :
    k0_pay99 (F := F) v1 (iota .tc S8x128 32 [1] iota_S8x128_d1_w32) (colW i k) (ix2 r l)
      = IntOp.cmpi .slt (BitVec.ofNat 32 (colAt i k l).val) v1 := by
  show IntOp.cmpi .slt (IntOp.addi (iota .tc S8x128 32 [1] iota_S8x128_d1_w32 (ix2 r l)) (colW i k)) v1 = _
  rw [colW_eq, show iota .tc S8x128 32 [1] iota_S8x128_d1_w32 (ix2 r l) = BitVec.ofNat 32 l.val from by pointwise]
  congr 1
  show BitVec.ofNat 32 l.val + BitVec.ofNat 32 _ = _
  rw [← BitVec.ofNat_add]
  congr 1
  show _ = 2048 * (i 1).val + 128 * k.val + l.val
  omega

/-- Where the first column of the block is not below the count, none is. -/
theorem mask_dead (v1 : BitVec 32) (h : ¬ (colW i k).slt v1 = true) (l : Fin 128) (x : F .f32) :
    maskF (BitVec.ofNat 32 (colAt i k l).val) v1 x = Scalar.ofBits .f32 0x00000000#32 := by
  have hc : IntOp.cmpi .slt (BitVec.ofNat 32 (colAt i k l).val) v1 = 0#1 := by
    have h1 := grid_lt1 i
    have h2 := trip_lt k
    rw [colW_eq, BitVec.slt_iff_toInt_lt] at h
    unfold IntOp.cmpi
    have : (BitVec.ofNat 32 (colAt i k l).val).slt v1 = false := by
      rw [Bool.eq_false_iff]
      intro h'
      rw [BitVec.slt_iff_toInt_lt] at h'
      apply h
      refine lt_of_le_of_lt ?_ h'
      show (BitVec.ofNat 32 _).toInt ≤ (BitVec.ofNat 32 (2048 * (i 1).val + 128 * k.val + l.val)).toInt
      rw [BitVec.toInt_ofNat', BitVec.toInt_ofNat']
      have := l.isLt
      simp only [Int.bmod]
      omega
    simp only [this]
    rfl
  unfold maskF
  rw [hc]
  rfl

theorem sel_step (b : Fin 8) (x y : FVec F S8x128 .f32) (z : S8x128.Idx → F .f32) (r : Fin 8) (l : Fin 128) (a o : F .f32)
    (hb : b.val = (i 0).val % 8)
    (hx : r = b → x (ix2 r l) = a) (hy : y (ix2 r l) = o) :
    select (k0_pay1 i) x y (ix2 r l) = if r = b then a else o := by
  show Scalar.select (k0_pay1 i (ix2 r l)) (x (ix2 r l)) (y (ix2 r l)) = _
  rw [pay1_apply]
  by_cases h : r = b
  · rw [if_pos h, if_pos (by rw [h, hb]), hx h]; rfl
  · rw [if_neg h, if_neg (fun e => h (Fin.ext (e.trans hb.symm))), hy]; rfl

end

end Cert.Kernel.Scan

end
-- ==== Proof.Scan.TripRun.lean ====
/- One trip of the scan's inner loop: its row and column block of each result hold the candidates' values afterwards,
   everything else what it held. -/
module

public import proofs.«01_k».proof.Proof.Scan.Pieces
public import Idealize.ShloMosaic.Lib.WritesUnit
public import Idealize.ShloMosaic.Lib.Pipeline.Kit

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## A query's results at a column, from the blocks staged -/

section
variable (x3 : S16x96x128.Idx → BitVec 32) (x4 : S384x128.Idx → BitVec 32) (x5 : S8x128.Idx → F .f32)
  (x6 : S24x8192.Idx → BitVec 32) (x7 x8 : S24x8192.Idx → F .f32) (b : Fin 24) (n : BitVec 32) (col : Fin 8192)

/-- The code of the candidate at a column: the block holds the columns of one step. -/
def codeB (w : Fin 96) : BitVec 32 :=
  x3 (ix3 (⟨col.val % 2048 / 128, by omega⟩ : Fin 16) w (⟨col.val % 128, by omega⟩ : Fin 128))

/-- The tables' column it reads. -/
def qB : Fin 128 := laneOf (comboW b.val (x6 (ix2 b col)))

def estB : F .f32 := estF x5 (qB x6 b col) (ipW (codeB x3 col) x4 (qB x6 b col)) (popW (codeB x3 col)) (x8 (ix2 b col))
def distB : F .f32 := distF x5 (qB x6 b col) (x7 (ix2 b col)) (estB x3 x4 x5 x6 x8 b col)
def errB : F .f32 := errF x5 (qB x6 b col) (x7 (ix2 b col)) (x8 (ix2 b col))

/-- The three results stored at a column. -/
def out9 : F .f32 := maskF (BitVec.ofNat 32 col.val) n (distB x3 x4 x5 x6 x7 x8 b col)
def out10 : F .f32 := maskF (BitVec.ofNat 32 col.val) n (errB x5 x6 x7 x8 b col)
def out11 : F .f32 := maskF (BitVec.ofNat 32 col.val) n (estB x3 x4 x5 x6 x8 b col)
end

/-! ## What a trip's store leaves -/

/-- `y` is `x` with row `i 0`, columns of block `k`, replaced by `val`. -/
def Stored (i : grid0.Coords) (k : ℕ) (x y : S24x8192.Idx → F .f32) (val : Fin 8192 → F .f32) : Prop :=
  ∀ (row : Fin 24) (col : Fin 8192), y (ix2 row col)
    = if row.val = (i 0).val ∧ col.val / 128 = 16 * (i 1).val + k then val col else x (ix2 row col)

/-- The query's row. -/
def rowB (i : grid0.Coords) : Fin 24 := ⟨(i 0).val, by have := grid_lt0 i; omega⟩
def subB (i : grid0.Coords) : Fin 8 := ⟨(i 0).val % 8, Nat.mod_lt _ (by decide)⟩

theorem rowAt_subB (i : grid0.Coords) : rowAt i (subB i) = rowB i := Fin.ext (by
  show 8 * ((i 0).val / 8) + (i 0).val % 8 = (i 0).val
  omega)

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

theorem stored_of_piece (a : Memref sig .tc .vmem S24x8192 .f32) (f : Buf (Elt F) (a.view.loc (c : Thread nD τ)))
    (off : Fin 2 → ℕ) (heq : off = ![8 * ((i 0).val / 8), 2048 * (i 1).val + 128 * k.val])
    (inb : ∀ d, off d + S8x128.size d ≤ S24x8192.size d) (p : Vec F S8x128 .f32) (val : Fin 8192 → F .f32)
    (hp : ∀ r l, p (ix2 r l) = if r = subB i then val (colAt i k l) else a.view.read (Elt F) f (ix2 (rowAt i r) (colAt i k l))) :
    Stored i k.val (a.view.read (Elt F) f)
      (a.view.read (Elt F) (a.view.writes (Elt F) f [⟨Rect.unit (s := S24x8192) off S8x128.size inb, p⟩])) val := by
  intro row col
  have h0 := grid_lt0 i
  have h1 := grid_lt1 i
  have h2 := trip_lt k
  by_cases hc : col.val / 128 = 16 * (i 1).val + k.val
  · by_cases hr : row.val / 8 = (i 0).val / 8
    · rw [View.read_writes_cons_unit_of_mem a.view f inb p [] (ix2 row col)
        (ix2 (⟨row.val % 8, Nat.mod_lt _ (by decide)⟩ : Fin 8) (⟨col.val % 128, Nat.mod_lt _ (by decide)⟩ : Fin 128)) heq
        (fun d => by
          match d with
          | ⟨0, _⟩ => show row.val = 8 * ((i 0).val / 8) + row.val % 8; omega
          | ⟨1, _⟩ => show col.val = 2048 * (i 1).val + 128 * k.val + col.val % 128; omega)]
      have e1 : colAt i k (⟨col.val % 128, Nat.mod_lt _ (by decide)⟩ : Fin 128) = col := Fin.ext (by
        show 2048 * (i 1).val + 128 * k.val + col.val % 128 = col.val; omega)
      have e2 : rowAt i (⟨row.val % 8, Nat.mod_lt _ (by decide)⟩ : Fin 8) = row := Fin.ext (by
        show 8 * ((i 0).val / 8) + row.val % 8 = row.val; omega)
      rw [hp, e1, e2]
      by_cases hb : row.val = (i 0).val
      · rw [if_pos (Fin.ext (by show row.val % 8 = (i 0).val % 8; rw [hb])), if_pos ⟨hb, hc⟩]
      · rw [if_neg (fun e => hb (by
          have : row.val % 8 = (i 0).val % 8 := congrArg Fin.val e
          omega)), if_neg (fun e => hb e.1)]
    · rw [View.read_writes_cons_unit_of_not_mem a.view f inb p [] (ix2 row col) heq 0 (by
        show row.val < 8 * ((i 0).val / 8) ∨ 8 * ((i 0).val / 8) + 8 ≤ row.val
        omega), if_neg (fun e => hr (by rw [e.1]))]
      rfl
  · rw [View.read_writes_cons_unit_of_not_mem a.view f inb p [] (ix2 row col) heq 1 (by
      show col.val < 2048 * (i 1).val + 128 * k.val ∨ 2048 * (i 1).val + 128 * k.val + 128 ≤ col.val
      omega), if_neg (fun e => hc e.2)]
    rfl

/-! ## The stored pieces -/

theorem code_eq (l : Fin 128) : codeOf c arg3 k f3 l = codeB (arg3.view.read (Elt F) f3) (colAt i k l) := by
  have h2 := trip_lt k
  have hl := l.isLt
  have e1 : (⟨(colAt i k l).val % 2048 / 128, by omega⟩ : Fin 16) = ⟨k.val, h2⟩ := Fin.ext (by
    show (2048 * (i 1).val + 128 * k.val + l.val) % 2048 / 128 = k.val
    omega)
  have e2 : (⟨(colAt i k l).val % 128, by omega⟩ : Fin 128) = l := Fin.ext (by
    show (2048 * (i 1).val + 128 * k.val + l.val) % 128 = l.val
    omega)
  funext w
  unfold codeB codeOf
  rw [e1, e2]

theorem q_eq (l : Fin 128) : qOf c i arg6 k f6 l = qB (arg6.view.read (Elt F) f6) (rowB i) (colAt i k l) := by
  have := rowAt_subB i
  unfold qOf qB
  rw [show rowAt i ⟨(i 0).val % 8, Nat.mod_lt _ (by decide)⟩ = rowB i from this]
  rfl

theorem est_eq (l : Fin 128) : estOf c i arg3 arg4 arg5 arg6 arg8 k f3 f4 f5 f6 f8 (subB i) l
    = estB (arg3.view.read (Elt F) f3) (arg4.view.read (Elt F) f4) (arg5.view.read (Elt F) f5) (arg6.view.read (Elt F) f6)
      (arg8.view.read (Elt F) f8) (rowB i) (colAt i k l) := by
  unfold estB
  rw [← code_eq c i arg3 k f3 l, ← q_eq c i arg6 k f6 l, ← rowAt_subB i]

theorem dist_eq (l : Fin 128) : distOf c i arg3 arg4 arg5 arg6 arg7 arg8 k f3 f4 f5 f6 f7 f8 (subB i) l
    = distB (arg3.view.read (Elt F) f3) (arg4.view.read (Elt F) f4) (arg5.view.read (Elt F) f5) (arg6.view.read (Elt F) f6)
      (arg7.view.read (Elt F) f7) (arg8.view.read (Elt F) f8) (rowB i) (colAt i k l) := by
  unfold distB
  rw [← est_eq c i arg3 arg4 arg5 arg6 arg8 k f3 f4 f5 f6 f8 l, ← q_eq c i arg6 k f6 l, ← rowAt_subB i]

/-- The three values at a column, from the blocks' buffers. -/
abbrev v9 (v1 : BitVec 32) : Fin 8192 → F .f32 := out9 (arg3.view.read (Elt F) f3) (arg4.view.read (Elt F) f4) (arg5.view.read (Elt F) f5)
  (arg6.view.read (Elt F) f6) (arg7.view.read (Elt F) f7) (arg8.view.read (Elt F) f8) (rowB i) v1
abbrev v10 (v1 : BitVec 32) : Fin 8192 → F .f32 := out10 (arg5.view.read (Elt F) f5)
  (arg6.view.read (Elt F) f6) (arg7.view.read (Elt F) f7) (arg8.view.read (Elt F) f8) (rowB i) v1
abbrev v11 (v1 : BitVec 32) : Fin 8192 → F .f32 := out11 (arg3.view.read (Elt F) f3) (arg4.view.read (Elt F) f4) (arg5.view.read (Elt F) f5)
  (arg6.view.read (Elt F) f6) (arg8.view.read (Elt F) f8) (rowB i) v1

theorem colAt_col (r : Fin 8) (l : Fin 128) (x : FVec F S8x128 .f32) (z : F .f32) (v1 : BitVec 32) (a : F .f32) (hx : x (ix2 r l) = a) :
    select (k0_pay99 (F := F) v1 (iota .tc S8x128 32 [1] iota_S8x128_d1_w32) (colW i k)) x (broadcast S8x128 (Scalar.ofBits .f32 0x00000000#32)) (ix2 r l)
      = maskF (BitVec.ofNat 32 (colAt i k l).val) v1 a := by
  show Scalar.select (k0_pay99 (F := F) v1 (iota .tc S8x128 32 [1] iota_S8x128_d1_w32) (colW i k) (ix2 r l)) (x (ix2 r l)) _ = _
  rw [mask_apply, hx]
  rfl

end

end Cert.Kernel.Scan

end
-- ==== Proof.Scan.TripWp.lean ====
/- The scan's inner loop, trip by trip: the run of one trip, and the loop's invariant. -/
module

public import proofs.«01_k».proof.Proof.Scan.TripRun

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (v1 : Elt F .i32) (v13 : BitVec 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-- The live trip's pieces. -/
theorem full9 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1 (ix2 r l)
      = if r = subB i then (v9 c i arg3 arg4 arg5 arg6 arg7 arg8 f3 f4 f5 f6 f7 f8 v1) (colAt i k l) else arg9.view.read (Elt F) f9 (ix2 (rowAt i r) (colAt i k l)) := by
  unfold tripFull
  refine sel_step i (subB i) _ _ (fun _ => Scalar.ofBits .f32 0x00000000#32) r l _ _ rfl (fun hr => ?_) ?_
  · subst hr
    refine (colAt_col i k (subB i) l _ (Scalar.ofBits .f32 0x00000000#32) v1 _
      (dist_apply c i arg3 arg4 arg5 arg6 arg7 arg8 k f3 f4 f5 f6 f7 f8 _ _ _ (subB i) l)).trans ?_
    rw [dist_eq]
    rfl
  · rw [shapeCast_self]
    exact read_tile c i k arg9 f9 _ r l

theorem full10 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1 (ix2 r l)
      = if r = subB i then (v10 c i arg5 arg6 arg7 arg8 f5 f6 f7 f8 v1) (colAt i k l) else arg10.view.read (Elt F) f10 (ix2 (rowAt i r) (colAt i k l)) := by
  unfold tripFull
  refine sel_step i (subB i) _ _ (fun _ => Scalar.ofBits .f32 0x00000000#32) r l _ _ rfl (fun hr => ?_) ?_
  · subst hr
    have hio := read_tile c i k arg8 f8 (k0_off2_inb i k) (subB i) l
    have hnn := nn2_apply c i arg5 arg6 arg7 k f5 f6 f7 Gen.inb_S8x128_S8x128_0_0 (k0_off2_inb i k) (subB i) l
    refine (colAt_col i k (subB i) l _ (Scalar.ofBits .f32 0x00000000#32) v1 _
      (mul_step _ _ _ _ _ (div_step _ _ _ _ _ (mul_step _ _ _ _ _ hnn
        (sqrt_step _ _ _ (sub_step _ _ _ _ _ rfl (mul_step _ _ _ _ _ hio hio)))) hio) rfl)).trans ?_
    dsimp only [nrOf]
    rw [q_eq, rowAt_subB]
    rfl
  · rw [shapeCast_self]
    exact read_tile c i k arg10 f10 _ r l

theorem full11 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1 (ix2 r l)
      = if r = subB i then (v11 c i arg3 arg4 arg5 arg6 arg8 f3 f4 f5 f6 f8 v1) (colAt i k l) else arg11.view.read (Elt F) f11 (ix2 (rowAt i r) (colAt i k l)) := by
  unfold tripFull
  refine sel_step i (subB i) _ _ (fun _ => Scalar.ofBits .f32 0x00000000#32) r l _ _ rfl (fun hr => ?_) ?_
  · subst hr
    refine (colAt_col i k (subB i) l _ (Scalar.ofBits .f32 0x00000000#32) v1 _
      (est_apply c i arg3 arg4 arg5 arg6 arg8 k f3 f4 f5 f6 f8 _ _ (subB i) l)).trans ?_
    rw [est_eq]
    rfl
  · rw [shapeCast_self]
    exact read_tile c i k arg11 f11 _ r l

/-- A load of the tile a dead trip rewrites. -/
theorem read_tile15 (a : Memref sig .tc .vmem S24x8192 .f32) (f : Buf (Elt F) (a.view.loc (c : Thread nD τ)))
    (inb : ∀ d, (k0_off15 i k) d + S8x128.size d ≤ S24x8192.size d) (r : Fin 8) (l : Fin 128) :
    a.view.readAt (Elt F) (Rect.unit (s := S24x8192) (k0_off15 i k) S8x128.size inb).toLoadRect f (ix2 r l)
      = a.view.read (Elt F) f (ix2 (rowAt i r) (colAt i k l)) := by
  rw [View.readAt_apply]
  refine congrArg (a.view.read (Elt F) f) (funext fun d => Fin.ext ?_)
  have e := congrFun (off15_eq i k) d
  match d, e with
  | ⟨0, _⟩, e => show (k0_off15 i k) 0 + 1 * r.val = _; rw [show (k0_off15 i k) 0 = _ from e, Nat.one_mul]; rfl
  | ⟨1, _⟩, e => show (k0_off15 i k) 1 + 1 * l.val = _; rw [show (k0_off15 i k) 1 = _ from e, Nat.one_mul]; rfl

/-- A dead trip's piece: zeros on the query's row. -/
theorem zero_piece (a : Memref sig .tc .vmem S24x8192 .f32) (f : Buf (Elt F) (a.view.loc (c : Thread nD τ)))
    (inb : ∀ d, (k0_off15 i k) d + S8x128.size d ≤ S24x8192.size d) (h : ¬ k0_cond1 i v1 k = 1#1) (val : Fin 128 → F .f32)
    (r : Fin 8) (l : Fin 128) :
    select (k0_pay1 i) (k0_pay4 (F := F)) (shapeCast S8x128 (a.view.readAt (Elt F)
        (Rect.unit (s := S24x8192) (k0_off15 i k) S8x128.size inb).toLoadRect f) shapeCasts_S8x128_S8x128) (ix2 r l)
      = if r = subB i then maskF (BitVec.ofNat 32 (colAt i k l).val) v1 (val l) else a.view.read (Elt F) f (ix2 (rowAt i r) (colAt i k l)) := by
  refine sel_step i (subB i) _ _ (fun _ => Scalar.ofBits .f32 0x00000000#32) r l _ _ rfl (fun hr => ?_) ?_
  · rw [mask_dead i k v1 (fun e => h ((cond1_iff i v1 k).2 e))]
    rfl
  · refine (congrFun (shapeCast_self _ _) (ix2 r l)).trans ?_
    exact read_tile15 c i k a f _ r l

theorem zero9 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1 (ix2 r l)
      = if r = subB i then (v9 c i arg3 arg4 arg5 arg6 arg7 arg8 f3 f4 f5 f6 f7 f8 v1) (colAt i k l) else arg9.view.read (Elt F) f9 (ix2 (rowAt i r) (colAt i k l)) := by
  unfold tripZero
  exact zero_piece c i v1 k arg9 f9 _ h1 (fun l => _) r l

theorem zero10 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1 (ix2 r l)
      = if r = subB i then (v10 c i arg5 arg6 arg7 arg8 f5 f6 f7 f8 v1) (colAt i k l) else arg10.view.read (Elt F) f10 (ix2 (rowAt i r) (colAt i k l)) := by
  unfold tripZero
  exact zero_piece c i v1 k arg10 f10 _ h1 (fun l => _) r l

theorem zero11 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1 (ix2 r l)
      = if r = subB i then (v11 c i arg3 arg4 arg5 arg6 arg8 f3 f4 f5 f6 f8 v1) (colAt i k l) else arg11.view.read (Elt F) f11 (ix2 (rowAt i r) (colAt i k l)) := by
  unfold tripZero
  exact zero_piece c i v1 k arg11 f11 _ h1 (fun l => _) r l

/-! ## One trip -/

theorem trip_run :
    iprop(Ins c arg3 arg4 arg5 arg6 arg7 arg8 f3 f4 f5 f6 f7 f8 ∗ Held c arg9 f9 ∗ Held c arg10 f10 ∗ Held c arg11 f11)
    ⊢ wp frame (wpE (defs₀ (F := F)) Variants.none (c : Thread nD τ) none) Set.univ
        (tripP (F := F) i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k)
        (fun _ => iprop(Ins c arg3 arg4 arg5 arg6 arg7 arg8 f3 f4 f5 f6 f7 f8
          ∗ iprop(∃ g : Buf (Elt F) (arg9.view.loc (c : Thread nD τ)), ⌜Stored i k.val (arg9.view.read (Elt F) f9) (arg9.view.read (Elt F) g) (v9 c i arg3 arg4 arg5 arg6 arg7 arg8 f3 f4 f5 f6 f7 f8 v1)⌝ ∗ Held c arg9 g)
          ∗ iprop(∃ g : Buf (Elt F) (arg10.view.loc (c : Thread nD τ)), ⌜Stored i k.val (arg10.view.read (Elt F) f10) (arg10.view.read (Elt F) g) (v10 c i arg5 arg6 arg7 arg8 f5 f6 f7 f8 v1)⌝ ∗ Held c arg10 g)
          ∗ iprop(∃ g : Buf (Elt F) (arg11.view.loc (c : Thread nD τ)), ⌜Stored i k.val (arg11.view.read (Elt F) f11) (arg11.view.read (Elt F) g) (v11 c i arg3 arg4 arg5 arg6 arg8 f3 f4 f5 f6 f8 v1)⌝ ∗ Held c arg11 g))) := by
  by_cases h1 : k0_cond1 i v1 k = 1#1
  · have h2 : ¬ k0_cond2 i v1 k = 1#1 := fun e => (cond2_iff i v1 k).1 e h1
    iintro H
    iapply (wp_wand_r frame (wpE (defs₀ (F := F)) Variants.none (c : Thread nD τ) none) Set.univ)
    isplitl [H]
    · iapply (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.2
      iexact H
    iintro %_ ⟨HI, H9, H10, H11⟩
    isplitl [HI]; · iexact HI
    isplitl [H9]
    · iexists arg9.view.writes (Elt F) f9 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1⟩]
      isplitr; · ipureintro; exact stored_of_piece c i k arg9 f9 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1 _ (full9 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H9
    isplitl [H10]
    · iexists arg10.view.writes (Elt F) f10 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1⟩]
      isplitr; · ipureintro; exact stored_of_piece c i k arg10 f10 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1 _ (full10 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H10
    iexists arg11.view.writes (Elt F) f11 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1⟩]
    isplitr; · ipureintro; exact stored_of_piece c i k arg11 f11 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1 _ (full11 c i arg2 harg2 arg3 harg3 arg4 harg4 arg5 harg5 arg6 harg6 arg7 harg7 arg8 harg8 arg9 harg9 arg10 harg10 arg11 harg11 v1 v13 k f3 f4 f5 f6 f7 f8 f9 f10 f11 h1 h2)
    iexact H11
  · have h2 : k0_cond2 i v1 k = 1#1 := (cond2_iff i v1 k).2 h1
    iintro ⟨HI, H⟩
    iapply (wp_wand_r frame (wpE (defs₀ (F := F)) Variants.none (c : Thread nD τ) none) Set.univ)
    isplitl [H]
    · iapply (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.2
      iexact H
    iintro %_ ⟨H9, H10, H11⟩
    isplitl [HI]; · iexact HI
    isplitl [H9]
    · iexists arg9.view.writes (Elt F) f9 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1⟩]
      isplitr; · ipureintro; exact stored_of_piece c i k arg9 f9 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1 _ (zero9 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H9
    isplitl [H10]
    · iexists arg10.view.writes (Elt F) f10 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1⟩]
      isplitr; · ipureintro; exact stored_of_piece c i k arg10 f10 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1 _ (zero10 c i arg2 harg2 arg3 harg3 arg4 harg4 arg5 harg5 arg6 harg6 arg7 harg7 arg8 harg8 arg9 harg9 arg10 harg10 arg11 harg11 v1 v13 k f5 f6 f7 f8 f9 f10 f11 h1 h2)
      iexact H10
    iexists arg11.view.writes (Elt F) f11 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1⟩]
    isplitr; · ipureintro; exact stored_of_piece c i k arg11 f11 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1 _ (zero11 c i arg2 harg2 arg3 harg3 arg4 harg4 arg5 harg5 arg6 harg6 arg7 harg7 arg8 harg8 arg9 harg9 arg10 harg10 arg11 harg11 v1 v13 k f3 f4 f5 f6 f8 f9 f10 f11 h1 h2)
    iexact H11

end

end Cert.Kernel.Scan

end
-- ==== Proof.Scan.Loop.lean ====
/- The scan's inner loop and the body over it: one grid point replaces the query's row, over the step's columns, by the
   candidates' values. -/
module

public import proofs.«01_k».proof.Proof.Scan.TripWp

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `y` is `x` with the query's row replaced by `val` over the step's first `k` column blocks. -/
def Upto (i : grid0.Coords) (k : ℕ) (x y : S24x8192.Idx → F .f32) (val : Fin 8192 → F .f32) : Prop :=
  ∀ (row : Fin 24) (col : Fin 8192), y (ix2 row col)
    = if row.val = (i 0).val ∧ 16 * (i 1).val ≤ col.val / 128 ∧ col.val / 128 < 16 * (i 1).val + k then val col else x (ix2 row col)

theorem upto_zero (i : grid0.Coords) (x : S24x8192.Idx → F .f32) (val : Fin 8192 → F .f32) : Upto i 0 x x val := by
  intro row col
  rw [if_neg (by omega)]

theorem upto_succ (i : grid0.Coords) (k : ℕ) (x y z : S24x8192.Idx → F .f32) (val : Fin 8192 → F .f32)
    (h : Upto i k x y val) (h' : Stored i k y z val) : Upto i (k + 1) x z val := by
  intro row col
  rw [h' row col, h row col]
  by_cases hr : row.val = (i 0).val
  · by_cases hk : col.val / 128 = 16 * (i 1).val + k
    · rw [if_pos ⟨hr, hk⟩, if_pos ⟨hr, by omega, by omega⟩]
    · rw [if_neg (fun e => hk e.2)]
      by_cases hc : 16 * (i 1).val ≤ col.val / 128 ∧ col.val / 128 < 16 * (i 1).val + k
      · rw [if_pos ⟨hr, hc⟩, if_pos ⟨hr, hc.1, by omega⟩]
      · rw [if_neg (fun e => hc e.2), if_neg (fun e => hc ⟨e.2.1, by omega⟩)]
  · rw [if_neg (fun e => hr e.1), if_neg (fun e => hr e.1), if_neg (fun e => hr e.1)]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (v1 : Elt F .i32) (v13 : BitVec 32)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-- The buffers before trip `k`. -/
def loopI (k : ℕ) : sProp 𝕄 :=
  iprop(Ins c arg3 arg4 arg5 arg6 arg7 arg8 f3 f4 f5 f6 f7 f8
    ∗ iprop(∃ g : Buf (Elt F) (arg9.view.loc (c : Thread nD τ)), ⌜Upto i (k) (arg9.view.read (Elt F) f9) (arg9.view.read (Elt F) g) (v9 c i arg3 arg4 arg5 arg6 arg7 arg8 f3 f4 f5 f6 f7 f8 v1)⌝ ∗ Held c arg9 g)
    ∗ iprop(∃ g : Buf (Elt F) (arg10.view.loc (c : Thread nD τ)), ⌜Upto i (k) (arg10.view.read (Elt F) f10) (arg10.view.read (Elt F) g) (v10 c i arg5 arg6 arg7 arg8 f5 f6 f7 f8 v1)⌝ ∗ Held c arg10 g)
    ∗ iprop(∃ g : Buf (Elt F) (arg11.view.loc (c : Thread nD τ)), ⌜Upto i (k) (arg11.view.read (Elt F) f11) (arg11.view.read (Elt F) g) (v11 c i arg3 arg4 arg5 arg6 arg8 f3 f4 f5 f6 f8 v1)⌝ ∗ Held c arg11 g))

theorem loop_step (k : Fin k0_t1_loop.trips) :
    loopI c i arg3 arg4 arg5 arg6 arg7 arg8 arg9 arg10 arg11 v1 f3 f4 f5 f6 f7 f8 f9 f10 f11 k.val
    ⊢ wp frame (wpE (defs₀ (F := F)) Variants.none (c : Thread nD τ) none) Set.univ
        (tripP (F := F) i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k)
        (fun _ => loopI c i arg3 arg4 arg5 arg6 arg7 arg8 arg9 arg10 arg11 v1 f3 f4 f5 f6 f7 f8 f9 f10 f11 (k.val + 1)) := by
  unfold loopI
  iintro ⟨HI, ⟨%g9, %h9, H9⟩, ⟨%g10, %h10, H10⟩, ⟨%g11, %h11, H11⟩⟩
  iapply (wp_wand_r frame (wpE (defs₀ (F := F)) Variants.none (c : Thread nD τ) none) Set.univ)
  isplitl [HI H9 H10 H11]
  · iapply (trip_run c i arg2 harg2 arg3 harg3 arg4 harg4 arg5 harg5 arg6 harg6 arg7 harg7 arg8 harg8 arg9 harg9 arg10 harg10 arg11 harg11 v1 v13 k f3 f4 f5 f6 f7 f8 g9 g10 g11)
    isplitl [HI]; · iexact HI
    isplitl [H9]; · iexact H9
    isplitl [H10]; · iexact H10
    iexact H11
  iintro %_ ⟨HI, ⟨%e9, %k9, H9⟩, ⟨%e10, %k10, H10⟩, ⟨%e11, %k11, H11⟩⟩
  isplitl [HI]; · iexact HI
  isplitl [H9]
  · iexists e9
    isplitr; · ipureintro; exact upto_succ i k.val _ _ _ _ h9 k9
    iexact H9
  isplitl [H10]
  · iexists e10
    isplitr; · ipureintro; exact upto_succ i k.val _ _ _ _ h10 k10
    iexact H10
  iexists e11
  isplitr; · ipureintro; exact upto_succ i k.val _ _ _ _ h11 k11
  iexact H11

set_option warn.classDefReducibility false in
/-- The loop's invariant, one trip by `trip_run`. -/
@[sl_loop] def loopInv : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) where
  inv k _ := loopI c i arg3 arg4 arg5 arg6 arg7 arg8 arg9 arg10 arg11 v1 f3 f4 f5 f6 f7 f8 f9 f10 f11 k
  step k _ := loop_step c i arg2 harg2 arg3 harg3 arg4 harg4 arg5 harg5 arg6 harg6 arg7 harg7 arg8 harg8 arg9 harg9 arg10 harg10 arg11 harg11 v1 v13 f3 f4 f5 f6 f7 f8 f9 f10 f11 k

theorem loop_first (x : Unit) :
    iprop(Ins c arg3 arg4 arg5 arg6 arg7 arg8 f3 f4 f5 f6 f7 f8 ∗ Held c arg9 f9 ∗ Held c arg10 f10 ∗ Held c arg11 f11)
    ⊢ (loopInv c i arg2 harg2 arg3 harg3 arg4 harg4 arg5 harg5 arg6 harg6 arg7 harg7 arg8 harg8 arg9 harg9 arg10 harg10 arg11 harg11 v1 v13 f3 f4 f5 f6 f7 f8 f9 f10 f11).inv 0 x := by
  show _ ⊢ loopI c i arg3 arg4 arg5 arg6 arg7 arg8 arg9 arg10 arg11 v1 f3 f4 f5 f6 f7 f8 f9 f10 f11 0
  unfold loopI
  iintro ⟨HI, H9, H10, H11⟩
  isplitl [HI]; · iexact HI
  isplitl [H9]
  · iexists f9
    isplitr; · ipureintro; exact upto_zero i _ _
    iexact H9
  isplitl [H10]
  · iexists f10
    isplitr; · ipureintro; exact upto_zero i _ _
    iexact H10
  iexists f11
  isplitr; · ipureintro; exact upto_zero i _ _
  iexact H11

theorem loop_last (x : Unit) :
    (loopInv c i arg2 harg2 arg3 harg3 arg4 harg4 arg5 harg5 arg6 harg6 arg7 harg7 arg8 harg8 arg9 harg9 arg10 harg10 arg11 harg11 v1 v13 f3 f4 f5 f6 f7 f8 f9 f10 f11).inv k0_t1_loop.trips x ⊢ loopI c i arg3 arg4 arg5 arg6 arg7 arg8 arg9 arg10 arg11 v1 f3 f4 f5 f6 f7 f8 f9 f10 f11 16 := by
  show loopI c i arg3 arg4 arg5 arg6 arg7 arg8 arg9 arg10 arg11 v1 f3 f4 f5 f6 f7 f8 f9 f10 f11 k0_t1_loop.trips ⊢ _
  rw [trips_eq]

theorem off1_eq : ∀ i : grid0.Coords, k0_off1 i = ![(i 0).val] := by decide +kernel

/-- The word of the lengths' table at the point. -/
def lenAt (i : grid0.Coords) (x2 : S18.Idx → BitVec 32) : BitVec 32 :=
  x2 (ix1 (⟨(i 0).val, grid_lt0 i⟩ : Fin 18))

/-- The whole body at a point. -/
theorem body_run (q : PosShare TreeShare) (f2 : Buf (Elt F) (arg2.view.loc (c : Thread nD τ)))
    (hv : v1 = lenAt i (arg2.view.read (Elt F) f2)) :
    iprop((arg2.view.loc (c : Thread nD τ) ↦[arg2.view.set]{q} f2) ∗ Ins c arg3 arg4 arg5 arg6 arg7 arg8 f3 f4 f5 f6 f7 f8 ∗ Held c arg9 f9 ∗ Held c arg10 f10 ∗ Held c arg11 f11)
    ⊢ wp frame (wpE (defs₀ (F := F)) Variants.none (c : Thread nD τ) none) Set.univ
        (cc0_scan_skel (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{q} f2)
          ∗ loopI c i arg3 arg4 arg5 arg6 arg7 arg8 arg9 arg10 arg11 v1 f3 f4 f5 f6 f7 f8 f9 f10 f11 16)) := by
  unfold cc0_scan_skel
  iintro ⟨H2, H⟩
  sl_exec
  have hr : body_run.sl.r c i arg2 f2 = lenAt i (arg2.view.read (Elt F) f2) := by
    unfold body_run.sl.r lenAt
    rw [View.readAt_apply]
    refine congrArg (arg2.view.read (Elt F) f2) (funext fun d => Fin.ext ?_)
    have e := congrFun (off1_eq i) d
    match d, e with
    | ⟨0, _⟩, e => show (k0_off1 i) 0 + 1 * 0 = _; rw [show (k0_off1 i) 0 = _ from e]; rfl
  rw [hr, ← hv]
  iapply (exec_loop Idealize.ShloMosaic.frame (wpE (defs₀ (F := F)) Variants.none (c : Thread nD τ) none) Set.univ _ _ _ k0_t1_ok () _ (loopInv c i arg2 harg2 arg3 harg3 arg4 harg4 arg5 harg5 arg6 harg6 arg7 harg7 arg8 harg8 arg9 harg9 arg10 harg10 arg11 harg11 v1 _ f3 f4 f5 f6 f7 f8 f9 f10 f11)) $$ [H]
  · iapply (loop_first c i arg2 harg2 arg3 harg3 arg4 harg4 arg5 harg5 arg6 harg6 arg7 harg7 arg8 harg8 arg9 harg9 arg10 harg10 arg11 harg11 v1 _ f3 f4 f5 f6 f7 f8 f9 f10 f11)
    iexact H
  iintro %_ H
  sl_step
  isplitl [H2]; · iexact H2
  iapply (loop_last c i arg2 harg2 arg3 harg3 arg4 harg4 arg5 harg5 arg6 harg6 arg7 harg7 arg8 harg8 arg9 harg9 arg10 harg10 arg11 harg11 v1 _ f3 f4 f5 f6 f7 f8 f9 f10 f11)
  iexact H

end

end Cert.Kernel.Scan

end
-- ==== Proof.Chunk.lean ====
/- The chunk of a query's candidates a step stages, as words. -/
module

public import Idealize.ShloMosaic.PureOps

@[expose] public section

set_option maxRecDepth 16384

noncomputable section

namespace Cert.Chunk

open Idealize.ShloMosaic

/-- The last chunk holding a candidate of a query of length `n`, as the index map computes it. -/
def lastW (n : BitVec 32) : BitVec 32 :=
  let v3 : BitVec 32 := Scalar.subi (Scalar.addi n 2048#32) 1#32
  let v4 : BitVec 32 := Scalar.divsi v3 2048#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 2048#32 0#32)) (Scalar.extui (Scalar.cmpi .slt 2048#32 0#32))
  let v18 : BitVec 1 := Scalar.andi (Scalar.cmpi .ne v9 v14) (Scalar.cmpi .ne (Scalar.remsi v3 2048#32) 0#32)
  Scalar.subi (Scalar.select v18 (Scalar.subi v4 1#32) v4) 1#32

/-- The chunk the step `s` stages. -/
def chunkW (s : ℕ) (w : BitVec 32) : BitVec 32 := Scalar.minsi (BitVec.ofNat 32 s) (Scalar.maxsi w 0#32)

theorem chunkW_le (s : ℕ) (hs : s < 4) (w : BitVec 32) : (chunkW s w).toNat ≤ s := by
  have h0 : ((0#32 : BitVec 32)).toInt = 0 := by decide
  have hm : ∀ m : BitVec 32, 0 ≤ m.toInt → (Scalar.minsi (BitVec.ofNat 32 s) m).toNat ≤ s := by
    intro m hm
    unfold Scalar.minsi IntOp.minsi
    have e : (BitVec.ofNat 32 s).toInt = s := by
      rw [BitVec.toInt_eq_toNat_cond, BitVec.toNat_ofNat, Nat.mod_eq_of_lt (by omega), if_pos (by omega)]
    by_cases h : (BitVec.ofNat 32 s).slt m = true
    · rw [if_pos h, BitVec.toNat_ofNat, Nat.mod_eq_of_lt (by omega)]
    · rw [if_neg h]
      rw [BitVec.slt_iff_toInt_lt, e] at h
      rw [BitVec.toInt_eq_toNat_cond] at h hm
      have := m.isLt
      split at h <;> omega
  refine hm _ ?_
  unfold Scalar.maxsi IntOp.maxsi
  by_cases h : (0#32 : BitVec 32).slt w = true
  · rw [if_pos h]
    rw [BitVec.slt_iff_toInt_lt, h0] at h
    omega
  · rw [if_neg h, h0]

theorem lastW_eq (n : ℕ) (hn : n ≤ 8192) : lastW (BitVec.ofNat 32 n) = BitVec.ofNat 32 ((n + 2047) / 2048) - 1#32 := by
  have e3 : Scalar.subi (Scalar.addi (BitVec.ofNat 32 n) 2048#32) 1#32 = BitVec.ofNat 32 (n + 2047) := by
    show BitVec.ofNat 32 n + 2048#32 - 1#32 = _
    apply BitVec.eq_of_toNat_eq
    rw [BitVec.toNat_sub, BitVec.toNat_add, BitVec.toNat_ofNat, BitVec.toNat_ofNat, BitVec.toNat_ofNat, BitVec.toNat_ofNat]
    omega
  have et : (BitVec.ofNat 32 (n + 2047)).toNat = n + 2047 := by rw [BitVec.toNat_ofNat]; omega
  have ei : (BitVec.ofNat 32 (n + 2047)).toInt = ((n + 2047 : ℕ) : ℤ) := by
    rw [BitVec.toInt_eq_toNat_cond, et, if_pos (by omega)]
  have h0 : ((0#32 : BitVec 32)).toInt = 0 := by decide
  have e5 : Scalar.cmpi .sgt (BitVec.ofNat 32 (n + 2047)) 0#32 = 1#1 := by
    show BitVec.ofBool (BitVec.slt 0#32 (BitVec.ofNat 32 (n + 2047))) = 1#1
    rw [show BitVec.slt 0#32 (BitVec.ofNat 32 (n + 2047)) = true by
      rw [BitVec.slt_iff_toInt_lt, h0, ei]; omega]
    rfl
  have e7 : Scalar.cmpi .slt (BitVec.ofNat 32 (n + 2047)) 0#32 = 0#1 := by
    show BitVec.ofBool (BitVec.slt (BitVec.ofNat 32 (n + 2047)) 0#32) = 0#1
    rw [show BitVec.slt (BitVec.ofNat 32 (n + 2047)) 0#32 = false by
      rw [← Bool.not_eq_true, BitVec.slt_iff_toInt_lt, h0, ei]; omega]
    rfl
  have e18 : ∀ x : BitVec 1, Scalar.andi (Scalar.cmpi .ne (Scalar.subi (Scalar.extui (1#1 : BitVec 1)) (Scalar.extui (0#1 : BitVec 1)))
      (Scalar.subi (Scalar.extui (Scalar.cmpi .sgt 2048#32 0#32)) (Scalar.extui (Scalar.cmpi .slt 2048#32 0#32)) : BitVec 32)) x = 0#1 := by
    decide
  have e4 : Scalar.divsi (BitVec.ofNat 32 (n + 2047)) 2048#32 = BitVec.ofNat 32 ((n + 2047) / 2048) := by
    unfold Scalar.divsi IntOp.divsi
    rw [if_neg (by
      unfold IntOp.SDivCorner
      rintro (h | h)
      · exact absurd h (by decide)
      · exact absurd h.2 (by decide))]
    rw [BitVec.sdiv_eq, show (BitVec.ofNat 32 (n + 2047)).msb = false from by
      rw [BitVec.msb_eq_false_iff_two_mul_lt, et]; omega, show (2048#32 : BitVec 32).msb = false from by decide]
    apply BitVec.eq_of_toNat_eq
    show (BitVec.ofNat 32 (n + 2047) / 2048#32).toNat = _
    rw [BitVec.toNat_udiv, et, BitVec.toNat_ofNat, BitVec.toNat_ofNat, show (2048 % 2 ^ 32 : ℕ) = 2048 from rfl]
    omega
  unfold lastW
  dsimp only
  rw [e3, e5, e7, e18, e4]
  rfl

theorem chunk_small : ∀ (q : Fin 6) (s : Fin 4), s.val < q.val → (chunkW s.val (BitVec.ofNat 32 q.val - 1#32)).toNat = s.val := by
  decide +kernel

theorem chunkW_own (n : ℕ) (hn : n ≤ 8192) (s : ℕ) (hs : s < 4) (h : 2048 * s < n) : (chunkW s (lastW (BitVec.ofNat 32 n))).toNat = s := by
  rw [lastW_eq n hn]
  exact chunk_small ⟨(n + 2047) / 2048, by omega⟩ ⟨s, hs⟩ (by show s < (n + 2047) / 2048; omega)

theorem block_word : ∀ (b : Fin 18) (s : Fin 4) (m : Fin 4), (Scalar.addi (Scalar.muli (BitVec.ofNat 32 b.val) 4#32) (BitVec.ofNat 32 m.val)).toNat = 4 * b.val + m.val := by
  decide +kernel

/-- The block's index, the query's four chunks in order. -/
theorem block_word' (b s : ℕ) (hb : b < 18) (hs : s < 4) (w : BitVec 32) :
    (Scalar.addi (Scalar.muli (BitVec.ofNat 32 b) 4#32) (chunkW s w)).toNat = 4 * b + (chunkW s w).toNat := by
  have h := chunkW_le s hs w
  have e := block_word ⟨b, hb⟩ ⟨0, by omega⟩ ⟨(chunkW s w).toNat, by omega⟩
  rwa [BitVec.ofNat_toNat, BitVec.setWidth_eq] at e

end Cert.Chunk

end
-- ==== Proof.Scan.Table.lean ====
/- The block of candidates a grid point stages: the chunk the lengths' table sends the point to. Whatever the table holds it is
   a chunk of the query, at most the point's own; and the point's own where the point has a candidate below the length. -/
module

public import proofs.«01_k».proof.Proof.Scan.Loop
public import proofs.«01_k».proof.Proof.Chunk

@[expose] public section

set_option maxRecDepth 16384

noncomputable section

namespace Cert.Kernel.Scan

open Idealize.ShloMosaic Idealize.ShloMosaic.TcCoe Idealize.ShloMosaic.Tactic Cert.Kernel.Gen
open Cert.Chunk

variable {F : FTy → Type} [FloatOps F]

/-- The chunk staged at a point, the table holding `pf`. -/
def chunk (pf : pre0.Contents (Elt F)) (i : grid0.Coords) : ℕ := (chunkW (i 1).val (lastW (lenAt i (pf 0)))).toNat

theorem index0_eq (pf : pre0.Contents (Elt F)) (i : grid0.Coords) :
    cc0_transform_0 k0_off1_inb numel1_S1 pf i = ![4 * (i 0).val + chunk pf i, 0, 0] := by
  have e : pf.at 0 (Rect.unit (s := S18) (k0_off1 i) S1.size (k0_off1_inb i)) numel1_S1 = lenAt i (pf 0) := by
    refine congrArg (pf 0) (funext fun d => Fin.ext ?_)
    have e := congrFun (off1_eq i) d
    match d, e with
    | ⟨0, _⟩, e => show (k0_off1 i) 0 + 1 * 0 = _; rw [show (k0_off1 i) 0 = _ from e]; rfl
  have h := block_word' (i 0).val (i 1).val (grid_lt0 i) (grid_lt1 i) (lastW (lenAt i (pf 0)))
  unfold chunk
  rw [← h, ← e]
  rfl

theorem chunk_le (pf : pre0.Contents (Elt F)) (i : grid0.Coords) : chunk pf i ≤ (i 1).val := chunkW_le _ (grid_lt1 i) _

theorem ok_all (pf : pre0.Contents (Elt F)) : ok0 pf := by
  intro i
  have h0 := grid_lt0 i
  have h1 := grid_lt1 i
  have hc := chunk_le pf i
  refine ⟨fun a => ?_, .inl rfl⟩
  rw [index0_eq]
  match a with
  | ⟨0, _⟩ => show (4 * (i 0).val + chunk pf i + 1) * 16 ≤ 1152; omega
  | ⟨1, _⟩ => show (0 + 1) * 96 ≤ 96; omega
  | ⟨2, _⟩ => show (0 + 1) * 128 ≤ 128; omega

end Cert.Kernel.Scan

end
-- ==== Proof.Scan.Data.lean ====
/- The scan's proof data: the table the index map reads, what each grid point finds in the inputs' staging buffers, and how
   it changes the outputs'. -/
module

public import proofs.«01_k».proof.Proof.Scan.Loop
public import proofs.«01_k».proof.Proof.Scan.Table
public import proofs.«01_k».proof.Proof.Gen.Kernel.Launch
public import Idealize.ShloMosaic.Lib.Pipeline.FrameBody

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ)

/-- The buffers when the pipeline starts: as launched. -/
abbrev V (c : Dev nD) (b : Ref sig .tc) : Buf (Elt F) ((c : Thread nD τ).loc b) := m ((c : Thread nD τ).loc b)

/-- The list lengths, as the prefetched table holds them. -/
abbrev pf : pre0.Contents (Elt F) := fun k => m (((0 : Dev nD) : Thread nD τ).loc (pre0.ref k))

/-- Every table is admissible. -/
def adm : (p : Fin 1) → (pcfgs (F := F) p).Adm := fun _ => ⟨pf m, ok_all _⟩

abbrev cfgA : Cfg sig Λ₀ := Pipeline.pin (pcfgs (F := F)) (adm m) 0

/-- An array of 18 rows, its first row repeated below it (the rows past 17 are never read). -/
def ext2 {α : Type} (A : S18x8192.Idx → α) : S24x8192.Idx → α :=
  fun x => if h : (x 0).val < 18 then A (ix2 (⟨(x 0).val, h⟩ : Fin 18) (x 1)) else A (ix2 (0 : Fin 18) (x 1))

section
variable (c : Dev nD)

/-- The codes' block staged at a point. -/
def gB (i : grid0.Coords) : S16x96x128.Idx → BitVec 32 := fun x =>
  (V m c main_arg1 : S1152x96x128.Idx → BitVec 32) (ix3 (⟨16 * (4 * (i 0).val + chunk (pf m) i) + (x 0).val, by
    have h0 := grid_lt0 i
    have h1 := grid_lt1 i
    have hc := chunk_le (pf m) i
    have hx : (x 0).val < 16 := (x 0).isLt
    omega⟩ : Fin 1152) (x 1) (x 2))

/-- The query's list length. -/
def lenV (i : grid0.Coords) : BitVec 32 := lenAt i (pf m 0)

/-- The three results' values over a point's row. -/
def val9 (i : grid0.Coords) : Fin 8192 → F .f32 :=
  out9 (gB m c i) (V m c main_arg2) (V m c main_arg3) (ext2 (V m c main_arg4)) (ext2 (V m c main_arg5)) (ext2 (V m c main_arg6)) (rowB i) (lenV m i)
def val10 (i : grid0.Coords) : Fin 8192 → F .f32 :=
  out10 (V m c main_arg3) (ext2 (V m c main_arg4)) (ext2 (V m c main_arg5)) (ext2 (V m c main_arg6)) (rowB i) (lenV m i)
def val11 (i : grid0.Coords) : Fin 8192 → F .f32 :=
  out11 (gB m c i) (V m c main_arg2) (V m c main_arg3) (ext2 (V m c main_arg4)) (ext2 (V m c main_arg6)) (rowB i) (lenV m i)

/-- The proof data: the inputs are left as found, and each point replaces its row of the outputs, over its step's columns. -/
def rdat : RDat τ (Elt F) Unit ℕ (UR sig nD τ) ℕ (cfgA m) c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun t Y X => Upto (grid0.coords t) 16 Y X (val9 m c (grid0.coords t))
    | ⟨7, _⟩ => fun t Y X => Upto (grid0.coords t) 16 Y X (val10 m c (grid0.coords t))
    | ⟨8, _⟩ => fun t Y X => Upto (grid0.coords t) 16 Y X (val11 m c (grid0.coords t))
  Φ _ := iprop(Pipeline.ΦA spec0 c ∗ Pipeline.ΦT pre0 (pf m) c)
  q _ := fullShare
  owed _ := 0

/-! ## What a point finds in the inputs' buffers -/

/-- An element of a fetched block that the fetch moves is the array's. -/
theorem fetched_at (w : Fin 9) (t : Fin (cfgA m).N) (d) (j : ((cfgA m).win w).block.Idx)
    (hm : ((cfgA m).win w).moved ((cfgA m).grid.coords t) j = true) :
    (rdat m c).fetched w t d j = (rdat m c).blockOf w t (fun a => ⟨(j a).val, (((cfgA m).win w).moved_iff _ j).mp hm a⟩) := by
  unfold RDat.fetched Window.fill
  rw [dif_pos hm]

theorem finds0 (t : Fin (cfgA m).N) (Y) (h : (rdat m c).Finds 0 t Y) (x : S16x96x128.Idx) :
    (Y : S16x96x128.Idx → BitVec 32) x = gB m c (grid0.coords t) x := by
  obtain ⟨d, rfl⟩ := (rdat m c).finds_in_eq_fetched 0 rfl (fun _ _ _ => rfl) (fun _ _ _ e => e) t Y h
  refine (fetched_at m c 0 t d x rfl).trans ?_
  refine congrArg (V m c main_arg1 : S1152x96x128.Idx → BitVec 32) (funext fun a => Fin.ext ?_)
  refine (Window.rect_emb_val ((cfgA m).win 0) t _ a).trans ?_
  have e := congrFun (index0_eq (pf m) (grid0.coords t)) a
  match a, e with
  | ⟨0, h0⟩, e =>
    show cc0_transform_0 k0_off1_inb numel1_S1 (pf m) (grid0.coords t) ⟨0, h0⟩ * 16 + (x 0).val = 16 * _ + (x 0).val
    rw [e]; exact congrArg (· + (x 0).val) (Nat.mul_comm _ _)
  | ⟨1, h0⟩, e =>
    show cc0_transform_0 k0_off1_inb numel1_S1 (pf m) (grid0.coords t) ⟨1, h0⟩ * 96 + (x 1).val = (x 1).val
    rw [e]; exact (Nat.zero_add _)
  | ⟨2, h0⟩, e =>
    show cc0_transform_0 k0_off1_inb numel1_S1 (pf m) (grid0.coords t) ⟨2, h0⟩ * 128 + (x 2).val = (x 2).val
    rw [e]; exact (Nat.zero_add _)

theorem finds1 (t : Fin (cfgA m).N) (Y) (h : (rdat m c).Finds 1 t Y) (x : S384x128.Idx) :
    (Y : S384x128.Idx → BitVec 32) x = (V m c main_arg2 : S384x128.Idx → BitVec 32) x := by
  obtain ⟨d, rfl⟩ := (rdat m c).finds_in_eq_fetched 1 rfl (fun _ _ _ => rfl) (fun _ _ _ e => e) t Y h
  refine (fetched_at m c 1 t d x rfl).trans ?_
  refine congrArg (V m c main_arg2 : S384x128.Idx → BitVec 32) (funext fun a => Fin.ext ?_)
  refine (Window.rect_emb_val ((cfgA m).win 1) t _ a).trans ?_
  match a with
  | ⟨0, _⟩ => show 0 * 384 + (x 0).val = (x 0).val; omega
  | ⟨1, _⟩ => show 0 * 128 + (x 1).val = (x 1).val; omega

theorem finds2 (t : Fin (cfgA m).N) (Y) (h : (rdat m c).Finds 2 t Y) (x : S8x128.Idx) :
    (Y : S8x128.Idx → F .f32) x = (V m c main_arg3 : S8x128.Idx → F .f32) x := by
  obtain ⟨d, rfl⟩ := (rdat m c).finds_in_eq_fetched 2 rfl (fun _ _ _ => rfl) (fun _ _ _ e => e) t Y h
  refine (fetched_at m c 2 t d x rfl).trans ?_
  refine congrArg (V m c main_arg3 : S8x128.Idx → F .f32) (funext fun a => Fin.ext ?_)
  refine (Window.rect_emb_val ((cfgA m).win 2) t _ a).trans ?_
  match a with
  | ⟨0, _⟩ => show 0 * 8 + (x 0).val = (x 0).val; omega
  | ⟨1, _⟩ => show 0 * 128 + (x 1).val = (x 1).val; omega

end

end Cert.Kernel.Scan

end
-- ==== Proof.Scan.Finds.lean ====
/- What each grid point of the scan finds in the inputs whose blocks reach past the array, and the values it computes. -/
module

public import proofs.«01_k».proof.Proof.Scan.Data

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ)

section
variable (c : Dev nD)

/-- An element of a fetched block inside the array is the array's, at the block's place. -/
theorem fetched_val (w : Fin 9) (t : Fin (cfgA m).N) (d) (j : ((cfgA m).win w).block.Idx) (hk : ((cfgA m).win w).kind = .blocked)
    (hm : ∀ a, (j a).val < ((cfgA m).win w).xsize ((cfgA m).grid.coords t) a)
    (x : ((cfgA m).win w).shape.Idx) (hx : ∀ a, ((cfgA m).win w).index t a * ((cfgA m).win w).size a + (j a).val = (x a).val) :
    (rdat m c).fetched w t d j = ((cfgA m).win w).arr.view.read (Elt F) ((rdat m c).A w) x := by
  have hm' := (((cfgA m).win w).moved_iff _ j).mpr hm
  refine (fetched_at m c w t d j hm').trans ?_
  refine congrArg (((cfgA m).win w).arr.view.read (Elt F) ((rdat m c).A w)) (funext fun a => Fin.ext ?_)
  exact (Window.rect_emb_val ((cfgA m).win w) t _ a hk).trans (hx a)

theorem xsize_row (ix : Fin 2 → ℕ) (hix : ix = ![0, 0]) (r : Fin 24) (hr : r.val < 18) (k : Fin 8192) (a : Fin 2) :
    ((ix2 r k : S24x8192.Idx) a).val < (Pipeline.Clip.of (ix a) (S24x8192.size a) (S18x8192.size a)).extent (S24x8192.size a) := by
  subst hix
  match a with
  | ⟨0, _⟩ =>
    show r.val < (Pipeline.Clip.of 0 24 18).extent 24
    rw [show Pipeline.Clip.of 0 24 18 = some 18 from by unfold Pipeline.Clip.of; rw [if_neg (by omega)]]
    exact hr
  | ⟨1, _⟩ =>
    show k.val < (Pipeline.Clip.of 0 8192 8192).extent 8192
    rw [show Pipeline.Clip.of 0 8192 8192 = none from by unfold Pipeline.Clip.of; rw [if_pos (by omega)]]
    exact k.isLt

theorem place_row (ix : Fin 2 → ℕ) (hix : ix = ![0, 0]) (r : Fin 24) (hr : r.val < 18) (k : Fin 8192) (a : Fin 2) :
    ix a * S24x8192.size a + ((ix2 r k : S24x8192.Idx) a).val = ((ix2 (⟨r.val, hr⟩ : Fin 18) k : S18x8192.Idx) a).val := by
  subst hix
  match a with
  | ⟨0, _⟩ => show 0 * 24 + r.val = r.val; omega
  | ⟨1, _⟩ => show 0 * 8192 + k.val = k.val; omega

theorem ext2_apply {α : Type} (A : S18x8192.Idx → α) (r : Fin 24) (hr : r.val < 18) (k : Fin 8192) :
    ext2 A (ix2 r k) = A (ix2 (⟨r.val, hr⟩ : Fin 18) k) := dif_pos (show ((ix2 r k : S24x8192.Idx) 0).val < 18 from hr)

theorem index3_eq (i : grid0.Coords) : cc0_transform_3 i = ![0, 0] := rfl

theorem finds3 (t : Fin (cfgA m).N) (Y) (h : (rdat m c).Finds 3 t Y) (r : Fin 24) (hr : r.val < 18) (k : Fin 8192) :
    (Y : S24x8192.Idx → BitVec 32) (ix2 r k) = ext2 (V m c main_arg4 : S18x8192.Idx → BitVec 32) (ix2 r k) := by
  obtain ⟨d, rfl⟩ := (rdat m c).finds_in_eq_fetched 3 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 3 t d (ix2 r k : S24x8192.Idx) rfl (xsize_row _ (index3_eq (grid0.coords t)) r hr k) (ix2 (⟨r.val, hr⟩ : Fin 18) k : S18x8192.Idx)
    (place_row _ (index3_eq (grid0.coords t)) r hr k)

theorem index4_eq (i : grid0.Coords) : cc0_transform_4 i = ![0, 0] := rfl

theorem finds4 (t : Fin (cfgA m).N) (Y) (h : (rdat m c).Finds 4 t Y) (r : Fin 24) (hr : r.val < 18) (k : Fin 8192) :
    (Y : S24x8192.Idx → F .f32) (ix2 r k) = ext2 (V m c main_arg5 : S18x8192.Idx → F .f32) (ix2 r k) := by
  obtain ⟨d, rfl⟩ := (rdat m c).finds_in_eq_fetched 4 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 4 t d (ix2 r k : S24x8192.Idx) rfl (xsize_row _ (index4_eq (grid0.coords t)) r hr k) (ix2 (⟨r.val, hr⟩ : Fin 18) k : S18x8192.Idx)
    (place_row _ (index4_eq (grid0.coords t)) r hr k)

theorem index5_eq (i : grid0.Coords) : cc0_transform_5 i = ![0, 0] := rfl

theorem finds5 (t : Fin (cfgA m).N) (Y) (h : (rdat m c).Finds 5 t Y) (r : Fin 24) (hr : r.val < 18) (k : Fin 8192) :
    (Y : S24x8192.Idx → F .f32) (ix2 r k) = ext2 (V m c main_arg6 : S18x8192.Idx → F .f32) (ix2 r k) := by
  obtain ⟨d, rfl⟩ := (rdat m c).finds_in_eq_fetched 5 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 5 t d (ix2 r k : S24x8192.Idx) rfl (xsize_row _ (index5_eq (grid0.coords t)) r hr k) (ix2 (⟨r.val, hr⟩ : Fin 18) k : S18x8192.Idx)
    (place_row _ (index5_eq (grid0.coords t)) r hr k)

/-! ## The body's values are the data's -/

theorem out9_congr (x3 y3 : S16x96x128.Idx → BitVec 32) (x4 y4 : S384x128.Idx → BitVec 32) (x5 y5 : S8x128.Idx → F .f32)
    (x6 y6 : S24x8192.Idx → BitVec 32) (x7 y7 x8 y8 : S24x8192.Idx → F .f32) (b : Fin 24) (n : BitVec 32)
    (h3 : x3 = y3) (h4 : x4 = y4) (h5 : x5 = y5) (h6 : ∀ k, x6 (ix2 b k) = y6 (ix2 b k)) (h7 : ∀ k, x7 (ix2 b k) = y7 (ix2 b k))
    (h8 : ∀ k, x8 (ix2 b k) = y8 (ix2 b k)) :
    out9 x3 x4 x5 x6 x7 x8 b n = out9 y3 y4 y5 y6 y7 y8 b n ∧ out10 x5 x6 x7 x8 b n = out10 y5 y6 y7 y8 b n
      ∧ out11 x3 x4 x5 x6 x8 b n = out11 y3 y4 y5 y6 y8 b n := by
  subst h3 h4 h5
  refine ⟨funext fun k => ?_, funext fun k => ?_, funext fun k => ?_⟩
  · unfold out9 distB estB qB; rw [h6, h7, h8]
  · unfold out10 errB qB; rw [h6, h7, h8]
  · unfold out11 estB qB; rw [h6, h8]

theorem vals_eq (t : Fin (cfgA m).N) (Y : (w : Fin 9) → ((cfgA m).win w).block.Idx → Elt F ((cfgA m).win w).elt)
    (h : ∀ w, (rdat m c).Finds w t (Y w)) :
    out9 (Y 0 : S16x96x128.Idx → BitVec 32) (Y 1 : S384x128.Idx → BitVec 32) (Y 2 : S8x128.Idx → F .f32) (Y 3 : S24x8192.Idx → BitVec 32)
        (Y 4 : S24x8192.Idx → F .f32) (Y 5 : S24x8192.Idx → F .f32) (rowB (grid0.coords t)) (lenV m (grid0.coords t)) = val9 m c (grid0.coords t)
    ∧ out10 (Y 2 : S8x128.Idx → F .f32) (Y 3 : S24x8192.Idx → BitVec 32)
        (Y 4 : S24x8192.Idx → F .f32) (Y 5 : S24x8192.Idx → F .f32) (rowB (grid0.coords t)) (lenV m (grid0.coords t)) = val10 m c (grid0.coords t)
    ∧ out11 (Y 0 : S16x96x128.Idx → BitVec 32) (Y 1 : S384x128.Idx → BitVec 32) (Y 2 : S8x128.Idx → F .f32) (Y 3 : S24x8192.Idx → BitVec 32)
        (Y 5 : S24x8192.Idx → F .f32) (rowB (grid0.coords t)) (lenV m (grid0.coords t)) = val11 m c (grid0.coords t) :=
  out9_congr _ _ _ _ _ _ _ _ _ _ _ _ _ _ (funext (finds0 m c t _ (h 0))) (funext (finds1 m c t _ (h 1))) (funext (finds2 m c t _ (h 2)))
    (finds3 m c t _ (h 3) _ (grid_lt0 _)) (finds4 m c t _ (h 4) _ (grid_lt0 _)) (finds5 m c t _ (h 5) _ (grid_lt0 _))
end

end Cert.Kernel.Scan

end
-- ==== Proof.Scan.Run.lean ====
/- The scan's run: the body at every grid point, the pipeline over the grid, and the frame. -/
module

public import proofs.«01_k».proof.Proof.Scan.Finds

@[expose] public section

set_option maxRecDepth 16384

noncomputable section

namespace Cert.Kernel.Scan

open Idealize.ShloMosaic Idealize.ShloMosaic.TcCoe Idealize.ShloMosaic.Tactic Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD)

/-- The body on the staging buffers of a point. -/
abbrev bodyAt (t : Fin (cfgA m).N) : Prog (TpuEff nD τ sig (Elt F) Λ₀ .tc) PUnit :=
  cc0_scan_skel (F := F) (grid0.coords t) (Memref.whole main_arg0) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))

theorem defs₀_row (t : Fin (cfgA m).N) :
    defs₀ (F := F) .tc (cfgA m).body ((cfgA m).bodyArgs t ((cfgA m).slots t)) = bodyAt m t := by
  unfold defs₀ bodyAt
  rw [Defs.onTc_tc, ← cc0_scan_eq_skeleton]

/-- The table as the body reads it. -/
theorem table_eq : (Pipeline.ΦT pre0 (pf m) c : sProp 𝕄)
    = ((Memref.whole main_arg0).view.loc (c : Thread nD τ) ↦[(Memref.whole main_arg0).view.set]{fullShare.right} pf m 0) := by
  unfold Pipeline.ΦT Pipeline.prefHeld
  rw [bigSep_univ_eq_bigSepL [(0 : Fin 1)] (by decide) (by decide)]
  simp only [Memref.view_whole, View.set_whole]
  rfl

/-- A buffer owned at what it reads. -/
theorem owns_of_held {s : Shape} {e : EltTy} {sp : Space} (a : Memref sig .tc sp s e) (f : Buf (Elt F) (a.view.loc (c : Thread nD τ))) :
    Held c a f ⊢ (owns (c : Thread nD τ) a fullShare (a.view.read (Elt F) f) : sProp 𝕄) := by
  unfold owns
  iintro H
  iexists f
  isplitr
  · ipureintro; rfl
  iexact H

abbrev PreB (t : Fin (cfgA m).N) (Y : (w : Fin 9) → ((cfgA m).win w).block.Idx → Elt F ((cfgA m).win w).elt) : sProp 𝕄 :=
  iprop((rdat m c).Φ t.castSucc ∗ (rdat m c).owesAt () t.castSucc
    ∗ owns (c : Thread nD τ) (spec0_0.stage ((cfgA m).slots t 0)) fullShare (Y 0)
    ∗ owns (c : Thread nD τ) (spec0_1.stage ((cfgA m).slots t 1)) fullShare (Y 1)
    ∗ owns (c : Thread nD τ) (spec0_2.stage ((cfgA m).slots t 2)) fullShare (Y 2)
    ∗ owns (c : Thread nD τ) (spec0_3.stage ((cfgA m).slots t 3)) fullShare (Y 3)
    ∗ owns (c : Thread nD τ) (spec0_4.stage ((cfgA m).slots t 4)) fullShare (Y 4)
    ∗ owns (c : Thread nD τ) (spec0_5.stage ((cfgA m).slots t 5)) fullShare (Y 5)
    ∗ owns (c : Thread nD τ) (spec0_6.stage ((cfgA m).slots t 6)) fullShare (Y 6)
    ∗ owns (c : Thread nD τ) (spec0_7.stage ((cfgA m).slots t 7)) fullShare (Y 7)
    ∗ owns (c : Thread nD τ) (spec0_8.stage ((cfgA m).slots t 8)) fullShare (Y 8))

abbrev PostB (t : Fin (cfgA m).N) (Y : (w : Fin 9) → ((cfgA m).win w).block.Idx → Elt F ((cfgA m).win w).elt) : sProp 𝕄 :=
  iprop((rdat m c).Φ t.castSucc ∗ (rdat m c).owesAt () t.castSucc
    ∗ (∃ X : S16x96x128.Idx → BitVec 32, ⌜X = Y 0⌝ ∗ owns (c : Thread nD τ) (spec0_0.stage ((cfgA m).slots t 0)) fullShare X)
    ∗ (∃ X : S384x128.Idx → BitVec 32, ⌜X = Y 1⌝ ∗ owns (c : Thread nD τ) (spec0_1.stage ((cfgA m).slots t 1)) fullShare X)
    ∗ (∃ X : S8x128.Idx → F .f32, ⌜X = Y 2⌝ ∗ owns (c : Thread nD τ) (spec0_2.stage ((cfgA m).slots t 2)) fullShare X)
    ∗ (∃ X : S24x8192.Idx → BitVec 32, ⌜X = Y 3⌝ ∗ owns (c : Thread nD τ) (spec0_3.stage ((cfgA m).slots t 3)) fullShare X)
    ∗ (∃ X : S24x8192.Idx → F .f32, ⌜X = Y 4⌝ ∗ owns (c : Thread nD τ) (spec0_4.stage ((cfgA m).slots t 4)) fullShare X)
    ∗ (∃ X : S24x8192.Idx → F .f32, ⌜X = Y 5⌝ ∗ owns (c : Thread nD τ) (spec0_5.stage ((cfgA m).slots t 5)) fullShare X)
    ∗ (∃ X : S24x8192.Idx → F .f32, ⌜Upto (grid0.coords t) 16 (Y 6) X (val9 m c (grid0.coords t))⌝ ∗ owns (c : Thread nD τ) (spec0_6.stage ((cfgA m).slots t 6)) fullShare X)
    ∗ (∃ X : S24x8192.Idx → F .f32, ⌜Upto (grid0.coords t) 16 (Y 7) X (val10 m c (grid0.coords t))⌝ ∗ owns (c : Thread nD τ) (spec0_7.stage ((cfgA m).slots t 7)) fullShare X)
    ∗ (∃ X : S24x8192.Idx → F .f32, ⌜Upto (grid0.coords t) 16 (Y 8) X (val11 m c (grid0.coords t))⌝ ∗ owns (c : Thread nD τ) (spec0_8.stage ((cfgA m).slots t 8)) fullShare X))

theorem upto_of (i : grid0.Coords) (x x' y : S24x8192.Idx → F .f32) (v v' : Fin 8192 → F .f32) (hx : x = x') (hv : v = v')
    (h : Upto i 16 x y v) : Upto i 16 x' y v' := by
  subst hx hv; exact h

theorem sound_body (t : Fin (cfgA m).N) (Y : (w : Fin 9) → ((cfgA m).win w).block.Idx → Elt F ((cfgA m).win w).elt)
    (hY : ∀ w, (rdat m c).Finds w t (Y w)) :
    PreB m c t Y ⊢ wp frame (wpE (defs₀ (F := F)) Variants.none (c : Thread nD τ) none) Set.univ (bodyAt m t) (fun _ => PostB m c t Y) := by
  have hv := vals_eq m c t Y hY
  unfold PreB PostB
  rw [show (rdat m c).Φ t.castSucc = iprop(Pipeline.ΦA spec0 c ∗ Pipeline.ΦT pre0 (pf m) c) from rfl, table_eq]
  unfold owns
  iintro ⟨⟨HA, HT⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  iapply (wp_wand_r frame (wpE (defs₀ (F := F)) Variants.none (c : Thread nD τ) none) Set.univ)
  isplitl [HT H0 H1 H2 H3 H4 H5 H6 H7 H8]
  · iapply (body_run c (grid0.coords t) (Memref.whole main_arg0) _ _ _ _ _ _ _ _ _ _ _ _ _ _ _ _ _ _ _ (lenV m (grid0.coords t)) f0 f1 f2 f3 f4 f5 f6 f7 f8 fullShare.right (pf m 0) rfl)
    isplitl [HT]; · iexact HT
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact H8
  unfold loopI
  iintro %_ ⟨HT, ⟨H0, H1, H2, H3, H4, H5⟩, ⟨%g6, %u6, H6⟩, ⟨%g7, %u7, H7⟩, ⟨%g8, %u8, H8⟩⟩
  have hc := out9_congr _ _ _ _ _ _ _ _ _ _ _ _ (rowB (grid0.coords t)) (lenV m (grid0.coords t)) e0 e1 e2
    (fun k => congrFun e3 _) (fun k => congrFun e4 _) (fun k => congrFun e5 _)
  isplitl [HA HT]
  · isplitl [HA]; · iexact HA
    iexact HT
  isplitl [Ho]; · iexact Ho
  isplitl [H0]
  · iexists (Y 0); isplitr; · ipureintro; rfl
    iexists f0; isplitr; · ipureintro; exact e0
    iexact H0
  isplitl [H1]
  · iexists (Y 1); isplitr; · ipureintro; rfl
    iexists f1; isplitr; · ipureintro; exact e1
    iexact H1
  isplitl [H2]
  · iexists (Y 2); isplitr; · ipureintro; rfl
    iexists f2; isplitr; · ipureintro; exact e2
    iexact H2
  isplitl [H3]
  · iexists (Y 3); isplitr; · ipureintro; rfl
    iexists f3; isplitr; · ipureintro; exact e3
    iexact H3
  isplitl [H4]
  · iexists (Y 4); isplitr; · ipureintro; rfl
    iexists f4; isplitr; · ipureintro; exact e4
    iexact H4
  isplitl [H5]
  · iexists (Y 5); isplitr; · ipureintro; rfl
    iexists f5; isplitr; · ipureintro; exact e5
    iexact H5
  isplitl [H6]
  · iexists _; isplitr
    · ipureintro; exact upto_of _ _ _ _ _ _ e6 (hc.1.trans hv.1) u6
    iexists g6; isplitr; · ipureintro; rfl
    iexact H6
  isplitl [H7]
  · iexists _; isplitr
    · ipureintro; exact upto_of _ _ _ _ _ _ e7 (hc.2.1.trans hv.2.1) u7
    iexists g7; isplitr; · ipureintro; rfl
    iexact H7
  iexists _; isplitr
  · ipureintro; exact upto_of _ _ _ _ _ _ e8 (hc.2.2.trans hv.2.2) u8
  iexists g8; isplitr; · ipureintro; rfl
  iexact H8

theorem body_obligation : (rdat m c).BodyObligation (defs₀ (F := F)) Variants.none () Set.univ := fun t Y hY => by
  rw [bigSep_W0, bigSep_W0, defs₀_row]
  exact triple_restated (sound_body m c t Y hY) rfl .rfl fun _ => .rfl
end

/-! ## The run -/

theorem hpf (c : Dev nD) (k : Fin pre0.K) : V m c (pre0.ref k) = (pf m) k := by
  obtain rfl : c = 0 := Subsingleton.elim _ _
  rfl

theorem hmain : Pipeline.HMainP (Ix := Unit) (Name := ℕ) (U := UR sig nD τ) (Lvl := ℕ) (pcfgs (F := F)) 0 defs₀ Variants.none m (main (F := F)) (V m) :=
  Pipeline.hmainP_region (pcfgs (F := F)) 0 defs₀ Variants.none m main fun c => (main_chain c).trans rfl

abbrev Post (r : PUnit × MemSt nD τ sig (Elt F)) : Prop := Pipeline.RDat.FramePost (cfgA m) (rdat m) (V m) r

set_option backward.isDefEq.respectTransparency.types false in
/-- Every run ends, its semaphores at zero, its arrays at what the grid's points leave. -/
theorem run_main : θ_run defs (onTc (τ := τ) (main (F := F))) (s₀ m ρ) (fun r => Post m r ∧ r.2.sem = fun _ => 0) :=
  Pipeline.RDat.θ_run_frameP (Q' := _) (pcfgs (F := F)) (adm m) 0 launch0 defs₀ Variants.none (rdat m) m ρ main
    (hbody := body_obligation m) (hshare := fun c => (rdat m c).share_full fun _ => rfl) (howed := fun _ _ => rfl)
    (V := V m) (hmain := hmain m) (hA := fun _ _ => rfl) (hpf := hpf m) (hΦ := fun _ _ => rfl)

theorem arr_in (r : PUnit × MemSt nD τ sig (Elt F)) (h : Post m r) (c : Dev nD) (w : Fin 9) (hw : ((cfgA m).win w).isOut = false) :
    r.2.mem (((cfgA m).spec w).arr.view.loc (c : Thread nD τ)) = (rdat m c).A w :=
  (Pipeline.RDat.FramePost.arr_in h c w hw)

/-- The arguments end unchanged. -/
theorem unchanged (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (by show main_arg0 ∈ Pipeline.restRefs sig spec0; decide), arr_in m r h c 0 rfl, arr_in m r h c 1 rfl, arr_in m r h c 2 rfl, arr_in m r h c 3 rfl,
    arr_in m r h c 4 rfl, arr_in m r h c 5 rfl⟩

/-- The frame: every run ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => unchanged m r h.1 c, h.2⟩) (run_main m ρ)

end Cert.Kernel.Scan

end
-- ==== Proof.ScanIdeal.Spec.lean ====
/- What the scan computes for one candidate, as plain scalar expressions.

   A candidate has 96 code words, a probe number, a norm and an inner product with its own code; its query has, for each
   probe, four bit planes of 96 words (a column of the planes array) and four statistics (a column of the statistics
   array): step width, lower value, query norm, sum of the quantised query. The column of query `b` and probe `p` is
   `6 b + p`. -/
module

public import proofs.«01_k».proof.Proof.Gen.KernelIdeal
public import Idealize.ShloMosaic.Lib.Pointwise
public import Mathlib.Data.BitVec

@[expose] public section

set_option maxRecDepth 16384

noncomputable section

namespace Cert.KernelIdeal.Scan

open Idealize.ShloMosaic Idealize.ShloMosaic.TcCoe Idealize.SL.Sem

variable {F : FTy → Type} [FloatOps F]

/-- The column index a table is read at for the word `c`: a negative word counts from the end, the result modulo the
    128 columns. -/
def laneOf (c : BitVec 32) : Fin 128 :=
  ⟨(Scalar.select (IntOp.cmpi .slt c 0#32) (IntOp.addi c 128#32) c).toNat % 128, Nat.mod_lt _ (by decide)⟩

/-- Query `b`, probe `p`: the word `6 b + p`. -/
def comboW (b : ℕ) (p : BitVec 32) : BitVec 32 := IntOp.addi (Scalar.muli (BitVec.ofNat 32 b) 6#32) p

/-- The set bits of code word `8 v + r` within plane `j`. -/
abbrev hit (code : Fin 96 → BitVec 32) (x4 : S384x128.Idx → BitVec 32) (q : Fin 128) (r : Fin 8) (v : Fin 12) (j : Fin 4) : BitVec 32 :=
  IntOp.ctpop (IntOp.andi (code ⟨8 * v.val + r.val, by omega⟩) (x4 (ix2 (⟨96 * j.val + 8 * v.val + r.val, by omega⟩ : Fin 384) q)))

/-- Plane `j`'s count over the words congruent to `r` modulo 8. -/
def accW (code : Fin 96 → BitVec 32) (x4 : S384x128.Idx → BitVec 32) (q : Fin 128) (r : Fin 8) (j : Fin 4) : BitVec 32 :=
  ∑ v : Fin 12, hit code x4 q r v j

/-- The binary inner product of a code with the quantised query: the planes' counts weighted 1, 2, 4, 8. -/
def ipW (code : Fin 96 → BitVec 32) (x4 : S384x128.Idx → BitVec 32) (q : Fin 128) : BitVec 32 :=
  ∑ r : Fin 8, (((accW code x4 q r 0 + IntOp.shli .vector (accW code x4 q r 1) 1#32)
    + IntOp.shli .vector (accW code x4 q r 2) 2#32) + IntOp.shli .vector (accW code x4 q r 3) 3#32)

/-- The code's set bits. -/
def popW (code : Fin 96 → BitVec 32) : BitVec 32 :=
  ∑ r : Fin 8, ∑ v : Fin 12, IntOp.ctpop (code ⟨8 * v.val + r.val, by omega⟩)

/-- Statistic `k` of column `q`. -/
abbrev stat (x5 : S8x128.Idx → F .f32) (q : Fin 128) (k : Fin 8) : F .f32 := x5 (ix2 k q)

/-- The estimated inner product. -/
def estF (x5 : S8x128.Idx → F .f32) (q : Fin 128) (ip pop : BitVec 32) (io : F .f32) : F .f32 :=
  FloatOps.divf
    (FloatOps.subf
      (FloatOps.divf
        (FloatOps.subf
          (FloatOps.addf
            (FloatOps.mulf (FloatOps.mulf (Scalar.ofBits .f32 0x40000000#32) (stat x5 q 0)) (FloatOps.sitofp .f32 ip))
            (FloatOps.mulf (FloatOps.mulf (Scalar.ofBits .f32 0x40000000#32) (stat x5 q 1)) (FloatOps.sitofp .f32 pop)))
          (FloatOps.mulf (stat x5 q 0) (stat x5 q 3)))
        (Scalar.ofBits .f32 0x425DB3D7#32))
      (FloatOps.mulf (Scalar.ofBits .f32 0x425DB3D7#32) (stat x5 q 1)))
    (FloatOps.mulf (stat x5 q 2) io)

/-- Twice the product of the two norms. -/
def nn2F (x5 : S8x128.Idx → F .f32) (q : Fin 128) (nr : F .f32) : F .f32 :=
  FloatOps.mulf (FloatOps.mulf (Scalar.ofBits .f32 0x40000000#32) nr) (stat x5 q 2)

/-- The estimated squared distance. -/
def distF (x5 : S8x128.Idx → F .f32) (q : Fin 128) (nr est : F .f32) : F .f32 :=
  FloatOps.subf (FloatOps.addf (FloatOps.mulf nr nr) (FloatOps.mulf (stat x5 q 2) (stat x5 q 2)))
    (FloatOps.mulf (nn2F x5 q nr) est)

/-- The error bound. -/
def errF (x5 : S8x128.Idx → F .f32) (q : Fin 128) (nr io : F .f32) : F .f32 :=
  FloatOps.mulf
    (FloatOps.divf
      (FloatOps.mulf (nn2F x5 q nr) (FloatOps.sqrt (FloatOps.subf (Scalar.ofBits .f32 0x3F800000#32) (FloatOps.mulf io io))))
      io)
    (Scalar.ofBits .f32 0x3D0C6F38#32)

/-- A result where the candidate's column lies below the query's count, zero elsewhere. -/
def maskF (col n : BitVec 32) (x : F .f32) : F .f32 :=
  Scalar.select (IntOp.cmpi .slt col n) x (Scalar.ofBits .f32 0x00000000#32)

end Cert.KernelIdeal.Scan

end
-- ==== Proof.ScanIdeal.Closed.lean ====
/- The offsets and branch conditions of the scan kernel in closed form.

   Grid point `i = (query, step)`, trip `k` of the body's loop: the trip works on the tile of rows
   `8 * (query / 8) ..+ 8` and columns `2048 * step + 128 * k ..+ 128`, and takes its first branch exactly when that
   first column lies below the query's candidate count. -/
module

public import proofs.«01_k».proof.Proof.Gen.KernelIdeal
public import proofs.«01_k».proof.Proof.Gen.KernelIdeal.Skeleton
public import Idealize.ShloMosaic.Lib.WordCmp

@[expose] public section

set_option maxRecDepth 16384

noncomputable section

namespace Cert.KernelIdeal.Scan

open Idealize.ShloMosaic Idealize.ShloMosaic.TcCoe Idealize.SL.Sem Cert.KernelIdeal.Gen

/-- The tile a trip reads and writes. -/
theorem off2_eq : ∀ (i : grid0.Coords) (k : Fin k0_t1_loop.trips),
    k0_off2 i k = ![8 * ((i 0).val / 8), 2048 * (i 1).val + 128 * k.val] := by decide +kernel
theorem off15_eq : ∀ (i : grid0.Coords) (k : Fin k0_t1_loop.trips),
    k0_off15 i k = ![8 * ((i 0).val / 8), 2048 * (i 1).val + 128 * k.val] := by decide +kernel

instance (i : grid0.Coords) (k : Fin k0_t1_loop.trips) : ClosedOff (k0_off2 i k) := ⟨_, off2_eq i k⟩
instance (i : grid0.Coords) (k : Fin k0_t1_loop.trips) : ClosedOff (k0_off15 i k) := ⟨_, off15_eq i k⟩

theorem trips_eq : k0_t1_loop.trips = 16 := by decide

/-- The first column of a trip's tile, as the kernel's word. -/
def colW (i : grid0.Coords) (k : Fin k0_t1_loop.trips) : BitVec 32 :=
  Scalar.muli (Scalar.addi (Scalar.muli (BitVec.ofNat 32 (i 1).val) 16#32) (Scf.iv 0#32 1#32 k)) 128#32

theorem colW_eq : ∀ (i : grid0.Coords) (k : Fin k0_t1_loop.trips),
    colW i k = BitVec.ofNat 32 (2048 * (i 1).val + 128 * k.val) := by decide +kernel

theorem cond1_iff (i : grid0.Coords) (v1 : BitVec 32) (k : Fin k0_t1_loop.trips) :
    k0_cond1 i v1 k = 1#1 ↔ (colW i k).slt v1 = true := by
  unfold k0_cond1 colW
  simp only [Scalar.cmpi, Scalar.extui, IntOp.cmpi]
  generalize BitVec.slt _ v1 = b
  cases b <;> decide

theorem cond2_iff (i : grid0.Coords) (v1 : BitVec 32) (k : Fin k0_t1_loop.trips) :
    k0_cond2 i v1 k = 1#1 ↔ ¬ k0_cond1 i v1 k = 1#1 := by
  rw [cond1_iff]
  unfold k0_cond2 colW
  simp only [Scalar.cmpi, Scalar.extui, IntOp.cmpi]
  rw [show ∀ a b : BitVec 32, BitVec.sle b a = !(BitVec.slt a b) from fun a b => by
    rw [BitVec.sle, BitVec.slt, ← decide_not, decide_eq_decide]; omega]
  generalize BitVec.slt _ v1 = b
  cases b <;> decide

end Cert.KernelIdeal.Scan

end
-- ==== Proof.ScanIdeal.Trip.lean ====
module

public import proofs.«01_k».proof.Proof.ScanIdeal.Closed
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)

abbrev Held {s : Shape} {e : EltTy} {sp : Space} (a : Memref sig .tc sp s e) (f : Buf (Elt F) (a.view.loc (c : Thread nD τ))) : sProp 𝕄 :=
  a.view.loc (c : Thread nD τ) ↦[a.view.set]{fullShare} f

/-- The inputs' staging buffers at their contents. -/
abbrev Ins (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ))) : sProp 𝕄 :=
  iprop(Held c arg3 f3 ∗ Held c arg4 f4 ∗ Held c arg5 f5 ∗ Held c arg6 f6 ∗ Held c arg7 f7 ∗ Held c arg8 f8)

abbrev tripP (k : Fin k0_t1_loop.trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg0 arg1 v1 v13 v14 k ()

set_option backward.proofsInPublic true in
set_option maxHeartbeats 8000000 in
@[irreducible] def tripZero (k : Fin k0_t1_loop.trips) (h1 : ¬ k0_cond1 i v1 k = 1#1) (h2 : k0_cond2 i v1 k = 1#1)
    (f9 : Buf (Elt F) (arg9.view.loc (c : Thread nD τ))) (f10 : Buf (Elt F) (arg10.view.loc (c : Thread nD τ)))
    (f11 : Buf (Elt F) (arg11.view.loc (c : Thread nD τ))) :
    Σ' (p9 : Vec F S8x128 .f32) (p10 : Vec F S8x128 .f32), { p11 : Vec F S8x128 .f32 //
      iprop(Held c arg9 f9 ∗ Held c arg10 f10 ∗ Held c arg11 f11)
      ⊢ wp frame (wpE (defs₀ (F := F)) Variants.none (c : Thread nD τ) none) Set.univ
          (tripP i arg2 harg2 arg3 harg3 arg4 harg4 arg5 harg5 arg6 harg6 arg7 harg7 arg8 harg8 arg9 harg9 arg10 harg10 arg11 harg11 arg0 arg1 v1 v13 v14 k)
          (fun _ => iprop(Held c arg9 (arg9.view.writes (Elt F) f9 [⟨Rect.unit (s := S24x8192) (k0_off15 i k) S8x128.size (k0_off15_inb i k), p9⟩])
            ∗ Held c arg10 (arg10.view.writes (Elt F) f10 [⟨Rect.unit (s := S24x8192) (k0_off15 i k) S8x128.size (k0_off15_inb i k), p10⟩])
            ∗ Held c arg11 (arg11.view.writes (Elt F) f11 [⟨Rect.unit (s := S24x8192) (k0_off15 i k) S8x128.size (k0_off15_inb i k), p11⟩]))) } := by
  refine ⟨?_, ?_, ?_, ?run⟩
  case run =>
    iintro ⟨H9, H10, H11⟩
    dsimp only [tripP]
    sl_unfold [k0_t1_body]
    sl_exec
    sl_step
    isplitl [H9]; · iexact H9
    isplitl [H10]; · iexact H10
    iexact H11

set_option backward.proofsInPublic true in
set_option maxHeartbeats 16000000 in
@[irreducible] def tripFull (k : Fin k0_t1_loop.trips) (h1 : k0_cond1 i v1 k = 1#1) (h2 : ¬ k0_cond2 i v1 k = 1#1)
    (f3 : Buf (Elt F) (arg3.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (f7 : Buf (Elt F) (arg7.view.loc (c : Thread nD τ))) (f8 : Buf (Elt F) (arg8.view.loc (c : Thread nD τ)))
    (f9 : Buf (Elt F) (arg9.view.loc (c : Thread nD τ))) (f10 : Buf (Elt F) (arg10.view.loc (c : Thread nD τ)))
    (f11 : Buf (Elt F) (arg11.view.loc (c : Thread nD τ))) :
    Σ' (p9 : Vec F S8x128 .f32) (p10 : Vec F S8x128 .f32), { p11 : Vec F S8x128 .f32 //
      iprop(Ins c arg3 arg4 arg5 arg6 arg7 arg8 f3 f4 f5 f6 f7 f8 ∗ Held c arg9 f9 ∗ Held c arg10 f10 ∗ Held c arg11 f11)
      ⊢ wp frame (wpE (defs₀ (F := F)) Variants.none (c : Thread nD τ) none) Set.univ
          (tripP i arg2 harg2 arg3 harg3 arg4 harg4 arg5 harg5 arg6 harg6 arg7 harg7 arg8 harg8 arg9 harg9 arg10 harg10 arg11 harg11 arg0 arg1 v1 v13 v14 k)
          (fun _ => iprop(Ins c arg3 arg4 arg5 arg6 arg7 arg8 f3 f4 f5 f6 f7 f8
            ∗ Held c arg9 (arg9.view.writes (Elt F) f9 [⟨Rect.unit (s := S24x8192) (k0_off2 i k) S8x128.size (k0_off2_inb i k), p9⟩])
            ∗ Held c arg10 (arg10.view.writes (Elt F) f10 [⟨Rect.unit (s := S24x8192) (k0_off2 i k) S8x128.size (k0_off2_inb i k), p10⟩])
            ∗ Held c arg11 (arg11.view.writes (Elt F) f11 [⟨Rect.unit (s := S24x8192) (k0_off2 i k) S8x128.size (k0_off2_inb i k), p11⟩]))) } := by
  refine ⟨?_, ?_, ?_, ?run⟩
  case run =>
    iintro ⟨⟨H3, H4, H5, H6, H7, H8⟩, H9, H10, H11⟩
    dsimp only [tripP]
    sl_unfold [k0_t1_body]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    sl_exec
    sl_step
    isplitl [H3 H4 H5 H6 H7 H8]
    · isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    iexact H11

end

end Cert.KernelIdeal.Scan

end
-- ==== Proof.ScanIdeal.Lanes.lean ====
/- One trip's payloads, lane by lane: the vectors the body computes from the loaded blocks, read at one row and lane. -/
module

public import proofs.«01_k».proof.Proof.ScanIdeal.Spec
public import proofs.«01_k».proof.Proof.ScanIdeal.Trip
public import Idealize.ShloMosaic.Lib.Pointwise
public import Idealize.ShloMosaic.Lib.VecWindow
public import Idealize.ShloMosaic.Lib.Pipeline.Value

@[expose] public section

set_option maxRecDepth 16384

noncomputable section

namespace Cert.KernelIdeal.Scan

open Idealize.ShloMosaic Idealize.ShloMosaic.TcCoe Idealize.SL.Sem Cert.KernelIdeal.Gen

variable {F : FTy → Type} [FloatOps F]

/-! ## The vector operations at an index -/

/-- A gather along the columns, at a row and lane. -/
theorem gather1_apply {α : Type} (x : S8x128.Idx → α) (c : IVec S8x128 32) (r : Fin 8) (l : Fin 128) :
    dynamicGather (s := S8x128) 1 x c (ix2 r l) = x (ix2 r (⟨(c (ix2 r l)).toNat % 128, Nat.mod_lt _ (by decide)⟩ : Fin 128)) := by
  unfold dynamicGather
  refine congrArg x (funext fun a => ?_)
  match a with
  | ⟨0, _⟩ => rfl
  | ⟨1, _⟩ => rfl

/-- A gather along the rows. -/
theorem gather0_apply {α : Type} (x : S8x128.Idx → α) (c : IVec S8x128 32) (r : Fin 8) (l : Fin 128) :
    dynamicGather (s := S8x128) 0 x c (ix2 r l) = x (ix2 (⟨(c (ix2 r l)).toNat % 8, Nat.mod_lt _ (by decide)⟩ : Fin 8) l) := by
  unfold dynamicGather
  refine congrArg x (funext fun a => ?_)
  match a with
  | ⟨0, _⟩ => rfl
  | ⟨1, _⟩ => rfl

/-- A table block read at the columns a vector of words names. -/
theorem pick_apply {α : Type} (x : S8x128.Idx → α) (c : IVec S8x128 32) (r : Fin 8) (l : Fin 128) :
    dynamicGather (s := S8x128) 1 x
        (shapeCast S8x128 (shapeCast S8x128x1
          (select (cmpi .slt c (broadcast S8x128 0#32)) (addi c (broadcast S8x128 128#32)) c) shapeCasts_S8x128_S8x128x1)
          shapeCasts_S8x128x1_S8x128) (ix2 r l)
      = x (ix2 r (laneOf (c (ix2 r l)))) := by
  rw [shapeCast_shapeCast, gather1_apply]; rfl

/-- The sum down a column of an integer block. -/
theorem colSum_apply (x : IVec S8x128 32) (h : S8x128.Reduces [0] S128) (hacc : 0#32 = IKind.add.neutral) (l : Fin 128) :
    multiReductionI .add [0] S128 x 0#32 h hacc (ix1 l) = ∑ r : Fin 8, x (ix2 r l) := by
  have hp : ∀ r : Fin 8, x (Shape.pair (d := ![8, 128]) r (h.col (ix1 l))) = x (ix2 r l) := fun r => by
    refine congrArg x (funext fun a => ?_)
    match a with
    | ⟨0, _⟩ => rfl
    | ⟨1, _⟩ => rfl
  rw [multiReductionI_eq_reduceFold]
  refine (reduceFold_rows (d := ![8, 128]) h (IKind.op .add) 0#32 x (ix1 l)).trans ?_
  show List.foldl (fun acc (r : Fin 8) => acc + x (Shape.pair (d := ![8, 128]) r (h.col (ix1 l)))) 0#32 (List.finRange 8) = _
  rw [← funext hp]
  simp only [Fin.sum_univ_castSucc, Fin.sum_univ_zero]
  rfl

/-- A reshape that adds or drops a leading axis of one. -/
theorem cast3_apply {α : Type} (x : S1x8x128.Idx → α) (h : S1x8x128.ShapeCasts S8x128) (r : Fin 8) (l : Fin 128) :
    shapeCast S8x128 x h (ix2 r l) = x (ix3 (0 : Fin 1) r l) := by pointwise

theorem cast1_apply {α : Type} (x : S128.Idx → α) (h : S128.ShapeCasts S1x128) (l : Fin 128) :
    shapeCast S1x128 x h (ix2 (0 : Fin 1) l) = x (ix1 l) := by pointwise

/-- A row repeated down the tile. -/
theorem rowTo_apply {α : Type} (x : S1x128.Idx → α) (h : S1x128.Broadcasts S8x128) (r : Fin 8) (l : Fin 128) :
    broadcastTo S8x128 x h (ix2 r l) = x (ix2 (0 : Fin 1) l) := by pointwise

/-- A row of a tile, cut out. -/
theorem rowOf_apply {α : Type} (x : S8x128.Idx → α) (n : Fin 8) (h : S8x128.Slices (![n.val, 0] : Fin 2 → ℕ) S1x128) (l : Fin 128) :
    extractStridedSlice S1x128 ![n.val, 0] x h (ix2 (0 : Fin 1) l) = x (ix2 n l) := by
  refine congrArg x (funext fun d => Fin.ext ?_)
  match d with
  | ⟨0, _⟩ => show n.val + 0 = _; rfl
  | ⟨1, _⟩ => show 0 + l.val = _; rw [Nat.zero_add]; rfl

/-- A sum of twelve words, written out from zero. -/
theorem sum12 (f : Fin 12 → BitVec 32) : ∑ v, f v
    = IntOp.addi (IntOp.addi (IntOp.addi (IntOp.addi (IntOp.addi (IntOp.addi (IntOp.addi (IntOp.addi (IntOp.addi (IntOp.addi (IntOp.addi
        (IntOp.addi 0#32 (f 0)) (f 1)) (f 2)) (f 3)) (f 4)) (f 5)) (f 6)) (f 7)) (f 8)) (f 9)) (f 10)) (f 11) := by
  simp only [Fin.sum_univ_castSucc, Fin.sum_univ_zero]
  rfl

/-! ## The query's row within its tile -/

/-- The query's row within its group of eight, as the body computes it. -/
def subW (i : grid0.Coords) : BitVec 32 :=
  let arg0 : BitVec 32 := BitVec.ofNat 32 (i 0).val
  let v2 : BitVec 1 := Scalar.cmpi .eq 8#32 0#32
  let v3 : BitVec 32 := Scalar.select v2 1#32 8#32
  let v4 : BitVec 32 := Scalar.remsi arg0 v3
  let v5 : BitVec 1 := Scalar.cmpi .ne v4 0#32
  let v6 : BitVec 1 := Scalar.cmpi .slt v4 0#32
  let v7 : BitVec 1 := Scalar.cmpi .slt v3 0#32
  let v8 : BitVec 1 := Scalar.xori v6 v7
  let v9 : BitVec 1 := Scalar.andi v8 v5
  let v10 : BitVec 32 := Scalar.addi v4 v3
  Scalar.select v9 v10 v4

theorem subW_eq : ∀ i : grid0.Coords, subW i = BitVec.ofNat 32 ((i 0).val % 8) := by decide +kernel

theorem pay2_eq (i : grid0.Coords) : k0_pay2 i = broadcast S8x128 (subW i) := rfl

/-- The row mask holds exactly on the query's row. -/
theorem pay1_apply (i : grid0.Coords) (r : Fin 8) (l : Fin 128) :
    k0_pay1 i (ix2 r l) = if r.val = (i 0).val % 8 then 1#1 else 0#1 := by
  show IntOp.cmpi .eq (iota .tc S8x128 32 [0] iota_S8x128_d0_w32 (ix2 r l)) (subW i) = _
  rw [subW_eq, show iota .tc S8x128 32 [0] iota_S8x128_d0_w32 (ix2 r l) = BitVec.ofNat 32 r.val from by pointwise]
  have h : ∀ a b : Fin 8, IntOp.cmpi .eq (BitVec.ofNat 32 a.val) (BitVec.ofNat 32 b.val) = if a.val = b.val then 1#1 else 0#1 := by
    decide
  exact h r ⟨(i 0).val % 8, Nat.mod_lt _ (by decide)⟩

/-- The probe's column word, on every row of the tile: from the query's own row of the probe tile `y`. -/
theorem pay8_apply (i : grid0.Coords) (y : Vec F S8x128 .i32) (r : Fin 8) (l : Fin 128) :
    k0_pay8 (F := F) (BitVec.ofNat 32 (i 0).val) (k0_pay2 i) y (ix2 r l)
      = comboW (i 0).val (y (ix2 (⟨(i 0).val % 8, Nat.mod_lt _ (by decide)⟩ : Fin 8) l)) := by
  unfold k0_pay8
  dsimp only
  rw [shapeCast_shapeCast]
  show IntOp.addi (Scalar.muli (BitVec.ofNat 32 (i 0).val) 6#32) (dynamicGather (s := S8x128) 0 y _ (ix2 r l)) = _
  rw [gather0_apply]
  unfold comboW
  congr 2
  congr 1
  rw [pay2_eq]
  apply Fin.ext
  show (Scalar.select (IntOp.cmpi .slt (subW i) 0#32) (IntOp.addi (subW i) 8#32) (subW i)).toNat % 8 = (i 0).val % 8
  rw [subW_eq]
  have h : ∀ b : Fin 8, (Scalar.select (IntOp.cmpi .slt (BitVec.ofNat 32 b.val) 0#32) (IntOp.addi (BitVec.ofNat 32 b.val) 8#32) (BitVec.ofNat 32 b.val)).toNat % 8 = b.val := by
    decide
  exact h ⟨(i 0).val % 8, Nat.mod_lt _ (by decide)⟩

end Cert.KernelIdeal.Scan

end
-- ==== Proof.ScanIdeal.TripVal.lean ====
/- One trip with a live column block, value by value: what the body stores in each output block, at one row and lane. -/
module

public import proofs.«01_k».proof.Proof.ScanIdeal.Lanes

@[expose] public section

set_option maxRecDepth 16384

noncomputable section

namespace Cert.KernelIdeal.Scan

open Idealize.ShloMosaic Idealize.ShloMosaic.TcCoe Idealize.SL.Sem Cert.KernelIdeal.Gen

variable {F : FTy → Type} [FloatOps F]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-! ## Where the loads read -/

theorem trip_lt : k.val < 16 := trips_eq ▸ k.isLt

theorem grid_lt0 : (i 0).val < 18 := (i 0).isLt
theorem grid_lt1 : (i 1).val < 4 := (i 1).isLt

/-- The row tile's row `r`. -/
def rowAt (r : Fin 8) : Fin 24 := ⟨8 * ((i 0).val / 8) + r.val, by have := grid_lt0 i; omega⟩

/-- The column block's lane `l`. -/
def colAt (l : Fin 128) : Fin 8192 := ⟨2048 * (i 1).val + 128 * k.val + l.val, by have := grid_lt1 i; have := trip_lt k; omega⟩

/-- A load of the row tile and column block. -/
theorem read_tile {e : EltTy} (a : Memref sig .tc .vmem S24x8192 e) (f : Buf (Elt F) (a.view.loc (c : Thread nD τ)))
    (inb : ∀ d, (k0_off2 i k) d + S8x128.size d ≤ S24x8192.size d) (r : Fin 8) (l : Fin 128) :
    a.view.readAt (Elt F) (Rect.unit (s := S24x8192) (k0_off2 i k) S8x128.size inb).toLoadRect f (ix2 r l)
      = a.view.read (Elt F) f (ix2 (rowAt i r) (colAt i k l)) := by
  rw [View.readAt_apply]
  refine congrArg (a.view.read (Elt F) f) (funext fun d => Fin.ext ?_)
  have e := congrFun (off2_eq i k) d
  match d, e with
  | ⟨0, _⟩, e => show (k0_off2 i k) 0 + 1 * r.val = _; rw [show (k0_off2 i k) 0 = _ from e, Nat.one_mul]; rfl
  | ⟨1, _⟩, e => show (k0_off2 i k) 1 + 1 * l.val = _; rw [show (k0_off2 i k) 1 = _ from e, Nat.one_mul]; rfl

/-- A load of eight rows of the planes. -/
theorem read_planes (n : ℕ) (inb : ∀ d, (![n, 0] : Fin 2 → ℕ) d + S8x128.size d ≤ S384x128.size d) (r : Fin 8) (q : Fin 128) :
    arg4.view.readAt (Elt F) (Rect.unit (s := S384x128) ![n, 0] S8x128.size inb).toLoadRect f4 (ix2 r q)
      = arg4.view.read (Elt F) f4 (ix2 (⟨n + r.val, by have := inb 0; have : n + 8 ≤ 384 := this; omega⟩ : Fin 384) q) := by
  rw [View.readAt_apply]
  refine congrArg (arg4.view.read (Elt F) f4) (funext fun d => Fin.ext ?_)
  match d with
  | ⟨0, _⟩ => show n + 1 * r.val = _; rw [Nat.one_mul]; rfl
  | ⟨1, _⟩ => show 0 + 1 * q.val = _; rw [Nat.one_mul, Nat.zero_add]; rfl

/-- The load of the statistics. -/
theorem read_stats (inb : ∀ d, (![0, 0] : Fin 2 → ℕ) d + S8x128.size d ≤ S8x128.size d) (r : Fin 8) (q : Fin 128) :
    arg5.view.readAt (Elt F) (Rect.unit (s := S8x128) ![0, 0] S8x128.size inb).toLoadRect f5 (ix2 r q)
      = arg5.view.read (Elt F) f5 (ix2 r q) := by
  rw [View.readAt_apply]
  refine congrArg (arg5.view.read (Elt F) f5) (funext fun d => Fin.ext ?_)
  match d with
  | ⟨0, _⟩ => show 0 + 1 * r.val = _; rw [Nat.one_mul, Nat.zero_add]; rfl
  | ⟨1, _⟩ => show 0 + 1 * q.val = _; rw [Nat.one_mul, Nat.zero_add]; rfl

/-- The candidate's code in the codes block. -/
def codeOf (l : Fin 128) (w : Fin 96) : BitVec 32 :=
  arg3.view.read (Elt F) f3 (ix3 (⟨k.val, trip_lt k⟩ : Fin 16) w l)

/-- A load of eight words of the codes. -/
theorem read_codes (off : Fin 3 → ℕ) (n : ℕ) (he : off = ![k.val, n, 0])
    (inb : ∀ d, off d + S1x8x128.size d ≤ S16x96x128.size d) (hn : n + 8 ≤ 96) (r : Fin 8) (l : Fin 128) :
    shapeCast S8x128 (arg3.view.readAt (Elt F) (Rect.unit (s := S16x96x128) off S1x8x128.size inb).toLoadRect f3) shapeCasts_S1x8x128_S8x128 (ix2 r l)
      = codeOf c arg3 k f3 l ⟨n + r.val, by omega⟩ := by
  subst he
  rw [cast3_apply, View.readAt_apply]
  refine congrArg (arg3.view.read (Elt F) f3) (funext fun d => Fin.ext ?_)
  match d with
  | ⟨0, _⟩ => show k.val + 1 * 0 = _; rfl
  | ⟨1, _⟩ => show n + 1 * r.val = _; rw [Nat.one_mul]; rfl
  | ⟨2, _⟩ => show 0 + 1 * l.val = _; rw [Nat.one_mul, Nat.zero_add]; rfl

/-- The column of the tables lane `l`'s candidate reads. -/
def qOf (l : Fin 128) : Fin 128 :=
  laneOf (comboW (i 0).val (arg6.view.read (Elt F) f6 (ix2 (rowAt i ⟨(i 0).val % 8, Nat.mod_lt _ (by decide)⟩) (colAt i k l))))

/-! ## The integer counts -/

/-- Every row of the tile holds the candidate's column word. -/
theorem combo_apply (r : Fin 8) (l : Fin 128) :
    tripFull.sl.v43 c i arg6 (BitVec.ofNat 32 (i 0).val) k f6 (ix2 r l)
      = comboW (i 0).val (arg6.view.read (Elt F) f6 (ix2 (rowAt i ⟨(i 0).val % 8, Nat.mod_lt _ (by decide)⟩) (colAt i k l))) := by
  show k0_pay8 (F := F) _ (k0_pay2 i) _ _ = _
  rw [pay8_apply, read_tile]

theorem gat {α : Type} (x : S8x128.Idx → α) (r : Fin 8) (l : Fin 128) :
    dynamicGather (s := S8x128) 1 x (tripFull.sl.v61 c i arg6 (BitVec.ofNat 32 (i 0).val) k f6) (ix2 r l)
      = x (ix2 r (qOf c i arg6 k f6 l)) := by
  refine (pick_apply x (tripFull.sl.v43 c i arg6 (BitVec.ofNat 32 (i 0).val) k f6) r l).trans ?_
  rw [combo_apply]; rfl

theorem codes0 (r : Fin 8) (l : Fin 128) : tripFull.sl.v51 c arg3 k f3 (ix2 r l)
    = codeOf c arg3 k f3 l ⟨8 * ((0 : Fin 12)).val + r.val, by omega⟩ :=
  read_codes c arg3 k f3 _ 0 (k0_off3_eq k) (k0_off3_inb k) (by decide) r l

theorem codes1 (r : Fin 8) (l : Fin 128) : tripFull.sl.v104 c arg3 k f3 (ix2 r l)
    = codeOf c arg3 k f3 l ⟨8 * ((1 : Fin 12)).val + r.val, by omega⟩ :=
  read_codes c arg3 k f3 _ 8 (k0_off4_eq k) (k0_off4_inb k) (by decide) r l

theorem codes2 (r : Fin 8) (l : Fin 128) : tripFull.sl.v157 c arg3 k f3 (ix2 r l)
    = codeOf c arg3 k f3 l ⟨8 * ((2 : Fin 12)).val + r.val, by omega⟩ :=
  read_codes c arg3 k f3 _ 16 (k0_off5_eq k) (k0_off5_inb k) (by decide) r l

theorem codes3 (r : Fin 8) (l : Fin 128) : tripFull.sl.v210 c arg3 k f3 (ix2 r l)
    = codeOf c arg3 k f3 l ⟨8 * ((3 : Fin 12)).val + r.val, by omega⟩ :=
  read_codes c arg3 k f3 _ 24 (k0_off6_eq k) (k0_off6_inb k) (by decide) r l

theorem codes4 (r : Fin 8) (l : Fin 128) : tripFull.sl.v263 c arg3 k f3 (ix2 r l)
    = codeOf c arg3 k f3 l ⟨8 * ((4 : Fin 12)).val + r.val, by omega⟩ :=
  read_codes c arg3 k f3 _ 32 (k0_off7_eq k) (k0_off7_inb k) (by decide) r l

theorem codes5 (r : Fin 8) (l : Fin 128) : tripFull.sl.v316 c arg3 k f3 (ix2 r l)
    = codeOf c arg3 k f3 l ⟨8 * ((5 : Fin 12)).val + r.val, by omega⟩ :=
  read_codes c arg3 k f3 _ 40 (k0_off8_eq k) (k0_off8_inb k) (by decide) r l

theorem codes6 (r : Fin 8) (l : Fin 128) : tripFull.sl.v369 c arg3 k f3 (ix2 r l)
    = codeOf c arg3 k f3 l ⟨8 * ((6 : Fin 12)).val + r.val, by omega⟩ :=
  read_codes c arg3 k f3 _ 48 (k0_off9_eq k) (k0_off9_inb k) (by decide) r l

theorem codes7 (r : Fin 8) (l : Fin 128) : tripFull.sl.v422 c arg3 k f3 (ix2 r l)
    = codeOf c arg3 k f3 l ⟨8 * ((7 : Fin 12)).val + r.val, by omega⟩ :=
  read_codes c arg3 k f3 _ 56 (k0_off10_eq k) (k0_off10_inb k) (by decide) r l

theorem codes8 (r : Fin 8) (l : Fin 128) : tripFull.sl.v475 c arg3 k f3 (ix2 r l)
    = codeOf c arg3 k f3 l ⟨8 * ((8 : Fin 12)).val + r.val, by omega⟩ :=
  read_codes c arg3 k f3 _ 64 (k0_off11_eq k) (k0_off11_inb k) (by decide) r l

theorem codes9 (r : Fin 8) (l : Fin 128) : tripFull.sl.v528 c arg3 k f3 (ix2 r l)
    = codeOf c arg3 k f3 l ⟨8 * ((9 : Fin 12)).val + r.val, by omega⟩ :=
  read_codes c arg3 k f3 _ 72 (k0_off12_eq k) (k0_off12_inb k) (by decide) r l

theorem codes10 (r : Fin 8) (l : Fin 128) : tripFull.sl.v581 c arg3 k f3 (ix2 r l)
    = codeOf c arg3 k f3 l ⟨8 * ((10 : Fin 12)).val + r.val, by omega⟩ :=
  read_codes c arg3 k f3 _ 80 (k0_off13_eq k) (k0_off13_inb k) (by decide) r l

theorem codes11 (r : Fin 8) (l : Fin 128) : tripFull.sl.v634 c arg3 k f3 (ix2 r l)
    = codeOf c arg3 k f3 l ⟨8 * ((11 : Fin 12)).val + r.val, by omega⟩ :=
  read_codes c arg3 k f3 _ 88 (k0_off14_eq k) (k0_off14_inb k) (by decide) r l

/-- One leaf of a count: a code block, against the planes' rows from `n` at the candidate's column. -/
theorem leaf (code : IVec S8x128 32) (n : ℕ) (inb : ∀ d, (![n, 0] : Fin 2 → ℕ) d + S8x128.size d ≤ S384x128.size d)
    (v : Fin 12) (j : Fin 4) (hn : n = 96 * j.val + 8 * v.val) (r : Fin 8) (l : Fin 128)
    (hc : code (ix2 r l) = codeOf c arg3 k f3 l ⟨8 * v.val + r.val, by omega⟩) :
    ctpop (andi code (dynamicGather (s := S8x128) 1
        (arg4.view.readAt (Elt F) (Rect.unit (s := S384x128) ![n, 0] S8x128.size inb).toLoadRect f4)
        (tripFull.sl.v61 c i arg6 (BitVec.ofNat 32 (i 0).val) k f6))) (ix2 r l)
      = hit (codeOf c arg3 k f3 l) (arg4.view.read (Elt F) f4) (qOf c i arg6 k f6 l) r v j := by
  subst hn
  show IntOp.ctpop (IntOp.andi (code (ix2 r l)) (dynamicGather (s := S8x128) 1 _ _ (ix2 r l))) = _
  rw [gat, read_planes, hc]

/-- One step of a count. -/
theorem add_step (x y : IVec S8x128 32) (j : S8x128.Idx) (a b : BitVec 32) (hx : x j = a) (hy : y j = b) :
    addi x y j = IntOp.addi a b := by subst hx; subst hy; rfl

theorem pop_step (x : IVec S8x128 32) (j : S8x128.Idx) (a : BitVec 32) (hx : x j = a) : ctpop x j = IntOp.ctpop a := by
  subst hx; rfl

theorem leaf0_0 (r : Fin 8) (l : Fin 128) : tripFull.sl.v64 c i arg3 arg4 arg6 (BitVec.ofNat 32 (i 0).val) k f3 f4 f6 (ix2 r l)
    = hit (codeOf c arg3 k f3 l) (arg4.view.read (Elt F) f4) (qOf c i arg6 k f6 l) r 0 0 :=
  leaf c i arg3 arg4 arg6 k f3 f4 f6 (tripFull.sl.v51 c arg3 k f3) 0 _ 0 0 (by decide) r l (codes0 c arg3 k f3 r l)

theorem leaf0_1 (r : Fin 8) (l : Fin 128) : tripFull.sl.v76 c i arg3 arg4 arg6 (BitVec.ofNat 32 (i 0).val) k f3 f4 f6 (ix2 r l)
    = hit (codeOf c arg3 k f3 l) (arg4.view.read (Elt F) f4) (qOf c i arg6 k f6 l) r 0 1 :=
  leaf c i arg3 arg4 arg6 k f3 f4 f6 (tripFull.sl.v51 c arg3 k f3) 96 _ 0 1 (by decide) r l (codes0 c arg3 k f3 r l)

theorem leaf0_2 (r : Fin 8) (l : Fin 128) : tripFull.sl.v88 c i arg3 arg4 arg6 (BitVec.ofNat 32 (i 0).val) k f3 f4 f6 (ix2 r l)
    = hit (codeOf c arg3 k f3 l) (arg4.view.read (Elt F) f4) (qOf c i arg6 k f6 l) r 0 2 :=
  leaf c i arg3 arg4 arg6 k f3 f4 f6 (tripFull.sl.v51 c arg3 k f3) 192 _ 0 2 (by decide) r l (codes0 c arg3 k f3 r l)

theorem leaf0_3 (r : Fin 8) (l : Fin 128) : tripFull.sl.v100 c i arg3 arg4 arg6 (BitVec.ofNat 32 (i 0).val) k f3 f4 f6 (ix2 r l)
    = hit (codeOf c arg3 k f3 l) (arg4.view.read (Elt F) f4) (qOf c i arg6 k f6 l) r 0 3 :=
  leaf c i arg3 arg4 arg6 k f3 f4 f6 (tripFull.sl.v51 c arg3 k f3) 288 _ 0 3 (by decide) r l (codes0 c arg3 k f3 r l)

theorem leaf1_0 (r : Fin 8) (l : Fin 128) : tripFull.sl.v117 c i arg3 arg4 arg6 (BitVec.ofNat 32 (i 0).val) k f3 f4 f6 (ix2 r l)
    = hit (codeOf c arg3 k f3 l) (arg4.view.read (Elt F) f4) (qOf c i arg6 k f6 l) r 1 0 :=
  leaf c i arg3 arg4 arg6 k f3 f4 f6 (tripFull.sl.v104 c arg3 k f3) 8 _ 1 0 (by decide) r l (codes1 c arg3 k f3 r l)

theorem leaf1_1 (r : Fin 8) (l : Fin 128) : tripFull.sl.v129 c i arg3 arg4 arg6 (BitVec.ofNat 32 (i 0).val) k f3 f4 f6 (ix2 r l)
    = hit (codeOf c arg3 k f3 l) (arg4.view.read (Elt F) f4) (qOf c i arg6 k f6 l) r 1 1 :=
  leaf c i arg3 arg4 arg6 k f3 f4 f6 (tripFull.sl.v104 c arg3 k f3) 104 _ 1 1 (by decide) r l (codes1 c arg3 k f3 r l)

theorem leaf1_2 (r : Fin 8) (l : Fin 128) : tripFull.sl.v141 c i arg3 arg4 arg6 (BitVec.ofNat 32 (i 0).val) k f3 f4 f6 (ix2 r l)
    = hit (codeOf c arg3 k f3 l) (arg4.view.read (Elt F) f4) (qOf c i arg6 k f6 l) r 1 2 :=
  leaf c i arg3 arg4 arg6 k f3 f4 f6 (tripFull.sl.v104 c arg3 k f3) 200 _ 1 2 (by decide) r l (codes1 c arg3 k f3 r l)

theorem leaf1_3 (r : Fin 8) (l : Fin 128) : tripFull.sl.v153 c i arg3 arg4 arg6 (BitVec.ofNat 32 (i 0).val) k f3 f4 f6 (ix2 r l)
    = hit (codeOf c arg3 k f3 l) (arg4.view.read (Elt F) f4) (qOf c i arg6 k f6 l) r 1 3 :=
  leaf c i arg3 arg4 arg6 k f3 f4 f6 (tripFull.sl.v104 c arg3 k f3) 296 _ 1 3 (by decide) r l (codes1 c arg3 k f3 r l)

theorem leaf2_0 (r : Fin 8) (l : Fin 128) : tripFull.sl.v170 c i arg3 arg4 arg6 (BitVec.ofNat 32 (i 0).val) k f3 f4 f6 (ix2 r l)
    = hit (codeOf c arg3 k f3 l) (arg4.view.read (Elt F) f4) (qOf c i arg6 k f6 l) r 2 0 :=
  leaf c i arg3 arg4 arg6 k f3 f4 f6 (tripFull.sl.v157 c arg3 k f3) 16 _ 2 0 (by decide) r l (codes2 c arg3 k f3 r l)

theorem leaf2_1 (r : Fin 8) (l : Fin 128) : tripFull.sl.v182 c i arg3 arg4 arg6 (BitVec.ofNat 32 (i 0).val) k f3 f4 f6 (ix2 r l)
    = hit (codeOf c arg3 k f3 l) (arg4.view.read (Elt F) f4) (qOf c i arg6 k f6 l) r 2 1 :=
  leaf c i arg3 arg4 arg6 k f3 f4 f6 (tripFull.sl.v157 c arg3 k f3) 112 _ 2 1 (by decide) r l (codes2 c arg3 k f3 r l)

theorem leaf2_2 (r : Fin 8) (l : Fin 128) : tripFull.sl.v194 c i arg3 arg4 arg6 (BitVec.ofNat 32 (i 0).val) k f3 f4 f6 (ix2 r l)
    = hit (codeOf c arg3 k f3 l) (arg4.view.read (Elt F) f4) (qOf c i arg6 k f6 l) r 2 2 :=
  leaf c i arg3 arg4 arg6 k f3 f4 f6 (tripFull.sl.v157 c arg3 k f3) 208 _ 2 2 (by decide) r l (codes2 c arg3 k f3 r l)

theorem leaf2_3 (r : Fin 8) (l : Fin 128) : tripFull.sl.v206 c i arg3 arg4 arg6 (BitVec.ofNat 32 (i 0).val) k f3 f4 f6 (ix2 r l)
    = hit (codeOf c arg3 k f3 l) (arg4.view.read (Elt F) f4) (qOf c i arg6 k f6 l) r 2 3 :=
  leaf c i arg3 arg4 arg6 k f3 f4 f6 (tripFull.sl.v157 c arg3 k f3) 304 _ 2 3 (by decide) r l (codes2 c arg3 k f3 r l)

theorem leaf3_0 (r : Fin 8) (l : Fin 128) : tripFull.sl.v223 c i arg3 arg4 arg6 (BitVec.ofNat 32 (i 0).val) k f3 f4 f6 (ix2 r l)
    = hit (codeOf c arg3 k f3 l) (arg4.view.read (Elt F) f4) (qOf c i arg6 k f6 l) r 3 0 :=
  leaf c i arg3 arg4 arg6 k f3 f4 f6 (tripFull.sl.v210 c arg3 k f3) 24 _ 3 0 (by decide) r l (codes3 c arg3 k f3 r l)

theorem leaf3_1 (r : Fin 8) (l : Fin 128) : tripFull.sl.v235 c i arg3 arg4 arg6 (BitVec.ofNat 32 (i 0).val) k f3 f4 f6 (ix2 r l)
    = hit (codeOf c arg3 k f3 l) (arg4.view.read (Elt F) f4) (qOf c i arg6 k f6 l) r 3 1 :=
  leaf c i arg3 arg4 arg6 k f3 f4 f6 (tripFull.sl.v210 c arg3 k f3) 120 _ 3 1 (by decide) r l (codes3 c arg3 k f3 r l)

theorem leaf3_2 (r : Fin 8) (l : Fin 128) : tripFull.sl.v247 c i arg3 arg4 arg6 (BitVec.ofNat 32 (i 0).val) k f3 f4 f6 (ix2 r l)
    = hit (codeOf c arg3 k f3 l) (arg4.view.read (Elt F) f4) (qOf c i arg6 k f6 l) r 3 2 :=
  leaf c i arg3 arg4 arg6 k f3 f4 f6 (tripFull.sl.v210 c arg3 k f3) 216 _ 3 2 (by decide) r l (codes3 c arg3 k f3 r l)

theorem leaf3_3 (r : Fin 8) (l : Fin 128) : tripFull.sl.v259 c i arg3 arg4 arg6 (BitVec.ofNat 32 (i 0).val) k f3 f4 f6 (ix2 r l)
    = hit (codeOf c arg3 k f3 l) (arg4.view.read (Elt F) f4) (qOf c i arg6 k f6 l) r 3 3 :=
  leaf c i arg3 arg4 arg6 k f3 f4 f6 (tripFull.sl.v210 c arg3 k f3) 312 _ 3 3 (by decide) r l (codes3 c arg3 k f3 r l)

theorem leaf4_0 (r : Fin 8) (l : Fin 128) : tripFull.sl.v276 c i arg3 arg4 arg6 (BitVec.ofNat 32 (i 0).val) k f3 f4 f6 (ix2 r l)
    = hit (codeOf c arg3 k f3 l) (arg4.view.read (Elt F) f4) (qOf c i arg6 k f6 l) r 4 0 :=
  leaf c i arg3 arg4 arg6 k f3 f4 f6 (tripFull.sl.v263 c arg3 k f3) 32 _ 4 0 (by decide) r l (codes4 c arg3 k f3 r l)

theorem leaf4_1 (r : Fin 8) (l : Fin 128) : tripFull.sl.v288 c i arg3 arg4 arg6 (BitVec.ofNat 32 (i 0).val) k f3 f4 f6 (ix2 r l)
    = hit (codeOf c arg3 k f3 l) (arg4.view.read (Elt F) f4) (qOf c i arg6 k f6 l) r 4 1 :=
  leaf c i arg3 arg4 arg6 k f3 f4 f6 (tripFull.sl.v263 c arg3 k f3) 128 _ 4 1 (by decide) r l (codes4 c arg3 k f3 r l)

theorem leaf4_2 (r : Fin 8) (l : Fin 128) : tripFull.sl.v300 c i arg3 arg4 arg6 (BitVec.ofNat 32 (i 0).val) k f3 f4 f6 (ix2 r l)
    = hit (codeOf c arg3 k f3 l) (arg4.view.read (Elt F) f4) (qOf c i arg6 k f6 l) r 4 2 :=
  leaf c i arg3 arg4 arg6 k f3 f4 f6 (tripFull.sl.v263 c arg3 k f3) 224 _ 4 2 (by decide) r l (codes4 c arg3 k f3 r l)

theorem leaf4_3 (r : Fin 8) (l : Fin 128) : tripFull.sl.v312 c i arg3 arg4 arg6 (BitVec.ofNat 32 (i 0).val) k f3 f4 f6 (ix2 r l)
    = hit (codeOf c arg3 k f3 l) (arg4.view.read (Elt F) f4) (qOf c i arg6 k f6 l) r 4 3 :=
  leaf c i arg3 arg4 arg6 k f3 f4 f6 (tripFull.sl.v263 c arg3 k f3) 320 _ 4 3 (by decide) r l (codes4 c arg3 k f3 r l)

theorem leaf5_0 (r : Fin 8) (l : Fin 128) : tripFull.sl.v329 c i arg3 arg4 arg6 (BitVec.ofNat 32 (i 0).val) k f3 f4 f6 (ix2 r l)
    = hit (codeOf c arg3 k f3 l) (arg4.view.read (Elt F) f4) (qOf c i arg6 k f6 l) r 5 0 :=
  leaf c i arg3 arg4 arg6 k f3 f4 f6 (tripFull.sl.v316 c arg3 k f3) 40 _ 5 0 (by decide) r l (codes5 c arg3 k f3 r l)

theorem leaf5_1 (r : Fin 8) (l : Fin 128) : tripFull.sl.v341 c i arg3 arg4 arg6 (BitVec.ofNat 32 (i 0).val) k f3 f4 f6 (ix2 r l)
    = hit (codeOf c arg3 k f3 l) (arg4.view.read (Elt F) f4) (qOf c i arg6 k f6 l) r 5 1 :=
  leaf c i arg3 arg4 arg6 k f3 f4 f6 (tripFull.sl.v316 c arg3 k f3) 136 _ 5 1 (by decide) r l (codes5 c arg3 k f3 r l)

theorem leaf5_2 (r : Fin 8) (l : Fin 128) : tripFull.sl.v353 c i arg3 arg4 arg6 (BitVec.ofNat 32 (i 0).val) k f3 f4 f6 (ix2 r l)
    = hit (codeOf c arg3 k f3 l) (arg4.view.read (Elt F) f4) (qOf c i arg6 k f6 l) r 5 2 :=
  leaf c i arg3 arg4 arg6 k f3 f4 f6 (tripFull.sl.v316 c arg3 k f3) 232 _ 5 2 (by decide) r l (codes5 c arg3 k f3 r l)

theorem leaf5_3 (r : Fin 8) (l : Fin 128) : tripFull.sl.v365 c i arg3 arg4 arg6 (BitVec.ofNat 32 (i 0).val) k f3 f4 f6 (ix2 r l)
    = hit (codeOf c arg3 k f3 l) (arg4.view.read (Elt F) f4) (qOf c i arg6 k f6 l) r 5 3 :=
  leaf c i arg3 arg4 arg6 k f3 f4 f6 (tripFull.sl.v316 c arg3 k f3) 328 _ 5 3 (by decide) r l (codes5 c arg3 k f3 r l)

theorem leaf6_0 (r : Fin 8) (l : Fin 128) : tripFull.sl.v382 c i arg3 arg4 arg6 (BitVec.ofNat 32 (i 0).val) k f3 f4 f6 (ix2 r l)
    = hit (codeOf c arg3 k f3 l) (arg4.view.read (Elt F) f4) (qOf c i arg6 k f6 l) r 6 0 :=
  leaf c i arg3 arg4 arg6 k f3 f4 f6 (tripFull.sl.v369 c arg3 k f3) 48 _ 6 0 (by decide) r l (codes6 c arg3 k f3 r l)

theorem leaf6_1 (r : Fin 8) (l : Fin 128) : tripFull.sl.v394 c i arg3 arg4 arg6 (BitVec.ofNat 32 (i 0).val) k f3 f4 f6 (ix2 r l)
    = hit (codeOf c arg3 k f3 l) (arg4.view.read (Elt F) f4) (qOf c i arg6 k f6 l) r 6 1 :=
  leaf c i arg3 arg4 arg6 k f3 f4 f6 (tripFull.sl.v369 c arg3 k f3) 144 _ 6 1 (by decide) r l (codes6 c arg3 k f3 r l)

theorem leaf6_2 (r : Fin 8) (l : Fin 128) : tripFull.sl.v406 c i arg3 arg4 arg6 (BitVec.ofNat 32 (i 0).val) k f3 f4 f6 (ix2 r l)
    = hit (codeOf c arg3 k f3 l) (arg4.view.read (Elt F) f4) (qOf c i arg6 k f6 l) r 6 2 :=
  leaf c i arg3 arg4 arg6 k f3 f4 f6 (tripFull.sl.v369 c arg3 k f3) 240 _ 6 2 (by decide) r l (codes6 c arg3 k f3 r l)

theorem leaf6_3 (r : Fin 8) (l : Fin 128) : tripFull.sl.v418 c i arg3 arg4 arg6 (BitVec.ofNat 32 (i 0).val) k f3 f4 f6 (ix2 r l)
    = hit (codeOf c arg3 k f3 l) (arg4.view.read (Elt F) f4) (qOf c i arg6 k f6 l) r 6 3 :=
  leaf c i arg3 arg4 arg6 k f3 f4 f6 (tripFull.sl.v369 c arg3 k f3) 336 _ 6 3 (by decide) r l (codes6 c arg3 k f3 r l)

theorem leaf7_0 (r : Fin 8) (l : Fin 128) : tripFull.sl.v435 c i arg3 arg4 arg6 (BitVec.ofNat 32 (i 0).val) k f3 f4 f6 (ix2 r l)
    = hit (codeOf c arg3 k f3 l) (arg4.view.read (Elt F) f4) (qOf c i arg6 k f6 l) r 7 0 :=
  leaf c i arg3 arg4 arg6 k f3 f4 f6 (tripFull.sl.v422 c arg3 k f3) 56 _ 7 0 (by decide) r l (codes7 c arg3 k f3 r l)

theorem leaf7_1 (r : Fin 8) (l : Fin 128) : tripFull.sl.v447 c i arg3 arg4 arg6 (BitVec.ofNat 32 (i 0).val) k f3 f4 f6 (ix2 r l)
    = hit (codeOf c arg3 k f3 l) (arg4.view.read (Elt F) f4) (qOf c i arg6 k f6 l) r 7 1 :=
  leaf c i arg3 arg4 arg6 k f3 f4 f6 (tripFull.sl.v422 c arg3 k f3) 152 _ 7 1 (by decide) r l (codes7 c arg3 k f3 r l)

theorem leaf7_2 (r : Fin 8) (l : Fin 128) : tripFull.sl.v459 c i arg3 arg4 arg6 (BitVec.ofNat 32 (i 0).val) k f3 f4 f6 (ix2 r l)
    = hit (codeOf c arg3 k f3 l) (arg4.view.read (Elt F) f4) (qOf c i arg6 k f6 l) r 7 2 :=
  leaf c i arg3 arg4 arg6 k f3 f4 f6 (tripFull.sl.v422 c arg3 k f3) 248 _ 7 2 (by decide) r l (codes7 c arg3 k f3 r l)

theorem leaf7_3 (r : Fin 8) (l : Fin 128) : tripFull.sl.v471 c i arg3 arg4 arg6 (BitVec.ofNat 32 (i 0).val) k f3 f4 f6 (ix2 r l)
    = hit (codeOf c arg3 k f3 l) (arg4.view.read (Elt F) f4) (qOf c i arg6 k f6 l) r 7 3 :=
  leaf c i arg3 arg4 arg6 k f3 f4 f6 (tripFull.sl.v422 c arg3 k f3) 344 _ 7 3 (by decide) r l (codes7 c arg3 k f3 r l)

theorem leaf8_0 (r : Fin 8) (l : Fin 128) : tripFull.sl.v488 c i arg3 arg4 arg6 (BitVec.ofNat 32 (i 0).val) k f3 f4 f6 (ix2 r l)
    = hit (codeOf c arg3 k f3 l) (arg4.view.read (Elt F) f4) (qOf c i arg6 k f6 l) r 8 0 :=
  leaf c i arg3 arg4 arg6 k f3 f4 f6 (tripFull.sl.v475 c arg3 k f3) 64 _ 8 0 (by decide) r l (codes8 c arg3 k f3 r l)

theorem leaf8_1 (r : Fin 8) (l : Fin 128) : tripFull.sl.v500 c i arg3 arg4 arg6 (BitVec.ofNat 32 (i 0).val) k f3 f4 f6 (ix2 r l)
    = hit (codeOf c arg3 k f3 l) (arg4.view.read (Elt F) f4) (qOf c i arg6 k f6 l) r 8 1 :=
  leaf c i arg3 arg4 arg6 k f3 f4 f6 (tripFull.sl.v475 c arg3 k f3) 160 _ 8 1 (by decide) r l (codes8 c arg3 k f3 r l)

theorem leaf8_2 (r : Fin 8) (l : Fin 128) : tripFull.sl.v512 c i arg3 arg4 arg6 (BitVec.ofNat 32 (i 0).val) k f3 f4 f6 (ix2 r l)
    = hit (codeOf c arg3 k f3 l) (arg4.view.read (Elt F) f4) (qOf c i arg6 k f6 l) r 8 2 :=
  leaf c i arg3 arg4 arg6 k f3 f4 f6 (tripFull.sl.v475 c arg3 k f3) 256 _ 8 2 (by decide) r l (codes8 c arg3 k f3 r l)

theorem leaf8_3 (r : Fin 8) (l : Fin 128) : tripFull.sl.v524 c i arg3 arg4 arg6 (BitVec.ofNat 32 (i 0).val) k f3 f4 f6 (ix2 r l)
    = hit (codeOf c arg3 k f3 l) (arg4.view.read (Elt F) f4) (qOf c i arg6 k f6 l) r 8 3 :=
  leaf c i arg3 arg4 arg6 k f3 f4 f6 (tripFull.sl.v475 c arg3 k f3) 352 _ 8 3 (by decide) r l (codes8 c arg3 k f3 r l)

theorem leaf9_0 (r : Fin 8) (l : Fin 128) : tripFull.sl.v541 c i arg3 arg4 arg6 (BitVec.ofNat 32 (i 0).val) k f3 f4 f6 (ix2 r l)
    = hit (codeOf c arg3 k f3 l) (arg4.view.read (Elt F) f4) (qOf c i arg6 k f6 l) r 9 0 :=
  leaf c i arg3 arg4 arg6 k f3 f4 f6 (tripFull.sl.v528 c arg3 k f3) 72 _ 9 0 (by decide) r l (codes9 c arg3 k f3 r l)

theorem leaf9_1 (r : Fin 8) (l : Fin 128) : tripFull.sl.v553 c i arg3 arg4 arg6 (BitVec.ofNat 32 (i 0).val) k f3 f4 f6 (ix2 r l)
    = hit (codeOf c arg3 k f3 l) (arg4.view.read (Elt F) f4) (qOf c i arg6 k f6 l) r 9 1 :=
  leaf c i arg3 arg4 arg6 k f3 f4 f6 (tripFull.sl.v528 c arg3 k f3) 168 _ 9 1 (by decide) r l (codes9 c arg3 k f3 r l)

theorem leaf9_2 (r : Fin 8) (l : Fin 128) : tripFull.sl.v565 c i arg3 arg4 arg6 (BitVec.ofNat 32 (i 0).val) k f3 f4 f6 (ix2 r l)
    = hit (codeOf c arg3 k f3 l) (arg4.view.read (Elt F) f4) (qOf c i arg6 k f6 l) r 9 2 :=
  leaf c i arg3 arg4 arg6 k f3 f4 f6 (tripFull.sl.v528 c arg3 k f3) 264 _ 9 2 (by decide) r l (codes9 c arg3 k f3 r l)

theorem leaf9_3 (r : Fin 8) (l : Fin 128) : tripFull.sl.v577 c i arg3 arg4 arg6 (BitVec.ofNat 32 (i 0).val) k f3 f4 f6 (ix2 r l)
    = hit (codeOf c arg3 k f3 l) (arg4.view.read (Elt F) f4) (qOf c i arg6 k f6 l) r 9 3 :=
  leaf c i arg3 arg4 arg6 k f3 f4 f6 (tripFull.sl.v528 c arg3 k f3) 360 _ 9 3 (by decide) r l (codes9 c arg3 k f3 r l)

theorem leaf10_0 (r : Fin 8) (l : Fin 128) : tripFull.sl.v594 c i arg3 arg4 arg6 (BitVec.ofNat 32 (i 0).val) k f3 f4 f6 (ix2 r l)
    = hit (codeOf c arg3 k f3 l) (arg4.view.read (Elt F) f4) (qOf c i arg6 k f6 l) r 10 0 :=
  leaf c i arg3 arg4 arg6 k f3 f4 f6 (tripFull.sl.v581 c arg3 k f3) 80 _ 10 0 (by decide) r l (codes10 c arg3 k f3 r l)

theorem leaf10_1 (r : Fin 8) (l : Fin 128) : tripFull.sl.v606 c i arg3 arg4 arg6 (BitVec.ofNat 32 (i 0).val) k f3 f4 f6 (ix2 r l)
    = hit (codeOf c arg3 k f3 l) (arg4.view.read (Elt F) f4) (qOf c i arg6 k f6 l) r 10 1 :=
  leaf c i arg3 arg4 arg6 k f3 f4 f6 (tripFull.sl.v581 c arg3 k f3) 176 _ 10 1 (by decide) r l (codes10 c arg3 k f3 r l)

theorem leaf10_2 (r : Fin 8) (l : Fin 128) : tripFull.sl.v618 c i arg3 arg4 arg6 (BitVec.ofNat 32 (i 0).val) k f3 f4 f6 (ix2 r l)
    = hit (codeOf c arg3 k f3 l) (arg4.view.read (Elt F) f4) (qOf c i arg6 k f6 l) r 10 2 :=
  leaf c i arg3 arg4 arg6 k f3 f4 f6 (tripFull.sl.v581 c arg3 k f3) 272 _ 10 2 (by decide) r l (codes10 c arg3 k f3 r l)

theorem leaf10_3 (r : Fin 8) (l : Fin 128) : tripFull.sl.v630 c i arg3 arg4 arg6 (BitVec.ofNat 32 (i 0).val) k f3 f4 f6 (ix2 r l)
    = hit (codeOf c arg3 k f3 l) (arg4.view.read (Elt F) f4) (qOf c i arg6 k f6 l) r 10 3 :=
  leaf c i arg3 arg4 arg6 k f3 f4 f6 (tripFull.sl.v581 c arg3 k f3) 368 _ 10 3 (by decide) r l (codes10 c arg3 k f3 r l)

theorem leaf11_0 (r : Fin 8) (l : Fin 128) : tripFull.sl.v647 c i arg3 arg4 arg6 (BitVec.ofNat 32 (i 0).val) k f3 f4 f6 (ix2 r l)
    = hit (codeOf c arg3 k f3 l) (arg4.view.read (Elt F) f4) (qOf c i arg6 k f6 l) r 11 0 :=
  leaf c i arg3 arg4 arg6 k f3 f4 f6 (tripFull.sl.v634 c arg3 k f3) 88 _ 11 0 (by decide) r l (codes11 c arg3 k f3 r l)

/-- The set bits of the code over the words congruent to `r`. -/
theorem pop_apply (r : Fin 8) (l : Fin 128) :
    tripFull.sl.v636 c arg3 k f3 (ix2 r l)
      = ∑ v : Fin 12, IntOp.ctpop (codeOf c arg3 k f3 l ⟨8 * v.val + r.val, by omega⟩) := by
  rw [sum12]
  exact add_step (tripFull.sl.v583 c arg3 k f3) (tripFull.sl.v635 c arg3 k f3) _ _ _
    (add_step (tripFull.sl.v530 c arg3 k f3) (tripFull.sl.v582 c arg3 k f3) _ _ _
    (add_step (tripFull.sl.v477 c arg3 k f3) (tripFull.sl.v529 c arg3 k f3) _ _ _
    (add_step (tripFull.sl.v424 c arg3 k f3) (tripFull.sl.v476 c arg3 k f3) _ _ _
    (add_step (tripFull.sl.v371 c arg3 k f3) (tripFull.sl.v423 c arg3 k f3) _ _ _
    (add_step (tripFull.sl.v318 c arg3 k f3) (tripFull.sl.v370 c arg3 k f3) _ _ _
    (add_step (tripFull.sl.v265 c arg3 k f3) (tripFull.sl.v317 c arg3 k f3) _ _ _
    (add_step (tripFull.sl.v212 c arg3 k f3) (tripFull.sl.v264 c arg3 k f3) _ _ _
    (add_step (tripFull.sl.v159 c arg3 k f3) (tripFull.sl.v211 c arg3 k f3) _ _ _
    (add_step (tripFull.sl.v106 c arg3 k f3) (tripFull.sl.v158 c arg3 k f3) _ _ _
    (add_step (tripFull.sl.v53 c arg3 k f3) (tripFull.sl.v105 c arg3 k f3) _ _ _
    (add_step tripFull.sl.v34 (tripFull.sl.v52 c arg3 k f3) _ _ _
    (rfl)
    (pop_step (tripFull.sl.v51 c arg3 k f3) _ _ (codes0 c arg3 k f3 r l)))
    (pop_step (tripFull.sl.v104 c arg3 k f3) _ _ (codes1 c arg3 k f3 r l)))
    (pop_step (tripFull.sl.v157 c arg3 k f3) _ _ (codes2 c arg3 k f3 r l)))
    (pop_step (tripFull.sl.v210 c arg3 k f3) _ _ (codes3 c arg3 k f3 r l)))
    (pop_step (tripFull.sl.v263 c arg3 k f3) _ _ (codes4 c arg3 k f3 r l)))
    (pop_step (tripFull.sl.v316 c arg3 k f3) _ _ (codes5 c arg3 k f3 r l)))
    (pop_step (tripFull.sl.v369 c arg3 k f3) _ _ (codes6 c arg3 k f3 r l)))
    (pop_step (tripFull.sl.v422 c arg3 k f3) _ _ (codes7 c arg3 k f3 r l)))
    (pop_step (tripFull.sl.v475 c arg3 k f3) _ _ (codes8 c arg3 k f3 r l)))
    (pop_step (tripFull.sl.v528 c arg3 k f3) _ _ (codes9 c arg3 k f3 r l)))
    (pop_step (tripFull.sl.v581 c arg3 k f3) _ _ (codes10 c arg3 k f3 r l)))
    (pop_step (tripFull.sl.v634 c arg3 k f3) _ _ (codes11 c arg3 k f3 r l))

/-- Plane 0's count. -/
theorem acc0_apply (r : Fin 8) (l : Fin 128) :
    tripFull.sl.v648 c i arg3 arg4 arg6 (BitVec.ofNat 32 (i 0).val) k f3 f4 f6 (ix2 r l)
      = accW (codeOf c arg3 k f3 l) (arg4.view.read (Elt F) f4) (qOf c i arg6 k f6 l) r 0 := by
  rw [accW, sum12]
  exact add_step (tripFull.sl.v595 c i arg3 arg4 arg6 (BitVec.ofNat 32 (i 0).val) k f3 f4 f6) (tripFull.sl.v647 c i arg3 arg4 arg6 (BitVec.ofNat 32 (i 0).val) k f3 f4 f6) _ _ _
    (add_step (tripFull.sl.v542 c i arg3 arg4 arg6 (BitVec.ofNat 32 (i 0).val) k f3 f4 f6) (tripFull.sl.v594 c i arg3 arg4 arg6 (BitVec.ofNat 32 (i 0).val) k f3 f4 f6) _ _ _
    (add_step (tripFull.sl.v489 c i arg3 arg4 arg6 (BitVec.ofNat 32 (i 0).val) k f3 f4 f6) (tripFull.sl.v541 c i arg3 arg4 arg6 (BitVec.ofNat 32 (i 0).val) k f3 f4 f6) _ _ _
    (add_step (tripFull.sl.v436 c i arg3 arg4 arg6 (BitVec.ofNat 32 (i 0).val) k f3 f4 f6) (tripFull.sl.v488 c i arg3 arg4 arg6 (BitVec.ofNat 32 (i 0).val) k f3 f4 f6) _ _ _
    (add_step (tripFull.sl.v383 c i arg3 arg4 arg6 (BitVec.ofNat 32 (i 0).val) k f3 f4 f6) (tripFull.sl.v435 c i arg3 arg4 arg6 (BitVec.ofNat 32 (i 0).val) k f3 f4 f6) _ _ _
    (add_step (tripFull.sl.v330 c i arg3 arg4 arg6 (BitVec.ofNat 32 (i 0).val) k f3 f4 f6) (tripFull.sl.v382 c i arg3 arg4 arg6 (BitVec.ofNat 32 (i 0).val) k f3 f4 f6) _ _ _
    (add_step (tripFull.sl.v277 c i arg3 arg4 arg6 (BitVec.ofNat 32 (i 0).val) k f3 f4 f6) (tripFull.sl.v329 c i arg3 arg4 arg6 (BitVec.ofNat 32 (i 0).val) k f3 f4 f6) _ _ _
    (add_step (tripFull.sl.v224 c i arg3 arg4 arg6 (BitVec.ofNat 32 (i 0).val) k f3 f4 f6) (tripFull.sl.v276 c i arg3 arg4 arg6 (BitVec.ofNat 32 (i 0).val) k f3 f4 f6) _ _ _
    (add_step (tripFull.sl.v171 c i arg3 arg4 arg6 (BitVec.ofNat 32 (i 0).val) k f3 f4 f6) (tripFull.sl.v223 c i arg3 arg4 arg6 (BitVec.ofNat 32 (i 0).val) k f3 f4 f6) _ _ _
    (add_step (tripFull.sl.v118 c i arg3 arg4 arg6 (BitVec.ofNat 32 (i 0).val) k f3 f4 f6) (tripFull.sl.v170 c i arg3 arg4 arg6 (BitVec.ofNat 32 (i 0).val) k f3 f4 f6) _ _ _
    (add_step (tripFull.sl.v65 c i arg3 arg4 arg6 (BitVec.ofNat 32 (i 0).val) k f3 f4 f6) (tripFull.sl.v117 c i arg3 arg4 arg6 (BitVec.ofNat 32 (i 0).val) k f3 f4 f6) _ _ _
    (add_step tripFull.sl.v34 (tripFull.sl.v64 c i arg3 arg4 arg6 (BitVec.ofNat 32 (i 0).val) k f3 f4 f6) _ _ _
    (rfl)
    (leaf0_0 c i arg3 arg4 arg6 k f3 f4 f6 r l))
    (leaf1_0 c i arg3 arg4 arg6 k f3 f4 f6 r l))
    (leaf2_0 c i arg3 arg4 arg6 k f3 f4 f6 r l))
    (leaf3_0 c i arg3 arg4 arg6 k f3 f4 f6 r l))
    (leaf4_0 c i arg3 arg4 arg6 k f3 f4 f6 r l))
    (leaf5_0 c i arg3 arg4 arg6 k f3 f4 f6 r l))
    (leaf6_0 c i arg3 arg4 arg6 k f3 f4 f6 r l))
    (leaf7_0 c i arg3 arg4 arg6 k f3 f4 f6 r l))
    (leaf8_0 c i arg3 arg4 arg6 k f3 f4 f6 r l))
    (leaf9_0 c i arg3 arg4 arg6 k f3 f4 f6 r l))
    (leaf10_0 c i arg3 arg4 arg6 k f3 f4 f6 r l))
    (leaf11_0 c i arg3 arg4 arg6 k f3 f4 f6 r l)

/-- Plane 1's count: eleven words of it and the twelfth. -/
theorem acc1_apply (inb : ∀ d, (![184, 0] : Fin 2 → ℕ) d + S8x128.size d ≤ S384x128.size d) (r : Fin 8) (l : Fin 128) :
    addi (tripFull.sl.v607 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![184, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 1 := by
  rw [accW, sum12]
  exact add_step (tripFull.sl.v607 c i arg3 arg4 arg6 (BitVec.ofNat 32 (i 0).val) k f3 f4 f6) _ _ _ _
    (add_step (tripFull.sl.v554 c i arg3 arg4 arg6 (BitVec.ofNat 32 (i 0).val) k f3 f4 f6) (tripFull.sl.v606 c i arg3 arg4 arg6 (BitVec.ofNat 32 (i 0).val) k f3 f4 f6) _ _ _
    (add_step (tripFull.sl.v501 c i arg3 arg4 arg6 (BitVec.ofNat 32 (i 0).val) k f3 f4 f6) (tripFull.sl.v553 c i arg3 arg4 arg6 (BitVec.ofNat 32 (i 0).val) k f3 f4 f6) _ _ _
    (add_step (tripFull.sl.v448 c i arg3 arg4 arg6 (BitVec.ofNat 32 (i 0).val) k f3 f4 f6) (tripFull.sl.v500 c i arg3 arg4 arg6 (BitVec.ofNat 32 (i 0).val) k f3 f4 f6) _ _ _
    (add_step (tripFull.sl.v395 c i arg3 arg4 arg6 (BitVec.ofNat 32 (i 0).val) k f3 f4 f6) (tripFull.sl.v447 c i arg3 arg4 arg6 (BitVec.ofNat 32 (i 0).val) k f3 f4 f6) _ _ _
    (add_step (tripFull.sl.v342 c i arg3 arg4 arg6 (BitVec.ofNat 32 (i 0).val) k f3 f4 f6) (tripFull.sl.v394 c i arg3 arg4 arg6 (BitVec.ofNat 32 (i 0).val) k f3 f4 f6) _ _ _
    (add_step (tripFull.sl.v289 c i arg3 arg4 arg6 (BitVec.ofNat 32 (i 0).val) k f3 f4 f6) (tripFull.sl.v341 c i arg3 arg4 arg6 (BitVec.ofNat 32 (i 0).val) k f3 f4 f6) _ _ _
    (add_step (tripFull.sl.v236 c i arg3 arg4 arg6 (BitVec.ofNat 32 (i 0).val) k f3 f4 f6) (tripFull.sl.v288 c i arg3 arg4 arg6 (BitVec.ofNat 32 (i 0).val) k f3 f4 f6) _ _ _
    (add_step (tripFull.sl.v183 c i arg3 arg4 arg6 (BitVec.ofNat 32 (i 0).val) k f3 f4 f6) (tripFull.sl.v235 c i arg3 arg4 arg6 (BitVec.ofNat 32 (i 0).val) k f3 f4 f6) _ _ _
    (add_step (tripFull.sl.v130 c i arg3 arg4 arg6 (BitVec.ofNat 32 (i 0).val) k f3 f4 f6) (tripFull.sl.v182 c i arg3 arg4 arg6 (BitVec.ofNat 32 (i 0).val) k f3 f4 f6) _ _ _
    (add_step (tripFull.sl.v77 c i arg3 arg4 arg6 (BitVec.ofNat 32 (i 0).val) k f3 f4 f6) (tripFull.sl.v129 c i arg3 arg4 arg6 (BitVec.ofNat 32 (i 0).val) k f3 f4 f6) _ _ _
    (add_step tripFull.sl.v34 (tripFull.sl.v76 c i arg3 arg4 arg6 (BitVec.ofNat 32 (i 0).val) k f3 f4 f6) _ _ _
    (rfl)
    (leaf0_1 c i arg3 arg4 arg6 k f3 f4 f6 r l))
    (leaf1_1 c i arg3 arg4 arg6 k f3 f4 f6 r l))
    (leaf2_1 c i arg3 arg4 arg6 k f3 f4 f6 r l))
    (leaf3_1 c i arg3 arg4 arg6 k f3 f4 f6 r l))
    (leaf4_1 c i arg3 arg4 arg6 k f3 f4 f6 r l))
    (leaf5_1 c i arg3 arg4 arg6 k f3 f4 f6 r l))
    (leaf6_1 c i arg3 arg4 arg6 k f3 f4 f6 r l))
    (leaf7_1 c i arg3 arg4 arg6 k f3 f4 f6 r l))
    (leaf8_1 c i arg3 arg4 arg6 k f3 f4 f6 r l))
    (leaf9_1 c i arg3 arg4 arg6 k f3 f4 f6 r l))
    (leaf10_1 c i arg3 arg4 arg6 k f3 f4 f6 r l))
    (leaf c i arg3 arg4 arg6 k f3 f4 f6 (tripFull.sl.v634 c arg3 k f3) 184 inb 11 1 (by decide) r l (codes11 c arg3 k f3 r l))

/-- Plane 2's count: eleven words of it and the twelfth. -/
theorem acc2_apply (inb : ∀ d, (![280, 0] : Fin 2 → ℕ) d + S8x128.size d ≤ S384x128.size d) (r : Fin 8) (l : Fin 128) :
    addi (tripFull.sl.v619 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![280, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 2 := by
  rw [accW, sum12]
  exact add_step (tripFull.sl.v619 c i arg3 arg4 arg6 (BitVec.ofNat 32 (i 0).val) k f3 f4 f6) _ _ _ _
    (add_step (tripFull.sl.v566 c i arg3 arg4 arg6 (BitVec.ofNat 32 (i 0).val) k f3 f4 f6) (tripFull.sl.v618 c i arg3 arg4 arg6 (BitVec.ofNat 32 (i 0).val) k f3 f4 f6) _ _ _
    (add_step (tripFull.sl.v513 c i arg3 arg4 arg6 (BitVec.ofNat 32 (i 0).val) k f3 f4 f6) (tripFull.sl.v565 c i arg3 arg4 arg6 (BitVec.ofNat 32 (i 0).val) k f3 f4 f6) _ _ _
    (add_step (tripFull.sl.v460 c i arg3 arg4 arg6 (BitVec.ofNat 32 (i 0).val) k f3 f4 f6) (tripFull.sl.v512 c i arg3 arg4 arg6 (BitVec.ofNat 32 (i 0).val) k f3 f4 f6) _ _ _
    (add_step (tripFull.sl.v407 c i arg3 arg4 arg6 (BitVec.ofNat 32 (i 0).val) k f3 f4 f6) (tripFull.sl.v459 c i arg3 arg4 arg6 (BitVec.ofNat 32 (i 0).val) k f3 f4 f6) _ _ _
    (add_step (tripFull.sl.v354 c i arg3 arg4 arg6 (BitVec.ofNat 32 (i 0).val) k f3 f4 f6) (tripFull.sl.v406 c i arg3 arg4 arg6 (BitVec.ofNat 32 (i 0).val) k f3 f4 f6) _ _ _
    (add_step (tripFull.sl.v301 c i arg3 arg4 arg6 (BitVec.ofNat 32 (i 0).val) k f3 f4 f6) (tripFull.sl.v353 c i arg3 arg4 arg6 (BitVec.ofNat 32 (i 0).val) k f3 f4 f6) _ _ _
    (add_step (tripFull.sl.v248 c i arg3 arg4 arg6 (BitVec.ofNat 32 (i 0).val) k f3 f4 f6) (tripFull.sl.v300 c i arg3 arg4 arg6 (BitVec.ofNat 32 (i 0).val) k f3 f4 f6) _ _ _
    (add_step (tripFull.sl.v195 c i arg3 arg4 arg6 (BitVec.ofNat 32 (i 0).val) k f3 f4 f6) (tripFull.sl.v247 c i arg3 arg4 arg6 (BitVec.ofNat 32 (i 0).val) k f3 f4 f6) _ _ _
    (add_step (tripFull.sl.v142 c i arg3 arg4 arg6 (BitVec.ofNat 32 (i 0).val) k f3 f4 f6) (tripFull.sl.v194 c i arg3 arg4 arg6 (BitVec.ofNat 32 (i 0).val) k f3 f4 f6) _ _ _
    (add_step (tripFull.sl.v89 c i arg3 arg4 arg6 (BitVec.ofNat 32 (i 0).val) k f3 f4 f6) (tripFull.sl.v141 c i arg3 arg4 arg6 (BitVec.ofNat 32 (i 0).val) k f3 f4 f6) _ _ _
    (add_step tripFull.sl.v34 (tripFull.sl.v88 c i arg3 arg4 arg6 (BitVec.ofNat 32 (i 0).val) k f3 f4 f6) _ _ _
    (rfl)
    (leaf0_2 c i arg3 arg4 arg6 k f3 f4 f6 r l))
    (leaf1_2 c i arg3 arg4 arg6 k f3 f4 f6 r l))
    (leaf2_2 c i arg3 arg4 arg6 k f3 f4 f6 r l))
    (leaf3_2 c i arg3 arg4 arg6 k f3 f4 f6 r l))
    (leaf4_2 c i arg3 arg4 arg6 k f3 f4 f6 r l))
    (leaf5_2 c i arg3 arg4 arg6 k f3 f4 f6 r l))
    (leaf6_2 c i arg3 arg4 arg6 k f3 f4 f6 r l))
    (leaf7_2 c i arg3 arg4 arg6 k f3 f4 f6 r l))
    (leaf8_2 c i arg3 arg4 arg6 k f3 f4 f6 r l))
    (leaf9_2 c i arg3 arg4 arg6 k f3 f4 f6 r l))
    (leaf10_2 c i arg3 arg4 arg6 k f3 f4 f6 r l))
    (leaf c i arg3 arg4 arg6 k f3 f4 f6 (tripFull.sl.v634 c arg3 k f3) 280 inb 11 2 (by decide) r l (codes11 c arg3 k f3 r l))

/-- Plane 3's count: eleven words of it and the twelfth. -/
theorem acc3_apply (inb : ∀ d, (![376, 0] : Fin 2 → ℕ) d + S8x128.size d ≤ S384x128.size d) (r : Fin 8) (l : Fin 128) :
    addi (tripFull.sl.v631 c i arg3 arg4 arg6 (BitVec.ofNat 32 (i 0).val) k f3 f4 f6)
        (ctpop (andi (tripFull.sl.v634 c arg3 k f3) (dynamicGather (s := S8x128) 1
          (arg4.view.readAt (Elt F) (Rect.unit (s := S384x128) ![376, 0] S8x128.size inb).toLoadRect f4)
          (tripFull.sl.v61 c i arg6 (BitVec.ofNat 32 (i 0).val) k f6)))) (ix2 r l)
      = accW (codeOf c arg3 k f3 l) (arg4.view.read (Elt F) f4) (qOf c i arg6 k f6 l) r 3 := by
  rw [accW, sum12]
  exact add_step (tripFull.sl.v631 c i arg3 arg4 arg6 (BitVec.ofNat 32 (i 0).val) k f3 f4 f6) _ _ _ _
    (add_step (tripFull.sl.v578 c i arg3 arg4 arg6 (BitVec.ofNat 32 (i 0).val) k f3 f4 f6) (tripFull.sl.v630 c i arg3 arg4 arg6 (BitVec.ofNat 32 (i 0).val) k f3 f4 f6) _ _ _
    (add_step (tripFull.sl.v525 c i arg3 arg4 arg6 (BitVec.ofNat 32 (i 0).val) k f3 f4 f6) (tripFull.sl.v577 c i arg3 arg4 arg6 (BitVec.ofNat 32 (i 0).val) k f3 f4 f6) _ _ _
    (add_step (tripFull.sl.v472 c i arg3 arg4 arg6 (BitVec.ofNat 32 (i 0).val) k f3 f4 f6) (tripFull.sl.v524 c i arg3 arg4 arg6 (BitVec.ofNat 32 (i 0).val) k f3 f4 f6) _ _ _
    (add_step (tripFull.sl.v419 c i arg3 arg4 arg6 (BitVec.ofNat 32 (i 0).val) k f3 f4 f6) (tripFull.sl.v471 c i arg3 arg4 arg6 (BitVec.ofNat 32 (i 0).val) k f3 f4 f6) _ _ _
    (add_step (tripFull.sl.v366 c i arg3 arg4 arg6 (BitVec.ofNat 32 (i 0).val) k f3 f4 f6) (tripFull.sl.v418 c i arg3 arg4 arg6 (BitVec.ofNat 32 (i 0).val) k f3 f4 f6) _ _ _
    (add_step (tripFull.sl.v313 c i arg3 arg4 arg6 (BitVec.ofNat 32 (i 0).val) k f3 f4 f6) (tripFull.sl.v365 c i arg3 arg4 arg6 (BitVec.ofNat 32 (i 0).val) k f3 f4 f6) _ _ _
    (add_step (tripFull.sl.v260 c i arg3 arg4 arg6 (BitVec.ofNat 32 (i 0).val) k f3 f4 f6) (tripFull.sl.v312 c i arg3 arg4 arg6 (BitVec.ofNat 32 (i 0).val) k f3 f4 f6) _ _ _
    (add_step (tripFull.sl.v207 c i arg3 arg4 arg6 (BitVec.ofNat 32 (i 0).val) k f3 f4 f6) (tripFull.sl.v259 c i arg3 arg4 arg6 (BitVec.ofNat 32 (i 0).val) k f3 f4 f6) _ _ _
    (add_step (tripFull.sl.v154 c i arg3 arg4 arg6 (BitVec.ofNat 32 (i 0).val) k f3 f4 f6) (tripFull.sl.v206 c i arg3 arg4 arg6 (BitVec.ofNat 32 (i 0).val) k f3 f4 f6) _ _ _
    (add_step (tripFull.sl.v101 c i arg3 arg4 arg6 (BitVec.ofNat 32 (i 0).val) k f3 f4 f6) (tripFull.sl.v153 c i arg3 arg4 arg6 (BitVec.ofNat 32 (i 0).val) k f3 f4 f6) _ _ _
    (add_step tripFull.sl.v34 (tripFull.sl.v100 c i arg3 arg4 arg6 (BitVec.ofNat 32 (i 0).val) k f3 f4 f6) _ _ _
    (rfl)
    (leaf0_3 c i arg3 arg4 arg6 k f3 f4 f6 r l))
    (leaf1_3 c i arg3 arg4 arg6 k f3 f4 f6 r l))
    (leaf2_3 c i arg3 arg4 arg6 k f3 f4 f6 r l))
    (leaf3_3 c i arg3 arg4 arg6 k f3 f4 f6 r l))
    (leaf4_3 c i arg3 arg4 arg6 k f3 f4 f6 r l))
    (leaf5_3 c i arg3 arg4 arg6 k f3 f4 f6 r l))
    (leaf6_3 c i arg3 arg4 arg6 k f3 f4 f6 r l))
    (leaf7_3 c i arg3 arg4 arg6 k f3 f4 f6 r l))
    (leaf8_3 c i arg3 arg4 arg6 k f3 f4 f6 r l))
    (leaf9_3 c i arg3 arg4 arg6 k f3 f4 f6 r l))
    (leaf10_3 c i arg3 arg4 arg6 k f3 f4 f6 r l))
    (leaf c i arg3 arg4 arg6 k f3 f4 f6 (tripFull.sl.v634 c arg3 k f3) 376 inb 11 3 (by decide) r l (codes11 c arg3 k f3 r l))

end

end Cert.KernelIdeal.Scan

end
-- ==== Proof.ScanIdeal.Pieces.lean ====
/- What one trip of the scan's inner loop stores, at one row and lane: the query's row of the tile gets the candidate's
   results, zero beyond the query's count; the other rows keep what they held. -/
module

public import proofs.«01_k».proof.Proof.ScanIdeal.TripVal

@[expose] public section

set_option maxRecDepth 16384

noncomputable section

namespace Cert.KernelIdeal.Scan

open Idealize.ShloMosaic Idealize.ShloMosaic.TcCoe Idealize.SL.Sem Cert.KernelIdeal.Gen

variable {F : FTy → Type} [FloatOps F]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-! ## The two counts, as floats -/

theorem shl_step (x : IVec S8x128 32) (n : BitVec 32) (j : S8x128.Idx) (a : BitVec 32) (hx : x j = a) :
    shli x (broadcast S8x128 n) j = IntOp.shli .vector a n := by subst hx; rfl

theorem ip_apply (l : Fin 128) :
    tripFull.sl.r_9 c i arg3 arg4 arg6 (BitVec.ofNat 32 (i 0).val) k f3 f4 f6 (ix2 (0 : Fin 1) l)
      = FloatOps.sitofp .f32 (ipW (codeOf c arg3 k f3 l) (arg4.view.read (Elt F) f4) (qOf c i arg6 k f6 l)) := by
  unfold tripFull.sl.r_9 k0_pay92
  dsimp only
  show FloatOps.sitofp .f32 (shapeCast S1x128 _ _ (ix2 (0 : Fin 1) l)) = _
  refine congrArg (FloatOps.sitofp .f32) (((cast1_apply _ _ l).trans (colSum_apply _ _ rfl l)).trans ?_)
  refine Finset.sum_congr rfl fun r _ => ?_
  exact add_step _ _ _ _ _
    (add_step _ _ _ _ _
      (add_step _ _ _ _ _ (acc0_apply c i arg3 arg4 arg6 k f3 f4 f6 r l)
        (shl_step _ _ _ _ (acc1_apply c i arg3 arg4 arg6 k f3 f4 f6 _ r l)))
      (shl_step _ _ _ _ (acc2_apply c i arg3 arg4 arg6 k f3 f4 f6 _ r l)))
    (shl_step _ _ _ _ (acc3_apply c i arg3 arg4 arg6 k f3 f4 f6 _ r l))

theorem popf_apply (l : Fin 128) :
    tripFull.sl.r_10 c arg3 k f3 (ix2 (0 : Fin 1) l)
      = FloatOps.sitofp (F := F) .f32 (popW (codeOf c arg3 k f3 l)) := by
  unfold tripFull.sl.r_10 k0_pay93
  dsimp only
  show FloatOps.sitofp .f32 (shapeCast S1x128 _ _ (ix2 (0 : Fin 1) l)) = _
  refine congrArg (FloatOps.sitofp .f32) (((cast1_apply _ _ l).trans (colSum_apply _ _ rfl l)).trans ?_)
  exact Finset.sum_congr rfl fun r _ => pop_apply c arg3 k f3 r l

/-! ## The float operations at an index -/

section
variable {s : Shape} (x y : FVec F s .f32) (j : s.Idx) (a b : F .f32) (hx : x j = a) (hy : y j = b)
include hx hy
theorem addf_step : addf x y j = FloatOps.addf a b := by subst hx; subst hy; rfl
theorem sub_step : subf x y j = FloatOps.subf a b := by subst hx; subst hy; rfl
theorem mul_step : mulf x y j = FloatOps.mulf a b := by subst hx; subst hy; rfl
theorem div_step : divf x y j = FloatOps.divf a b := by subst hx; subst hy; rfl
end

theorem sqrt_step {s : Shape} (x : FVec F s .f32) (j : s.Idx) (a : F .f32) (hx : x j = a) : sqrt x j = FloatOps.sqrt a := by
  subst hx; rfl

/-! ## The statistics -/

/-- The gathered statistics at a row and lane. -/
theorem stats_apply (inb : ∀ d, (![0, 0] : Fin 2 → ℕ) d + S8x128.size d ≤ S8x128.size d) (r : Fin 8) (l : Fin 128) :
    k0_pay94 (tripFull.sl.v43 c i arg6 (BitVec.ofNat 32 (i 0).val) k f6)
        (arg5.view.readAt (Elt F) (Rect.unit (s := S8x128) ![0, 0] S8x128.size inb).toLoadRect f5) (ix2 r l)
      = stat (arg5.view.read (Elt F) f5) (qOf c i arg6 k f6 l) r := by
  refine (gat c i arg6 k f6 (arg5.view.readAt (Elt F) (Rect.unit (s := S8x128) ![0, 0] S8x128.size inb).toLoadRect f5) r l).trans ?_
  rw [read_stats]

theorem row_at (x : S8x128.Idx → F .f32) (n : Fin 8) (h : S8x128.Slices (![n.val, 0] : Fin 2 → ℕ) S1x128) (l : Fin 128) (a : F .f32)
    (hx : x (ix2 n l) = a) : extractStridedSlice S1x128 ![n.val, 0] x h (ix2 (0 : Fin 1) l) = a := (rowOf_apply x n h l).trans hx

/-- The query norm's row. -/
theorem nq_apply (inb : ∀ d, (![0, 0] : Fin 2 → ℕ) d + S8x128.size d ≤ S8x128.size d) (l : Fin 128) :
    k0_pay95 (tripFull.sl.v43 c i arg6 (BitVec.ofNat 32 (i 0).val) k f6)
        (arg5.view.readAt (Elt F) (Rect.unit (s := S8x128) ![0, 0] S8x128.size inb).toLoadRect f5) (ix2 (0 : Fin 1) l)
      = stat (arg5.view.read (Elt F) f5) (qOf c i arg6 k f6 l) 2 :=
  row_at _ 2 slices_S8x128_o2_0_S1x128 l _ (stats_apply c i arg5 arg6 k f5 f6 inb 2 l)

/-! ## The results, before the mask -/

/-- The candidate's norm and inner product with its own code, from the query's tile. -/
abbrev nrOf (r : Fin 8) (l : Fin 128) : F .f32 := arg7.view.read (Elt F) f7 (ix2 (rowAt i r) (colAt i k l))
abbrev ioOf (r : Fin 8) (l : Fin 128) : F .f32 := arg8.view.read (Elt F) f8 (ix2 (rowAt i r) (colAt i k l))

/-- The estimate at a row and lane. -/
abbrev estOf (r : Fin 8) (l : Fin 128) : F .f32 :=
  estF (arg5.view.read (Elt F) f5) (qOf c i arg6 k f6 l)
    (ipW (codeOf c arg3 k f3 l) (arg4.view.read (Elt F) f4) (qOf c i arg6 k f6 l)) (popW (codeOf c arg3 k f3 l)) (ioOf c i arg8 k f8 r l)

theorem est_apply (inb : ∀ d, (![0, 0] : Fin 2 → ℕ) d + S8x128.size d ≤ S8x128.size d)
    (inb8 : ∀ d, (k0_off2 i k) d + S8x128.size d ≤ S24x8192.size d) (r : Fin 8) (l : Fin 128) :
    k0_pay96 (tripFull.sl.v43 c i arg6 (BitVec.ofNat 32 (i 0).val) k f6)
        (tripFull.sl.r_9 c i arg3 arg4 arg6 (BitVec.ofNat 32 (i 0).val) k f3 f4 f6) (tripFull.sl.r_10 c arg3 k f3)
        (arg5.view.readAt (Elt F) (Rect.unit (s := S8x128) ![0, 0] S8x128.size inb).toLoadRect f5)
        (arg8.view.readAt (Elt F) (Rect.unit (s := S24x8192) (k0_off2 i k) S8x128.size inb8).toLoadRect f8) (ix2 r l)
      = estOf c i arg3 arg4 arg5 arg6 arg8 k f3 f4 f5 f6 f8 r l := by
  have s0 := row_at _ 0 slices_S8x128_o0_0_S1x128 l _ (stats_apply c i arg5 arg6 k f5 f6 inb 0 l)
  have s1 := row_at _ 1 slices_S8x128_o1_0_S1x128 l _ (stats_apply c i arg5 arg6 k f5 f6 inb 1 l)
  have s3 := row_at _ 3 slices_S8x128_o3_0_S1x128 l _ (stats_apply c i arg5 arg6 k f5 f6 inb 3 l)
  have s2 := nq_apply c i arg5 arg6 k f5 f6 inb l
  have hio := read_tile c i k arg8 f8 inb8 r l
  have hip := ip_apply c i arg3 arg4 arg6 k f3 f4 f6 l
  have hpop := popf_apply c arg3 k f3 l
  exact div_step _ _ _ _ _
    ((rowTo_apply _ _ r l).trans (sub_step _ _ _ _ _
      (div_step _ _ _ _ _
        (sub_step _ _ _ _ _
          (addf_step _ _ _ _ _
            (mul_step _ _ _ _ _ (mul_step _ _ _ _ _ rfl s0) hip)
            (mul_step _ _ _ _ _ (mul_step _ _ _ _ _ rfl s1) hpop))
          (mul_step _ _ _ _ _ s0 s3))
        rfl)
      (mul_step _ _ _ _ _ rfl s1)))
    (mul_step _ _ _ _ _ ((rowTo_apply _ _ r l).trans s2) hio)

/-- Twice the product of the norms at a row and lane. -/
theorem nn2_apply (inb : ∀ d, (![0, 0] : Fin 2 → ℕ) d + S8x128.size d ≤ S8x128.size d)
    (inb7 : ∀ d, (k0_off2 i k) d + S8x128.size d ≤ S24x8192.size d) (r : Fin 8) (l : Fin 128) :
    k0_pay98 (tripFull.sl.v43 c i arg6 (BitVec.ofNat 32 (i 0).val) k f6)
        (arg5.view.readAt (Elt F) (Rect.unit (s := S8x128) ![0, 0] S8x128.size inb).toLoadRect f5)
        (arg7.view.readAt (Elt F) (Rect.unit (s := S24x8192) (k0_off2 i k) S8x128.size inb7).toLoadRect f7) (ix2 r l)
      = nn2F (arg5.view.read (Elt F) f5) (qOf c i arg6 k f6 l) (nrOf c i arg7 k f7 r l) :=
  mul_step _ _ _ _ _ (mul_step _ _ _ _ _ rfl (read_tile c i k arg7 f7 inb7 r l))
    ((rowTo_apply _ _ r l).trans (nq_apply c i arg5 arg6 k f5 f6 inb l))

/-- The distance at a row and lane. -/
abbrev distOf (r : Fin 8) (l : Fin 128) : F .f32 :=
  distF (arg5.view.read (Elt F) f5) (qOf c i arg6 k f6 l) (nrOf c i arg7 k f7 r l) (estOf c i arg3 arg4 arg5 arg6 arg8 k f3 f4 f5 f6 f8 r l)

theorem dist_apply (inb : ∀ d, (![0, 0] : Fin 2 → ℕ) d + S8x128.size d ≤ S8x128.size d)
    (inb7 inb8 : ∀ d, (k0_off2 i k) d + S8x128.size d ≤ S24x8192.size d) (r : Fin 8) (l : Fin 128) :
    k0_pay97 (tripFull.sl.v43 c i arg6 (BitVec.ofNat 32 (i 0).val) k f6)
        (tripFull.sl.r_9 c i arg3 arg4 arg6 (BitVec.ofNat 32 (i 0).val) k f3 f4 f6) (tripFull.sl.r_10 c arg3 k f3)
        (arg5.view.readAt (Elt F) (Rect.unit (s := S8x128) ![0, 0] S8x128.size inb).toLoadRect f5)
        (arg7.view.readAt (Elt F) (Rect.unit (s := S24x8192) (k0_off2 i k) S8x128.size inb7).toLoadRect f7)
        (arg8.view.readAt (Elt F) (Rect.unit (s := S24x8192) (k0_off2 i k) S8x128.size inb8).toLoadRect f8) (ix2 r l)
      = distOf c i arg3 arg4 arg5 arg6 arg7 arg8 k f3 f4 f5 f6 f7 f8 r l := by
  have s2 := nq_apply c i arg5 arg6 k f5 f6 inb l
  have hnr := read_tile c i k arg7 f7 inb7 r l
  exact sub_step _ _ _ _ _
    (addf_step _ _ _ _ _ (mul_step _ _ _ _ _ hnr hnr) ((rowTo_apply _ _ r l).trans (mul_step _ _ _ _ _ s2 s2)))
    (mul_step _ _ _ _ _ (mul_step _ _ _ _ _ (mul_step _ _ _ _ _ rfl hnr) ((rowTo_apply _ _ r l).trans s2))
      (est_apply c i arg3 arg4 arg5 arg6 arg8 k f3 f4 f5 f6 f8 inb inb8 r l))

/-! ## The mask and the row select -/

/-- The lane's column, as the body's mask computes it, is the column's word. -/
theorem mask_apply (l : Fin 128) (r : Fin 8) :
    k0_pay99 (F := F) v1 (iota .tc S8x128 32 [1] iota_S8x128_d1_w32) (colW i k) (ix2 r l)
      = IntOp.cmpi .slt (BitVec.ofNat 32 (colAt i k l).val) v1 := by
  show IntOp.cmpi .slt (IntOp.addi (iota .tc S8x128 32 [1] iota_S8x128_d1_w32 (ix2 r l)) (colW i k)) v1 = _
  rw [colW_eq, show iota .tc S8x128 32 [1] iota_S8x128_d1_w32 (ix2 r l) = BitVec.ofNat 32 l.val from by pointwise]
  congr 1
  show BitVec.ofNat 32 l.val + BitVec.ofNat 32 _ = _
  rw [← BitVec.ofNat_add]
  congr 1
  show _ = 2048 * (i 1).val + 128 * k.val + l.val
  omega

/-- Where the first column of the block is not below the count, none is. -/
theorem mask_dead (v1 : BitVec 32) (h : ¬ (colW i k).slt v1 = true) (l : Fin 128) (x : F .f32) :
    maskF (BitVec.ofNat 32 (colAt i k l).val) v1 x = Scalar.ofBits .f32 0x00000000#32 := by
  have hc : IntOp.cmpi .slt (BitVec.ofNat 32 (colAt i k l).val) v1 = 0#1 := by
    have h1 := grid_lt1 i
    have h2 := trip_lt k
    rw [colW_eq, BitVec.slt_iff_toInt_lt] at h
    unfold IntOp.cmpi
    have : (BitVec.ofNat 32 (colAt i k l).val).slt v1 = false := by
      rw [Bool.eq_false_iff]
      intro h'
      rw [BitVec.slt_iff_toInt_lt] at h'
      apply h
      refine lt_of_le_of_lt ?_ h'
      show (BitVec.ofNat 32 _).toInt ≤ (BitVec.ofNat 32 (2048 * (i 1).val + 128 * k.val + l.val)).toInt
      rw [BitVec.toInt_ofNat', BitVec.toInt_ofNat']
      have := l.isLt
      simp only [Int.bmod]
      omega
    simp only [this]
    rfl
  unfold maskF
  rw [hc]
  rfl

theorem sel_step (b : Fin 8) (x y : FVec F S8x128 .f32) (z : S8x128.Idx → F .f32) (r : Fin 8) (l : Fin 128) (a o : F .f32)
    (hb : b.val = (i 0).val % 8)
    (hx : r = b → x (ix2 r l) = a) (hy : y (ix2 r l) = o) :
    select (k0_pay1 i) x y (ix2 r l) = if r = b then a else o := by
  show Scalar.select (k0_pay1 i (ix2 r l)) (x (ix2 r l)) (y (ix2 r l)) = _
  rw [pay1_apply]
  by_cases h : r = b
  · rw [if_pos h, if_pos (by rw [h, hb]), hx h]; rfl
  · rw [if_neg h, if_neg (fun e => h (Fin.ext (e.trans hb.symm))), hy]; rfl

end

end Cert.KernelIdeal.Scan

end
-- ==== Proof.ScanIdeal.TripRun.lean ====
/- One trip of the scan's inner loop: its row and column block of each result hold the candidates' values afterwards,
   everything else what it held. -/
module

public import proofs.«01_k».proof.Proof.ScanIdeal.Pieces
public import Idealize.ShloMosaic.Lib.WritesUnit
public import Idealize.ShloMosaic.Lib.Pipeline.Kit

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## A query's results at a column, from the blocks staged -/

section
variable (x3 : S16x96x128.Idx → BitVec 32) (x4 : S384x128.Idx → BitVec 32) (x5 : S8x128.Idx → F .f32)
  (x6 : S24x8192.Idx → BitVec 32) (x7 x8 : S24x8192.Idx → F .f32) (b : Fin 24) (n : BitVec 32) (col : Fin 8192)

/-- The code of the candidate at a column: the block holds the columns of one step. -/
def codeB (w : Fin 96) : BitVec 32 :=
  x3 (ix3 (⟨col.val % 2048 / 128, by omega⟩ : Fin 16) w (⟨col.val % 128, by omega⟩ : Fin 128))

/-- The tables' column it reads. -/
def qB : Fin 128 := laneOf (comboW b.val (x6 (ix2 b col)))

def estB : F .f32 := estF x5 (qB x6 b col) (ipW (codeB x3 col) x4 (qB x6 b col)) (popW (codeB x3 col)) (x8 (ix2 b col))
def distB : F .f32 := distF x5 (qB x6 b col) (x7 (ix2 b col)) (estB x3 x4 x5 x6 x8 b col)
def errB : F .f32 := errF x5 (qB x6 b col) (x7 (ix2 b col)) (x8 (ix2 b col))

/-- The three results stored at a column. -/
def out9 : F .f32 := maskF (BitVec.ofNat 32 col.val) n (distB x3 x4 x5 x6 x7 x8 b col)
def out10 : F .f32 := maskF (BitVec.ofNat 32 col.val) n (errB x5 x6 x7 x8 b col)
def out11 : F .f32 := maskF (BitVec.ofNat 32 col.val) n (estB x3 x4 x5 x6 x8 b col)
end

/-! ## What a trip's store leaves -/

/-- `y` is `x` with row `i 0`, columns of block `k`, replaced by `val`. -/
def Stored (i : grid0.Coords) (k : ℕ) (x y : S24x8192.Idx → F .f32) (val : Fin 8192 → F .f32) : Prop :=
  ∀ (row : Fin 24) (col : Fin 8192), y (ix2 row col)
    = if row.val = (i 0).val ∧ col.val / 128 = 16 * (i 1).val + k then val col else x (ix2 row col)

/-- The query's row. -/
def rowB (i : grid0.Coords) : Fin 24 := ⟨(i 0).val, by have := grid_lt0 i; omega⟩
def subB (i : grid0.Coords) : Fin 8 := ⟨(i 0).val % 8, Nat.mod_lt _ (by decide)⟩

theorem rowAt_subB (i : grid0.Coords) : rowAt i (subB i) = rowB i := Fin.ext (by
  show 8 * ((i 0).val / 8) + (i 0).val % 8 = (i 0).val
  omega)

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (arg0 arg1 : BitVec 32) (v1 : Elt F .i32) (v13 : BitVec 32) (v14 : IVec S8x128 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

theorem stored_of_piece (a : Memref sig .tc .vmem S24x8192 .f32) (f : Buf (Elt F) (a.view.loc (c : Thread nD τ)))
    (off : Fin 2 → ℕ) (heq : off = ![8 * ((i 0).val / 8), 2048 * (i 1).val + 128 * k.val])
    (inb : ∀ d, off d + S8x128.size d ≤ S24x8192.size d) (p : Vec F S8x128 .f32) (val : Fin 8192 → F .f32)
    (hp : ∀ r l, p (ix2 r l) = if r = subB i then val (colAt i k l) else a.view.read (Elt F) f (ix2 (rowAt i r) (colAt i k l))) :
    Stored i k.val (a.view.read (Elt F) f)
      (a.view.read (Elt F) (a.view.writes (Elt F) f [⟨Rect.unit (s := S24x8192) off S8x128.size inb, p⟩])) val := by
  intro row col
  have h0 := grid_lt0 i
  have h1 := grid_lt1 i
  have h2 := trip_lt k
  by_cases hc : col.val / 128 = 16 * (i 1).val + k.val
  · by_cases hr : row.val / 8 = (i 0).val / 8
    · rw [View.read_writes_cons_unit_of_mem a.view f inb p [] (ix2 row col)
        (ix2 (⟨row.val % 8, Nat.mod_lt _ (by decide)⟩ : Fin 8) (⟨col.val % 128, Nat.mod_lt _ (by decide)⟩ : Fin 128)) heq
        (fun d => by
          match d with
          | ⟨0, _⟩ => show row.val = 8 * ((i 0).val / 8) + row.val % 8; omega
          | ⟨1, _⟩ => show col.val = 2048 * (i 1).val + 128 * k.val + col.val % 128; omega)]
      have e1 : colAt i k (⟨col.val % 128, Nat.mod_lt _ (by decide)⟩ : Fin 128) = col := Fin.ext (by
        show 2048 * (i 1).val + 128 * k.val + col.val % 128 = col.val; omega)
      have e2 : rowAt i (⟨row.val % 8, Nat.mod_lt _ (by decide)⟩ : Fin 8) = row := Fin.ext (by
        show 8 * ((i 0).val / 8) + row.val % 8 = row.val; omega)
      rw [hp, e1, e2]
      by_cases hb : row.val = (i 0).val
      · rw [if_pos (Fin.ext (by show row.val % 8 = (i 0).val % 8; rw [hb])), if_pos ⟨hb, hc⟩]
      · rw [if_neg (fun e => hb (by
          have : row.val % 8 = (i 0).val % 8 := congrArg Fin.val e
          omega)), if_neg (fun e => hb e.1)]
    · rw [View.read_writes_cons_unit_of_not_mem a.view f inb p [] (ix2 row col) heq 0 (by
        show row.val < 8 * ((i 0).val / 8) ∨ 8 * ((i 0).val / 8) + 8 ≤ row.val
        omega), if_neg (fun e => hr (by rw [e.1]))]
      rfl
  · rw [View.read_writes_cons_unit_of_not_mem a.view f inb p [] (ix2 row col) heq 1 (by
      show col.val < 2048 * (i 1).val + 128 * k.val ∨ 2048 * (i 1).val + 128 * k.val + 128 ≤ col.val
      omega), if_neg (fun e => hc e.2)]
    rfl

/-! ## The stored pieces -/

theorem code_eq (l : Fin 128) : codeOf c arg3 k f3 l = codeB (arg3.view.read (Elt F) f3) (colAt i k l) := by
  have h2 := trip_lt k
  have hl := l.isLt
  have e1 : (⟨(colAt i k l).val % 2048 / 128, by omega⟩ : Fin 16) = ⟨k.val, h2⟩ := Fin.ext (by
    show (2048 * (i 1).val + 128 * k.val + l.val) % 2048 / 128 = k.val
    omega)
  have e2 : (⟨(colAt i k l).val % 128, by omega⟩ : Fin 128) = l := Fin.ext (by
    show (2048 * (i 1).val + 128 * k.val + l.val) % 128 = l.val
    omega)
  funext w
  unfold codeB codeOf
  rw [e1, e2]

theorem q_eq (l : Fin 128) : qOf c i arg6 k f6 l = qB (arg6.view.read (Elt F) f6) (rowB i) (colAt i k l) := by
  have := rowAt_subB i
  unfold qOf qB
  rw [show rowAt i ⟨(i 0).val % 8, Nat.mod_lt _ (by decide)⟩ = rowB i from this]
  rfl

theorem est_eq (l : Fin 128) : estOf c i arg3 arg4 arg5 arg6 arg8 k f3 f4 f5 f6 f8 (subB i) l
    = estB (arg3.view.read (Elt F) f3) (arg4.view.read (Elt F) f4) (arg5.view.read (Elt F) f5) (arg6.view.read (Elt F) f6)
      (arg8.view.read (Elt F) f8) (rowB i) (colAt i k l) := by
  unfold estB
  rw [← code_eq c i arg3 k f3 l, ← q_eq c i arg6 k f6 l, ← rowAt_subB i]

theorem dist_eq (l : Fin 128) : distOf c i arg3 arg4 arg5 arg6 arg7 arg8 k f3 f4 f5 f6 f7 f8 (subB i) l
    = distB (arg3.view.read (Elt F) f3) (arg4.view.read (Elt F) f4) (arg5.view.read (Elt F) f5) (arg6.view.read (Elt F) f6)
      (arg7.view.read (Elt F) f7) (arg8.view.read (Elt F) f8) (rowB i) (colAt i k l) := by
  unfold distB
  rw [← est_eq c i arg3 arg4 arg5 arg6 arg8 k f3 f4 f5 f6 f8 l, ← q_eq c i arg6 k f6 l, ← rowAt_subB i]

/-- The three values at a column, from the blocks' buffers. -/
abbrev v9 (v1 : BitVec 32) : Fin 8192 → F .f32 := out9 (arg3.view.read (Elt F) f3) (arg4.view.read (Elt F) f4) (arg5.view.read (Elt F) f5)
  (arg6.view.read (Elt F) f6) (arg7.view.read (Elt F) f7) (arg8.view.read (Elt F) f8) (rowB i) v1
abbrev v10 (v1 : BitVec 32) : Fin 8192 → F .f32 := out10 (arg5.view.read (Elt F) f5)
  (arg6.view.read (Elt F) f6) (arg7.view.read (Elt F) f7) (arg8.view.read (Elt F) f8) (rowB i) v1
abbrev v11 (v1 : BitVec 32) : Fin 8192 → F .f32 := out11 (arg3.view.read (Elt F) f3) (arg4.view.read (Elt F) f4) (arg5.view.read (Elt F) f5)
  (arg6.view.read (Elt F) f6) (arg8.view.read (Elt F) f8) (rowB i) v1

theorem colAt_col (r : Fin 8) (l : Fin 128) (x : FVec F S8x128 .f32) (z : F .f32) (v1 : BitVec 32) (a : F .f32) (hx : x (ix2 r l) = a) :
    select (k0_pay99 (F := F) v1 (iota .tc S8x128 32 [1] iota_S8x128_d1_w32) (colW i k)) x (broadcast S8x128 (Scalar.ofBits .f32 0x00000000#32)) (ix2 r l)
      = maskF (BitVec.ofNat 32 (colAt i k l).val) v1 a := by
  show Scalar.select (k0_pay99 (F := F) v1 (iota .tc S8x128 32 [1] iota_S8x128_d1_w32) (colW i k) (ix2 r l)) (x (ix2 r l)) _ = _
  rw [mask_apply, hx]
  rfl

end

end Cert.KernelIdeal.Scan

end
-- ==== Proof.ScanIdeal.TripWp.lean ====
/- The scan's inner loop, trip by trip: the run of one trip, and the loop's invariant. -/
module

public import proofs.«01_k».proof.Proof.ScanIdeal.TripRun

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (v1 : Elt F .i32) (v13 : BitVec 32)
  (k : Fin k0_t1_loop.trips)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-- The live trip's pieces. -/
theorem full9 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1 (ix2 r l)
      = if r = subB i then (v9 c i arg3 arg4 arg5 arg6 arg7 arg8 f3 f4 f5 f6 f7 f8 v1) (colAt i k l) else arg9.view.read (Elt F) f9 (ix2 (rowAt i r) (colAt i k l)) := by
  unfold tripFull
  refine sel_step i (subB i) _ _ (fun _ => Scalar.ofBits .f32 0x00000000#32) r l _ _ rfl (fun hr => ?_) ?_
  · subst hr
    refine (colAt_col i k (subB i) l _ (Scalar.ofBits .f32 0x00000000#32) v1 _
      (dist_apply c i arg3 arg4 arg5 arg6 arg7 arg8 k f3 f4 f5 f6 f7 f8 _ _ _ (subB i) l)).trans ?_
    rw [dist_eq]
    rfl
  · rw [shapeCast_self]
    exact read_tile c i k arg9 f9 _ r l

theorem full10 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1 (ix2 r l)
      = if r = subB i then (v10 c i arg5 arg6 arg7 arg8 f5 f6 f7 f8 v1) (colAt i k l) else arg10.view.read (Elt F) f10 (ix2 (rowAt i r) (colAt i k l)) := by
  unfold tripFull
  refine sel_step i (subB i) _ _ (fun _ => Scalar.ofBits .f32 0x00000000#32) r l _ _ rfl (fun hr => ?_) ?_
  · subst hr
    have hio := read_tile c i k arg8 f8 (k0_off2_inb i k) (subB i) l
    have hnn := nn2_apply c i arg5 arg6 arg7 k f5 f6 f7 Gen.inb_S8x128_S8x128_0_0 (k0_off2_inb i k) (subB i) l
    refine (colAt_col i k (subB i) l _ (Scalar.ofBits .f32 0x00000000#32) v1 _
      (mul_step _ _ _ _ _ (div_step _ _ _ _ _ (mul_step _ _ _ _ _ hnn
        (sqrt_step _ _ _ (sub_step _ _ _ _ _ rfl (mul_step _ _ _ _ _ hio hio)))) hio) rfl)).trans ?_
    dsimp only [nrOf]
    rw [q_eq, rowAt_subB]
    rfl
  · rw [shapeCast_self]
    exact read_tile c i k arg10 f10 _ r l

theorem full11 (h1 : k0_cond1 i v1 k = 1#1) (h2 : ¬ k0_cond2 i v1 k = 1#1) (r : Fin 8) (l : Fin 128) :
    (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1 (ix2 r l)
      = if r = subB i then (v11 c i arg3 arg4 arg5 arg6 arg8 f3 f4 f5 f6 f8 v1) (colAt i k l) else arg11.view.read (Elt F) f11 (ix2 (rowAt i r) (colAt i k l)) := by
  unfold tripFull
  refine sel_step i (subB i) _ _ (fun _ => Scalar.ofBits .f32 0x00000000#32) r l _ _ rfl (fun hr => ?_) ?_
  · subst hr
    refine (colAt_col i k (subB i) l _ (Scalar.ofBits .f32 0x00000000#32) v1 _
      (est_apply c i arg3 arg4 arg5 arg6 arg8 k f3 f4 f5 f6 f8 _ _ (subB i) l)).trans ?_
    rw [est_eq]
    rfl
  · rw [shapeCast_self]
    exact read_tile c i k arg11 f11 _ r l

/-- A load of the tile a dead trip rewrites. -/
theorem read_tile15 (a : Memref sig .tc .vmem S24x8192 .f32) (f : Buf (Elt F) (a.view.loc (c : Thread nD τ)))
    (inb : ∀ d, (k0_off15 i k) d + S8x128.size d ≤ S24x8192.size d) (r : Fin 8) (l : Fin 128) :
    a.view.readAt (Elt F) (Rect.unit (s := S24x8192) (k0_off15 i k) S8x128.size inb).toLoadRect f (ix2 r l)
      = a.view.read (Elt F) f (ix2 (rowAt i r) (colAt i k l)) := by
  rw [View.readAt_apply]
  refine congrArg (a.view.read (Elt F) f) (funext fun d => Fin.ext ?_)
  have e := congrFun (off15_eq i k) d
  match d, e with
  | ⟨0, _⟩, e => show (k0_off15 i k) 0 + 1 * r.val = _; rw [show (k0_off15 i k) 0 = _ from e, Nat.one_mul]; rfl
  | ⟨1, _⟩, e => show (k0_off15 i k) 1 + 1 * l.val = _; rw [show (k0_off15 i k) 1 = _ from e, Nat.one_mul]; rfl

/-- A dead trip's piece: zeros on the query's row. -/
theorem zero_piece (a : Memref sig .tc .vmem S24x8192 .f32) (f : Buf (Elt F) (a.view.loc (c : Thread nD τ)))
    (inb : ∀ d, (k0_off15 i k) d + S8x128.size d ≤ S24x8192.size d) (h : ¬ k0_cond1 i v1 k = 1#1) (val : Fin 128 → F .f32)
    (r : Fin 8) (l : Fin 128) :
    select (k0_pay1 i) (k0_pay4 (F := F)) (shapeCast S8x128 (a.view.readAt (Elt F)
        (Rect.unit (s := S24x8192) (k0_off15 i k) S8x128.size inb).toLoadRect f) shapeCasts_S8x128_S8x128) (ix2 r l)
      = if r = subB i then maskF (BitVec.ofNat 32 (colAt i k l).val) v1 (val l) else a.view.read (Elt F) f (ix2 (rowAt i r) (colAt i k l)) := by
  refine sel_step i (subB i) _ _ (fun _ => Scalar.ofBits .f32 0x00000000#32) r l _ _ rfl (fun hr => ?_) ?_
  · rw [mask_dead i k v1 (fun e => h ((cond1_iff i v1 k).2 e))]
    rfl
  · refine (congrFun (shapeCast_self _ _) (ix2 r l)).trans ?_
    exact read_tile15 c i k a f _ r l

theorem zero9 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1 (ix2 r l)
      = if r = subB i then (v9 c i arg3 arg4 arg5 arg6 arg7 arg8 f3 f4 f5 f6 f7 f8 v1) (colAt i k l) else arg9.view.read (Elt F) f9 (ix2 (rowAt i r) (colAt i k l)) := by
  unfold tripZero
  exact zero_piece c i v1 k arg9 f9 _ h1 (fun l => _) r l

theorem zero10 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1 (ix2 r l)
      = if r = subB i then (v10 c i arg5 arg6 arg7 arg8 f5 f6 f7 f8 v1) (colAt i k l) else arg10.view.read (Elt F) f10 (ix2 (rowAt i r) (colAt i k l)) := by
  unfold tripZero
  exact zero_piece c i v1 k arg10 f10 _ h1 (fun l => _) r l

theorem zero11 (h1 : ¬ k0_cond1 i v1 k = 1#1) (h2 : k0_cond2 i v1 k = 1#1) (r : Fin 8) (l : Fin 128) :
    (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1 (ix2 r l)
      = if r = subB i then (v11 c i arg3 arg4 arg5 arg6 arg8 f3 f4 f5 f6 f8 v1) (colAt i k l) else arg11.view.read (Elt F) f11 (ix2 (rowAt i r) (colAt i k l)) := by
  unfold tripZero
  exact zero_piece c i v1 k arg11 f11 _ h1 (fun l => _) r l

/-! ## One trip -/

theorem trip_run :
    iprop(Ins c arg3 arg4 arg5 arg6 arg7 arg8 f3 f4 f5 f6 f7 f8 ∗ Held c arg9 f9 ∗ Held c arg10 f10 ∗ Held c arg11 f11)
    ⊢ wp frame (wpE (defs₀ (F := F)) Variants.none (c : Thread nD τ) none) Set.univ
        (tripP (F := F) i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k)
        (fun _ => iprop(Ins c arg3 arg4 arg5 arg6 arg7 arg8 f3 f4 f5 f6 f7 f8
          ∗ iprop(∃ g : Buf (Elt F) (arg9.view.loc (c : Thread nD τ)), ⌜Stored i k.val (arg9.view.read (Elt F) f9) (arg9.view.read (Elt F) g) (v9 c i arg3 arg4 arg5 arg6 arg7 arg8 f3 f4 f5 f6 f7 f8 v1)⌝ ∗ Held c arg9 g)
          ∗ iprop(∃ g : Buf (Elt F) (arg10.view.loc (c : Thread nD τ)), ⌜Stored i k.val (arg10.view.read (Elt F) f10) (arg10.view.read (Elt F) g) (v10 c i arg5 arg6 arg7 arg8 f5 f6 f7 f8 v1)⌝ ∗ Held c arg10 g)
          ∗ iprop(∃ g : Buf (Elt F) (arg11.view.loc (c : Thread nD τ)), ⌜Stored i k.val (arg11.view.read (Elt F) f11) (arg11.view.read (Elt F) g) (v11 c i arg3 arg4 arg5 arg6 arg8 f3 f4 f5 f6 f8 v1)⌝ ∗ Held c arg11 g))) := by
  by_cases h1 : k0_cond1 i v1 k = 1#1
  · have h2 : ¬ k0_cond2 i v1 k = 1#1 := fun e => (cond2_iff i v1 k).1 e h1
    iintro H
    iapply (wp_wand_r frame (wpE (defs₀ (F := F)) Variants.none (c : Thread nD τ) none) Set.univ)
    isplitl [H]
    · iapply (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.2
      iexact H
    iintro %_ ⟨HI, H9, H10, H11⟩
    isplitl [HI]; · iexact HI
    isplitl [H9]
    · iexists arg9.view.writes (Elt F) f9 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1⟩]
      isplitr; · ipureintro; exact stored_of_piece c i k arg9 f9 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).1 _ (full9 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H9
    isplitl [H10]
    · iexists arg10.view.writes (Elt F) f10 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1⟩]
      isplitr; · ipureintro; exact stored_of_piece c i k arg10 f10 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.1 _ (full10 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H10
    iexists arg11.view.writes (Elt F) f11 [⟨Rect.unit (s := S24x8192) (k0_off2 i k) S8x128.size (k0_off2_inb i k), (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1⟩]
    isplitr; · ipureintro; exact stored_of_piece c i k arg11 f11 (k0_off2 i k) (off2_eq i k) (k0_off2_inb i k) (tripFull c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f3 f4 f5 f6 f7 f8 f9 f10 f11).2.2.1 _ (full11 c i arg2 harg2 arg3 harg3 arg4 harg4 arg5 harg5 arg6 harg6 arg7 harg7 arg8 harg8 arg9 harg9 arg10 harg10 arg11 harg11 v1 v13 k f3 f4 f5 f6 f7 f8 f9 f10 f11 h1 h2)
    iexact H11
  · have h2 : k0_cond2 i v1 k = 1#1 := (cond2_iff i v1 k).2 h1
    iintro ⟨HI, H⟩
    iapply (wp_wand_r frame (wpE (defs₀ (F := F)) Variants.none (c : Thread nD τ) none) Set.univ)
    isplitl [H]
    · iapply (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.2
      iexact H
    iintro %_ ⟨H9, H10, H11⟩
    isplitl [HI]; · iexact HI
    isplitl [H9]
    · iexists arg9.view.writes (Elt F) f9 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1⟩]
      isplitr; · ipureintro; exact stored_of_piece c i k arg9 f9 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).1 _ (zero9 c i arg2 harg2 arg3 harg3 arg4 harg4 arg5 harg5 arg6 harg6 arg7 harg7 arg8 harg8 arg9 harg9 arg10 harg10 arg11 harg11 v1 v13 k f3 f4 f5 f6 f7 f8 f9 f10 f11 h1 h2)
      iexact H9
    isplitl [H10]
    · iexists arg10.view.writes (Elt F) f10 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1⟩]
      isplitr; · ipureintro; exact stored_of_piece c i k arg10 f10 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.1 _ (zero10 c i arg2 harg2 arg3 harg3 arg4 harg4 arg5 harg5 arg6 harg6 arg7 harg7 arg8 harg8 arg9 harg9 arg10 harg10 arg11 harg11 v1 v13 k f5 f6 f7 f8 f9 f10 f11 h1 h2)
      iexact H10
    iexists arg11.view.writes (Elt F) f11 [⟨Rect.unit (s := S24x8192) (k0_off15 i k) S8x128.size (k0_off15_inb i k), (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1⟩]
    isplitr; · ipureintro; exact stored_of_piece c i k arg11 f11 (k0_off15 i k) (off15_eq i k) (k0_off15_inb i k) (tripZero c i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k h1 h2 f9 f10 f11).2.2.1 _ (zero11 c i arg2 harg2 arg3 harg3 arg4 harg4 arg5 harg5 arg6 harg6 arg7 harg7 arg8 harg8 arg9 harg9 arg10 harg10 arg11 harg11 v1 v13 k f3 f4 f5 f6 f8 f9 f10 f11 h1 h2)
    iexact H11

end

end Cert.KernelIdeal.Scan

end
-- ==== Proof.ScanIdeal.Loop.lean ====
/- The scan's inner loop and the body over it: one grid point replaces the query's row, over the step's columns, by the
   candidates' values. -/
module

public import proofs.«01_k».proof.Proof.ScanIdeal.TripWp

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- `y` is `x` with the query's row replaced by `val` over the step's first `k` column blocks. -/
def Upto (i : grid0.Coords) (k : ℕ) (x y : S24x8192.Idx → F .f32) (val : Fin 8192 → F .f32) : Prop :=
  ∀ (row : Fin 24) (col : Fin 8192), y (ix2 row col)
    = if row.val = (i 0).val ∧ 16 * (i 1).val ≤ col.val / 128 ∧ col.val / 128 < 16 * (i 1).val + k then val col else x (ix2 row col)

theorem upto_zero (i : grid0.Coords) (x : S24x8192.Idx → F .f32) (val : Fin 8192 → F .f32) : Upto i 0 x x val := by
  intro row col
  rw [if_neg (by omega)]

theorem upto_succ (i : grid0.Coords) (k : ℕ) (x y z : S24x8192.Idx → F .f32) (val : Fin 8192 → F .f32)
    (h : Upto i k x y val) (h' : Stored i k y z val) : Upto i (k + 1) x z val := by
  intro row col
  rw [h' row col, h row col]
  by_cases hr : row.val = (i 0).val
  · by_cases hk : col.val / 128 = 16 * (i 1).val + k
    · rw [if_pos ⟨hr, hk⟩, if_pos ⟨hr, by omega, by omega⟩]
    · rw [if_neg (fun e => hk e.2)]
      by_cases hc : 16 * (i 1).val ≤ col.val / 128 ∧ col.val / 128 < 16 * (i 1).val + k
      · rw [if_pos ⟨hr, hc⟩, if_pos ⟨hr, hc.1, by omega⟩]
      · rw [if_neg (fun e => hc e.2), if_neg (fun e => hc ⟨e.2.1, by omega⟩)]
  · rw [if_neg (fun e => hr e.1), if_neg (fun e => hr e.1), if_neg (fun e => hr e.1)]

section
variable (c : Dev nD) (i : grid0.Coords)
  (arg2 : Memref sig .tc .smem S18 .i32) (harg2 : arg2.IsWhole)
  (arg3 : Memref sig .tc .vmem S16x96x128 .i32) (harg3 : arg3.IsWhole)
  (arg4 : Memref sig .tc .vmem S384x128 .i32) (harg4 : arg4.IsWhole)
  (arg5 : Memref sig .tc .vmem S8x128 .f32) (harg5 : arg5.IsWhole)
  (arg6 : Memref sig .tc .vmem S24x8192 .i32) (harg6 : arg6.IsWhole)
  (arg7 : Memref sig .tc .vmem S24x8192 .f32) (harg7 : arg7.IsWhole)
  (arg8 : Memref sig .tc .vmem S24x8192 .f32) (harg8 : arg8.IsWhole)
  (arg9 : Memref sig .tc .vmem S24x8192 .f32) (harg9 : arg9.IsWhole)
  (arg10 : Memref sig .tc .vmem S24x8192 .f32) (harg10 : arg10.IsWhole)
  (arg11 : Memref sig .tc .vmem S24x8192 .f32) (harg11 : arg11.IsWhole)
  (v1 : Elt F .i32) (v13 : BitVec 32)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ)))

/-- The buffers before trip `k`. -/
def loopI (k : ℕ) : sProp 𝕄 :=
  iprop(Ins c arg3 arg4 arg5 arg6 arg7 arg8 f3 f4 f5 f6 f7 f8
    ∗ iprop(∃ g : Buf (Elt F) (arg9.view.loc (c : Thread nD τ)), ⌜Upto i (k) (arg9.view.read (Elt F) f9) (arg9.view.read (Elt F) g) (v9 c i arg3 arg4 arg5 arg6 arg7 arg8 f3 f4 f5 f6 f7 f8 v1)⌝ ∗ Held c arg9 g)
    ∗ iprop(∃ g : Buf (Elt F) (arg10.view.loc (c : Thread nD τ)), ⌜Upto i (k) (arg10.view.read (Elt F) f10) (arg10.view.read (Elt F) g) (v10 c i arg5 arg6 arg7 arg8 f5 f6 f7 f8 v1)⌝ ∗ Held c arg10 g)
    ∗ iprop(∃ g : Buf (Elt F) (arg11.view.loc (c : Thread nD τ)), ⌜Upto i (k) (arg11.view.read (Elt F) f11) (arg11.view.read (Elt F) g) (v11 c i arg3 arg4 arg5 arg6 arg8 f3 f4 f5 f6 f8 v1)⌝ ∗ Held c arg11 g))

theorem loop_step (k : Fin k0_t1_loop.trips) :
    loopI c i arg3 arg4 arg5 arg6 arg7 arg8 arg9 arg10 arg11 v1 f3 f4 f5 f6 f7 f8 f9 f10 f11 k.val
    ⊢ wp frame (wpE (defs₀ (F := F)) Variants.none (c : Thread nD τ) none) Set.univ
        (tripP (F := F) i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) k)
        (fun _ => loopI c i arg3 arg4 arg5 arg6 arg7 arg8 arg9 arg10 arg11 v1 f3 f4 f5 f6 f7 f8 f9 f10 f11 (k.val + 1)) := by
  unfold loopI
  iintro ⟨HI, ⟨%g9, %h9, H9⟩, ⟨%g10, %h10, H10⟩, ⟨%g11, %h11, H11⟩⟩
  iapply (wp_wand_r frame (wpE (defs₀ (F := F)) Variants.none (c : Thread nD τ) none) Set.univ)
  isplitl [HI H9 H10 H11]
  · iapply (trip_run c i arg2 harg2 arg3 harg3 arg4 harg4 arg5 harg5 arg6 harg6 arg7 harg7 arg8 harg8 arg9 harg9 arg10 harg10 arg11 harg11 v1 v13 k f3 f4 f5 f6 f7 f8 g9 g10 g11)
    isplitl [HI]; · iexact HI
    isplitl [H9]; · iexact H9
    isplitl [H10]; · iexact H10
    iexact H11
  iintro %_ ⟨HI, ⟨%e9, %k9, H9⟩, ⟨%e10, %k10, H10⟩, ⟨%e11, %k11, H11⟩⟩
  isplitl [HI]; · iexact HI
  isplitl [H9]
  · iexists e9
    isplitr; · ipureintro; exact upto_succ i k.val _ _ _ _ h9 k9
    iexact H9
  isplitl [H10]
  · iexists e10
    isplitr; · ipureintro; exact upto_succ i k.val _ _ _ _ h10 k10
    iexact H10
  iexists e11
  isplitr; · ipureintro; exact upto_succ i k.val _ _ _ _ h11 k11
  iexact H11

set_option warn.classDefReducibility false in
/-- The loop's invariant, one trip by `trip_run`. -/
@[sl_loop] def loopInv : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 (BitVec.ofNat 32 (i 0).val) (BitVec.ofNat 32 (i 1).val) v1 v13 (iota .tc S8x128 32 [1] iota_S8x128_d1_w32) where
  inv k _ := loopI c i arg3 arg4 arg5 arg6 arg7 arg8 arg9 arg10 arg11 v1 f3 f4 f5 f6 f7 f8 f9 f10 f11 k
  step k _ := loop_step c i arg2 harg2 arg3 harg3 arg4 harg4 arg5 harg5 arg6 harg6 arg7 harg7 arg8 harg8 arg9 harg9 arg10 harg10 arg11 harg11 v1 v13 f3 f4 f5 f6 f7 f8 f9 f10 f11 k

theorem loop_first (x : Unit) :
    iprop(Ins c arg3 arg4 arg5 arg6 arg7 arg8 f3 f4 f5 f6 f7 f8 ∗ Held c arg9 f9 ∗ Held c arg10 f10 ∗ Held c arg11 f11)
    ⊢ (loopInv c i arg2 harg2 arg3 harg3 arg4 harg4 arg5 harg5 arg6 harg6 arg7 harg7 arg8 harg8 arg9 harg9 arg10 harg10 arg11 harg11 v1 v13 f3 f4 f5 f6 f7 f8 f9 f10 f11).inv 0 x := by
  show _ ⊢ loopI c i arg3 arg4 arg5 arg6 arg7 arg8 arg9 arg10 arg11 v1 f3 f4 f5 f6 f7 f8 f9 f10 f11 0
  unfold loopI
  iintro ⟨HI, H9, H10, H11⟩
  isplitl [HI]; · iexact HI
  isplitl [H9]
  · iexists f9
    isplitr; · ipureintro; exact upto_zero i _ _
    iexact H9
  isplitl [H10]
  · iexists f10
    isplitr; · ipureintro; exact upto_zero i _ _
    iexact H10
  iexists f11
  isplitr; · ipureintro; exact upto_zero i _ _
  iexact H11

theorem loop_last (x : Unit) :
    (loopInv c i arg2 harg2 arg3 harg3 arg4 harg4 arg5 harg5 arg6 harg6 arg7 harg7 arg8 harg8 arg9 harg9 arg10 harg10 arg11 harg11 v1 v13 f3 f4 f5 f6 f7 f8 f9 f10 f11).inv k0_t1_loop.trips x ⊢ loopI c i arg3 arg4 arg5 arg6 arg7 arg8 arg9 arg10 arg11 v1 f3 f4 f5 f6 f7 f8 f9 f10 f11 16 := by
  show loopI c i arg3 arg4 arg5 arg6 arg7 arg8 arg9 arg10 arg11 v1 f3 f4 f5 f6 f7 f8 f9 f10 f11 k0_t1_loop.trips ⊢ _
  rw [trips_eq]

theorem off1_eq : ∀ i : grid0.Coords, k0_off1 i = ![(i 0).val] := by decide +kernel

/-- The word of the lengths' table at the point. -/
def lenAt (i : grid0.Coords) (x2 : S18.Idx → BitVec 32) : BitVec 32 :=
  x2 (ix1 (⟨(i 0).val, grid_lt0 i⟩ : Fin 18))

/-- The whole body at a point. -/
theorem body_run (q : PosShare TreeShare) (f2 : Buf (Elt F) (arg2.view.loc (c : Thread nD τ)))
    (hv : v1 = lenAt i (arg2.view.read (Elt F) f2)) :
    iprop((arg2.view.loc (c : Thread nD τ) ↦[arg2.view.set]{q} f2) ∗ Ins c arg3 arg4 arg5 arg6 arg7 arg8 f3 f4 f5 f6 f7 f8 ∗ Held c arg9 f9 ∗ Held c arg10 f10 ∗ Held c arg11 f11)
    ⊢ wp frame (wpE (defs₀ (F := F)) Variants.none (c : Thread nD τ) none) Set.univ
        (cc0_scan_skel (F := F) i arg2 harg2 arg3 harg3 arg4 harg4 arg5 harg5 arg6 harg6 arg7 harg7 arg8 harg8 arg9 harg9 arg10 harg10 arg11 harg11)
        (fun _ => iprop((arg2.view.loc (c : Thread nD τ) ↦[arg2.view.set]{q} f2)
          ∗ loopI c i arg3 arg4 arg5 arg6 arg7 arg8 arg9 arg10 arg11 v1 f3 f4 f5 f6 f7 f8 f9 f10 f11 16)) := by
  unfold cc0_scan_skel
  iintro ⟨H2, H⟩
  sl_exec
  have hr : body_run.sl.r c i arg2 f2 = lenAt i (arg2.view.read (Elt F) f2) := by
    unfold body_run.sl.r lenAt
    rw [View.readAt_apply]
    refine congrArg (arg2.view.read (Elt F) f2) (funext fun d => Fin.ext ?_)
    have e := congrFun (off1_eq i) d
    match d, e with
    | ⟨0, _⟩, e => show (k0_off1 i) 0 + 1 * 0 = _; rw [show (k0_off1 i) 0 = _ from e]; rfl
  rw [hr, ← hv]
  iapply (exec_loop Idealize.ShloMosaic.frame (wpE (defs₀ (F := F)) Variants.none (c : Thread nD τ) none) Set.univ _ _ _ k0_t1_ok () _ (loopInv c i arg2 harg2 arg3 harg3 arg4 harg4 arg5 harg5 arg6 harg6 arg7 harg7 arg8 harg8 arg9 harg9 arg10 harg10 arg11 harg11 v1 _ f3 f4 f5 f6 f7 f8 f9 f10 f11)) $$ [H]
  · iapply (loop_first c i arg2 harg2 arg3 harg3 arg4 harg4 arg5 harg5 arg6 harg6 arg7 harg7 arg8 harg8 arg9 harg9 arg10 harg10 arg11 harg11 v1 _ f3 f4 f5 f6 f7 f8 f9 f10 f11)
    iexact H
  iintro %_ H
  sl_step
  isplitl [H2]; · iexact H2
  iapply (loop_last c i arg2 harg2 arg3 harg3 arg4 harg4 arg5 harg5 arg6 harg6 arg7 harg7 arg8 harg8 arg9 harg9 arg10 harg10 arg11 harg11 v1 _ f3 f4 f5 f6 f7 f8 f9 f10 f11)
  iexact H

end

end Cert.KernelIdeal.Scan

end
-- ==== Proof.ScanIdeal.Table.lean ====
/- The block of candidates a grid point stages: the chunk the lengths' table sends the point to. Whatever the table holds it is
   a chunk of the query, at most the point's own; and the point's own where the point has a candidate below the length. -/
module

public import proofs.«01_k».proof.Proof.ScanIdeal.Loop
public import proofs.«01_k».proof.Proof.Chunk

@[expose] public section

set_option maxRecDepth 16384

noncomputable section

namespace Cert.KernelIdeal.Scan

open Idealize.ShloMosaic Idealize.ShloMosaic.TcCoe Idealize.ShloMosaic.Tactic Cert.KernelIdeal.Gen
open Cert.Chunk

variable {F : FTy → Type} [FloatOps F]

/-- The chunk staged at a point, the table holding `pf`. -/
def chunk (pf : pre0.Contents (Elt F)) (i : grid0.Coords) : ℕ := (chunkW (i 1).val (lastW (lenAt i (pf 0)))).toNat

theorem index0_eq (pf : pre0.Contents (Elt F)) (i : grid0.Coords) :
    cc0_transform_0 k0_off1_inb numel1_S1 pf i = ![4 * (i 0).val + chunk pf i, 0, 0] := by
  have e : pf.at 0 (Rect.unit (s := S18) (k0_off1 i) S1.size (k0_off1_inb i)) numel1_S1 = lenAt i (pf 0) := by
    refine congrArg (pf 0) (funext fun d => Fin.ext ?_)
    have e := congrFun (off1_eq i) d
    match d, e with
    | ⟨0, _⟩, e => show (k0_off1 i) 0 + 1 * 0 = _; rw [show (k0_off1 i) 0 = _ from e]; rfl
  have h := block_word' (i 0).val (i 1).val (grid_lt0 i) (grid_lt1 i) (lastW (lenAt i (pf 0)))
  unfold chunk
  rw [← h, ← e]
  rfl

theorem chunk_le (pf : pre0.Contents (Elt F)) (i : grid0.Coords) : chunk pf i ≤ (i 1).val := chunkW_le _ (grid_lt1 i) _

theorem ok_all (pf : pre0.Contents (Elt F)) : ok0 pf := by
  intro i
  have h0 := grid_lt0 i
  have h1 := grid_lt1 i
  have hc := chunk_le pf i
  refine ⟨fun a => ?_, .inl rfl⟩
  rw [index0_eq]
  match a with
  | ⟨0, _⟩ => show (4 * (i 0).val + chunk pf i + 1) * 16 ≤ 1152; omega
  | ⟨1, _⟩ => show (0 + 1) * 96 ≤ 96; omega
  | ⟨2, _⟩ => show (0 + 1) * 128 ≤ 128; omega

end Cert.KernelIdeal.Scan

end
-- ==== Proof.ScanIdeal.Data.lean ====
/- The scan's proof data: the table the index map reads, what each grid point finds in the inputs' staging buffers, and how
   it changes the outputs'. -/
module

public import proofs.«01_k».proof.Proof.ScanIdeal.Loop
public import proofs.«01_k».proof.Proof.ScanIdeal.Table
public import proofs.«01_k».proof.Proof.Gen.KernelIdeal.Launch
public import Idealize.ShloMosaic.Lib.Pipeline.FrameBody

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ)

/-- The buffers when the pipeline starts: as launched. -/
abbrev V (c : Dev nD) (b : Ref sig .tc) : Buf (Elt F) ((c : Thread nD τ).loc b) := m ((c : Thread nD τ).loc b)

/-- The list lengths, as the prefetched table holds them. -/
abbrev pf : pre0.Contents (Elt F) := fun k => m (((0 : Dev nD) : Thread nD τ).loc (pre0.ref k))

/-- Every table is admissible. -/
def adm : (p : Fin 1) → (pcfgs (F := F) p).Adm := fun _ => ⟨pf m, ok_all _⟩

abbrev cfgA : Cfg sig Λ₀ := Pipeline.pin (pcfgs (F := F)) (adm m) 0

/-- An array of 18 rows, its first row repeated below it (the rows past 17 are never read). -/
def ext2 {α : Type} (A : S18x8192.Idx → α) : S24x8192.Idx → α :=
  fun x => if h : (x 0).val < 18 then A (ix2 (⟨(x 0).val, h⟩ : Fin 18) (x 1)) else A (ix2 (0 : Fin 18) (x 1))

section
variable (c : Dev nD)

/-- The codes' block staged at a point. -/
def gB (i : grid0.Coords) : S16x96x128.Idx → BitVec 32 := fun x =>
  (V m c main_arg1 : S1152x96x128.Idx → BitVec 32) (ix3 (⟨16 * (4 * (i 0).val + chunk (pf m) i) + (x 0).val, by
    have h0 := grid_lt0 i
    have h1 := grid_lt1 i
    have hc := chunk_le (pf m) i
    have hx : (x 0).val < 16 := (x 0).isLt
    omega⟩ : Fin 1152) (x 1) (x 2))

/-- The query's list length. -/
def lenV (i : grid0.Coords) : BitVec 32 := lenAt i (pf m 0)

/-- The three results' values over a point's row. -/
def val9 (i : grid0.Coords) : Fin 8192 → F .f32 :=
  out9 (gB m c i) (V m c main_arg2) (V m c main_arg3) (ext2 (V m c main_arg4)) (ext2 (V m c main_arg5)) (ext2 (V m c main_arg6)) (rowB i) (lenV m i)
def val10 (i : grid0.Coords) : Fin 8192 → F .f32 :=
  out10 (V m c main_arg3) (ext2 (V m c main_arg4)) (ext2 (V m c main_arg5)) (ext2 (V m c main_arg6)) (rowB i) (lenV m i)
def val11 (i : grid0.Coords) : Fin 8192 → F .f32 :=
  out11 (gB m c i) (V m c main_arg2) (V m c main_arg3) (ext2 (V m c main_arg4)) (ext2 (V m c main_arg6)) (rowB i) (lenV m i)

/-- The proof data: the inputs are left as found, and each point replaces its row of the outputs, over its step's columns. -/
def rdat : RDat τ (Elt F) Unit ℕ (UR sig nD τ) ℕ (cfgA m) c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun t Y X => Upto (grid0.coords t) 16 Y X (val9 m c (grid0.coords t))
    | ⟨7, _⟩ => fun t Y X => Upto (grid0.coords t) 16 Y X (val10 m c (grid0.coords t))
    | ⟨8, _⟩ => fun t Y X => Upto (grid0.coords t) 16 Y X (val11 m c (grid0.coords t))
  Φ _ := iprop(Pipeline.ΦA spec0 c ∗ Pipeline.ΦT pre0 (pf m) c)
  q _ := fullShare
  owed _ := 0

/-! ## What a point finds in the inputs' buffers -/

/-- An element of a fetched block that the fetch moves is the array's. -/
theorem fetched_at (w : Fin 9) (t : Fin (cfgA m).N) (d) (j : ((cfgA m).win w).block.Idx)
    (hm : ((cfgA m).win w).moved ((cfgA m).grid.coords t) j = true) :
    (rdat m c).fetched w t d j = (rdat m c).blockOf w t (fun a => ⟨(j a).val, (((cfgA m).win w).moved_iff _ j).mp hm a⟩) := by
  unfold RDat.fetched Window.fill
  rw [dif_pos hm]

theorem finds0 (t : Fin (cfgA m).N) (Y) (h : (rdat m c).Finds 0 t Y) (x : S16x96x128.Idx) :
    (Y : S16x96x128.Idx → BitVec 32) x = gB m c (grid0.coords t) x := by
  obtain ⟨d, rfl⟩ := (rdat m c).finds_in_eq_fetched 0 rfl (fun _ _ _ => rfl) (fun _ _ _ e => e) t Y h
  refine (fetched_at m c 0 t d x rfl).trans ?_
  refine congrArg (V m c main_arg1 : S1152x96x128.Idx → BitVec 32) (funext fun a => Fin.ext ?_)
  refine (Window.rect_emb_val ((cfgA m).win 0) t _ a).trans ?_
  have e := congrFun (index0_eq (pf m) (grid0.coords t)) a
  match a, e with
  | ⟨0, h0⟩, e =>
    show cc0_transform_0 k0_off1_inb numel1_S1 (pf m) (grid0.coords t) ⟨0, h0⟩ * 16 + (x 0).val = 16 * _ + (x 0).val
    rw [e]; exact congrArg (· + (x 0).val) (Nat.mul_comm _ _)
  | ⟨1, h0⟩, e =>
    show cc0_transform_0 k0_off1_inb numel1_S1 (pf m) (grid0.coords t) ⟨1, h0⟩ * 96 + (x 1).val = (x 1).val
    rw [e]; exact (Nat.zero_add _)
  | ⟨2, h0⟩, e =>
    show cc0_transform_0 k0_off1_inb numel1_S1 (pf m) (grid0.coords t) ⟨2, h0⟩ * 128 + (x 2).val = (x 2).val
    rw [e]; exact (Nat.zero_add _)

theorem finds1 (t : Fin (cfgA m).N) (Y) (h : (rdat m c).Finds 1 t Y) (x : S384x128.Idx) :
    (Y : S384x128.Idx → BitVec 32) x = (V m c main_arg2 : S384x128.Idx → BitVec 32) x := by
  obtain ⟨d, rfl⟩ := (rdat m c).finds_in_eq_fetched 1 rfl (fun _ _ _ => rfl) (fun _ _ _ e => e) t Y h
  refine (fetched_at m c 1 t d x rfl).trans ?_
  refine congrArg (V m c main_arg2 : S384x128.Idx → BitVec 32) (funext fun a => Fin.ext ?_)
  refine (Window.rect_emb_val ((cfgA m).win 1) t _ a).trans ?_
  match a with
  | ⟨0, _⟩ => show 0 * 384 + (x 0).val = (x 0).val; omega
  | ⟨1, _⟩ => show 0 * 128 + (x 1).val = (x 1).val; omega

theorem finds2 (t : Fin (cfgA m).N) (Y) (h : (rdat m c).Finds 2 t Y) (x : S8x128.Idx) :
    (Y : S8x128.Idx → F .f32) x = (V m c main_arg3 : S8x128.Idx → F .f32) x := by
  obtain ⟨d, rfl⟩ := (rdat m c).finds_in_eq_fetched 2 rfl (fun _ _ _ => rfl) (fun _ _ _ e => e) t Y h
  refine (fetched_at m c 2 t d x rfl).trans ?_
  refine congrArg (V m c main_arg3 : S8x128.Idx → F .f32) (funext fun a => Fin.ext ?_)
  refine (Window.rect_emb_val ((cfgA m).win 2) t _ a).trans ?_
  match a with
  | ⟨0, _⟩ => show 0 * 8 + (x 0).val = (x 0).val; omega
  | ⟨1, _⟩ => show 0 * 128 + (x 1).val = (x 1).val; omega

end

end Cert.KernelIdeal.Scan

end
-- ==== Proof.ScanIdeal.Finds.lean ====
/- What each grid point of the scan finds in the inputs whose blocks reach past the array, and the values it computes. -/
module

public import proofs.«01_k».proof.Proof.ScanIdeal.Data

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ)

section
variable (c : Dev nD)

/-- An element of a fetched block inside the array is the array's, at the block's place. -/
theorem fetched_val (w : Fin 9) (t : Fin (cfgA m).N) (d) (j : ((cfgA m).win w).block.Idx) (hk : ((cfgA m).win w).kind = .blocked)
    (hm : ∀ a, (j a).val < ((cfgA m).win w).xsize ((cfgA m).grid.coords t) a)
    (x : ((cfgA m).win w).shape.Idx) (hx : ∀ a, ((cfgA m).win w).index t a * ((cfgA m).win w).size a + (j a).val = (x a).val) :
    (rdat m c).fetched w t d j = ((cfgA m).win w).arr.view.read (Elt F) ((rdat m c).A w) x := by
  have hm' := (((cfgA m).win w).moved_iff _ j).mpr hm
  refine (fetched_at m c w t d j hm').trans ?_
  refine congrArg (((cfgA m).win w).arr.view.read (Elt F) ((rdat m c).A w)) (funext fun a => Fin.ext ?_)
  exact (Window.rect_emb_val ((cfgA m).win w) t _ a hk).trans (hx a)

theorem xsize_row (ix : Fin 2 → ℕ) (hix : ix = ![0, 0]) (r : Fin 24) (hr : r.val < 18) (k : Fin 8192) (a : Fin 2) :
    ((ix2 r k : S24x8192.Idx) a).val < (Pipeline.Clip.of (ix a) (S24x8192.size a) (S18x8192.size a)).extent (S24x8192.size a) := by
  subst hix
  match a with
  | ⟨0, _⟩ =>
    show r.val < (Pipeline.Clip.of 0 24 18).extent 24
    rw [show Pipeline.Clip.of 0 24 18 = some 18 from by unfold Pipeline.Clip.of; rw [if_neg (by omega)]]
    exact hr
  | ⟨1, _⟩ =>
    show k.val < (Pipeline.Clip.of 0 8192 8192).extent 8192
    rw [show Pipeline.Clip.of 0 8192 8192 = none from by unfold Pipeline.Clip.of; rw [if_pos (by omega)]]
    exact k.isLt

theorem place_row (ix : Fin 2 → ℕ) (hix : ix = ![0, 0]) (r : Fin 24) (hr : r.val < 18) (k : Fin 8192) (a : Fin 2) :
    ix a * S24x8192.size a + ((ix2 r k : S24x8192.Idx) a).val = ((ix2 (⟨r.val, hr⟩ : Fin 18) k : S18x8192.Idx) a).val := by
  subst hix
  match a with
  | ⟨0, _⟩ => show 0 * 24 + r.val = r.val; omega
  | ⟨1, _⟩ => show 0 * 8192 + k.val = k.val; omega

theorem ext2_apply {α : Type} (A : S18x8192.Idx → α) (r : Fin 24) (hr : r.val < 18) (k : Fin 8192) :
    ext2 A (ix2 r k) = A (ix2 (⟨r.val, hr⟩ : Fin 18) k) := dif_pos (show ((ix2 r k : S24x8192.Idx) 0).val < 18 from hr)

theorem index3_eq (i : grid0.Coords) : cc0_transform_3 i = ![0, 0] := rfl

theorem finds3 (t : Fin (cfgA m).N) (Y) (h : (rdat m c).Finds 3 t Y) (r : Fin 24) (hr : r.val < 18) (k : Fin 8192) :
    (Y : S24x8192.Idx → BitVec 32) (ix2 r k) = ext2 (V m c main_arg4 : S18x8192.Idx → BitVec 32) (ix2 r k) := by
  obtain ⟨d, rfl⟩ := (rdat m c).finds_in_eq_fetched 3 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 3 t d (ix2 r k : S24x8192.Idx) rfl (xsize_row _ (index3_eq (grid0.coords t)) r hr k) (ix2 (⟨r.val, hr⟩ : Fin 18) k : S18x8192.Idx)
    (place_row _ (index3_eq (grid0.coords t)) r hr k)

theorem index4_eq (i : grid0.Coords) : cc0_transform_4 i = ![0, 0] := rfl

theorem finds4 (t : Fin (cfgA m).N) (Y) (h : (rdat m c).Finds 4 t Y) (r : Fin 24) (hr : r.val < 18) (k : Fin 8192) :
    (Y : S24x8192.Idx → F .f32) (ix2 r k) = ext2 (V m c main_arg5 : S18x8192.Idx → F .f32) (ix2 r k) := by
  obtain ⟨d, rfl⟩ := (rdat m c).finds_in_eq_fetched 4 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 4 t d (ix2 r k : S24x8192.Idx) rfl (xsize_row _ (index4_eq (grid0.coords t)) r hr k) (ix2 (⟨r.val, hr⟩ : Fin 18) k : S18x8192.Idx)
    (place_row _ (index4_eq (grid0.coords t)) r hr k)

theorem index5_eq (i : grid0.Coords) : cc0_transform_5 i = ![0, 0] := rfl

theorem finds5 (t : Fin (cfgA m).N) (Y) (h : (rdat m c).Finds 5 t Y) (r : Fin 24) (hr : r.val < 18) (k : Fin 8192) :
    (Y : S24x8192.Idx → F .f32) (ix2 r k) = ext2 (V m c main_arg6 : S18x8192.Idx → F .f32) (ix2 r k) := by
  obtain ⟨d, rfl⟩ := (rdat m c).finds_in_eq_fetched 5 rfl (fun t t' e => congrArg (fun (ix : Fin 2 → ℕ) (a : Fin 2) => Pipeline.Clip.of (ix a) (S24x8192.size a) (S18x8192.size a)) e) (fun _ _ _ e => e) t Y h
  rw [ext2_apply _ r hr k]
  exact fetched_val m c 5 t d (ix2 r k : S24x8192.Idx) rfl (xsize_row _ (index5_eq (grid0.coords t)) r hr k) (ix2 (⟨r.val, hr⟩ : Fin 18) k : S18x8192.Idx)
    (place_row _ (index5_eq (grid0.coords t)) r hr k)

/-! ## The body's values are the data's -/

theorem out9_congr (x3 y3 : S16x96x128.Idx → BitVec 32) (x4 y4 : S384x128.Idx → BitVec 32) (x5 y5 : S8x128.Idx → F .f32)
    (x6 y6 : S24x8192.Idx → BitVec 32) (x7 y7 x8 y8 : S24x8192.Idx → F .f32) (b : Fin 24) (n : BitVec 32)
    (h3 : x3 = y3) (h4 : x4 = y4) (h5 : x5 = y5) (h6 : ∀ k, x6 (ix2 b k) = y6 (ix2 b k)) (h7 : ∀ k, x7 (ix2 b k) = y7 (ix2 b k))
    (h8 : ∀ k, x8 (ix2 b k) = y8 (ix2 b k)) :
    out9 x3 x4 x5 x6 x7 x8 b n = out9 y3 y4 y5 y6 y7 y8 b n ∧ out10 x5 x6 x7 x8 b n = out10 y5 y6 y7 y8 b n
      ∧ out11 x3 x4 x5 x6 x8 b n = out11 y3 y4 y5 y6 y8 b n := by
  subst h3 h4 h5
  refine ⟨funext fun k => ?_, funext fun k => ?_, funext fun k => ?_⟩
  · unfold out9 distB estB qB; rw [h6, h7, h8]
  · unfold out10 errB qB; rw [h6, h7, h8]
  · unfold out11 estB qB; rw [h6, h8]

theorem vals_eq (t : Fin (cfgA m).N) (Y : (w : Fin 9) → ((cfgA m).win w).block.Idx → Elt F ((cfgA m).win w).elt)
    (h : ∀ w, (rdat m c).Finds w t (Y w)) :
    out9 (Y 0 : S16x96x128.Idx → BitVec 32) (Y 1 : S384x128.Idx → BitVec 32) (Y 2 : S8x128.Idx → F .f32) (Y 3 : S24x8192.Idx → BitVec 32)
        (Y 4 : S24x8192.Idx → F .f32) (Y 5 : S24x8192.Idx → F .f32) (rowB (grid0.coords t)) (lenV m (grid0.coords t)) = val9 m c (grid0.coords t)
    ∧ out10 (Y 2 : S8x128.Idx → F .f32) (Y 3 : S24x8192.Idx → BitVec 32)
        (Y 4 : S24x8192.Idx → F .f32) (Y 5 : S24x8192.Idx → F .f32) (rowB (grid0.coords t)) (lenV m (grid0.coords t)) = val10 m c (grid0.coords t)
    ∧ out11 (Y 0 : S16x96x128.Idx → BitVec 32) (Y 1 : S384x128.Idx → BitVec 32) (Y 2 : S8x128.Idx → F .f32) (Y 3 : S24x8192.Idx → BitVec 32)
        (Y 5 : S24x8192.Idx → F .f32) (rowB (grid0.coords t)) (lenV m (grid0.coords t)) = val11 m c (grid0.coords t) :=
  out9_congr _ _ _ _ _ _ _ _ _ _ _ _ _ _ (funext (finds0 m c t _ (h 0))) (funext (finds1 m c t _ (h 1))) (funext (finds2 m c t _ (h 2)))
    (finds3 m c t _ (h 3) _ (grid_lt0 _)) (finds4 m c t _ (h 4) _ (grid_lt0 _)) (finds5 m c t _ (h 5) _ (grid_lt0 _))
end

end Cert.KernelIdeal.Scan

end
-- ==== Proof.ScanIdeal.Run.lean ====
/- The scan's run: the body at every grid point, the pipeline over the grid, and the frame. -/
module

public import proofs.«01_k».proof.Proof.ScanIdeal.Finds

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD)

/-- The body on the staging buffers of a point. -/
abbrev bodyAt (t : Fin (cfgA m).N) : Prog (TpuEff nD τ sig (Elt F) Λ₀ .tc) PUnit :=
  cc0_scan_skel (F := F) (grid0.coords t) (Memref.whole main_arg0) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))

theorem defs₀_row (t : Fin (cfgA m).N) :
    defs₀ (F := F) .tc (cfgA m).body ((cfgA m).bodyArgs t ((cfgA m).slots t)) = bodyAt m t := by
  unfold defs₀ bodyAt
  rw [Defs.onTc_tc, ← cc0_scan_eq_skeleton]

/-- The table as the body reads it. -/
theorem table_eq : (Pipeline.ΦT pre0 (pf m) c : sProp 𝕄)
    = ((Memref.whole main_arg0).view.loc (c : Thread nD τ) ↦[(Memref.whole main_arg0).view.set]{fullShare.right} pf m 0) := by
  unfold Pipeline.ΦT Pipeline.prefHeld
  rw [bigSep_univ_eq_bigSepL [(0 : Fin 1)] (by decide) (by decide)]
  simp only [Memref.view_whole, View.set_whole]
  rfl

/-- A buffer owned at what it reads. -/
theorem owns_of_held {s : Shape} {e : EltTy} {sp : Space} (a : Memref sig .tc sp s e) (f : Buf (Elt F) (a.view.loc (c : Thread nD τ))) :
    Held c a f ⊢ (owns (c : Thread nD τ) a fullShare (a.view.read (Elt F) f) : sProp 𝕄) := by
  unfold owns
  iintro H
  iexists f
  isplitr
  · ipureintro; rfl
  iexact H

abbrev PreB (t : Fin (cfgA m).N) (Y : (w : Fin 9) → ((cfgA m).win w).block.Idx → Elt F ((cfgA m).win w).elt) : sProp 𝕄 :=
  iprop((rdat m c).Φ t.castSucc ∗ (rdat m c).owesAt () t.castSucc
    ∗ owns (c : Thread nD τ) (spec0_0.stage ((cfgA m).slots t 0)) fullShare (Y 0)
    ∗ owns (c : Thread nD τ) (spec0_1.stage ((cfgA m).slots t 1)) fullShare (Y 1)
    ∗ owns (c : Thread nD τ) (spec0_2.stage ((cfgA m).slots t 2)) fullShare (Y 2)
    ∗ owns (c : Thread nD τ) (spec0_3.stage ((cfgA m).slots t 3)) fullShare (Y 3)
    ∗ owns (c : Thread nD τ) (spec0_4.stage ((cfgA m).slots t 4)) fullShare (Y 4)
    ∗ owns (c : Thread nD τ) (spec0_5.stage ((cfgA m).slots t 5)) fullShare (Y 5)
    ∗ owns (c : Thread nD τ) (spec0_6.stage ((cfgA m).slots t 6)) fullShare (Y 6)
    ∗ owns (c : Thread nD τ) (spec0_7.stage ((cfgA m).slots t 7)) fullShare (Y 7)
    ∗ owns (c : Thread nD τ) (spec0_8.stage ((cfgA m).slots t 8)) fullShare (Y 8))

abbrev PostB (t : Fin (cfgA m).N) (Y : (w : Fin 9) → ((cfgA m).win w).block.Idx → Elt F ((cfgA m).win w).elt) : sProp 𝕄 :=
  iprop((rdat m c).Φ t.castSucc ∗ (rdat m c).owesAt () t.castSucc
    ∗ (∃ X : S16x96x128.Idx → BitVec 32, ⌜X = Y 0⌝ ∗ owns (c : Thread nD τ) (spec0_0.stage ((cfgA m).slots t 0)) fullShare X)
    ∗ (∃ X : S384x128.Idx → BitVec 32, ⌜X = Y 1⌝ ∗ owns (c : Thread nD τ) (spec0_1.stage ((cfgA m).slots t 1)) fullShare X)
    ∗ (∃ X : S8x128.Idx → F .f32, ⌜X = Y 2⌝ ∗ owns (c : Thread nD τ) (spec0_2.stage ((cfgA m).slots t 2)) fullShare X)
    ∗ (∃ X : S24x8192.Idx → BitVec 32, ⌜X = Y 3⌝ ∗ owns (c : Thread nD τ) (spec0_3.stage ((cfgA m).slots t 3)) fullShare X)
    ∗ (∃ X : S24x8192.Idx → F .f32, ⌜X = Y 4⌝ ∗ owns (c : Thread nD τ) (spec0_4.stage ((cfgA m).slots t 4)) fullShare X)
    ∗ (∃ X : S24x8192.Idx → F .f32, ⌜X = Y 5⌝ ∗ owns (c : Thread nD τ) (spec0_5.stage ((cfgA m).slots t 5)) fullShare X)
    ∗ (∃ X : S24x8192.Idx → F .f32, ⌜Upto (grid0.coords t) 16 (Y 6) X (val9 m c (grid0.coords t))⌝ ∗ owns (c : Thread nD τ) (spec0_6.stage ((cfgA m).slots t 6)) fullShare X)
    ∗ (∃ X : S24x8192.Idx → F .f32, ⌜Upto (grid0.coords t) 16 (Y 7) X (val10 m c (grid0.coords t))⌝ ∗ owns (c : Thread nD τ) (spec0_7.stage ((cfgA m).slots t 7)) fullShare X)
    ∗ (∃ X : S24x8192.Idx → F .f32, ⌜Upto (grid0.coords t) 16 (Y 8) X (val11 m c (grid0.coords t))⌝ ∗ owns (c : Thread nD τ) (spec0_8.stage ((cfgA m).slots t 8)) fullShare X))

theorem upto_of (i : grid0.Coords) (x x' y : S24x8192.Idx → F .f32) (v v' : Fin 8192 → F .f32) (hx : x = x') (hv : v = v')
    (h : Upto i 16 x y v) : Upto i 16 x' y v' := by
  subst hx hv; exact h

theorem sound_body (t : Fin (cfgA m).N) (Y : (w : Fin 9) → ((cfgA m).win w).block.Idx → Elt F ((cfgA m).win w).elt)
    (hY : ∀ w, (rdat m c).Finds w t (Y w)) :
    PreB m c t Y ⊢ wp frame (wpE (defs₀ (F := F)) Variants.none (c : Thread nD τ) none) Set.univ (bodyAt m t) (fun _ => PostB m c t Y) := by
  have hv := vals_eq m c t Y hY
  unfold PreB PostB
  rw [show (rdat m c).Φ t.castSucc = iprop(Pipeline.ΦA spec0 c ∗ Pipeline.ΦT pre0 (pf m) c) from rfl, table_eq]
  unfold owns
  iintro ⟨⟨HA, HT⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩
  iapply (wp_wand_r frame (wpE (defs₀ (F := F)) Variants.none (c : Thread nD τ) none) Set.univ)
  isplitl [HT H0 H1 H2 H3 H4 H5 H6 H7 H8]
  · iapply (body_run c (grid0.coords t) (Memref.whole main_arg0) _ _ _ _ _ _ _ _ _ _ _ _ _ _ _ _ _ _ _ (lenV m (grid0.coords t)) f0 f1 f2 f3 f4 f5 f6 f7 f8 fullShare.right (pf m 0) rfl)
    isplitl [HT]; · iexact HT
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact H8
  unfold loopI
  iintro %_ ⟨HT, ⟨H0, H1, H2, H3, H4, H5⟩, ⟨%g6, %u6, H6⟩, ⟨%g7, %u7, H7⟩, ⟨%g8, %u8, H8⟩⟩
  have hc := out9_congr _ _ _ _ _ _ _ _ _ _ _ _ (rowB (grid0.coords t)) (lenV m (grid0.coords t)) e0 e1 e2
    (fun k => congrFun e3 _) (fun k => congrFun e4 _) (fun k => congrFun e5 _)
  isplitl [HA HT]
  · isplitl [HA]; · iexact HA
    iexact HT
  isplitl [Ho]; · iexact Ho
  isplitl [H0]
  · iexists (Y 0); isplitr; · ipureintro; rfl
    iexists f0; isplitr; · ipureintro; exact e0
    iexact H0
  isplitl [H1]
  · iexists (Y 1); isplitr; · ipureintro; rfl
    iexists f1; isplitr; · ipureintro; exact e1
    iexact H1
  isplitl [H2]
  · iexists (Y 2); isplitr; · ipureintro; rfl
    iexists f2; isplitr; · ipureintro; exact e2
    iexact H2
  isplitl [H3]
  · iexists (Y 3); isplitr; · ipureintro; rfl
    iexists f3; isplitr; · ipureintro; exact e3
    iexact H3
  isplitl [H4]
  · iexists (Y 4); isplitr; · ipureintro; rfl
    iexists f4; isplitr; · ipureintro; exact e4
    iexact H4
  isplitl [H5]
  · iexists (Y 5); isplitr; · ipureintro; rfl
    iexists f5; isplitr; · ipureintro; exact e5
    iexact H5
  isplitl [H6]
  · iexists _; isplitr
    · ipureintro; exact upto_of _ _ _ _ _ _ e6 (hc.1.trans hv.1) u6
    iexists g6; isplitr; · ipureintro; rfl
    iexact H6
  isplitl [H7]
  · iexists _; isplitr
    · ipureintro; exact upto_of _ _ _ _ _ _ e7 (hc.2.1.trans hv.2.1) u7
    iexists g7; isplitr; · ipureintro; rfl
    iexact H7
  iexists _; isplitr
  · ipureintro; exact upto_of _ _ _ _ _ _ e8 (hc.2.2.trans hv.2.2) u8
  iexists g8; isplitr; · ipureintro; rfl
  iexact H8

theorem body_obligation : (rdat m c).BodyObligation (defs₀ (F := F)) Variants.none () Set.univ := fun t Y hY => by
  rw [bigSep_W0, bigSep_W0, defs₀_row]
  exact triple_restated (sound_body m c t Y hY) rfl .rfl fun _ => .rfl
end

/-! ## The run -/

theorem hpf (c : Dev nD) (k : Fin pre0.K) : V m c (pre0.ref k) = (pf m) k := by
  obtain rfl : c = 0 := Subsingleton.elim _ _
  rfl

theorem hmain : Pipeline.HMainP (Ix := Unit) (Name := ℕ) (U := UR sig nD τ) (Lvl := ℕ) (pcfgs (F := F)) 0 defs₀ Variants.none m (main (F := F)) (V m) :=
  Pipeline.hmainP_region (pcfgs (F := F)) 0 defs₀ Variants.none m main fun c => (main_chain c).trans rfl

abbrev Post (r : PUnit × MemSt nD τ sig (Elt F)) : Prop := Pipeline.RDat.FramePost (cfgA m) (rdat m) (V m) r

set_option backward.isDefEq.respectTransparency.types false in
/-- Every run ends, its semaphores at zero, its arrays at what the grid's points leave. -/
theorem run_main : θ_run defs (onTc (τ := τ) (main (F := F))) (s₀ m ρ) (fun r => Post m r ∧ r.2.sem = fun _ => 0) :=
  Pipeline.RDat.θ_run_frameP (Q' := _) (pcfgs (F := F)) (adm m) 0 launch0 defs₀ Variants.none (rdat m) m ρ main
    (hbody := body_obligation m) (hshare := fun c => (rdat m c).share_full fun _ => rfl) (howed := fun _ _ => rfl)
    (V := V m) (hmain := hmain m) (hA := fun _ _ => rfl) (hpf := hpf m) (hΦ := fun _ _ => rfl)

theorem arr_in (r : PUnit × MemSt nD τ sig (Elt F)) (h : Post m r) (c : Dev nD) (w : Fin 9) (hw : ((cfgA m).win w).isOut = false) :
    r.2.mem (((cfgA m).spec w).arr.view.loc (c : Thread nD τ)) = (rdat m c).A w :=
  (Pipeline.RDat.FramePost.arr_in h c w hw)

/-- The arguments end unchanged. -/
theorem unchanged (r : PUnit × MemSt nD τ sig (Elt F)) (h : Post m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (by show main_arg0 ∈ Pipeline.restRefs sig spec0; decide), arr_in m r h c 0 rfl, arr_in m r h c 1 rfl, arr_in m r h c 2 rfl, arr_in m r h c 3 rfl,
    arr_in m r h c 4 rfl, arr_in m r h c 5 rfl⟩

/-- The frame: every run ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => unchanged m r h.1 c, h.2⟩) (run_main m ρ)

end Cert.KernelIdeal.Scan

end
-- ==== Proof.RefTerms.lean ====
/- The reference's results as a short chain of named arrays. -/
module

public import proofs.«01_k».proof.Proof.Gen.ReferenceIdeal.Run

@[expose] public section

set_option maxRecDepth 16384

noncomputable section

namespace Cert.ReferenceIdeal.Vals

open Cert.ReferenceIdeal Cert.ReferenceIdeal.Gen Idealize.ShloMosaic Idealize.ShloMosaic.TcCoe Idealize.SL.Sem Idealize.ShloMosaic.StableHlo

variable {F : FTy → Type} [FloatOps F]

/-- The codes, a candidate's 96 words last. -/
def codesT (x1 : S1152x96x128.Idx → BitVec 32) : S18x8192x96.Idx → BitVec 32 :=
  shapeCast _ (transpose S18x64x128x96 [0, 1, 3, 2] (shapeCast S18x64x96x128 x1 shapeCasts_S1152x96x128_S18x64x96x128) transposes_S18x64x96x128_S18x64x128x96_0_1_3_2) shapeCasts_S18x64x128x96_S18x8192x96

/-- The planes of a query and probe. -/
def planesT (x2 : S384x128.Idx → BitVec 32) : S18x6x4x96.Idx → BitVec 32 :=
  transpose S18x6x4x96 [2, 3, 0, 1] (id (shapeCast S4x96x18x6 (extractStridedSlice S4x96x108 ![0, 0, 0] (shapeCast S4x96x128 x2 shapeCasts_S384x128_S4x96x128) slices_S4x96x128_S4x96x108_0_0_0) shapeCasts_S4x96x108_S4x96x18x6)) transposes_S4x96x18x6_S18x6x4x96_2_3_0_1

/-- The statistics of a query and probe. -/
def statsT (x3 : S8x128.Idx → F .f32) : S4x18x6.Idx → F .f32 :=
  shapeCast _ (extractStridedSlice S4x108 ![0, 0] x3 slices_S8x128_S4x108_0_0) shapeCasts_S4x108_S4x18x6

/-- The probe numbers as the take reads them. -/
def probeT (x4 : S18x8192.Idx → BitVec 32) : S18x8192x1.Idx → BitVec 32 :=
  shapeCast _ (select (cmpi .slt (broadcastInDim S1x18x8192 ![1, 2] bcast_S18x8192_S1x18x8192_1_2 x4) (broadcastInDim S1x18x8192 ![] bcast_S_S1x18x8192 (constantI S_ 32 0#32))) (addi (broadcastInDim S1x18x8192 ![1, 2] bcast_S18x8192_S1x18x8192_1_2 x4) (broadcastInDim S1x18x8192 ![] bcast_S_S1x18x8192 (constantI S_ 32 6#32))) (broadcastInDim S1x18x8192 ![1, 2] bcast_S18x8192_S1x18x8192_1_2 x4)) shapeCasts_S1x18x8192_S18x8192x1

/-- Where the probe number lies in range. -/
def inT (x4 : S18x8192.Idx → BitVec 32) : S18x8192.Idx → BitVec 1 :=
  Host.reduce IntOp.andi (andi (cmpi .sge (probeT x4) (broadcastInDim S18x8192x1 ![] bcast_S_S18x8192x1 (constantI S_ 32 0#32))) (cmpi .sle (probeT x4) (broadcastInDim S18x8192x1 ![0, 1, 2] bcast_S1x1x1_S18x8192x1_0_1_2 (broadcastInDim S1x1x1 ![2] bcast_S1_S1x1x1_2 (constantI S1 32 5#32))))) (constantI S_ 1 1#1) reducesTo_S18x8192x1_S18x8192_d2 h_S_

/-- The statistics of a candidate. -/
def takeT (x3 : S8x128.Idx → F .f32) (x4 : S18x8192.Idx → BitVec 32) : S4x18x8192.Idx → F .f32 :=
  select (broadcastInDim S4x18x8192 ![1, 2] bcast_S18x8192_S4x18x8192_1_2 (inT x4)) (Host.gather gather_S4x18x6_S18x8192x1_S4x18x8192_0_2_1_0_2_2_411 (statsT x3) (probeT x4)) (broadcastInDim S4x18x8192 ![] bcast_S_S4x18x8192 (constant S_ .f32 0x7FC00000#32))

def deltaT (x3 : S8x128.Idx → F .f32) (x4 : S18x8192.Idx → BitVec 32) : S18x8192.Idx → F .f32 :=
  shapeCast _ (extractStridedSlice S1x18x8192 ![0, 0, 0] (takeT x3 x4) slices_S4x18x8192_S1x18x8192_0_0_0) shapeCasts_S1x18x8192_S18x8192
def vlT (x3 : S8x128.Idx → F .f32) (x4 : S18x8192.Idx → BitVec 32) : S18x8192.Idx → F .f32 :=
  shapeCast _ (extractStridedSlice S1x18x8192 ![1, 0, 0] (takeT x3 x4) slices_S4x18x8192_S1x18x8192_1_0_0) shapeCasts_S1x18x8192_S18x8192
def nqT (x3 : S8x128.Idx → F .f32) (x4 : S18x8192.Idx → BitVec 32) : S18x8192.Idx → F .f32 :=
  shapeCast _ (extractStridedSlice S1x18x8192 ![2, 0, 0] (takeT x3 x4) slices_S4x18x8192_S1x18x8192_2_0_0) shapeCasts_S1x18x8192_S18x8192
def sumqT (x3 : S8x128.Idx → F .f32) (x4 : S18x8192.Idx → BitVec 32) : S18x8192.Idx → F .f32 :=
  shapeCast _ (extractStridedSlice S1x18x8192 ![3, 0, 0] (takeT x3 x4) slices_S4x18x8192_S1x18x8192_3_0_0) shapeCasts_S1x18x8192_S18x8192

/-- One probe's planes, for all candidates of a query. -/
def bcP (y : S18x1x4x96.Idx → BitVec 32) : S18x1x4x96.Idx → BitVec 32 :=
  broadcastInDim S18x1x4x96 ![0, 2, 3] bcast_S18x4x96_S18x1x4x96_0_2_3 (shapeCast S18x4x96 y shapeCasts_S18x1x4x96_S18x4x96)

/-- The candidates of probe `n`. -/
def isP (n : BitVec 32) (x4 : S18x8192.Idx → BitVec 32) : S18x8192x4x96.Idx → BitVec 1 :=
  broadcastInDim S18x8192x4x96 ![0, 1, 2, 3] bcast_S18x8192x1x1_S18x8192x4x96_0_1_2_3 (broadcastInDim S18x8192x1x1 ![0, 1] bcast_S18x8192_S18x8192x1x1_0_1 (cmpi .eq x4 (broadcastInDim S18x8192 ![] bcast_S_S18x8192 (constantI S_ 32 n))))

def toAll (y : S18x1x4x96.Idx → BitVec 32) : S18x8192x4x96.Idx → BitVec 32 :=
  broadcastInDim S18x8192x4x96 ![0, 1, 2, 3] bcast_S18x1x4x96_S18x8192x4x96_0_1_2_3 y

/-- The planes of a candidate. -/
def selT (x2 : S384x128.Idx → BitVec 32) (x4 : S18x8192.Idx → BitVec 32) : S18x8192x4x96.Idx → BitVec 32 :=
  select (isP 5#32 x4) (toAll (bcP (extractStridedSlice S18x1x4x96 ![0, 5, 0, 0] (planesT x2) slices_S18x6x4x96_S18x1x4x96_0_5_0_0)))
  (select (isP 4#32 x4) (toAll (bcP (extractStridedSlice S18x1x4x96 ![0, 4, 0, 0] (planesT x2) slices_S18x6x4x96_S18x1x4x96_0_4_0_0)))
  (select (isP 3#32 x4) (toAll (bcP (extractStridedSlice S18x1x4x96 ![0, 3, 0, 0] (planesT x2) slices_S18x6x4x96_S18x1x4x96_0_3_0_0)))
  (select (isP 2#32 x4) (toAll (bcP (extractStridedSlice S18x1x4x96 ![0, 2, 0, 0] (planesT x2) slices_S18x6x4x96_S18x1x4x96_0_2_0_0)))
  (select (isP 1#32 x4) (toAll (bcP (extractStridedSlice S18x1x4x96 ![0, 1, 0, 0] (planesT x2) slices_S18x6x4x96_S18x1x4x96_0_1_0_0)))
  (toAll (bcP (extractStridedSlice S18x1x4x96 ![0, 0, 0, 0] (planesT x2) slices_S18x6x4x96_S18x1x4x96_0_0_0_0)))))))

/-- The set bits a code shares with each plane. -/
def countT (x1 : S1152x96x128.Idx → BitVec 32) (x2 : S384x128.Idx → BitVec 32) (x4 : S18x8192.Idx → BitVec 32) : S18x8192x4.Idx → BitVec 32 :=
  Host.reduce IntOp.addi (id (ctpop (andi (broadcastInDim S18x8192x4x96 ![0, 1, 2, 3] bcast_S18x8192x1x96_S18x8192x4x96_0_1_2_3 (broadcastInDim S18x8192x1x96 ![0, 1, 3] bcast_S18x8192x96_S18x8192x1x96_0_1_3 (codesT x1))) (selT x2 x4)))) (constantI S_ 32 0#32) reducesTo_S18x8192x4x96_S18x8192x4_d3 h_S_

/-- The integer inner product. -/
def ipT (x1 : S1152x96x128.Idx → BitVec 32) (x2 : S384x128.Idx → BitVec 32) (x4 : S18x8192.Idx → BitVec 32) : S18x8192.Idx → BitVec 32 :=
  Host.reduce IntOp.addi (muli (countT x1 x2 x4) (broadcastInDim S18x8192x4 ![0, 1, 2] bcast_S1x1x4_S18x8192x4_0_1_2 (broadcastInDim S1x1x4 ![2] bcast_S4_S1x1x4_2 (Host.shli (broadcastInDim S4 ![] bcast_S_S4 (constantI S_ 32 1#32)) (iotaInDim S4 32 0))))) (constantI S_ 32 0#32) reducesTo_S18x8192x4_S18x8192_d2 h_S_

/-- A code's set bits. -/
def popT (x1 : S1152x96x128.Idx → BitVec 32) : S18x8192.Idx → BitVec 32 :=
  Host.reduce IntOp.addi (id (ctpop (codesT x1))) (constantI S_ 32 0#32) reducesTo_S18x8192x96_S18x8192_d2 h_S_

def cst (b : BitVec 32) : S18x8192.Idx → F .f32 := broadcastInDim S18x8192 ![] bcast_S_S18x8192 (constant S_ .f32 b)

/-- The estimated inner product. -/
def estT (x1 : S1152x96x128.Idx → BitVec 32) (x2 : S384x128.Idx → BitVec 32) (x3 : S8x128.Idx → F .f32) (x4 : S18x8192.Idx → BitVec 32) (x6 : S18x8192.Idx → F .f32) : S18x8192.Idx → F .f32 :=
  Host.divf (subf (Host.divf (subf (addf (mulf (mulf (cst 0x40000000#32) (deltaT x3 x4)) (sitofp .f32 (ipT x1 x2 x4))) (mulf (mulf (cst 0x40000000#32) (vlT x3 x4)) (sitofp .f32 (popT x1)))) (mulf (deltaT x3 x4) (sumqT x3 x4))) (cst 0x425DB3D7#32)) (mulf (cst 0x425DB3D7#32) (vlT x3 x4))) (mulf (nqT x3 x4) x6)

/-- The estimated squared distance. -/
def distT (x1 : S1152x96x128.Idx → BitVec 32) (x2 : S384x128.Idx → BitVec 32) (x3 : S8x128.Idx → F .f32) (x4 : S18x8192.Idx → BitVec 32) (x5 x6 : S18x8192.Idx → F .f32) : S18x8192.Idx → F .f32 :=
  subf (addf (mulf x5 x5) (mulf (nqT x3 x4) (nqT x3 x4))) (mulf (mulf (mulf (cst 0x40000000#32) x5) (nqT x3 x4)) (estT x1 x2 x3 x4 x6))

/-- The error bound. -/
def errT (x3 : S8x128.Idx → F .f32) (x4 : S18x8192.Idx → BitVec 32) (x5 x6 : S18x8192.Idx → F .f32) : S18x8192.Idx → F .f32 :=
  mulf (Host.divf (mulf (mulf (mulf (cst 0x40000000#32) x5) (nqT x3 x4)) (Host.sqrt (subf (cst 0x3F800000#32) (mulf x6 x6)))) x6) (cst 0x3D0C6F38#32)

/-- A result where the candidate's column lies below the query's count, zero elsewhere. -/
def maskT (x0 : S18.Idx → BitVec 32) (y : S18x8192.Idx → F .f32) : S18x8192.Idx → F .f32 :=
  select (cmpi .slt (broadcastInDim S18x8192 ![0, 1] bcast_S1x8192_S18x8192_0_1 (broadcastInDim S1x8192 ![1] bcast_S8192_S1x8192_1 (iotaInDim S8192 32 0))) (broadcastInDim S18x8192 ![0, 1] bcast_S18x1_S18x8192_0_1 (broadcastInDim S18x1 ![0] bcast_S18_S18x1_0 x0))) y (broadcastInDim S18x8192 ![] bcast_S_S18x8192 (id (constant S_ .f32 0x00000000#32)))

section
variable (m : (ℓ : Loc nD τ sig) → Buf (Elt F) ℓ) (c : Dev nD)

abbrev arg (b : Ref sig .tc) : Buf (Elt F) ((c.tc : Thread nD τ).loc b) := m ((c.tc : Thread nD τ).loc b)

theorem dist_eq : Cert.ReferenceIdeal.Value.res_main_v117 m c
    = maskT (arg m c main_arg0) (distT (arg m c main_arg1) (arg m c main_arg2) (arg m c main_arg3) (arg m c main_arg4) (arg m c main_arg5) (arg m c main_arg6)) := by
  unfold Cert.ReferenceIdeal.Value.res_main_v117
  rfl

theorem est_eq : Cert.ReferenceIdeal.Value.res_main_v119 m c
    = maskT (arg m c main_arg0) (estT (arg m c main_arg1) (arg m c main_arg2) (arg m c main_arg3) (arg m c main_arg4) (arg m c main_arg6)) := by
  unfold Cert.ReferenceIdeal.Value.res_main_v119
  rfl
end

end Cert.ReferenceIdeal.Vals

end
-- ==== Proof.RefAt.lean ====
/- The reference's arrays at one query and column. -/
module

public import proofs.«01_k».proof.Proof.RefTerms
public import Idealize.ShloMosaic.Lib.Pointwise
public import Idealize.ShloMosaic.Lib.ValueIdxCore
public import Idealize.ShloMosaic.Lib.Pipeline.Value
public import Idealize.ShloMosaic.Lib.ReduceAll
public import Mathlib.Data.BitVec

@[expose] public section

set_option maxRecDepth 16384

noncomputable section

namespace Cert.ReferenceIdeal.Vals

open Cert.ReferenceIdeal Cert.ReferenceIdeal.Gen Idealize.ShloMosaic Idealize.ShloMosaic.TcCoe Idealize.SL.Sem Idealize.ShloMosaic.StableHlo

variable {F : FTy → Type} [FloatOps F]

/-! ## The arguments, laid out by query and candidate -/

theorem codesT_at (x1 : S1152x96x128.Idx → BitVec 32) (b : Fin 18) (k : Fin 8192) (w : Fin 96) :
    codesT x1 (ix3 b k w) = x1 (ix3 (⟨64 * b.val + k.val / 128, by omega⟩ : Fin 1152) w (⟨k.val % 128, by omega⟩ : Fin 128)) := by
  unfold codesT
  refine (shapeCast_apply _ _ (ix3 b k w) (ix4 b (⟨k.val / 128, by omega⟩ : Fin 64) (⟨k.val % 128, by omega⟩ : Fin 128) w) ?_).trans ?_
  · rw [Shape.rowMajor_val_four, Shape.rowMajor_val_three]
    show ((b.val * 64 + k.val / 128) * 128 + k.val % 128) * 96 + w.val = (b.val * 8192 + k.val) * 96 + w.val
    omega
  refine (transpose_apply _ _ _ _ (ix4 b (⟨k.val / 128, by omega⟩ : Fin 64) w (⟨k.val % 128, by omega⟩ : Fin 128)) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_three]
  show ((64 * b.val + k.val / 128) * 96 + w.val) * 128 + k.val % 128 = ((b.val * 64 + k.val / 128) * 96 + w.val) * 128 + k.val % 128
  omega

theorem planesT_at (x2 : S384x128.Idx → BitVec 32) (b : Fin 18) (p : Fin 6) (j : Fin 4) (w : Fin 96) :
    planesT x2 (ix4 b p j w) = x2 (ix2 (⟨96 * j.val + w.val, by omega⟩ : Fin 384) (⟨6 * b.val + p.val, by omega⟩ : Fin 128)) := by
  unfold planesT
  refine (transpose_apply _ _ _ _ (ix4 j w b p) ?_).trans ?_
  · intro a
    match a with
    | ⟨0, _⟩ => rfl
    | ⟨1, _⟩ => rfl
    | ⟨2, _⟩ => rfl
    | ⟨3, _⟩ => rfl
  refine (shapeCast_apply _ _ _ (ix3 j w (⟨6 * b.val + p.val, by omega⟩ : Fin 108)) ?_).trans ?_
  · rw [Shape.rowMajor_val_four, Shape.rowMajor_val_three]
    show (j.val * 96 + w.val) * 108 + (6 * b.val + p.val) = ((j.val * 96 + w.val) * 18 + b.val) * 6 + p.val
    omega
  refine (extractStridedSlice_apply _ _ _ _ (ix3 j w (⟨6 * b.val + p.val, by omega⟩ : Fin 128)) ?_).trans ?_
  · intro a
    match a with
    | ⟨0, _⟩ => show j.val = 0 + j.val; omega
    | ⟨1, _⟩ => show w.val = 0 + w.val; omega
    | ⟨2, _⟩ => show 6 * b.val + p.val = 0 + (6 * b.val + p.val); omega
  refine shapeCast_apply _ _ _ _ ?_
  rw [Shape.rowMajor_val_two, Shape.rowMajor_val_three]
  show (96 * j.val + w.val) * 128 + (6 * b.val + p.val) = (j.val * 96 + w.val) * 128 + (6 * b.val + p.val)
  omega

theorem statsT_at (x3 : S8x128.Idx → F .f32) (r : Fin 4) (b : Fin 18) (p : Fin 6) :
    statsT x3 (ix3 r b p) = x3 (ix2 (⟨r.val, by omega⟩ : Fin 8) (⟨6 * b.val + p.val, by omega⟩ : Fin 128)) := by
  unfold statsT
  refine (shapeCast_apply _ _ _ (ix2 r (⟨6 * b.val + p.val, by omega⟩ : Fin 108)) ?_).trans ?_
  · rw [Shape.rowMajor_val_two, Shape.rowMajor_val_three]
    show r.val * 108 + (6 * b.val + p.val) = (r.val * 18 + b.val) * 6 + p.val
    omega
  refine extractStridedSlice_apply _ _ _ _ _ ?_
  intro a
  match a with
  | ⟨0, _⟩ => show r.val = 0 + r.val; omega
  | ⟨1, _⟩ => show 6 * b.val + p.val = 0 + (6 * b.val + p.val); omega

/-! ## The statistics a candidate takes -/

/-- A probe number in range. -/
def InP (p : BitVec 32) : Prop := p.toNat < 6

theorem wrap_of (p : BitVec 32) (h : InP p) :
    Scalar.select (IntOp.cmpi .slt p 0#32) (IntOp.addi p 6#32) p = p := by
  have e : IntOp.cmpi .slt p 0#32 = 0#1 := by
    show BitVec.ofBool (BitVec.slt p 0#32) = 0#1
    rw [show BitVec.slt p 0#32 = false by
      rw [← Bool.not_eq_true, BitVec.slt_iff_toInt_lt, BitVec.toInt_eq_toNat_cond, if_pos (by unfold InP at h; omega)]
      show ¬ ((p.toNat : ℤ) < 0); omega]
    rfl
  rw [e]; rfl

theorem probeT_at (x4 : S18x8192.Idx → BitVec 32) (b : Fin 18) (k : Fin 8192) (h : InP (x4 (ix2 b k))) :
    probeT x4 (ix3 b k (0 : Fin 1)) = x4 (ix2 b k) := by
  unfold probeT
  have e : broadcastInDim S1x18x8192 ![1, 2] bcast_S18x8192_S1x18x8192_1_2 x4 (ix3 (0 : Fin 1) b k) = x4 (ix2 b k) := by
    refine broadcastInDim_apply _ _ _ _ _ ?_
    intro a
    match a with
    | ⟨0, _⟩ => rfl
    | ⟨1, _⟩ => rfl
  refine (shapeCast_apply _ _ _ (ix3 (0 : Fin 1) b k) ?_).trans ?_
  · rw [Shape.rowMajor_val_three, Shape.rowMajor_val_three]
    show (0 * 18 + b.val) * 8192 + k.val = (b.val * 8192 + k.val) * 1 + 0
    omega
  show Scalar.select (IntOp.cmpi .slt (broadcastInDim S1x18x8192 ![1, 2] bcast_S18x8192_S1x18x8192_1_2 x4 (ix3 (0 : Fin 1) b k)) 0#32)
    (IntOp.addi (broadcastInDim S1x18x8192 ![1, 2] bcast_S18x8192_S1x18x8192_1_2 x4 (ix3 (0 : Fin 1) b k)) 6#32)
    (broadcastInDim S1x18x8192 ![1, 2] bcast_S18x8192_S1x18x8192_1_2 x4 (ix3 (0 : Fin 1) b k)) = _
  rw [e]
  exact wrap_of _ h

theorem in_words (p : BitVec 32) (h : InP p) : IntOp.andi (IntOp.cmpi .sge p 0#32) (IntOp.cmpi .sle p 5#32) = 1#1 := by
  have hp : p.toInt = p.toNat := by
    rw [BitVec.toInt_eq_toNat_cond, if_pos (by unfold InP at h; omega)]
  have a1 : BitVec.sle 0#32 p = true := by
    rw [BitVec.sle_iff_toInt_le, hp]
    show (0 : ℤ) ≤ _; omega
  have a2 : BitVec.sle p 5#32 = true := by
    rw [BitVec.sle_iff_toInt_le, hp]
    show _ ≤ (5 : ℤ); unfold InP at h; omega
  show IntOp.andi (BitVec.ofBool (BitVec.sle 0#32 p)) (BitVec.ofBool (BitVec.sle p 5#32)) = 1#1
  rw [a1, a2]; rfl

theorem inT_at (x4 : S18x8192.Idx → BitVec 32) (h : ∀ b k, InP (x4 (ix2 b k))) (b : Fin 18) (k : Fin 8192) :
    inT x4 (ix2 b k) = 1#1 := by
  unfold inT
  refine Host.reduce_andi_one _ _ _ _ _ rfl fun i => ?_
  rw [ValueIdx.eq_ix3 i]
  have e0 : i 2 = (0 : Fin 1) := Subsingleton.elim (α := Fin 1) _ _
  show IntOp.andi (IntOp.cmpi .sge (probeT x4 (ix3 (i 0) (i 1) (i 2))) 0#32) (IntOp.cmpi .sle (probeT x4 (ix3 (i 0) (i 1) (i 2))) 5#32) = 1#1
  rw [e0, probeT_at x4 (i 0) (i 1) (h _ _)]
  exact in_words _ (h _ _)

theorem gather_at (x : S4x18x6.Idx → F .f32) (idx : S18x8192x1.Idx → BitVec 32) (r : Fin 4) (b : Fin 18) (k : Fin 8192) :
    Host.gather gather_S4x18x6_S18x8192x1_S4x18x8192_0_2_1_0_2_2_411 x idx (ix3 r b k)
      = x (ix3 r b (⟨min (idx (ix3 b k (0 : Fin 1))).toInt.toNat 5, by omega⟩ : Fin 6)) := by
  unfold Host.gather
  congr 1
  funext a
  refine Fin.ext ?_
  show GatherDims.start _ _ idx a + GatherDims.batchCoord _ _ a + GatherDims.offCoord _ _ a = _
  match a with
  | ⟨0, _⟩ =>
    show GatherDims.start gather_S4x18x6_S18x8192x1_S4x18x8192_0_2_1_0_2_2_411 (ix3 r b k) idx (0 : Fin 3)
      + GatherDims.batchCoord gather_S4x18x6_S18x8192x1_S4x18x8192_0_2_1_0_2_2_411 (ix3 r b k) (0 : Fin 3)
      + GatherDims.offCoord gather_S4x18x6_S18x8192x1_S4x18x8192_0_2_1_0_2_2_411 (ix3 r b k) (0 : Fin 3) = r.val
    unfold GatherDims.start GatherDims.batchCoord
    rw [dif_neg (show (0 : Fin 3) ∉ gather_S4x18x6_S18x8192x1_S4x18x8192_0_2_1_0_2_2_411.startIndexMap from (by decide : (0 : Fin 3) ∉ ([2] : List (Fin 3)))), dif_neg (show (0 : Fin 3) ∉ gather_S4x18x6_S18x8192x1_S4x18x8192_0_2_1_0_2_2_411.operandBatchingDims from (by decide : (0 : Fin 3) ∉ ([1] : List (Fin 3))))]
    rw [Nat.zero_add]
    unfold GatherDims.offCoord
    rw [dif_pos (show (0 : Fin 3) ∈ gather_S4x18x6_S18x8192x1_S4x18x8192_0_2_1_0_2_2_411.sKept by decide)]
    rfl
  | ⟨1, _⟩ =>
    show GatherDims.start gather_S4x18x6_S18x8192x1_S4x18x8192_0_2_1_0_2_2_411 (ix3 r b k) idx (1 : Fin 3)
      + GatherDims.batchCoord gather_S4x18x6_S18x8192x1_S4x18x8192_0_2_1_0_2_2_411 (ix3 r b k) (1 : Fin 3)
      + GatherDims.offCoord gather_S4x18x6_S18x8192x1_S4x18x8192_0_2_1_0_2_2_411 (ix3 r b k) (1 : Fin 3) = b.val
    rw [GatherDims.offCoord_eq_zero _ _ _ (fun h => ((GatherDims.mem_sKept _ _).mp h).2 (List.mem_singleton.mpr rfl))]
    unfold GatherDims.start GatherDims.batchCoord
    rw [dif_neg (show (1 : Fin 3) ∉ gather_S4x18x6_S18x8192x1_S4x18x8192_0_2_1_0_2_2_411.startIndexMap from (by decide : (1 : Fin 3) ∉ ([2] : List (Fin 3)))), dif_pos (show (1 : Fin 3) ∈ gather_S4x18x6_S18x8192x1_S4x18x8192_0_2_1_0_2_2_411.operandBatchingDims from (by decide : (1 : Fin 3) ∈ ([1] : List (Fin 3))))]
    rw [Nat.zero_add, Nat.add_zero]
    rfl
  | ⟨2, _⟩ =>
    show GatherDims.start gather_S4x18x6_S18x8192x1_S4x18x8192_0_2_1_0_2_2_411 (ix3 r b k) idx (2 : Fin 3)
      + GatherDims.batchCoord gather_S4x18x6_S18x8192x1_S4x18x8192_0_2_1_0_2_2_411 (ix3 r b k) (2 : Fin 3)
      + GatherDims.offCoord gather_S4x18x6_S18x8192x1_S4x18x8192_0_2_1_0_2_2_411 (ix3 r b k) (2 : Fin 3)
        = min (idx (ix3 b k (0 : Fin 1))).toInt.toNat 5
    rw [GatherDims.offCoord_eq_zero _ _ _ (fun h => ((GatherDims.mem_sKept _ _).mp h).1 (List.mem_singleton.mpr rfl))]
    unfold GatherDims.start GatherDims.batchCoord
    rw [dif_pos (show (2 : Fin 3) ∈ gather_S4x18x6_S18x8192x1_S4x18x8192_0_2_1_0_2_2_411.startIndexMap from (by decide : (2 : Fin 3) ∈ ([2] : List (Fin 3)))), dif_neg (show (2 : Fin 3) ∉ gather_S4x18x6_S18x8192x1_S4x18x8192_0_2_1_0_2_2_411.operandBatchingDims from (by decide : (2 : Fin 3) ∉ ([1] : List (Fin 3))))]
    have hsi : GatherDims.siIdx gather_S4x18x6_S18x8192x1_S4x18x8192_0_2_1_0_2_2_411 (ix3 r b k)
        ⟨List.idxOf (2 : Fin 3) ([2] : List (Fin 3)), by decide⟩ = ix3 b k (0 : Fin 1) := by
      funext d; refine Fin.ext ?_
      match d with
      | ⟨0, _⟩ => rfl
      | ⟨1, _⟩ => rfl
      | ⟨2, _⟩ => rfl
    exact congrArg (fun z => min (idx z).toInt.toNat 5) hsi

/-- A selection whose condition holds. -/
theorem select_of {s : Shape} (c : s.Idx → BitVec 1) (x y : s.Idx → F .f32) (i : s.Idx) (h : c i = 1#1) : select c x y i = x i := by
  show Scalar.select (c i) (x i) (y i) = _
  rw [h]
  rfl

theorem takeT_at (x3 : S8x128.Idx → F .f32) (x4 : S18x8192.Idx → BitVec 32) (h : ∀ b k, InP (x4 (ix2 b k)))
    (r : Fin 4) (b : Fin 18) (k : Fin 8192) :
    takeT x3 x4 (ix3 r b k) = x3 (ix2 (⟨r.val, by omega⟩ : Fin 8)
      (⟨6 * b.val + (x4 (ix2 b k)).toNat, by have := h b k; unfold InP at this; omega⟩ : Fin 128)) := by
  have hp := h b k
  unfold InP at hp
  unfold takeT
  have e : broadcastInDim S4x18x8192 ![1, 2] bcast_S18x8192_S4x18x8192_1_2 (inT x4) (ix3 r b k) = 1#1 := by
    refine (broadcastInDim_apply _ _ _ _ (ix2 b k) ?_).trans (inT_at x4 h b k)
    intro a
    match a with
    | ⟨0, _⟩ => rfl
    | ⟨1, _⟩ => rfl
  refine (select_of _ _ _ _ e).trans ?_
  refine (gather_at _ _ r b k).trans ?_
  refine (statsT_at _ _ _ _).trans ?_
  have ep : min (probeT x4 (ix3 b k (0 : Fin 1))).toInt.toNat 5 = (x4 (ix2 b k)).toNat := by
    rw [probeT_at x4 b k (h b k), BitVec.toInt_eq_toNat_cond, if_pos (by omega)]
    omega
  exact congrArg (fun q : Fin 128 => x3 (ix2 (⟨r.val, by omega⟩ : Fin 8) q)) (Fin.ext (congrArg (6 * b.val + ·) ep))

section
variable (x3 : S8x128.Idx → F .f32) (x4 : S18x8192.Idx → BitVec 32) (h : ∀ b k, InP (x4 (ix2 b k))) (b : Fin 18) (k : Fin 8192)

/-- The tables' column a candidate reads. -/
def qAt : Fin 128 := ⟨6 * b.val + (x4 (ix2 b k)).toNat, by have := h b k; unfold InP at this; omega⟩

theorem row_at (r : Fin 4) (off : Fin 3 → ℕ) (ho : off = ![r.val, 0, 0]) (hs : S4x18x8192.Slices off S1x18x8192) :
    shapeCast S18x8192 (extractStridedSlice S1x18x8192 off (takeT x3 x4) hs) shapeCasts_S1x18x8192_S18x8192 (ix2 b k)
      = x3 (ix2 (⟨r.val, by omega⟩ : Fin 8) (qAt x4 h b k)) := by
  subst ho
  refine (shapeCast_apply _ _ _ (ix3 (0 : Fin 1) b k) ?_).trans ?_
  · rw [Shape.rowMajor_val_two, Shape.rowMajor_val_three]
    show (0 * 18 + b.val) * 8192 + k.val = b.val * 8192 + k.val
    omega
  refine (extractStridedSlice_apply _ _ _ _ (ix3 r b k) ?_).trans (takeT_at x3 x4 h r b k)
  intro a
  match a with
  | ⟨0, _⟩ => rfl
  | ⟨1, _⟩ => show b.val = 0 + b.val; omega
  | ⟨2, _⟩ => show k.val = 0 + k.val; omega

theorem deltaT_at : deltaT x3 x4 (ix2 b k) = x3 (ix2 (0 : Fin 8) (qAt x4 h b k)) := row_at x3 x4 h b k 0 _ rfl _
theorem vlT_at : vlT x3 x4 (ix2 b k) = x3 (ix2 (1 : Fin 8) (qAt x4 h b k)) := row_at x3 x4 h b k 1 _ rfl _
theorem nqT_at : nqT x3 x4 (ix2 b k) = x3 (ix2 (2 : Fin 8) (qAt x4 h b k)) := row_at x3 x4 h b k 2 _ rfl _
theorem sumqT_at : sumqT x3 x4 (ix2 b k) = x3 (ix2 (3 : Fin 8) (qAt x4 h b k)) := row_at x3 x4 h b k 3 _ rfl _
end

end Cert.ReferenceIdeal.Vals

end
-- ==== Proof.RefInt.lean ====
/- The reference's integer counts at one query and column. -/
module

public import proofs.«01_k».proof.Proof.RefAt

@[expose] public section

set_option maxRecDepth 16384

noncomputable section

namespace Cert.ReferenceIdeal.Vals

open Cert.ReferenceIdeal Cert.ReferenceIdeal.Gen Idealize.ShloMosaic Idealize.ShloMosaic.TcCoe Idealize.SL.Sem Idealize.ShloMosaic.StableHlo

/-- An integer sum along one axis. -/
theorem sum_axis {s t u : Shape} {a : Fin s.rank} (x : s.Idx → BitVec 32) (init : u.Idx → BitVec 32) (h' : s.ReducesTo [a] t) (h : s.Reduces [a] t)
    (hu : 0 < u.numel) (hi : init (Shape.Idx.first hu) = 0#32) (j : t.Idx) :
    Host.reduce IntOp.addi x init h' hu j = ∑ k : Fin (s.size a), x (h.lift j k) := by
  rw [Host.reduce_eq_fold_single IntOp.addi x init h' h hu j, hi]
  exact (Finset.sum_eq_fold _ _).symm

/-! ## The planes a candidate takes -/

theorem probe_at (x2 : S384x128.Idx → BitVec 32) (p : Fin 6) (off : Fin 4 → ℕ) (ho : off = ![0, p.val, 0, 0]) (hs : S18x6x4x96.Slices off S18x1x4x96)
    (b : Fin 18) (k : Fin 8192) (j : Fin 4) (w : Fin 96) :
    toAll (bcP (extractStridedSlice S18x1x4x96 off (planesT x2) hs)) (ix4 b k j w)
      = x2 (ix2 (⟨96 * j.val + w.val, by omega⟩ : Fin 384) (⟨6 * b.val + p.val, by omega⟩ : Fin 128)) := by
  subst ho
  unfold toAll bcP
  refine (broadcastInDim_apply _ _ _ _ (ix4 b (0 : Fin 1) j w) ?_).trans ?_
  · intro a
    match a with
    | ⟨0, _⟩ => rfl
    | ⟨1, _⟩ => rfl
    | ⟨2, _⟩ => rfl
    | ⟨3, _⟩ => rfl
  refine (broadcastInDim_apply _ _ _ _ (ix3 b j w) ?_).trans ?_
  · intro a
    match a with
    | ⟨0, _⟩ => rfl
    | ⟨1, _⟩ => rfl
    | ⟨2, _⟩ => rfl
  refine (shapeCast_apply _ _ _ (ix4 b (0 : Fin 1) j w) ?_).trans ?_
  · rw [Shape.rowMajor_val_four, Shape.rowMajor_val_three]
    show ((b.val * 1 + 0) * 4 + j.val) * 96 + w.val = (b.val * 4 + j.val) * 96 + w.val
    omega
  refine (extractStridedSlice_apply _ _ _ _ (ix4 b p j w) ?_).trans (planesT_at x2 b p j w)
  intro a
  match a with
  | ⟨0, _⟩ => show b.val = 0 + b.val; omega
  | ⟨1, _⟩ => rfl
  | ⟨2, _⟩ => show j.val = 0 + j.val; omega
  | ⟨3, _⟩ => show w.val = 0 + w.val; omega

theorem isP_at (n : BitVec 32) (x4 : S18x8192.Idx → BitVec 32) (b : Fin 18) (k : Fin 8192) (j : Fin 4) (w : Fin 96) :
    isP n x4 (ix4 b k j w) = IntOp.cmpi .eq (x4 (ix2 b k)) n := by
  unfold isP
  refine (broadcastInDim_apply _ _ _ _ (ix4 b k (0 : Fin 1) (0 : Fin 1)) ?_).trans ?_
  · intro a
    match a with
    | ⟨0, _⟩ => rfl
    | ⟨1, _⟩ => rfl
    | ⟨2, _⟩ => rfl
    | ⟨3, _⟩ => rfl
  refine (broadcastInDim_apply _ _ _ _ (ix2 b k) ?_).trans rfl
  intro a
  match a with
  | ⟨0, _⟩ => rfl
  | ⟨1, _⟩ => rfl

theorem pick (f : Fin 6 → BitVec 32) : ∀ p : Fin 6,
    Scalar.select (IntOp.cmpi .eq (BitVec.ofNat 32 p.val) 5#32) (f 5)
      (Scalar.select (IntOp.cmpi .eq (BitVec.ofNat 32 p.val) 4#32) (f 4)
      (Scalar.select (IntOp.cmpi .eq (BitVec.ofNat 32 p.val) 3#32) (f 3)
      (Scalar.select (IntOp.cmpi .eq (BitVec.ofNat 32 p.val) 2#32) (f 2)
      (Scalar.select (IntOp.cmpi .eq (BitVec.ofNat 32 p.val) 1#32) (f 1) (f 0))))) = f p
  | ⟨0, _⟩ => rfl
  | ⟨1, _⟩ => rfl
  | ⟨2, _⟩ => rfl
  | ⟨3, _⟩ => rfl
  | ⟨4, _⟩ => rfl
  | ⟨5, _⟩ => rfl

theorem sel_pick (f : Fin 6 → BitVec 32) (p : Fin 6) (x : BitVec 32) (hx : x = BitVec.ofNat 32 p.val) {c5 c4 c3 c2 c1 : BitVec 1} {y5 y4 y3 y2 y1 y0 : BitVec 32}
    (h5 : c5 = IntOp.cmpi .eq x 5#32) (h4 : c4 = IntOp.cmpi .eq x 4#32) (h3 : c3 = IntOp.cmpi .eq x 3#32) (h2 : c2 = IntOp.cmpi .eq x 2#32)
    (h1 : c1 = IntOp.cmpi .eq x 1#32) (e5 : y5 = f 5) (e4 : y4 = f 4) (e3 : y3 = f 3) (e2 : y2 = f 2) (e1 : y1 = f 1) (e0 : y0 = f 0) :
    Scalar.select c5 y5 (Scalar.select c4 y4 (Scalar.select c3 y3 (Scalar.select c2 y2 (Scalar.select c1 y1 y0)))) = f p := by
  rw [h5, h4, h3, h2, h1, e5, e4, e3, e2, e1, e0, hx]
  exact pick f p

section
variable (x1 : S1152x96x128.Idx → BitVec 32) (x2 : S384x128.Idx → BitVec 32) (x4 : S18x8192.Idx → BitVec 32)
  (h : ∀ b k, InP (x4 (ix2 b k))) (b : Fin 18) (k : Fin 8192)

theorem selT_at (j : Fin 4) (w : Fin 96) :
    selT x2 x4 (ix4 b k j w) = x2 (ix2 (⟨96 * j.val + w.val, by omega⟩ : Fin 384) (qAt x4 h b k)) := by
  have hp := h b k
  unfold InP at hp
  have e : x4 (ix2 b k) = BitVec.ofNat 32 (⟨(x4 (ix2 b k)).toNat, hp⟩ : Fin 6).val := by
    rw [BitVec.ofNat_toNat, BitVec.setWidth_eq]
  unfold selT
  exact sel_pick (fun p => x2 (ix2 (⟨96 * j.val + w.val, by omega⟩ : Fin 384) (⟨6 * b.val + p.val, by omega⟩ : Fin 128))) ⟨(x4 (ix2 b k)).toNat, hp⟩ _ e
    (isP_at 5#32 x4 b k j w) (isP_at 4#32 x4 b k j w) (isP_at 3#32 x4 b k j w) (isP_at 2#32 x4 b k j w) (isP_at 1#32 x4 b k j w)
    (probe_at x2 5 ![0, 5, 0, 0] rfl _ b k j w) (probe_at x2 4 ![0, 4, 0, 0] rfl _ b k j w) (probe_at x2 3 ![0, 3, 0, 0] rfl _ b k j w)
    (probe_at x2 2 ![0, 2, 0, 0] rfl _ b k j w) (probe_at x2 1 ![0, 1, 0, 0] rfl _ b k j w) (probe_at x2 0 ![0, 0, 0, 0] rfl _ b k j w)

/-- A candidate's code word. -/
def codeAt (w : Fin 96) : BitVec 32 := x1 (ix3 (⟨64 * b.val + k.val / 128, by omega⟩ : Fin 1152) w (⟨k.val % 128, by omega⟩ : Fin 128))

theorem red4 : S18x8192x4x96.Reduces [3] S18x8192x4 := by decide
theorem red3 : S18x8192x4.Reduces [2] S18x8192 := by decide
theorem red96 : S18x8192x96.Reduces [2] S18x8192 := by decide

theorem codes_all (j : Fin 4) (w : Fin 96) :
    broadcastInDim S18x8192x4x96 ![0, 1, 2, 3] bcast_S18x8192x1x96_S18x8192x4x96_0_1_2_3 (broadcastInDim S18x8192x1x96 ![0, 1, 3] bcast_S18x8192x96_S18x8192x1x96_0_1_3 (codesT x1)) (ix4 b k j w)
      = codeAt x1 b k w := by
  refine (broadcastInDim_apply _ _ _ _ (ix4 b k (0 : Fin 1) w) ?_).trans ?_
  · intro a
    match a with
    | ⟨0, _⟩ => rfl
    | ⟨1, _⟩ => rfl
    | ⟨2, _⟩ => rfl
    | ⟨3, _⟩ => rfl
  refine (broadcastInDim_apply _ _ _ _ (ix3 b k w) ?_).trans (codesT_at x1 b k w)
  intro a
  match a with
  | ⟨0, _⟩ => rfl
  | ⟨1, _⟩ => rfl
  | ⟨2, _⟩ => rfl

theorem countT_at (j : Fin 4) :
    countT x1 x2 x4 (ix3 b k j) = ∑ w : Fin 96, IntOp.ctpop (IntOp.andi (codeAt x1 b k w) (x2 (ix2 (⟨96 * j.val + w.val, by omega⟩ : Fin 384) (qAt x4 h b k)))) := by
  unfold countT
  rw [sum_axis _ _ _ red4 _ rfl]
  refine Finset.sum_congr rfl fun w _ => ?_
  have e : red4.lift (ix3 b k j) w = ix4 b k j w := by
    funext a
    match a with
    | ⟨0, _⟩ => rfl
    | ⟨1, _⟩ => rfl
    | ⟨2, _⟩ => rfl
    | ⟨3, _⟩ => rfl
  rw [e]
  exact congrArg₂ (fun u v => IntOp.ctpop (IntOp.andi u v)) (codes_all x1 b k j w) (selT_at x2 x4 h b k j w)

theorem popT_at : popT x1 (ix2 b k) = ∑ w : Fin 96, IntOp.ctpop (codeAt x1 b k w) := by
  unfold popT
  rw [sum_axis _ _ _ red96 _ rfl]
  refine Finset.sum_congr rfl fun w _ => ?_
  have e : red96.lift (ix2 b k) w = ix3 b k w := by
    funext a
    match a with
    | ⟨0, _⟩ => rfl
    | ⟨1, _⟩ => rfl
    | ⟨2, _⟩ => rfl
  rw [e]
  exact congrArg IntOp.ctpop (codesT_at x1 b k w)

theorem weight (j : Fin 4) :
    broadcastInDim S18x8192x4 ![0, 1, 2] bcast_S1x1x4_S18x8192x4_0_1_2 (broadcastInDim S1x1x4 ![2] bcast_S4_S1x1x4_2 (Host.shli (broadcastInDim S4 ![] bcast_S_S4 (constantI S_ 32 1#32)) (iotaInDim S4 32 0))) (ix3 b k j)
      = IntOp.shli .host 1#32 (BitVec.ofNat 32 j.val) := by
  refine (broadcastInDim_apply _ _ _ _ (ix3 (0 : Fin 1) (0 : Fin 1) j) ?_).trans ?_
  · intro a
    match a with
    | ⟨0, _⟩ => rfl
    | ⟨1, _⟩ => rfl
    | ⟨2, _⟩ => rfl
  refine (broadcastInDim_apply _ _ _ _ (ix1 j) ?_).trans rfl
  intro a
  match a with
  | ⟨0, _⟩ => rfl

theorem ipT_at :
    ipT x1 x2 x4 (ix2 b k) = ∑ j : Fin 4, countT x1 x2 x4 (ix3 b k j) * IntOp.shli .host 1#32 (BitVec.ofNat 32 j.val) := by
  unfold ipT
  rw [sum_axis _ _ _ red3 _ rfl]
  refine Finset.sum_congr rfl fun j _ => ?_
  have e : red3.lift (ix2 b k) j = ix3 b k j := by
    funext a
    match a with
    | ⟨0, _⟩ => rfl
    | ⟨1, _⟩ => rfl
    | ⟨2, _⟩ => rfl
  rw [e]
  exact congrArg (fun z => IntOp.muli (countT x1 x2 x4 (ix3 b k j)) z) (weight b k j)

end

end Cert.ReferenceIdeal.Vals

end
-- ==== Proof.ScanIdeal.Final.lean ====
/- The scan's results: after the run every element of the three result arrays holds the value its grid point computed. -/
module

public import proofs.«01_k».proof.Proof.ScanIdeal.Run

@[expose] public section

set_option maxRecDepth 16384

noncomputable section

namespace Cert.KernelIdeal.Scan

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD)

theorem last_lt : 71 < (cfgA m).N := by rw [show (cfgA m).N = 72 from N_0]; decide

/-- The grid's last point. -/
abbrev tLast : Fin (cfgA m).N := ⟨71, last_lt m⟩

theorem N_eq : (cfgA m).N = 72 := N_0

/-- A result array ends at what the last point leaves. -/
theorem arr_final (w : Fin 9) (hf : ∀ t : Fin (cfgA m).N, ((cfgA m).win w).flush t = true ↔ t.val % 72 = 71)
    (G) (hG : (rdat m c).ArrAt w (cfgA m).N G) :
    ∃ G₀ X, (rdat m c).Leaves w (tLast m) X
      ∧ G = (((cfgA m).win w).blk (tLast m)).view.write (Elt F) G₀ (((cfgA m).win w).cut ((cfgA m).grid.coords (tLast m)) X) Finset.univ := by
  have hG' : (rdat m c).ArrAt w (71 + 1) G := by
    have e := N_eq m
    rw [e] at hG
    exact hG
  rw [RDat.ArrAt] at hG'
  dsimp only at hG'
  rw [dif_pos (last_lt m), if_pos ((hf (tLast m)).mpr rfl)] at hG'
  obtain ⟨G₀, X, -, hX, e⟩ := hG'
  exact ⟨G₀, X, hX, e⟩

/-- An element of a result array, from the staging buffer written over it. -/
theorem arr_val (w : Fin 9) (hk : ((cfgA m).win w).kind = .blocked) (t : Fin (cfgA m).N) (G₀ X G)
    (e : G = (((cfgA m).win w).blk t).view.write (Elt F) G₀ (((cfgA m).win w).cut ((cfgA m).grid.coords t) X) Finset.univ)
    (j : ((cfgA m).win w).block.Idx) (hm : ∀ a, (j a).val < ((cfgA m).win w).xsize ((cfgA m).grid.coords t) a)
    (x : ((cfgA m).win w).shape.Idx) (hx : ∀ a, ((cfgA m).win w).index t a * ((cfgA m).win w).size a + (j a).val = (x a).val) :
    ((cfgA m).win w).arr.view.read (Elt F) G x = X j := by
  have h := congrFun (View.read_write_univ (v := (((cfgA m).win w).blk t).view) G₀ (((cfgA m).win w).cut ((cfgA m).grid.coords t) X)) (fun a => ⟨(j a).val, hm a⟩)
  rw [← e] at h
  refine Eq.trans (congrArg (((cfgA m).win w).arr.view.read (Elt F) G) (funext fun a => Fin.ext ?_)) h
  exact ((Window.rect_emb_val ((cfgA m).win w) t _ a hk).trans (hx a)).symm

/-! ## The points -/

theorem coords0 (t : Fin grid0.N) : (grid0.coords t 0).val = t.val / 4 := by
  have e := N_0
  have := t.isLt
  refine (Pipeline.Grid.coords_val (G := grid0) t 0 (S := 4) (B := 18) (by decide) rfl).trans ?_
  omega

theorem coords1 (t : Fin grid0.N) : (grid0.coords t 1).val = t.val % 4 := by
  refine (Pipeline.Grid.coords_val (G := grid0) t 1 (S := 1) (B := 4) (by decide) rfl).trans ?_
  omega

/-- The point that computes an element. -/
def pt (b : Fin 18) (k : Fin 8192) : Fin grid0.N := ⟨4 * b.val + k.val / 2048, by rw [N_0]; omega⟩

theorem pt0 (b : Fin 18) (k : Fin 8192) : (grid0.coords (pt b k) 0).val = b.val := by
  refine (coords0 (pt b k)).trans ?_
  show (4 * b.val + k.val / 2048) / 4 = _
  omega

theorem pt1 (b : Fin 18) (k : Fin 8192) : (grid0.coords (pt b k) 1).val = k.val / 2048 := by
  refine (coords1 (pt b k)).trans ?_
  show (4 * b.val + k.val / 2048) % 4 = _
  omega

/-- A row's element after a point's replacement: the point's value where it is the point's, else as before. -/
theorem upto_pt (t : Fin (cfgA m).N) (Y X : S24x8192.Idx → F .f32) (val : grid0.Coords → Fin 8192 → F .f32)
    (h : Upto (grid0.coords t) 16 Y X (val (grid0.coords t))) (b : Fin 18) (k : Fin 8192) :
    (t = pt b k ∧ X (ix2 (⟨b.val, by omega⟩ : Fin 24) k) = val (grid0.coords (pt b k)) k)
    ∨ (4 * b.val + k.val / 2048 ≠ t.val ∧ X (ix2 (⟨b.val, by omega⟩ : Fin 24) k) = Y (ix2 (⟨b.val, by omega⟩ : Fin 24) k)) := by
  have e := h ⟨b.val, by omega⟩ k
  have h0 := coords0 t
  have h1 := coords1 t
  by_cases ht : t = pt b k
  · left
    refine ⟨ht, ?_⟩
    rw [if_pos (by
      have hv : t.val = 4 * b.val + k.val / 2048 := congrArg Fin.val ht
      rw [h0, h1]
      refine ⟨?_, ?_, ?_⟩
      · show b.val = _; omega
      · omega
      · omega)] at e
    rw [e, ht]
  · right
    have hv : 4 * b.val + k.val / 2048 ≠ t.val := fun hv => ht (Fin.ext hv.symm)
    refine ⟨hv, ?_⟩
    rw [if_neg (by
      rw [h0, h1]
      rintro ⟨a1, a2, a3⟩
      have a1' : b.val = t.val / 4 := a1
      apply hv
      omega)] at e
    exact e

/-! ## Result 1 -/

theorem index6_eq (i : grid0.Coords) : cc0_transform_6 i = ![0, 0] := rfl

theorem flush6 (t : Fin (cfgA m).N) : ((cfgA m).win 6).flush t = true ↔ t.val % 72 = 71 :=
  Window.flush_const _ rfl (fun _ _ => rfl) N_0 rfl t

theorem leaves6 (n : ℕ) (hn : n < (cfgA m).N) (X) (hX : (rdat m c).Leaves 6 ⟨n, hn⟩ X) (b : Fin 18) (k : Fin 8192)
    (hle : 4 * b.val + k.val / 2048 ≤ n) :
    (X : S24x8192.Idx → F .f32) (ix2 (⟨b.val, by omega⟩ : Fin 24) k) = val9 m c (grid0.coords (pt b k)) k := by
  induction n generalizing X with
  | zero =>
    obtain ⟨Y, hY, hU⟩ := hX
    rcases upto_pt m _ Y X (val9 m c) hU b k with h | h
    · exact h.2
    · exact absurd (show 4 * b.val + k.val / 2048 = 0 by omega) h.1
  | succ n ih =>
    obtain ⟨Y, hY, hU⟩ := hX
    rcases upto_pt m _ Y X (val9 m c) hU b k with h | h
    · exact h.2
    · have hlt : 4 * b.val + k.val / 2048 ≤ n := by have := h.1; dsimp only at this; omega
      refine h.2.trans ?_
      rcases ((rdat m c).finds_of_pos (w := 6) (t := ⟨n + 1, hn⟩) rfl (Nat.succ_ne_zero n) Y).mp hY with hfl | hL
      · exfalso
        have e := (flush6 m _).mp hfl
        have e' := N_eq m
        dsimp only at e
        omega
      · exact ih (by omega) Y hL hlt

/-- Element `(b, k)` of the result. -/
theorem result6 (r : PUnit × MemSt nD τ sig (Elt F)) (h : Post m r) (b : Fin 18) (k : Fin 8192) :
    (r.2.mem ((c.tc : Thread nD τ).loc main_v0_0) : S18x8192.Idx → F .f32) (ix2 b k) = val9 m c (grid0.coords (pt b k)) k := by
  obtain ⟨G₀, X, hX, e⟩ := arr_final m c 6 (flush6 m) _ ((h c).1 6)
  refine (arr_val m 6 rfl (tLast m) G₀ X _ e (ix2 (⟨b.val, by omega⟩ : Fin 24) k : S24x8192.Idx)
    (xsize_row _ (index6_eq (grid0.coords (tLast m))) _ b.isLt k) (ix2 b k : S18x8192.Idx)
    (place_row _ (index6_eq (grid0.coords (tLast m))) _ b.isLt k)).trans ?_
  exact leaves6 m c 71 (last_lt m) X hX b k (by omega)

/-! ## Result 2 -/

theorem index7_eq (i : grid0.Coords) : cc0_transform_7 i = ![0, 0] := rfl

theorem flush7 (t : Fin (cfgA m).N) : ((cfgA m).win 7).flush t = true ↔ t.val % 72 = 71 :=
  Window.flush_const _ rfl (fun _ _ => rfl) N_0 rfl t

theorem leaves7 (n : ℕ) (hn : n < (cfgA m).N) (X) (hX : (rdat m c).Leaves 7 ⟨n, hn⟩ X) (b : Fin 18) (k : Fin 8192)
    (hle : 4 * b.val + k.val / 2048 ≤ n) :
    (X : S24x8192.Idx → F .f32) (ix2 (⟨b.val, by omega⟩ : Fin 24) k) = val10 m c (grid0.coords (pt b k)) k := by
  induction n generalizing X with
  | zero =>
    obtain ⟨Y, hY, hU⟩ := hX
    rcases upto_pt m _ Y X (val10 m c) hU b k with h | h
    · exact h.2
    · exact absurd (show 4 * b.val + k.val / 2048 = 0 by omega) h.1
  | succ n ih =>
    obtain ⟨Y, hY, hU⟩ := hX
    rcases upto_pt m _ Y X (val10 m c) hU b k with h | h
    · exact h.2
    · have hlt : 4 * b.val + k.val / 2048 ≤ n := by have := h.1; dsimp only at this; omega
      refine h.2.trans ?_
      rcases ((rdat m c).finds_of_pos (w := 7) (t := ⟨n + 1, hn⟩) rfl (Nat.succ_ne_zero n) Y).mp hY with hfl | hL
      · exfalso
        have e := (flush7 m _).mp hfl
        have e' := N_eq m
        dsimp only at e
        omega
      · exact ih (by omega) Y hL hlt

/-- Element `(b, k)` of the result. -/
theorem result7 (r : PUnit × MemSt nD τ sig (Elt F)) (h : Post m r) (b : Fin 18) (k : Fin 8192) :
    (r.2.mem ((c.tc : Thread nD τ).loc main_v0_1) : S18x8192.Idx → F .f32) (ix2 b k) = val10 m c (grid0.coords (pt b k)) k := by
  obtain ⟨G₀, X, hX, e⟩ := arr_final m c 7 (flush7 m) _ ((h c).1 7)
  refine (arr_val m 7 rfl (tLast m) G₀ X _ e (ix2 (⟨b.val, by omega⟩ : Fin 24) k : S24x8192.Idx)
    (xsize_row _ (index7_eq (grid0.coords (tLast m))) _ b.isLt k) (ix2 b k : S18x8192.Idx)
    (place_row _ (index7_eq (grid0.coords (tLast m))) _ b.isLt k)).trans ?_
  exact leaves7 m c 71 (last_lt m) X hX b k (by omega)

/-! ## Result 3 -/

theorem index8_eq (i : grid0.Coords) : cc0_transform_8 i = ![0, 0] := rfl

theorem flush8 (t : Fin (cfgA m).N) : ((cfgA m).win 8).flush t = true ↔ t.val % 72 = 71 :=
  Window.flush_const _ rfl (fun _ _ => rfl) N_0 rfl t

theorem leaves8 (n : ℕ) (hn : n < (cfgA m).N) (X) (hX : (rdat m c).Leaves 8 ⟨n, hn⟩ X) (b : Fin 18) (k : Fin 8192)
    (hle : 4 * b.val + k.val / 2048 ≤ n) :
    (X : S24x8192.Idx → F .f32) (ix2 (⟨b.val, by omega⟩ : Fin 24) k) = val11 m c (grid0.coords (pt b k)) k := by
  induction n generalizing X with
  | zero =>
    obtain ⟨Y, hY, hU⟩ := hX
    rcases upto_pt m _ Y X (val11 m c) hU b k with h | h
    · exact h.2
    · exact absurd (show 4 * b.val + k.val / 2048 = 0 by omega) h.1
  | succ n ih =>
    obtain ⟨Y, hY, hU⟩ := hX
    rcases upto_pt m _ Y X (val11 m c) hU b k with h | h
    · exact h.2
    · have hlt : 4 * b.val + k.val / 2048 ≤ n := by have := h.1; dsimp only at this; omega
      refine h.2.trans ?_
      rcases ((rdat m c).finds_of_pos (w := 8) (t := ⟨n + 1, hn⟩) rfl (Nat.succ_ne_zero n) Y).mp hY with hfl | hL
      · exfalso
        have e := (flush8 m _).mp hfl
        have e' := N_eq m
        dsimp only at e
        omega
      · exact ih (by omega) Y hL hlt

/-- Element `(b, k)` of the result. -/
theorem result8 (r : PUnit × MemSt nD τ sig (Elt F)) (h : Post m r) (b : Fin 18) (k : Fin 8192) :
    (r.2.mem ((c.tc : Thread nD τ).loc main_v0_2) : S18x8192.Idx → F .f32) (ix2 b k) = val11 m c (grid0.coords (pt b k)) k := by
  obtain ⟨G₀, X, hX, e⟩ := arr_final m c 8 (flush8 m) _ ((h c).1 8)
  refine (arr_val m 8 rfl (tLast m) G₀ X _ e (ix2 (⟨b.val, by omega⟩ : Fin 24) k : S24x8192.Idx)
    (xsize_row _ (index8_eq (grid0.coords (tLast m))) _ b.isLt k) (ix2 b k : S18x8192.Idx)
    (place_row _ (index8_eq (grid0.coords (tLast m))) _ b.isLt k)).trans ?_
  exact leaves8 m c 71 (last_lt m) X hX b k (by omega)

end

end Cert.KernelIdeal.Scan

end
-- ==== Proof.Equation.lean ====
/- The kernel's results are the reference's: the sums regrouped, the columns read, and the masked columns. -/
module

public import proofs.«01_k».proof.Proof.RefInt
public import proofs.«01_k».proof.Proof.ScanIdeal.Final
public import proofs.«01_k».proof.Proof.Gen.Pre_in_range
public import Idealize.ShloMosaic.Lib.WordCmp

@[expose] public section

set_option maxRecDepth 16384

noncomputable section

namespace Cert.Equation

open Cert.KernelIdeal Cert.KernelIdeal.Gen Cert.KernelIdeal.Scan Idealize.ShloMosaic Idealize.ShloMosaic.TcCoe Idealize.SL.Sem
open Cert.ReferenceIdeal.Vals (InP qAt codeAt countT countT_at popT popT_at ipT ipT_at estT distT errT maskT deltaT_at vlT_at nqT_at sumqT_at)

/-! ## The integer sums -/

/-- A sum over the 96 words, taken by residues modulo 8. -/
theorem regroup (f : Fin 96 → BitVec 32) : ∑ r : Fin 8, ∑ v : Fin 12, f ⟨8 * v.val + r.val, by omega⟩ = ∑ w : Fin 96, f w := by
  rw [Finset.sum_comm, ← Fintype.sum_prod_type' (f := fun (v : Fin 12) (r : Fin 8) => f ⟨8 * v.val + r.val, by omega⟩)]
  exact Fintype.sum_equiv (finProdFinEquiv (m := 12) (n := 8)) _ _ fun x => congrArg f (Fin.ext (Nat.add_comm _ _))

theorem shl1 (x : BitVec 32) : IntOp.shli .vector x 1#32 = x * IntOp.shli .host 1#32 (BitVec.ofNat 32 1) := BitVec.shiftLeft_eq_mul_twoPow x 1
theorem shl2 (x : BitVec 32) : IntOp.shli .vector x 2#32 = x * IntOp.shli .host 1#32 (BitVec.ofNat 32 2) := BitVec.shiftLeft_eq_mul_twoPow x 2
theorem shl3 (x : BitVec 32) : IntOp.shli .vector x 3#32 = x * IntOp.shli .host 1#32 (BitVec.ofNat 32 3) := BitVec.shiftLeft_eq_mul_twoPow x 3

/-- The four weighted terms as one sum. -/
theorem weights (a : Fin 4 → BitVec 32) :
    a 0 + a 1 * IntOp.shli .host 1#32 (BitVec.ofNat 32 1) + a 2 * IntOp.shli .host 1#32 (BitVec.ofNat 32 2) + a 3 * IntOp.shli .host 1#32 (BitVec.ofNat 32 3)
      = ∑ j : Fin 4, a j * IntOp.shli .host 1#32 (BitVec.ofNat 32 j.val) := by
  rw [Fin.sum_univ_four]
  have e0 : a 0 * IntOp.shli .host 1#32 (BitVec.ofNat 32 (0 : Fin 4).val) = a 0 := mul_one (a 0)
  rw [e0]
  rfl

theorem acc_sum (code : Fin 96 → BitVec 32) (x4 : S384x128.Idx → BitVec 32) (q : Fin 128) (j : Fin 4) :
    ∑ r : Fin 8, accW code x4 q r j
      = ∑ w : Fin 96, IntOp.ctpop (IntOp.andi (code w) (x4 (ix2 (⟨96 * j.val + w.val, by omega⟩ : Fin 384) q))) := by
  rw [← regroup]
  refine Finset.sum_congr rfl fun r _ => Finset.sum_congr rfl fun v _ => ?_
  exact congrArg (fun a : Fin 384 => IntOp.ctpop (IntOp.andi (code ⟨8 * v.val + r.val, by omega⟩) (x4 (ix2 a q))))
    (Fin.ext (Nat.add_assoc _ _ _))

theorem ip_sum (code : Fin 96 → BitVec 32) (x4 : S384x128.Idx → BitVec 32) (q : Fin 128) :
    ipW code x4 q = ∑ j : Fin 4, (∑ w : Fin 96, IntOp.ctpop (IntOp.andi (code w) (x4 (ix2 (⟨96 * j.val + w.val, by omega⟩ : Fin 384) q))))
      * IntOp.shli .host 1#32 (BitVec.ofNat 32 j.val) := by
  unfold ipW
  simp only [shl1, shl2, shl3, Finset.sum_add_distrib, ← Finset.sum_mul]
  rw [acc_sum, acc_sum, acc_sum, acc_sum]
  exact weights fun j : Fin 4 => ∑ w : Fin 96, IntOp.ctpop (IntOp.andi (code w) (x4 (ix2 (⟨96 * j.val + w.val, by omega⟩ : Fin 384) q)))

/-! ## The columns -/

theorem lane_at : ∀ (b : Fin 18) (p : Fin 6), (laneOf (comboW b.val (BitVec.ofNat 32 p.val))).val = 6 * b.val + p.val := by
  decide +kernel

theorem lane_probe (x4 : S18x8192.Idx → BitVec 32) (h : ∀ b k, InP (x4 (ix2 b k))) (b : Fin 18) (k : Fin 8192) :
    laneOf (comboW b.val (x4 (ix2 b k))) = qAt x4 h b k := by
  have hp := h b k
  unfold InP at hp
  have e := lane_at b ⟨(x4 (ix2 b k)).toNat, hp⟩
  rw [BitVec.ofNat_toNat, BitVec.setWidth_eq] at e
  exact Fin.ext e

theorem ext2_row {α : Type} (A : S18x8192.Idx → α) (r : Fin 24) (b : Fin 18) (h : r.val = b.val) (k : Fin 8192) :
    ext2 A (ix2 r k) = A (ix2 b k) := by
  have hr : r.val < 18 := by omega
  refine (dif_pos hr).trans ?_
  exact congrArg (fun a : Fin 18 => A (ix2 a k)) (Fin.ext h)

/-! ## The mask -/

theorem mask_at (x0 : S18.Idx → BitVec 32) (y : S18x8192.Idx → Ideal .f32) (b : Fin 18) (k : Fin 8192) :
    maskT x0 y (ix2 b k) = maskF (BitVec.ofNat 32 k.val) (x0 (ix1 b)) (y (ix2 b k)) := by
  unfold maskT maskF
  have e1 : broadcastInDim Cert.ReferenceIdeal.S18x8192 ![0, 1] Cert.ReferenceIdeal.Gen.bcast_S1x8192_S18x8192_0_1 (broadcastInDim Cert.ReferenceIdeal.S1x8192 ![1] Cert.ReferenceIdeal.Gen.bcast_S8192_S1x8192_1 (iotaInDim Cert.ReferenceIdeal.S8192 32 0)) (ix2 b k)
      = BitVec.ofNat 32 k.val := by
    refine (broadcastInDim_apply _ _ _ _ (ix2 (0 : Fin 1) k) ?_).trans ?_
    · intro a
      match a with
      | ⟨0, _⟩ => rfl
      | ⟨1, _⟩ => rfl
    refine (broadcastInDim_apply _ _ _ _ (ix1 k) ?_).trans rfl
    intro a
    match a with
    | ⟨0, _⟩ => rfl
  have e2 : broadcastInDim Cert.ReferenceIdeal.S18x8192 ![0, 1] Cert.ReferenceIdeal.Gen.bcast_S18x1_S18x8192_0_1 (broadcastInDim Cert.ReferenceIdeal.S18x1 ![0] Cert.ReferenceIdeal.Gen.bcast_S18_S18x1_0 x0) (ix2 b k)
      = x0 (ix1 b) := by
    refine (broadcastInDim_apply _ _ _ _ (ix2 b (0 : Fin 1)) ?_).trans ?_
    · intro a
      match a with
      | ⟨0, _⟩ => rfl
      | ⟨1, _⟩ => rfl
    refine (broadcastInDim_apply _ _ _ _ (ix1 b) ?_)
    intro a
    match a with
    | ⟨0, _⟩ => rfl
  exact congrArg₂ (fun u v => Scalar.select (IntOp.cmpi .slt u v) (y (ix2 b k)) (Scalar.ofBits .f32 0x00000000#32)) e1 e2

/-- Only the columns below the count need agree. -/
theorem mask_congr {F : FTy → Type} [FloatOps F] (col n : BitVec 32) (x y : F .f32) (h : IntOp.cmpi .slt col n = 1#1 → x = y) : maskF col n x = maskF col n y := by
  rcases BitVec.eq_zero_or_eq_one (IntOp.cmpi .slt col n) with e | e
  · unfold maskF
    rw [e]
    rfl
  · rw [h e]

theorem below (n : BitVec 32) (k : Fin 8192) (hn : n.toInt ≤ 8192) (h : IntOp.cmpi .slt (BitVec.ofNat 32 k.val) n = 1#1) :
    n.toNat ≤ 8192 ∧ k.val < n.toNat := by
  have e : (BitVec.ofNat 32 k.val).toInt < n.toInt := by
    simpa [IntOp.cmpi, WordCmp.ofBool_eq_one_iff, BitVec.slt] using h
  rw [BitVec.toInt_ofNat'] at e
  have hk := k.isLt
  rw [BitVec.toInt_eq_toNat_cond] at e hn
  have ht : n.toNat < 4294967296 := n.isLt
  have e3 : ((k.val : ℤ)).bmod (2 ^ 32) = k.val := by
    rw [Int.bmod_def]
    split <;> omega
  rw [e3] at e
  split at hn <;> split at e <;> omega

/-! ## The float terms -/

section
variable (x1 : S1152x96x128.Idx → BitVec 32) (x2 : S384x128.Idx → BitVec 32) (x3 : S8x128.Idx → Ideal .f32) (x4 : S18x8192.Idx → BitVec 32)
  (x5 x6 : S18x8192.Idx → Ideal .f32) (h : ∀ b k, InP (x4 (ix2 b k))) (b : Fin 18) (k : Fin 8192)

theorem est_at : estT x1 x2 x3 x4 x6 (ix2 b k)
    = estF x3 (qAt x4 h b k) (ipT x1 x2 x4 (ix2 b k)) (popT x1 (ix2 b k)) (x6 (ix2 b k)) := by
  unfold estF stat
  rw [← deltaT_at x3 x4 h b k, ← vlT_at x3 x4 h b k, ← nqT_at x3 x4 h b k, ← sumqT_at x3 x4 h b k]
  rfl

theorem dist_at : distT x1 x2 x3 x4 x5 x6 (ix2 b k) = distF x3 (qAt x4 h b k) (x5 (ix2 b k)) (estT x1 x2 x3 x4 x6 (ix2 b k)) := by
  unfold distF nn2F stat
  rw [← nqT_at x3 x4 h b k]
  rfl

theorem err_at : errT x3 x4 x5 x6 (ix2 b k) = errF x3 (qAt x4 h b k) (x5 (ix2 b k)) (x6 (ix2 b k)) := by
  unfold errF nn2F stat
  rw [← nqT_at x3 x4 h b k]
  rfl

theorem ip_at (code : Fin 96 → BitVec 32) (hc : code = codeAt x1 b k) : ipW code x2 (qAt x4 h b k) = ipT x1 x2 x4 (ix2 b k) := by
  rw [ip_sum, ipT_at x1 x2 x4 b k]
  refine Finset.sum_congr rfl fun j _ => ?_
  rw [countT_at x1 x2 x4 h b k j, hc]

theorem pop_at (code : Fin 96 → BitVec 32) (hc : code = codeAt x1 b k) : popW code = popT x1 (ix2 b k) := by
  rw [popT_at, hc]
  exact regroup fun w => IntOp.ctpop (codeAt x1 b k w)
end

/-! ## The precondition -/

theorem decode (n p : BitVec 32)
    (e : IntOp.andi (IntOp.andi (IntOp.cmpi .sle n 8192#32) (IntOp.cmpi .sge p 0#32)) (IntOp.cmpi .slt p 6#32) = 1#1) :
    n.toInt ≤ 8192 ∧ InP p := by
  unfold IntOp.cmpi at e
  rw [WordCmp.andi_ofBool, WordCmp.andi_ofBool, WordCmp.ofBool_eq_one_iff, Bool.and_eq_true, Bool.and_eq_true] at e
  obtain ⟨⟨e1, e2⟩, e3⟩ := e
  simp only [BitVec.sle, BitVec.slt, decide_eq_true_eq] at e1 e2 e3
  refine ⟨e1, ?_⟩
  have h0 : (0#32 : BitVec 32).toInt = 0 := by decide
  have h6 : (6#32 : BitVec 32).toInt = 6 := by decide
  rw [h0] at e2
  rw [h6] at e3
  have hp : p.toNat < 4294967296 := p.isLt
  unfold InP
  rw [BitVec.toInt_eq_toNat_cond] at e2 e3
  split at e2 <;> split at e3 <;> omega

/-- What the precondition says of a query and a column. -/
theorem pre_at (x0 : S18.Idx → BitVec 32) (x1 : S1152x96x128.Idx → BitVec 32) (x2 : S384x128.Idx → BitVec 32) (x3 : S8x128.Idx → Ideal .f32)
    (x4 : S18x8192.Idx → BitVec 32) (x5 x6 : S18x8192.Idx → Ideal .f32)
    (e : Cert.Pre_in_range.fn (F := Ideal) x0 x1 x2 x3 x4 x5 x6 = fun _ => 1#1) (b : Fin 18) (k : Fin 8192) :
    (x0 (ix1 b)).toInt ≤ 8192 ∧ InP (x4 (ix2 b k)) := by
  have e' := congrFun e (ix2 b k)
  refine decode _ _ (Eq.trans ?_ e')
  refine congrArg (fun z => IntOp.andi (IntOp.andi z (IntOp.cmpi .sge (x4 (ix2 b k)) 0#32)) (IntOp.cmpi .slt (x4 (ix2 b k)) 6#32)) (Eq.symm ?_)
  refine (broadcastInDim_apply _ _ _ _ (ix2 b (0 : Fin 1)) ?_).trans ?_
  · intro a
    match a with
    | ⟨0, _⟩ => rfl
    | ⟨1, _⟩ => rfl
  refine congrArg (fun z => IntOp.cmpi .sle z 8192#32) ?_
  refine (broadcastInDim_apply _ _ _ _ (ix1 b) ?_)
  intro a
  match a with
  | ⟨0, _⟩ => rfl

/-! ## The results -/

section
variable (m : (ℓ : Loc nD τ sig) → Buf (Elt Ideal) ℓ) (c : Dev nD)
  (hn : ∀ b : Fin 18, ((V m c main_arg0 : S18.Idx → BitVec 32) (ix1 b)).toInt ≤ 8192)
  (h : ∀ b k, InP ((V m c main_arg4 : S18x8192.Idx → BitVec 32) (ix2 b k))) (b : Fin 18) (k : Fin 8192)

theorem len_at : lenV m (grid0.coords (pt b k)) = (V m c main_arg0 : S18.Idx → BitVec 32) (ix1 b) := by
  obtain rfl : c = (0 : Dev nD) := Subsingleton.elim _ _
  exact congrArg (fun a : Fin 18 => (m (((0 : Dev nD) : Thread nD τ).loc main_arg0) : S18.Idx → BitVec 32) (ix1 a)) (Fin.ext (pt0 b k))

/-- Below the count the staged block is the candidate's own. -/
theorem code_at (hm : IntOp.cmpi .slt (BitVec.ofNat 32 k.val) ((V m c main_arg0 : S18.Idx → BitVec 32) (ix1 b)) = 1#1)
    (hn : ((V m c main_arg0 : S18.Idx → BitVec 32) (ix1 b)).toInt ≤ 8192) :
    codeB (gB m c (grid0.coords (pt b k))) k = codeAt (V m c main_arg1 : S1152x96x128.Idx → BitVec 32) b k := by
  obtain ⟨h1, h2⟩ := below _ k hn hm
  have ec : chunk (pf m) (grid0.coords (pt b k)) = k.val / 2048 := by
    have e := len_at m c b k
    unfold lenV at e
    unfold chunk
    rw [e, pt1]
    have := Cert.Chunk.chunkW_own ((V m c main_arg0 : S18.Idx → BitVec 32) (ix1 b)).toNat h1 (k.val / 2048) (by omega) (by omega)
    rw [BitVec.ofNat_toNat, BitVec.setWidth_eq] at this
    exact this
  funext w
  refine congrArg (fun a : Fin 1152 => (V m c main_arg1 : S1152x96x128.Idx → BitVec 32) (ix3 a w (⟨k.val % 128, by omega⟩ : Fin 128))) (Fin.ext ?_)
  show 16 * (4 * (grid0.coords (pt b k) 0).val + chunk (pf m) (grid0.coords (pt b k))) + k.val % 2048 / 128 = 64 * b.val + k.val / 128
  rw [ec, pt0]
  omega

theorem q_at : qB (ext2 (V m c main_arg4 : S18x8192.Idx → BitVec 32)) (rowB (grid0.coords (pt b k))) k = qAt (V m c main_arg4) h b k := by
  unfold qB
  rw [ext2_row _ _ b (pt0 b k) k]
  refine Eq.trans ?_ (lane_probe _ h b k)
  exact congrArg (fun a => laneOf (comboW a _)) (pt0 b k)

include hn h in
theorem est_eq (hm : IntOp.cmpi .slt (BitVec.ofNat 32 k.val) ((V m c main_arg0 : S18.Idx → BitVec 32) (ix1 b)) = 1#1) :
    estB (gB m c (grid0.coords (pt b k))) (V m c main_arg2) (V m c main_arg3) (ext2 (V m c main_arg4)) (ext2 (V m c main_arg6)) (rowB (grid0.coords (pt b k))) k
      = (estT (F := Ideal) (V m c main_arg1) (V m c main_arg2) (V m c main_arg3) (V m c main_arg4) (V m c main_arg6) : S18x8192.Idx → Ideal .f32) (ix2 b k) := by
  unfold estB
  rw [q_at m c h b k, ext2_row _ _ b (pt0 b k) k, est_at _ _ _ _ _ h b k,
    ip_at (V m c main_arg1) (V m c main_arg2) (V m c main_arg4) h b k _ (code_at m c b k hm (hn b)),
    pop_at (V m c main_arg1) b k _ (code_at m c b k hm (hn b))]

include hn h in
theorem val9_eq : val9 m c (grid0.coords (pt b k)) k
    = maskT (V m c main_arg0) (distT (F := Ideal) (V m c main_arg1) (V m c main_arg2) (V m c main_arg3) (V m c main_arg4) (V m c main_arg5) (V m c main_arg6)) (ix2 b k) := by
  rw [mask_at]
  unfold val9 out9
  rw [len_at m c b k]
  refine mask_congr _ _ _ _ fun hm => ?_
  unfold distB
  rw [est_eq m c hn h b k hm, q_at m c h b k, ext2_row _ _ b (pt0 b k) k, dist_at _ _ _ _ _ _ h b k]

include h in
theorem val10_eq : val10 m c (grid0.coords (pt b k)) k
    = maskT (V m c main_arg0) (errT (F := Ideal) (V m c main_arg3) (V m c main_arg4) (V m c main_arg5) (V m c main_arg6)) (ix2 b k) := by
  rw [mask_at]
  unfold val10 out10
  rw [len_at m c b k]
  refine mask_congr _ _ _ _ fun hm => ?_
  unfold errB
  rw [q_at m c h b k, ext2_row _ _ b (pt0 b k) k, ext2_row _ _ b (pt0 b k) k, err_at _ _ _ _ h b k]

include hn h in
theorem val11_eq : val11 m c (grid0.coords (pt b k)) k
    = maskT (V m c main_arg0) (estT (F := Ideal) (V m c main_arg1) (V m c main_arg2) (V m c main_arg3) (V m c main_arg4) (V m c main_arg6)) (ix2 b k) := by
  rw [mask_at]
  unfold val11 out11
  rw [len_at m c b k]
  exact mask_congr _ _ _ _ fun hm => est_eq m c hn h b k hm
end

end Cert.Equation

end
-- ==== Proof.Quantise.Probes.lean ====
/- The precondition gives what the kernel's run assumes: every probe names a centroid. -/
module

public import proofs.«01_k».proof.Defs
public import proofs.«01_k».proof.Proof.Gen.Quantise.Frame
public import proofs.«01_k».proof.Proof.Gen.Pre_probes_exist
public import Idealize.ShloMosaic.Lib.WordCmp

@[expose] public section

set_option maxRecDepth 16384

namespace Cert.Quantise.Probes

open Cert.Quantise Cert.Quantise.Gen Idealize.ShloMosaic Idealize.ShloMosaic.TcCoe

/-- A word below 250 names a row of the centroids. -/
theorem row_in (w : BitVec 32) (h : w.toNat < 250) :
    ∀ a, (![(Scalar.indexCast w).toNat, 0] : Fin 2 → ℕ) a + S1x3072.size a ≤ S250x3072.size a := by
  intro a
  match a with
  | ⟨0, _⟩ =>
    show w.toNat + 1 ≤ 250
    omega
  | ⟨1, _⟩ => exact Nat.le_refl _

variable (m : (ℓ : Loc nD τ sig) → Buf (Elt Bits) ℓ) (h : Cert.Pre_Quantise m)
include h

/-- A probe is below 250. -/
theorem probe_lt (c : Dev nD) (y : S18x6.Idx) : (m ((c : Thread nD τ).loc main_arg0) y).toNat < 250 := by
  have e := congrFun (h c) y
  simp only [Pre_probes_exist.fn, andi, cmpi, broadcastInDim, constantI, IntOp.cmpi, WordCmp.andi_ofBool, WordCmp.ofBool_eq_one_iff, Bool.and_eq_true] at e
  obtain ⟨hge, hlt⟩ := e
  simp only [BitVec.sle, BitVec.slt, decide_eq_true_eq, BitVec.toInt, BitVec.toNat_ofNat] at hge hlt
  omega

/-- So is a probe of the block the kernel is given. -/
theorem block_lt (c : Dev nD) (t : Fin cfg0.N) (i) : (iblk m c 0 t i).toNat < 250 := by
  unfold iblk
  rw [View.read_apply, cast_eq]
  exact probe_lt m h c _

theorem hyps : Hyps m := by
  intro c t
  have ok : ∀ (B : LoadRect S18x6) (x), ((ms0_0 t).view.readAt (Elt Bits) B ((hs0_0 t).unread (iblk m c 0 t)) x).toNat < 250 := fun B x => by
    rw [View.readAt_apply, Memref.IsWhole.read_unread]
    exact block_lt m h c t _
  iterate 107 refine ⟨row_in _ (ok _ _), ?_⟩
  exact row_in _ (ok _ _)

end Cert.Quantise.Probes
-- ==== Proof.Quantise.Codes.lean ====
/- The codes of one query: what the kernel computes of a query's six residual vectors, as one array and at one element. -/
module

public import Idealize.ShloMosaic.PureOps
public import Idealize.ShloMosaic.PureOps.Ideal.Laws
public import Idealize.ShloMosaic.Lib.Pointwise
public import Idealize.ShloMosaic.Lib.ValueIdxCore
public import Idealize.ShloMosaic.Lib.Pipeline.Value

@[expose] public section

set_option maxRecDepth 16384

noncomputable section

namespace Cert.Codes

open Idealize.ShloMosaic Idealize.ShloMosaic.TcCoe

abbrev S6 : Shape := ⟨1, ![6]⟩
abbrev S6x1 : Shape := ⟨2, ![6, 1]⟩
abbrev S6x3072 : Shape := ⟨2, ![6, 3072]⟩
abbrev S18x6 : Shape := ⟨2, ![18, 6]⟩
abbrev S18x3072 : Shape := ⟨2, ![18, 3072]⟩
abbrev S250x3072 : Shape := ⟨2, ![250, 3072]⟩
abbrev S18x6x3072 : Shape := ⟨3, ![18, 6, 3072]⟩

theorem red : S6x3072.Reduces [1] S6 := by decide
theorem casts : S6.ShapeCasts S6x1 := by decide
theorem spreads : S6x1.Broadcasts S6x3072 := by decide

section
variable {F : FTy → Type} [FloatOps F]

/-- A row's least element. -/
def least (y : FVec F S6x3072 .f32) : FVec F S6x1 .f32 :=
  shapeCast S6x1 (multiReduction .minimumf [1] S6 y 0x7F800000#32 red (.inl rfl) rfl) casts

/-- A row's largest element. -/
def largest (y : FVec F S6x3072 .f32) : FVec F S6x1 .f32 :=
  shapeCast S6x1 (multiReduction .maximumf [1] S6 y 0xFF800000#32 red (.inl rfl) rfl) casts

/-- One over a row's step. -/
def inverse (y : FVec F S6x3072 .f32) : FVec F S6x1 .f32 :=
  divf (broadcast S6x1 (Scalar.ofBits .f32 0x3F800000#32)) (divf (subf (largest y) (least y)) (broadcast S6x1 (Scalar.ofBits .f32 0x41700000#32)))

/-- The codes of the residuals `y` rounded with `u`. -/
def codes (y u : FVec F S6x3072 .f32) : IVec S6x3072 8 :=
  trunci 8 (fptosi 32 (minimumf (broadcast S6x3072 (Scalar.ofBits .f32 0x41700000#32))
    (maximumf (broadcast S6x3072 (Scalar.ofBits .f32 0x00000000#32))
      (floor (addf (mulf (subf y (broadcastTo S6x3072 (least y) spreads)) (broadcastTo S6x3072 (inverse y) spreads)) u))))) (by decide)

/-- A query's residual against a probe's centroid, at one dimension. -/
def resid (i : S18x6.Idx → BitVec 32) (x : S18x3072.Idx → F .f32) (c : S250x3072.Idx → F .f32) (b : Fin 18) (p : Fin 6) (d : Fin 3072) : F .f32 :=
  FloatOps.subf (x (ix2 b d)) (c (ix2 (⟨min (i (ix2 b p)).toNat 249, by omega⟩ : Fin 250) d))

/-- A query's residuals. -/
def residV (i : S18x6.Idx → BitVec 32) (x : S18x3072.Idx → F .f32) (c : S250x3072.Idx → F .f32) (b : Fin 18) : S6x3072.Idx → F .f32 :=
  fun j => resid i x c b (j (0 : Fin 2)) (j (1 : Fin 2))

/-- A query's offsets. -/
def offsV (u : S18x6x3072.Idx → F .f32) (b : Fin 18) : S6x3072.Idx → F .f32 := fun j => u (ix3 b (j (0 : Fin 2)) (j (1 : Fin 2)))

/-- Every query's codes. -/
def allCodes (i : S18x6.Idx → BitVec 32) (x : S18x3072.Idx → F .f32) (c : S250x3072.Idx → F .f32) (u : S18x6x3072.Idx → F .f32) :
    S18x6x3072.Idx → BitVec 8 :=
  fun j => codes (residV i x c (j (0 : Fin 3))) (offsV u (j (0 : Fin 3))) (ix2 (j (1 : Fin 3)) (j (2 : Fin 3)))

/-- One code: of the residual `r` rounded with `u`, in a row with least element `lo` and largest `hi`. -/
def code (lo hi r u : F .f32) : BitVec 8 :=
  (FloatOps.fptosi 32 (FloatOps.minimumf (FloatOps.ofBits .f32 0x41700000#32) (FloatOps.maximumf (FloatOps.ofBits .f32 0x00000000#32)
    (FloatOps.floor (FloatOps.addf (FloatOps.mulf (FloatOps.subf r lo)
      (FloatOps.divf (FloatOps.ofBits .f32 0x3F800000#32) (FloatOps.divf (FloatOps.subf hi lo) (FloatOps.ofBits .f32 0x41700000#32)))) u)))) : BitVec 32).setWidth 8

end

/-- The least of the 3072 elements of a row. -/
def lo (f : Fin 3072 → Ideal .f32) : Ideal .f32 := Finset.univ.fold (FloatOps.minimumf (F := Ideal) (φ := .f32)) (FloatOps.ofBits .f32 0x7F800000#32) f

/-- The largest of them. -/
def hi (f : Fin 3072 → Ideal .f32) : Ideal .f32 := Finset.univ.fold (FloatOps.maximumf (F := Ideal) (φ := .f32)) (FloatOps.ofBits .f32 0xFF800000#32) f

theorem lift_row (p : Fin 6) (d : Fin 3072) : red.lift (ix1 p) d = ix2 p d := by
  funext a
  match a with
  | ⟨0, _⟩ => exact Fin.ext (red.lift_val _ _ _)
  | ⟨1, _⟩ => exact Fin.ext (red.lift_val _ _ _)

theorem column (x : S6.Idx → Ideal .f32) (p : Fin 6) : shapeCast S6x1 x casts (ix2 p (0 : Fin 1)) = x (ix1 p) := by pointwise

theorem least_at (y : FVec Ideal S6x3072 .f32) (p : Fin 6) : least y (ix2 p (0 : Fin 1)) = lo fun d => y (ix2 p d) := by
  unfold least
  refine (column _ _).trans ((multiReduction_minimumf_eq_fold _ _ _ _ _ _).trans ?_)
  rw [red.fold_filter_drop_single]
  exact congrArg (Finset.univ.fold _ _) (funext fun d => congrArg y (lift_row p d))

theorem largest_at (y : FVec Ideal S6x3072 .f32) (p : Fin 6) : largest y (ix2 p (0 : Fin 1)) = hi fun d => y (ix2 p d) := by
  unfold largest
  refine (column _ _).trans ((multiReduction_maximumf_eq_fold _ _ _ _ _ _).trans ?_)
  rw [red.fold_filter_drop_single]
  exact congrArg (Finset.univ.fold _ _) (funext fun d => congrArg y (lift_row p d))

theorem spread_at (x : S6x1.Idx → Ideal .f32) (p : Fin 6) (d : Fin 3072) : broadcastTo S6x3072 x spreads (ix2 p d) = x (ix2 p (0 : Fin 1)) := by
  refine broadcastTo_apply _ _ _ _ fun a => ?_
  match a with
  | ⟨0, _⟩ => rfl
  | ⟨1, _⟩ => rfl

/-- One of a query's codes. -/
theorem codes_at (y u : FVec Ideal S6x3072 .f32) (p : Fin 6) (d : Fin 3072) :
    codes y u (ix2 p d) = code (lo fun k => y (ix2 p k)) (hi fun k => y (ix2 p k)) (y (ix2 p d)) (u (ix2 p d)) := by
  have e : codes y u (ix2 p d) = code (broadcastTo S6x3072 (least y) spreads (ix2 p d)) (largest y (ix2 p (0 : Fin 1))) (y (ix2 p d)) (u (ix2 p d)) := by
    have e1 := spread_at (inverse y) p d
    have e2 := spread_at (least y) p d
    show (FloatOps.fptosi 32 (FloatOps.minimumf (FloatOps.ofBits .f32 0x41700000#32) (FloatOps.maximumf (FloatOps.ofBits .f32 0x00000000#32)
      (FloatOps.floor (FloatOps.addf (FloatOps.mulf (FloatOps.subf (y (ix2 p d)) (broadcastTo S6x3072 (least y) spreads (ix2 p d)))
        (broadcastTo S6x3072 (inverse y) spreads (ix2 p d))) (u (ix2 p d)))))) : BitVec 32).setWidth 8 = _
    rw [e1, e2]
    rfl
  rw [e, spread_at, least_at, largest_at]

end Cert.Codes

end
-- ==== Proof.Quantise.RefCodes.lean ====
/- The reference's codes at one element. -/
module

public import proofs.«01_k».proof.Proof.Gen.QuantiseReferenceIdeal.Run
public import proofs.«01_k».proof.Proof.Quantise.Codes

@[expose] public section

set_option maxRecDepth 16384

noncomputable section

namespace Cert.QuantiseReferenceIdeal.Vals

open Cert.QuantiseReferenceIdeal Cert.QuantiseReferenceIdeal.Gen Idealize.ShloMosaic Idealize.ShloMosaic.TcCoe Idealize.SL.Sem Idealize.ShloMosaic.StableHlo

variable (x0 : S18x6.Idx → BitVec 32) (x1 : S18x3072.Idx → Ideal .f32) (x2 : S250x3072.Idx → Ideal .f32) (x3 : S18x6x3072.Idx → Ideal .f32)

/-- The rows the reference takes. -/
def rowsT : S18x6x1.Idx → BitVec 32 :=
  broadcastInDim S18x6x1 ![0, 1] bcast_S18x6_S18x6x1_0_1 (select (cmpi .slt x0 (broadcastInDim S18x6 ![] bcast_S_S18x6 (constantI S_ 32 0#32))) (addi x0 (broadcastInDim S18x6 ![] bcast_S_S18x6 (constantI S_ 32 250#32))) x0)

/-- The residuals. -/
def residT : S18x6x3072.Idx → Ideal .f32 :=
  subf (F := Ideal) (φ := .f32) (broadcastInDim S18x6x3072 ![0, 1, 2] bcast_S18x1x3072_S18x6x3072_0_1_2 (broadcastInDim S18x1x3072 ![0, 2] bcast_S18x3072_S18x1x3072_0_2 x1))
    (Host.gather gather_S250x3072_S18x6x1_S18x6x3072_2_0_n_n_0_2_13072 x2 (rowsT x0))

/-- The least residual of a query and probe. -/
def leastT : S18x6.Idx → Ideal .f32 := Host.reduce FloatOps.minimumf (residT x0 x1 x2) (constant (F := Ideal) S_ .f32 0x7F800000#32) reducesTo_S18x6x3072_S18x6_d2 h_S_

/-- The largest. -/
def largestT : S18x6.Idx → Ideal .f32 := Host.reduce FloatOps.maximumf (residT x0 x1 x2) (constant (F := Ideal) S_ .f32 0xFF800000#32) reducesTo_S18x6x3072_S18x6_d2 h_S_

/-- A query's and probe's value at each dimension. -/
def each (x : S18x6.Idx → Ideal .f32) : S18x6x3072.Idx → Ideal .f32 :=
  broadcastInDim S18x6x3072 ![0, 1, 2] bcast_S18x6x1_S18x6x3072_0_1_2 (broadcastInDim S18x6x1 ![0, 1] bcast_S18x6_S18x6x1_0_1 x)

/-- One over the step. -/
def inverseT : S18x6.Idx → Ideal .f32 :=
  Host.divf (F := Ideal) (φ := .f32) (broadcastInDim S18x6 ![] bcast_S_S18x6 (constant (F := Ideal) S_ .f32 0x3F800000#32))
    (Host.divf (F := Ideal) (φ := .f32) (subf (F := Ideal) (φ := .f32) (largestT x0 x1 x2) (leastT x0 x1 x2)) (broadcastInDim S18x6 ![] bcast_S_S18x6 (constant (F := Ideal) S_ .f32 0x41700000#32)))

/-- The codes. -/
def codesT : S18x6x3072.Idx → BitVec 8 :=
  trunci 8 (fptosi (F := Ideal) (φ := .f32) 32 (minimumf (broadcastInDim S18x6x3072 ![] bcast_S_S18x6x3072 (id (constant S_ .f32 0x41700000#32)))
    (maximumf (broadcastInDim S18x6x3072 ![] bcast_S_S18x6x3072 (id (constant S_ .f32 0x00000000#32)))
      (Host.floor (addf (mulf (subf (residT x0 x1 x2) (each (leastT x0 x1 x2))) (each (inverseT x0 x1 x2))) x3))))) natLt_8_32

theorem each_at (x : S18x6.Idx → Ideal .f32) (b : Fin 18) (p : Fin 6) (d : Fin 3072) : each x (ix3 b p d) = x (ix2 b p) := by
  unfold each
  refine (broadcastInDim_apply _ _ _ _ (ix3 b p (0 : Fin 1)) ?_).trans ?_
  · intro a
    match a with
    | ⟨0, _⟩ => rfl
    | ⟨1, _⟩ => rfl
    | ⟨2, _⟩ => rfl
  refine broadcastInDim_apply _ _ _ _ (ix2 b p) ?_
  intro a
  match a with
  | ⟨0, _⟩ => rfl
  | ⟨1, _⟩ => rfl

theorem gather_at (idx : S18x6x1.Idx → BitVec 32) (b : Fin 18) (p : Fin 6) (d : Fin 3072) :
    Host.gather gather_S250x3072_S18x6x1_S18x6x3072_2_0_n_n_0_2_13072 x2 idx (ix3 b p d)
      = x2 (ix2 (⟨min (idx (ix3 b p (0 : Fin 1))).toInt.toNat 249, by omega⟩ : Fin 250) d) := by
  unfold Host.gather
  congr 1
  funext a
  refine Fin.ext ?_
  match a with
  | ⟨0, _⟩ =>
    show GatherDims.start gather_S250x3072_S18x6x1_S18x6x3072_2_0_n_n_0_2_13072 (ix3 b p d) idx (0 : Fin 2)
      + GatherDims.batchCoord gather_S250x3072_S18x6x1_S18x6x3072_2_0_n_n_0_2_13072 (ix3 b p d) (0 : Fin 2)
      + GatherDims.offCoord gather_S250x3072_S18x6x1_S18x6x3072_2_0_n_n_0_2_13072 (ix3 b p d) (0 : Fin 2)
        = min (idx (ix3 b p (0 : Fin 1))).toInt.toNat 249
    rw [GatherDims.offCoord_eq_zero _ _ _ (fun h => ((GatherDims.mem_sKept _ _).mp h).1 (List.mem_singleton.mpr rfl))]
    unfold GatherDims.start GatherDims.batchCoord
    rw [dif_pos (show (0 : Fin 2) ∈ gather_S250x3072_S18x6x1_S18x6x3072_2_0_n_n_0_2_13072.startIndexMap from (by decide : (0 : Fin 2) ∈ ([0] : List (Fin 2)))), dif_neg (show (0 : Fin 2) ∉ gather_S250x3072_S18x6x1_S18x6x3072_2_0_n_n_0_2_13072.operandBatchingDims from (by decide : (0 : Fin 2) ∉ ([] : List (Fin 2))))]
    have hsi : GatherDims.siIdx gather_S250x3072_S18x6x1_S18x6x3072_2_0_n_n_0_2_13072 (ix3 b p d)
        ⟨List.idxOf (0 : Fin 2) ([0] : List (Fin 2)), by decide⟩ = ix3 b p (0 : Fin 1) := by
      funext e; refine Fin.ext ?_
      match e with
      | ⟨0, _⟩ => rfl
      | ⟨1, _⟩ => rfl
      | ⟨2, _⟩ => rfl
    exact congrArg (fun z => min (idx z).toInt.toNat 249) hsi
  | ⟨1, _⟩ =>
    show GatherDims.start gather_S250x3072_S18x6x1_S18x6x3072_2_0_n_n_0_2_13072 (ix3 b p d) idx (1 : Fin 2)
      + GatherDims.batchCoord gather_S250x3072_S18x6x1_S18x6x3072_2_0_n_n_0_2_13072 (ix3 b p d) (1 : Fin 2)
      + GatherDims.offCoord gather_S250x3072_S18x6x1_S18x6x3072_2_0_n_n_0_2_13072 (ix3 b p d) (1 : Fin 2) = d.val
    unfold GatherDims.start GatherDims.batchCoord
    rw [dif_neg (show (1 : Fin 2) ∉ gather_S250x3072_S18x6x1_S18x6x3072_2_0_n_n_0_2_13072.startIndexMap from (by decide : (1 : Fin 2) ∉ ([0] : List (Fin 2)))), dif_neg (show (1 : Fin 2) ∉ gather_S250x3072_S18x6x1_S18x6x3072_2_0_n_n_0_2_13072.operandBatchingDims from (by decide : (1 : Fin 2) ∉ ([] : List (Fin 2))))]
    rw [Nat.zero_add]
    unfold GatherDims.offCoord
    rw [dif_pos (show (1 : Fin 2) ∈ gather_S250x3072_S18x6x1_S18x6x3072_2_0_n_n_0_2_13072.sKept by decide)]
    simp only [Nat.zero_add]
    rfl

section
variable (h : ∀ b p, (x0 (ix2 b p)).toNat < 250) (b : Fin 18) (p : Fin 6) (d : Fin 3072)
include h

theorem rowsT_at : rowsT x0 (ix3 b p (0 : Fin 1)) = x0 (ix2 b p) := by
  have hp := h b p
  unfold rowsT
  refine (broadcastInDim_apply _ _ _ _ (ix2 b p) ?_).trans ?_
  · intro a
    match a with
    | ⟨0, _⟩ => rfl
    | ⟨1, _⟩ => rfl
  show Scalar.select (IntOp.cmpi .slt (x0 (ix2 b p)) 0#32) (IntOp.addi (x0 (ix2 b p)) 250#32) (x0 (ix2 b p)) = _
  have e : (x0 (ix2 b p)).slt 0#32 = false := by
    rw [Bool.eq_false_iff]
    intro hs
    rw [BitVec.slt_iff_toInt_lt, BitVec.toInt_eq_toNat_cond, if_pos (by omega)] at hs
    have : ((0#32 : BitVec 32)).toInt = 0 := by decide
    omega
  show Scalar.select (BitVec.ofBool ((x0 (ix2 b p)).slt 0#32)) _ _ = _
  rw [e]
  rfl

theorem residT_at : residT x0 x1 x2 (ix3 b p d) = Cert.Codes.resid x0 x1 x2 b p d := by
  have hp := h b p
  unfold residT Cert.Codes.resid
  refine congrArg₂ (FloatOps.subf (F := Ideal) (φ := .f32)) ?_ ?_
  · refine (broadcastInDim_apply _ _ _ _ (ix3 b (0 : Fin 1) d) ?_).trans ?_
    · intro a
      match a with
      | ⟨0, _⟩ => rfl
      | ⟨1, _⟩ => rfl
      | ⟨2, _⟩ => rfl
    refine broadcastInDim_apply _ _ _ _ (ix2 b d) ?_
    intro a
    match a with
    | ⟨0, _⟩ => rfl
    | ⟨1, _⟩ => rfl
  · refine (gather_at x2 _ b p d).trans ?_
    refine congrArg (fun q : Fin 250 => x2 (ix2 q d)) (Fin.ext ?_)
    show min (rowsT x0 (ix3 b p (0 : Fin 1))).toInt.toNat 249 = min (x0 (ix2 b p)).toNat 249
    rw [rowsT_at x0 h b p, BitVec.toInt_eq_toNat_cond, if_pos (by omega)]
    rfl

omit h in
theorem red : S18x6x3072.Reduces [2] S18x6 := by decide

omit h in
theorem lift_row : red.lift (ix2 b p) d = ix3 b p d := by
  funext a
  match a with
  | ⟨0, _⟩ => exact Fin.ext (red.lift_val _ _ _)
  | ⟨1, _⟩ => exact Fin.ext (red.lift_val _ _ _)
  | ⟨2, _⟩ => exact Fin.ext (red.lift_val _ _ _)

theorem leastT_at : leastT x0 x1 x2 (ix2 b p) = Cert.Codes.lo fun k => Cert.Codes.resid x0 x1 x2 b p k := by
  unfold leastT
  rw [Host.reduce_eq_fold_single _ _ _ _ red]
  exact congrArg (Finset.univ.fold _ _) (funext fun k => (congrArg (residT x0 x1 x2) (lift_row b p k)).trans (residT_at x0 x1 x2 h b p k))

theorem largestT_at : largestT x0 x1 x2 (ix2 b p) = Cert.Codes.hi fun k => Cert.Codes.resid x0 x1 x2 b p k := by
  unfold largestT
  rw [Host.reduce_eq_fold_single _ _ _ _ red]
  exact congrArg (Finset.univ.fold _ _) (funext fun k => (congrArg (residT x0 x1 x2) (lift_row b p k)).trans (residT_at x0 x1 x2 h b p k))

/-- The reference's code is the one the kernel's block computes. -/
theorem codesT_at : codesT x0 x1 x2 x3 (ix3 b p d) = Cert.Codes.allCodes x0 x1 x2 x3 (ix3 b p d) := by
  have e : codesT x0 x1 x2 x3 (ix3 b p d)
      = Cert.Codes.code (each (leastT x0 x1 x2) (ix3 b p d)) (largestT x0 x1 x2 (ix2 b p)) (residT x0 x1 x2 (ix3 b p d)) (x3 (ix3 b p d)) := by
    have e1 := each_at (inverseT x0 x1 x2) b p d
    have e2 := each_at (leastT x0 x1 x2) b p d
    show (FloatOps.fptosi 32 (FloatOps.minimumf (FloatOps.ofBits .f32 0x41700000#32) (FloatOps.maximumf (FloatOps.ofBits .f32 0x00000000#32)
      (FloatOps.floor (FloatOps.addf (FloatOps.mulf (FloatOps.subf (residT x0 x1 x2 (ix3 b p d)) (each (leastT x0 x1 x2) (ix3 b p d)))
        (each (inverseT x0 x1 x2) (ix3 b p d))) (x3 (ix3 b p d)))))) : BitVec 32).setWidth 8 = _
    rw [e1, e2]
    rfl
  rw [e, each_at, leastT_at x0 x1 x2 h, largestT_at x0 x1 x2 h, residT_at x0 x1 x2 h]
  exact (Cert.Codes.codes_at (Cert.Codes.residV x0 x1 x2 b) (Cert.Codes.offsV x3 b) p d).symm

end

/-- The reference's codes. -/
theorem codes_eq (h : ∀ b p, (x0 (ix2 b p)).toNat < 250) : codesT x0 x1 x2 x3 = Cert.Codes.allCodes x0 x1 x2 x3 := by
  funext i
  rw [ValueIdx.eq_ix3 i]
  exact codesT_at x0 x1 x2 x3 h _ _ _

end Cert.QuantiseReferenceIdeal.Vals

end
-- ==== Proof.QuantiseIdeal.Pieces.lean ====
/- The kernel's loads and stores of one query, read back: a residual's row, the six rows of the scratch buffer, and the query's codes. -/
module

public import proofs.«01_k».proof.Proof.Gen.QuantiseIdeal
public import proofs.«01_k».proof.Proof.Quantise.Codes
public import Idealize.ShloMosaic.Lib.WritesUnit
public import Idealize.ShloMosaic.Lib.Pipeline.FrameBody

@[expose] public section

set_option maxRecDepth 16384

noncomputable section

namespace Cert.QuantiseIdeal.Pieces

open Cert.QuantiseIdeal Cert.QuantiseIdeal.Gen Idealize.ShloMosaic Idealize.ShloMosaic.TcCoe

variable {M0 : Memref sig .tc .smem S18x6 .i32} {h0 : M0.IsWhole} {M1 : Memref sig .tc .vmem S18x3072 .f32} {h1 : M1.IsWhole}
  {M2 : Memref sig .tc .vmem S250x3072 .f32} {h2 : M2.IsWhole} {M3 : Memref sig .tc .vmem S18x6x3072 .f32} {h3 : M3.IsWhole}
  {x0 : Vec Ideal S18x6 .i32} {x1 : Vec Ideal S18x3072 .f32} {x2 : Vec Ideal S250x3072 .f32} {x3 : Vec Ideal S18x6x3072 .f32}

/-- The word the kernel loads for a query and probe. -/
theorem word (b : Fin 18) (p : Fin 6) (inb : ∀ a, (![b.val, p.val] : Fin 2 → ℕ) a + S1x1.size a ≤ S18x6.size a)
    (k : (Rect.unit (s := S18x6) ![b.val, p.val] S1x1.size inb).toLoadRect.shape.Idx) :
    M0.view.readAt (Elt Ideal) (Rect.unit (s := S18x6) ![b.val, p.val] S1x1.size inb).toLoadRect (h0.unread x0) k = x0 (ix2 b p) := by
  rw [View.readAt_apply, Memref.IsWhole.read_unread]
  refine congrArg x0 (funext fun a => Fin.ext ?_)
  have k0 : (k (0 : Fin 2)).val = 0 := Nat.lt_one_iff.mp (k (0 : Fin 2)).isLt
  have k1 : (k (1 : Fin 2)).val = 0 := Nat.lt_one_iff.mp (k (1 : Fin 2)).isLt
  match a with
  | ⟨0, _⟩ => show b.val + 1 * (k (0 : Fin 2)).val = b.val; omega
  | ⟨1, _⟩ => show p.val + 1 * (k (1 : Fin 2)).val = p.val; omega

/-- A stored row of residuals, at one dimension. -/
theorem row (b : Fin 18) (p : Fin 6) (w : BitVec 32) (hw : w = x0 (ix2 b p)) (hl : ∀ i, (x0 i).toNat < 250) (o : Fin 2 → ℕ) (ho : o = ![w.toNat, 0])
    (inb1 : ∀ a, (![b.val, 0] : Fin 2 → ℕ) a + S1x3072.size a ≤ S18x3072.size a) (inb2 : ∀ a, o a + S1x3072.size a ≤ S250x3072.size a)
    (pay : S1x3072.Idx → Ideal .f32) (casts : S1x3072.ShapeCasts S1x3072)
    (hp : pay = shapeCast S1x3072 (subf (F := Ideal) (φ := .f32) (M1.view.readAt (Elt Ideal) (Rect.unit (s := S18x3072) ![b.val, 0] S1x3072.size inb1).toLoadRect (h1.unread x1))
      (M2.view.readAt (Elt Ideal) (Rect.unit (s := S250x3072) o S1x3072.size inb2).toLoadRect (h2.unread x2))) casts) (d : Fin 3072) :
    pay (ix2 (0 : Fin 1) d) = Cert.Codes.resid (F := Ideal) x0 x1 x2 b p d := by
  subst hp ho hw
  rw [shapeCast_apply _ _ _ (ix2 (0 : Fin 1) d) rfl]
  unfold Cert.Codes.resid
  refine congrArg₂ (FloatOps.subf (F := Ideal) (φ := .f32)) ?_ ?_
  · rw [View.readAt_apply, Memref.IsWhole.read_unread]
    refine congrArg x1 (funext fun a => Fin.ext ?_)
    match a with
    | ⟨0, _⟩ => rfl
    | ⟨1, _⟩ => show 0 + 1 * d.val = d.val; omega
  · rw [View.readAt_apply, Memref.IsWhole.read_unread]
    refine congrArg x2 (funext fun a => Fin.ext ?_)
    match a with
    | ⟨0, _⟩ =>
      show (x0 (ix2 b p)).toNat + 1 * 0 = min (x0 (ix2 b p)).toNat 249
      have := hl (ix2 b p)
      omega
    | ⟨1, _⟩ => show 0 + 1 * d.val = d.val; omega

/-- The row a loaded word names is in the centroids. -/
theorem named (hl : ∀ i, (x0 i).toNat < 250) (b : Fin 18) (p : Fin 6) (inb : ∀ a, (![b.val, p.val] : Fin 2 → ℕ) a + S1x1.size a ≤ S18x6.size a)
    (k : (Rect.unit (s := S18x6) ![b.val, p.val] S1x1.size inb).toLoadRect.shape.Idx) (a : Fin 2) :
    (![(M0.view.readAt (Elt Ideal) (Rect.unit (s := S18x6) ![b.val, p.val] S1x1.size inb).toLoadRect (h0.unread x0) k : BitVec 32).toNat, 0] : Fin 2 → ℕ) a
      + S1x3072.size a ≤ S250x3072.size a := by
  have := hl (ix2 b p)
  rw [word]
  match a with
  | ⟨0, _⟩ => show (x0 (ix2 b p)).toNat + 1 ≤ 250; omega
  | ⟨1, _⟩ => exact Nat.le_refl _

/-- A row of residuals as the kernel stores it. -/
def stored (M0 : Memref sig .tc .smem S18x6 .i32) (h0 : M0.IsWhole) (M1 : Memref sig .tc .vmem S18x3072 .f32) (h1 : M1.IsWhole)
    (M2 : Memref sig .tc .vmem S250x3072 .f32) (h2 : M2.IsWhole)
    (x0 : Vec Ideal S18x6 .i32) (x1 : Vec Ideal S18x3072 .f32) (x2 : Vec Ideal S250x3072 .f32) (hl : ∀ i, (x0 i).toNat < 250) (b : Fin 18) (p : Fin 6)
    (inb : ∀ a, (![b.val, p.val] : Fin 2 → ℕ) a + S1x1.size a ≤ S18x6.size a) (inb1 : ∀ a, (![b.val, 0] : Fin 2 → ℕ) a + S1x3072.size a ≤ S18x3072.size a) :
    S1x3072.Idx → Ideal .f32 :=
  shapeCast S1x3072 (subf (F := Ideal) (φ := .f32) (M1.view.readAt (Elt Ideal) (Rect.unit (s := S18x3072) ![b.val, 0] S1x3072.size inb1).toLoadRect (h1.unread x1))
    (M2.view.readAt (Elt Ideal) (Rect.unit (s := S250x3072)
      ![(M0.view.readAt (Elt Ideal) (Rect.unit (s := S18x6) ![b.val, p.val] S1x1.size inb).toLoadRect (h0.unread x0) (Shape.Idx.first (numel1_S1x1.symm ▸ Nat.one_pos)) : BitVec 32).toNat, 0]
      S1x3072.size (named hl b p inb _)).toLoadRect (h2.unread x2))) shapeCasts_S1x3072_S1x3072

theorem stored_at (hl : ∀ i, (x0 i).toNat < 250) (b : Fin 18) (p : Fin 6) (inb) (inb1) (pay : S1x3072.Idx → Ideal .f32)
    (hp : pay = stored M0 h0 M1 h1 M2 h2 x0 x1 x2 hl b p inb inb1) (d : Fin 3072) : pay (ix2 (0 : Fin 1) d) = Cert.Codes.resid (F := Ideal) x0 x1 x2 b p d :=
  row (M1 := M1) (h1 := h1) (M2 := M2) (h2 := h2) b p _ (word b p inb _) hl _ rfl inb1 _ pay _ hp d

/-- The residual a row of the scratch buffer holds. -/
def held (x0 : Vec Ideal S18x6 .i32) (x1 : Vec Ideal S18x3072 .f32) (x2 : Vec Ideal S250x3072 .f32) (b : Fin 18) : S8x3072.Idx → Ideal .f32 :=
  fun y => Cert.Codes.resid (F := Ideal) x0 x1 x2 b (⟨min (y (0 : Fin 2)).val 5, by omega⟩ : Fin 6) (y (1 : Fin 2))

/-- The first `n` rows of the scratch buffer hold the query's residuals after the stores `L`. -/
def Held (x0 : Vec Ideal S18x6 .i32) (x1 : Vec Ideal S18x3072 .f32) (x2 : Vec Ideal S250x3072 .f32) (b : Fin 18) (v : View sig .tc .vmem S8x3072 .f32) (n : ℕ)
    (L : List (View.Piece (Elt Ideal) S8x3072 .f32)) : Prop :=
  ∀ y : S8x3072.Idx, (y (0 : Fin 2)).val < n → v.read (Elt Ideal) (v.writes (Elt Ideal) v.junk L) y = held x0 x1 x2 b y

variable {b : Fin 18} {v : View sig .tc .vmem S8x3072 .f32}

theorem held_zero (L) : Held x0 x1 x2 b v 0 L := fun _ h => absurd h (Nat.not_lt_zero _)

/-- One more row. -/
theorem held_succ (o : ℕ) (ho : o < 6) (inb : ∀ a, (![o, 0] : Fin 2 → ℕ) a + S1x3072.size a ≤ S8x3072.size a) (w : S1x3072.Idx → Ideal .f32)
    (L : List (View.Piece (Elt Ideal) S8x3072 .f32)) (hw : ∀ d, w (ix2 (0 : Fin 1) d) = Cert.Codes.resid (F := Ideal) x0 x1 x2 b ⟨o, ho⟩ d) (hL : Held x0 x1 x2 b v o L) :
    Held x0 x1 x2 b v (o + 1) ((⟨Rect.unit (s := S8x3072) ![o, 0] S1x3072.size inb, w⟩ : View.Piece (Elt Ideal) S8x3072 .f32) :: L) := by
  intro y hy
  by_cases h : (y (0 : Fin 2)).val < o
  · rw [View.read_writes_cons_rows_of_not_mem (o := o) (W := 1) v _ inb w L y rfl rfl (Or.inl h)]
    exact hL y h
  · have e : (y (0 : Fin 2)).val = o := by omega
    rw [View.read_writes_cons_rows_of_mem (o := o) v _ inb w L y (ix2 (0 : Fin 1) (y (1 : Fin 2))) rfl e rfl]
    refine (hw _).trans ?_
    unfold held
    refine congrArg (fun q => Cert.Codes.resid (F := Ideal) x0 x1 x2 b q (y (1 : Fin 2))) (Fin.ext ?_)
    show o = min (y (0 : Fin 2)).val 5
    omega

/-- The six rows loaded back. -/
theorem rows (L : List (View.Piece (Elt Ideal) S8x3072 .f32)) (inb : ∀ a, (![0, 0] : Fin 2 → ℕ) a + S6x3072.size a ≤ S8x3072.size a) (hL : Held x0 x1 x2 b v 6 L) :
    v.readCov L (Rect.unit (s := S8x3072) ![0, 0] S6x3072.size inb).toLoadRect = Cert.Codes.residV (F := Ideal) x0 x1 x2 b := by
  funext j
  have hj : (j (0 : Fin 2)).val < 6 := (j (0 : Fin 2)).isLt
  have e0 : (((Rect.unit (s := S8x3072) ![0, 0] S6x3072.size inb).toLoadRect.idx j) (0 : Fin 2)).val = (j (0 : Fin 2)).val := by
    show 0 + 1 * (j (0 : Fin 2)).val = _
    omega
  refine (hL ((Rect.unit (s := S8x3072) ![0, 0] S6x3072.size inb).toLoadRect.idx j) (by rw [e0]; exact hj)).trans ?_
  unfold held Cert.Codes.residV
  refine congrArg₂ (Cert.Codes.resid (F := Ideal) x0 x1 x2 b) (Fin.ext ?_) (Fin.ext ?_)
  · show min (((Rect.unit (s := S8x3072) ![0, 0] S6x3072.size inb).toLoadRect.idx j) (0 : Fin 2)).val 5 = (j (0 : Fin 2)).val
    rw [e0]
    omega
  · show 0 + 1 * (j (1 : Fin 2)).val = (j (1 : Fin 2)).val
    omega

/-- A query's store of its codes. -/
theorem piece (b : ℕ) (hb : b < 18) (r : S6x3072.Idx → Ideal .f32) (hr : r = Cert.Codes.residV (F := Ideal) x0 x1 x2 ⟨b, hb⟩)
    (inb inb' : ∀ a, (![b, 0, 0] : Fin 3 → ℕ) a + S1x6x3072.size a ≤ S18x6x3072.size a)
    (casts : S6x3072.ShapeCasts S1x6x3072) (casts' : S1x6x3072.ShapeCasts S6x3072) (pay : S1x6x3072.Idx → BitVec 8)
    (hp : pay = shapeCast S1x6x3072 (Cert.Codes.codes r (shapeCast S6x3072
      (M3.view.readAt (Elt Ideal) (Rect.unit (s := S18x6x3072) ![b, 0, 0] S1x6x3072.size inb').toLoadRect (h3.unread x3)) casts')) casts)
    (x : (Rect.unit (s := S18x6x3072) ![b, 0, 0] S1x6x3072.size inb).shape.Idx) :
    pay x = Cert.Codes.allCodes (F := Ideal) x0 x1 x2 x3 ((Rect.unit (s := S18x6x3072) ![b, 0, 0] S1x6x3072.size inb).emb x) := by
  subst hp hr
  have k0 : (x (0 : Fin 3)).val = 0 := Nat.lt_one_iff.mp (x (0 : Fin 3)).isLt
  have eu : shapeCast S6x3072 (M3.view.readAt (Elt Ideal) (Rect.unit (s := S18x6x3072) ![b, 0, 0] S1x6x3072.size inb').toLoadRect (h3.unread x3)) casts'
      = Cert.Codes.offsV (F := Ideal) x3 ⟨b, hb⟩ := by
    funext j
    obtain ⟨p, d, rfl⟩ : ∃ (p : Fin 6) (d : Fin 3072), j = ix2 p d := ⟨_, _, ValueIdx.eq_ix2 j⟩
    rw [shapeCast_apply _ _ _ (ix3 (0 : Fin 1) p d) (by
      rw [Shape.rowMajor_val_three, Shape.rowMajor_val_two]
      show (0 * 6 + p.val) * 3072 + d.val = p.val * 3072 + d.val
      omega), View.readAt_apply, Memref.IsWhole.read_unread]
    unfold Cert.Codes.offsV
    refine congrArg x3 (funext fun a => Fin.ext ?_)
    match a with
    | ⟨0, _⟩ => rfl
    | ⟨1, _⟩ => show 0 + 1 * p.val = p.val; omega
    | ⟨2, _⟩ => show 0 + 1 * d.val = d.val; omega
  rw [eu]
  rw [shapeCast_apply (s := S6x3072) (t := S1x6x3072) _ casts x (ix2 (x (1 : Fin 3)) (x (2 : Fin 3))) (by
    rw [Shape.rowMajor_val_three, Shape.rowMajor_val_two]
    show (x (1 : Fin 3)).val * 3072 + (x (2 : Fin 3)).val = ((x (0 : Fin 3)).val * 6 + (x (1 : Fin 3)).val) * 3072 + (x (2 : Fin 3)).val
    omega)]
  have e : (Rect.unit (s := S18x6x3072) ![b, 0, 0] S1x6x3072.size inb).emb x = ix3 (⟨b, hb⟩ : Fin 18) (x (1 : Fin 3)) (x (2 : Fin 3)) := by
    funext a
    refine Fin.ext ?_
    match a with
    | ⟨0, _⟩ => show b + 1 * (x (0 : Fin 3)).val = b; omega
    | ⟨1, _⟩ => show 0 + 1 * (x (1 : Fin 3)).val = (x (1 : Fin 3)).val; omega
    | ⟨2, _⟩ => show 0 + 1 * (x (2 : Fin 3)).val = (x (2 : Fin 3)).val; omega
  rw [e]
  rfl

end Cert.QuantiseIdeal.Pieces

end
-- ==== Proof.QuantiseIdeal.Block.lean ====
/- The kernel's codes: the eighteen queries' stores, each the query's codes. -/
module

public import proofs.«01_k».proof.Proof.Gen.QuantiseIdeal.Value
public import proofs.«01_k».proof.Proof.QuantiseIdeal.Pieces

@[expose] public section

set_option maxRecDepth 200000

noncomputable section

namespace Cert.QuantiseIdeal.Block

open Cert.QuantiseIdeal Cert.QuantiseIdeal.Gen Cert.QuantiseIdeal.Pieces Idealize.ShloMosaic Idealize.ShloMosaic.TcCoe

variable (m : (ℓ : Loc nD τ sig) → Buf (Elt Ideal) ℓ)

/-- The kernel's blocks of its arguments. -/
abbrev ids (c : Dev nD) (t : Fin cfg0.N) : Vec Ideal S18x6 .i32 := iblk m c 0 t
abbrev vecs (c : Dev nD) (t : Fin cfg0.N) : Vec Ideal S18x3072 .f32 := iblk m c 1 t
abbrev cents (c : Dev nD) (t : Fin cfg0.N) : Vec Ideal S250x3072 .f32 := iblk m c 2 t
abbrev offs (c : Dev nD) (t : Fin cfg0.N) : Vec Ideal S18x6x3072 .f32 := iblk m c 3 t

set_option maxHeartbeats 4000000 in
/-- The block of codes the kernel leaves. -/
theorem block (hH : Hyps m) (c : Dev nD) (t : Fin cfg0.N) (hl : ∀ i, (ids m c t i).toNat < 250) :
    (outsAt0 m hH c t).1 = Cert.Codes.allCodes (F := Ideal) (ids m c t) (vecs m c t) (cents m c t) (offs m c t) := by
  funext y
  unfold outsAt0
  dsimp only
  unfold out0_A_4
  refine View.read_writes_apply_of_pieces _ _ _ _ ?_ y (cover0_A_4 ..)
  iterate 18
    refine List.forall_mem_cons.mpr ⟨piece (M3 := ms0_3 t) (h3 := hs0_3 t) _ (by decide) _ (rows _ (by decide) ?_) (by decide) (by decide) (by decide) (by decide) _ rfl, ?_⟩
    · iterate 6
        refine held_succ _ (by decide) _ _ _ (stored_at (M0 := ms0_0 t) (h0 := hs0_0 t) (M1 := ms0_1 t) (h1 := hs0_1 t) (M2 := ms0_2 t) (h2 := hs0_2 t)
          hl _ _ (by decide) (by decide) _ rfl) ?_
      exact held_zero _
  exact fun p hp => absurd hp List.not_mem_nil

end Cert.QuantiseIdeal.Block

end
-- ==== Proof.QuantiseIdeal.Probes.lean ====
/- The precondition gives what the kernel's run assumes: every probe names a centroid. -/
module

public import proofs.«01_k».proof.Defs
public import proofs.«01_k».proof.Proof.Gen.QuantiseIdeal.Frame
public import proofs.«01_k».proof.Proof.Gen.Pre_probes_exist
public import Idealize.ShloMosaic.Lib.WordCmp

@[expose] public section

set_option maxRecDepth 16384

namespace Cert.QuantiseIdeal.Probes

open Cert.QuantiseIdeal Cert.QuantiseIdeal.Gen Idealize.ShloMosaic Idealize.ShloMosaic.TcCoe

/-- A word below 250 names a row of the centroids. -/
theorem row_in (w : BitVec 32) (h : w.toNat < 250) :
    ∀ a, (![(Scalar.indexCast w).toNat, 0] : Fin 2 → ℕ) a + S1x3072.size a ≤ S250x3072.size a := by
  intro a
  match a with
  | ⟨0, _⟩ =>
    show w.toNat + 1 ≤ 250
    omega
  | ⟨1, _⟩ => exact Nat.le_refl _

variable (m : (ℓ : Loc nD τ sig) → Buf (Elt Ideal) ℓ) (h : Cert.Pre_QuantiseIdeal m)
include h

/-- A probe is below 250. -/
theorem probe_lt (c : Dev nD) (y : S18x6.Idx) : (m ((c : Thread nD τ).loc main_arg0) y).toNat < 250 := by
  have e := congrFun (h c) y
  simp only [Pre_probes_exist.fn, andi, cmpi, broadcastInDim, constantI, IntOp.cmpi, WordCmp.andi_ofBool, WordCmp.ofBool_eq_one_iff, Bool.and_eq_true] at e
  obtain ⟨hge, hlt⟩ := e
  simp only [BitVec.sle, BitVec.slt, decide_eq_true_eq, BitVec.toInt, BitVec.toNat_ofNat] at hge hlt
  omega

/-- So is a probe of the block the kernel is given. -/
theorem block_lt (c : Dev nD) (t : Fin cfg0.N) (i) : (iblk m c 0 t i).toNat < 250 := by
  unfold iblk
  rw [View.read_apply, cast_eq]
  exact probe_lt m h c _

theorem hyps : Hyps m := by
  intro c t
  have ok : ∀ (B : LoadRect S18x6) (x), ((ms0_0 t).view.readAt (Elt Ideal) B ((hs0_0 t).unread (iblk m c 0 t)) x).toNat < 250 := fun B x => by
    rw [View.readAt_apply, Memref.IsWhole.read_unread]
    exact block_lt m h c t _
  iterate 107 refine ⟨row_in _ (ok _ _), ?_⟩
  exact row_in _ (ok _ _)

end Cert.QuantiseIdeal.Probes
-- ==== Proof.QuantiseIdeal.Run.lean ====
/- The kernel's run: its codes are the spec's of the argument arrays. -/
module

public import proofs.«01_k».proof.Proof.QuantiseIdeal.Block
public import proofs.«01_k».proof.Proof.QuantiseIdeal.Probes

@[expose] public section

set_option maxRecDepth 16384

noncomputable section

namespace Cert.QuantiseIdeal.Run

open Cert.QuantiseIdeal Cert.QuantiseIdeal.Gen Cert.QuantiseIdeal.Block Idealize.ShloMosaic Idealize.ShloMosaic.TcCoe Idealize.SL.Sem

variable (m : (ℓ : Loc nD τ sig) → Buf (Elt Ideal) ℓ) (ρ : Dev nD → PrngReg)

/-- The one grid point. -/
abbrev pt : Fin cfg0.N := ⟨0, by decide⟩

theorem ids_eq (c : Dev nD) : ids m c pt = m ((c : Thread nD τ).loc main_arg0) := by
  funext i
  unfold ids iblk
  rw [View.read_apply, cast_eq]
  refine congrArg (m ((c : Thread nD τ).loc main_arg0)) (funext fun a => Fin.ext ?_)
  match a with
  | ⟨0, _⟩ => show 0 + 1 * (i (0 : Fin 2)).val = (i (0 : Fin 2)).val; omega
  | ⟨1, _⟩ => show 0 + 1 * (i (1 : Fin 2)).val = (i (1 : Fin 2)).val; omega

theorem vecs_eq (c : Dev nD) : vecs m c pt = m ((c : Thread nD τ).loc main_arg1) := by
  funext i
  unfold vecs iblk
  rw [View.read_apply, cast_eq]
  refine congrArg (m ((c : Thread nD τ).loc main_arg1)) (funext fun a => Fin.ext ?_)
  match a with
  | ⟨0, _⟩ => show 0 + 1 * (i (0 : Fin 2)).val = (i (0 : Fin 2)).val; omega
  | ⟨1, _⟩ => show 0 + 1 * (i (1 : Fin 2)).val = (i (1 : Fin 2)).val; omega

theorem cents_eq (c : Dev nD) : cents m c pt = m ((c : Thread nD τ).loc main_arg2) := by
  funext i
  unfold cents iblk
  rw [View.read_apply, cast_eq]
  refine congrArg (m ((c : Thread nD τ).loc main_arg2)) (funext fun a => Fin.ext ?_)
  match a with
  | ⟨0, _⟩ => show 0 + 1 * (i (0 : Fin 2)).val = (i (0 : Fin 2)).val; omega
  | ⟨1, _⟩ => show 0 + 1 * (i (1 : Fin 2)).val = (i (1 : Fin 2)).val; omega

theorem offs_eq (c : Dev nD) : offs m c pt = m ((c : Thread nD τ).loc main_arg3) := by
  funext i
  unfold offs iblk
  rw [View.read_apply, cast_eq]
  refine congrArg (m ((c : Thread nD τ).loc main_arg3)) (funext fun a => Fin.ext ?_)
  match a with
  | ⟨0, _⟩ => show 0 + 1 * (i (0 : Fin 3)).val = (i (0 : Fin 3)).val; omega
  | ⟨1, _⟩ => show 0 + 1 * (i (1 : Fin 3)).val = (i (1 : Fin 3)).val; omega
  | ⟨2, _⟩ => show 0 + 1 * (i (2 : Fin 3)).val = (i (2 : Fin 3)).val; omega

/-- The codes' block is the whole array. -/
theorem emb_eq (i : S18x6x3072.Idx) : ((cfg0.win 4).blk pt).view.emb i = i := by
  funext a
  refine Fin.ext ?_
  match a with
  | ⟨0, _⟩ => show 0 + 1 * (i (0 : Fin 3)).val = (i (0 : Fin 3)).val; omega
  | ⟨1, _⟩ => show 0 + 1 * (i (1 : Fin 3)).val = (i (1 : Fin 3)).val; omega
  | ⟨2, _⟩ => show 0 + 1 * (i (2 : Fin 3)).val = (i (2 : Fin 3)).val; omega

/-- The array the kernel leaves. -/
theorem array (hH : Hyps m) (h : Cert.Pre_QuantiseIdeal m) (c : Dev nD) :
    (dats m hH 0 c).arrAt 4 cfg0.N = Cert.Codes.allCodes (F := Ideal) (m ((c : Thread nD τ).loc main_arg0)) (m ((c : Thread nD τ).loc main_arg1))
      (m ((c : Thread nD τ).loc main_arg2)) (m ((c : Thread nD τ).loc main_arg3)) := by
  funext i
  have e := congrFun (Cert.QuantiseIdeal.Value.blocks4 m hH c pt (by decide)) i
  rw [View.read_apply, cast_eq, emb_eq] at e
  rw [e, Cert.QuantiseIdeal.Value.flushed4, block m hH c pt (fun j => Cert.QuantiseIdeal.Probes.block_lt m h c pt j), ids_eq, vecs_eq, cents_eq, offs_eq]

theorem run (h : Cert.Pre_QuantiseIdeal m) : θ_run defs (onTc (τ := τ) (main (F := Ideal))) ⟨m, fun _ => 0, ρ⟩ fun r => ∀ c : Dev nD,
    r.2.mem ((c : Thread nD τ).loc main_v0_0) = Cert.Codes.allCodes (F := Ideal) (m ((c : Thread nD τ).loc main_arg0)) (m ((c : Thread nD τ).loc main_arg1))
      (m ((c : Thread nD τ).loc main_arg2)) (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h' c => ⟨(h' c).1.trans (array m (Cert.QuantiseIdeal.Probes.hyps m h) h c), (h' c).2.2.2⟩)
    (Cert.QuantiseIdeal.Value.run_blocks m ρ (Cert.QuantiseIdeal.Probes.hyps m h))

end Cert.QuantiseIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Scan.Run
public import proofs.«01_k».proof.Proof.ScanIdeal.Run
public import proofs.«01_k».proof.Proof.Equation
public import proofs.«01_k».proof.Proof.Gen.Quantise
public import proofs.«01_k».proof.Proof.Gen.QuantiseIdeal
public import proofs.«01_k».proof.Proof.Gen.QuantiseReferenceIdeal
public import proofs.«01_k».proof.Proof.Gen.QuantiseReferenceIdeal.Run
public import proofs.«01_k».proof.Proof.Gen.Pre_probes_exist
public import proofs.«01_k».proof.Proof.Quantise.Probes
public import proofs.«01_k».proof.Proof.Quantise.RefCodes
public import proofs.«01_k».proof.Proof.QuantiseIdeal.Run
public import Idealize.ShloMosaic.Lib.Quiescent

@[expose] public section

noncomputable section

namespace Cert.Proof

open Idealize.ShloMosaic Idealize.ShloMosaic.TcCoe

/-- An array equal at every query and column. -/
theorem ext2d {α : Type} {x y : Cert.KernelIdeal.S18x8192.Idx → α} (h : ∀ b k, x (ix2 b k) = y (ix2 b k)) : x = y := by
  funext i
  rw [ValueIdx.eq_ix2 i]
  exact h _ _

theorem algebraic : Cert.algebraic_KernelIdeal_ReferenceIdeal_pre_in_range := by
  intro m ρ m' ρ' hp ha
  have hd := fun c b k => Cert.Equation.pre_at _ _ _ _ _ _ _ (hp c) b k
  refine ⟨fun c => Cert.ReferenceIdeal.Vals.maskT (m ((c.tc : Thread _ _).loc Cert.KernelIdeal.main_arg0)) (Cert.ReferenceIdeal.Vals.distT (F := Ideal)
      (m ((c.tc : Thread _ _).loc Cert.KernelIdeal.main_arg1)) (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)) (m ((c.tc : Thread _ _).loc Cert.KernelIdeal.main_arg6))),
    fun c => Cert.ReferenceIdeal.Vals.maskT (m ((c.tc : Thread _ _).loc Cert.KernelIdeal.main_arg0)) (Cert.ReferenceIdeal.Vals.errT (F := Ideal)
      (m ((c.tc : Thread _ _).loc Cert.KernelIdeal.main_arg3)) (m ((c.tc : Thread _ _).loc Cert.KernelIdeal.main_arg4))
      (m ((c.tc : Thread _ _).loc Cert.KernelIdeal.main_arg5)) (m ((c.tc : Thread _ _).loc Cert.KernelIdeal.main_arg6))),
    fun c => Cert.ReferenceIdeal.Vals.maskT (m ((c.tc : Thread _ _).loc Cert.KernelIdeal.main_arg0)) (Cert.ReferenceIdeal.Vals.estT (F := Ideal)
      (m ((c.tc : Thread _ _).loc Cert.KernelIdeal.main_arg1)) (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg6))), ?_, ?_⟩
  · refine (θ_run Cert.KernelIdeal.defs _ _).mono (fun r h c => ?_) (Cert.KernelIdeal.Scan.run_main m ρ)
    have hn := fun b => (hd c b 0).1
    have hq := fun b k => (hd c b k).2
    refine ⟨ext2d fun b k => ?_, ext2d fun b k => ?_, ext2d fun b k => ?_, Cert.KernelIdeal.Scan.unchanged m r h.1 c⟩
    · exact (Cert.KernelIdeal.Scan.result6 m c r h.1 b k).trans (Cert.Equation.val9_eq m c hn hq b k)
    · exact (Cert.KernelIdeal.Scan.result7 m c r h.1 b k).trans (Cert.Equation.val10_eq m c hq b k)
    · exact (Cert.KernelIdeal.Scan.result8 m c r h.1 b k).trans (Cert.Equation.val11_eq m c hn hq b k)
  · refine (θ_run Cert.ReferenceIdeal.defs _ _).mono (fun r h c => ?_) (Cert.ReferenceIdeal.Value.run m' ρ')
    obtain ⟨a0, a1, a2, a3, a4, a5, a6⟩ := ha c
    refine ⟨(h c).1.trans ((Cert.ReferenceIdeal.Vals.dist_eq m' c).trans ?_), (h c).2.1.trans (Eq.trans (b := Cert.ReferenceIdeal.Vals.maskT (Cert.ReferenceIdeal.Vals.arg m' c Cert.ReferenceIdeal.main_arg0) (Cert.ReferenceIdeal.Vals.errT (Cert.ReferenceIdeal.Vals.arg m' c Cert.ReferenceIdeal.main_arg3) (Cert.ReferenceIdeal.Vals.arg m' c Cert.ReferenceIdeal.main_arg4)
        (Cert.ReferenceIdeal.Vals.arg m' c Cert.ReferenceIdeal.main_arg5) (Cert.ReferenceIdeal.Vals.arg m' c Cert.ReferenceIdeal.main_arg6))) rfl ?_),
      (h c).2.2.1.trans ((Cert.ReferenceIdeal.Vals.est_eq m' c).trans ?_), (h c).2.2.2⟩
    · unfold Cert.ReferenceIdeal.Vals.arg
      rw [a0, a1, a2, a3, a4, a5, a6]
    · unfold Cert.ReferenceIdeal.Vals.arg
      rw [a0, a3, a4, a5, a6]
    · unfold Cert.ReferenceIdeal.Vals.arg
      rw [a0, a1, a2, a3, a4, a6]

theorem quantise_algebraic : Cert.algebraic_QuantiseIdeal_QuantiseReferenceIdeal := by
  intro m ρ m' ρ' hp ha
  refine ⟨fun c => Cert.Codes.allCodes (F := Ideal) (m ((c.tc : Thread _ _).loc Cert.QuantiseIdeal.main_arg0)) (m ((c.tc : Thread _ _).loc Cert.QuantiseIdeal.main_arg1))
    (m ((c.tc : Thread _ _).loc Cert.QuantiseIdeal.main_arg2)) (m ((c.tc : Thread _ _).loc Cert.QuantiseIdeal.main_arg3)), Cert.QuantiseIdeal.Run.run m ρ hp, ?_⟩
  refine (θ_run Cert.QuantiseReferenceIdeal.defs _ _).mono (fun r h c => ⟨(h c).1.trans ?_, (h c).2⟩) (Cert.QuantiseReferenceIdeal.Value.run m' ρ')
  obtain ⟨a0, a1, a2, a3⟩ := ha c
  rw [a0, a1, a2, a3]
  exact Cert.QuantiseReferenceIdeal.Vals.codes_eq _ _ _ _ fun b p => Cert.QuantiseIdeal.Probes.probe_lt m hp c (ix2 b p)

theorem claim : Cert.Claim :=
  ⟨Cert.Kernel.Gen.facts, Cert.KernelIdeal.Gen.facts, Cert.ReferenceIdeal.Gen.facts, Cert.Quantise.Gen.facts, Cert.QuantiseIdeal.Gen.facts,
    Cert.QuantiseReferenceIdeal.Gen.facts, Cert.Pre_in_range.Gen.facts, Cert.Pre_probes_exist.Gen.facts,
    fun m ρ _ => Cert.Kernel.Scan.frame m ρ,
    fun m ρ _ => Cert.KernelIdeal.Scan.frame m ρ,
    fun m ρ _ => Cert.KernelIdeal.Scan.frame m ρ,
    fun m ρ _ => (θ_run Cert.ReferenceIdeal.defs _ _).mono
      (fun r h => ⟨fun c => (h c).2.2.2, sem_eq_zero_of_no_sems (by decide) r.2⟩) (Cert.ReferenceIdeal.Value.run m ρ),
    fun m ρ _ => (θ_run Cert.ReferenceIdeal.defs _ _).mono
      (fun r h => ⟨fun c => (h c).2.2.2, sem_eq_zero_of_no_sems (by decide) r.2⟩) (Cert.ReferenceIdeal.Value.run m ρ),
    fun m ρ h => Cert.Quantise.Gen.frame m ρ (Cert.Quantise.Probes.hyps m h),
    fun m ρ h => Cert.QuantiseIdeal.Gen.frame m ρ (Cert.QuantiseIdeal.Probes.hyps m h),
    fun m ρ _ => (θ_run Cert.QuantiseReferenceIdeal.defs _ _).mono
      (fun r h => ⟨fun c => (h c).2, sem_eq_zero_of_no_sems (by decide) r.2⟩) (Cert.QuantiseReferenceIdeal.Value.run m ρ),
    fun m ρ _ => (θ_run Cert.QuantiseReferenceIdeal.defs _ _).mono
      (fun r h => ⟨fun c => (h c).2, sem_eq_zero_of_no_sems (by decide) r.2⟩) (Cert.QuantiseReferenceIdeal.Value.run m ρ),
    trivial, algebraic, trivial, quantise_algebraic⟩

end Cert.Proof

end
